-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_is_finite [hPre_x_is_finite : Cert.Pre_x_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_is_finite [hPre_x_is_finite : Cert.Pre_x_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_x_is_finite [hKernelIdeal : Cert.KernelIdeal.Facts] [hPre_x_is_finite : Cert.Pre_x_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_x_is_finite [hReferenceIdeal : Cert.ReferenceIdeal.Facts] [hPre_x_is_finite : Cert.Pre_x_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_x_is_finite [hKernelIdeal : Cert.KernelIdeal.Facts] [hReferenceIdeal : Cert.ReferenceIdeal.Facts] [hPre_x_is_finite : Cert.Pre_x_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_x_is_finite : Cert.Pre_x_is_finite.Facts),
    quiescent_Kernel (hKernel := hKernel)
    ∧ quiescent_KernelIdeal (hKernelIdeal := hKernelIdeal)
    ∧ quiescent_KernelIdeal_pre_x_is_finite (hKernelIdeal := hKernelIdeal) (hPre_x_is_finite := hPre_x_is_finite)
    ∧ quiescent_ReferenceIdeal (hReferenceIdeal := hReferenceIdeal)
    ∧ quiescent_ReferenceIdeal_pre_x_is_finite (hReferenceIdeal := hReferenceIdeal) (hPre_x_is_finite := hPre_x_is_finite)
    ∧ preserves_Kernel_KernelIdeal
    ∧ algebraic_KernelIdeal_ReferenceIdeal_pre_x_is_finite (hKernelIdeal := hKernelIdeal) (hReferenceIdeal := hReferenceIdeal) (hPre_x_is_finite := hPre_x_is_finite)
-- ==== Pre_x_is_finite.lean ====
abbrev S4x2x8x16x16x384 : Shape := ⟨6, ![4, 2, 8, 16, 16, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S_ : Shape := ⟨0, ![]⟩

class Facts : Prop where
  bcast_S_S4x2x8x16x16x384 : S_.BroadcastsInDim S4x2x8x16x16x384 (![] : Fin 0 → Fin S4x2x8x16x16x384.rank)
  reducesTo_S4x2x8x16x16x384_S_d0_1_2_3_4_5 : S4x2x8x16x16x384.ReducesTo [0, 1, 2, 3, 4, 5] S_
  h_S_ : 0 < S_.numel

variable [Facts]

def fn {F : FTy → Type} [FloatOps F] (main_arg0 : FVec F S4x2x8x16x16x384 .f32) (main_arg1 : FVec F S1152x384 .f32) (main_arg2 : FVec F S1152 .f32) (main_arg3 : FVec F S384x384 .f32) (main_arg4 : FVec F S384 .f32) : IVec S_ 1 :=
  let main_v0 : FVec F S4x2x8x16x16x384 .f32 := Host.absf main_arg0
  let main_cst : FVec F S_ .f32 := constant S_ .f32 0x7F800000#32
  let main_v1 : FVec F S4x2x8x16x16x384 .f32 := broadcastInDim S4x2x8x16x16x384 ![] bcast_S_S4x2x8x16x16x384 main_cst
  let main_v2 : IVec S4x2x8x16x16x384 1 := cmpf .olt main_v0 main_v1
  let main_c : IVec S_ 1 := constantI S_ 1 1#1
  let main_v3 : IVec S_ 1 := (fun x v => Host.reduce IntOp.andi x v reducesTo_S4x2x8x16x16x384_S_d0_1_2_3_4_5 h_S_) main_v2 main_c
  main_v3
-- ==== Kernel.lean ====
abbrev S4x2x8x16x16x384 : Shape := ⟨6, ![4, 2, 8, 16, 16, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S4x2x4x2x4x4x4x4x384 : Shape := ⟨9, ![4, 2, 4, 2, 4, 4, 4, 4, 384]⟩
abbrev S4x2x4x4x4x2x4x4x384 : Shape := ⟨9, ![4, 2, 4, 4, 4, 2, 4, 4, 384]⟩
abbrev S4x2x64x32x384 : Shape := ⟨5, ![4, 2, 64, 32, 384]⟩
abbrev S16384x384 : Shape := ⟨2, ![16384, 384]⟩
abbrev S384x1152 : Shape := ⟨2, ![384, 1152]⟩
abbrev S1x1152 : Shape := ⟨2, ![1, 1152]⟩
abbrev S512x64x384 : Shape := ⟨3, ![512, 64, 384]⟩
abbrev S512x1x384 : Shape := ⟨3, ![512, 1, 384]⟩
abbrev S1024x384 : Shape := ⟨2, ![1024, 384]⟩
abbrev S32x64x384 : Shape := ⟨3, ![32, 64, 384]⟩
abbrev S32x1x384 : Shape := ⟨3, ![32, 1, 384]⟩
abbrev S1024x1152 : Shape := ⟨2, ![1024, 1152]⟩
abbrev S32x384 : Shape := ⟨2, ![32, 384]⟩
abbrev S48x48 : Shape := ⟨2, ![48, 48]⟩
abbrev S48x384 : Shape := ⟨2, ![48, 384]⟩
abbrev S1x384 : Shape := ⟨2, ![1, 384]⟩
abbrev S15x384 : Shape := ⟨2, ![15, 384]⟩
abbrev S64x384 : Shape := ⟨2, ![64, 384]⟩
abbrev S1x64x384 : Shape := ⟨3, ![1, 64, 384]⟩
abbrev S1x1x384 : Shape := ⟨3, ![1, 1, 384]⟩
abbrev S4x2x64x384 : Shape := ⟨4, ![4, 2, 64, 384]⟩
abbrev S2x64x4 : Shape := ⟨3, ![2, 64, 4]⟩
abbrev S4x1x64x384 : Shape := ⟨4, ![4, 1, 64, 384]⟩
abbrev S1x64x4 : Shape := ⟨3, ![1, 64, 4]⟩
abbrev S4x64x384 : Shape := ⟨3, ![4, 64, 384]⟩
abbrev S64x64 : Shape := ⟨2, ![64, 64]⟩
abbrev S64 : Shape := ⟨1, ![64]⟩
abbrev S64x1 : Shape := ⟨2, ![64, 1]⟩
abbrev S64x4 : Shape := ⟨2, ![64, 4]⟩
abbrev S8x2048x384 : Shape := ⟨3, ![8, 2048, 384]⟩
abbrev S8x4096x384 : Shape := ⟨3, ![8, 4096, 384]⟩
abbrev S_ : Shape := ⟨0, ![]⟩
abbrev S384x1 : Shape := ⟨2, ![384, 1]⟩
abbrev S1x2048x384 : Shape := ⟨3, ![1, 2048, 384]⟩
abbrev S1x4096x384 : Shape := ⟨3, ![1, 4096, 384]⟩
abbrev S1x1x1 : Shape := ⟨3, ![1, 1, 1]⟩
abbrev S1x32x384 : Shape := ⟨3, ![1, 32, 384]⟩
abbrev S2048x384 : Shape := ⟨2, ![2048, 384]⟩

abbrev nBuf : Space → Nat
  | .hbm => 49
  | .vmem => 23
  | .smem => 1
  | _ => 0

abbrev bufTy : (tb : Table) → Fin (tcTables nBuf tb) → BufTy
  | .hbm, ⟨0, _⟩ => ⟨S4x2x8x16x16x384, .f32⟩
  | .hbm, ⟨1, _⟩ => ⟨S1152x384, .f32⟩
  | .hbm, ⟨2, _⟩ => ⟨S1152, .f32⟩
  | .hbm, ⟨3, _⟩ => ⟨S384x384, .f32⟩
  | .hbm, ⟨4, _⟩ => ⟨S384, .f32⟩
  | .hbm, ⟨5, _⟩ => ⟨S4x2x4x2x4x4x4x4x384, .f32⟩
  | .hbm, ⟨6, _⟩ => ⟨S4x2x4x4x4x2x4x4x384, .f32⟩
  | .hbm, ⟨7, _⟩ => ⟨S4x2x64x32x384, .f32⟩
  | .hbm, ⟨8, _⟩ => ⟨S16384x384, .f32⟩
  | .hbm, ⟨9, _⟩ => ⟨S384x1152, .f32⟩
  | .hbm, ⟨10, _⟩ => ⟨S1x1152, .f32⟩
  | .hbm, ⟨11, _⟩ => ⟨S16384x384, .bf16⟩
  | .hbm, ⟨12, _⟩ => ⟨S512x64x384, .bf16⟩
  | .hbm, ⟨13, _⟩ => ⟨S512x1x384, .f32⟩
  | .hbm, ⟨14, _⟩ => ⟨S4x2x64x384, .f32⟩
  | .hbm, ⟨15, _⟩ => ⟨S2x64x4, .i32⟩
  | .hbm, ⟨16, _⟩ => ⟨S8x2048x384, .bf16⟩
  | .hbm, ⟨17, _⟩ => ⟨S8x4096x384, .bf16⟩
  | .hbm, ⟨18, _⟩ => ⟨S384, .i32⟩
  | .hbm, ⟨19, _⟩ => ⟨S_, .i32⟩
  | .hbm, ⟨20, _⟩ => ⟨S_, .i32⟩
  | .hbm, ⟨21, _⟩ => ⟨S384, .i32⟩
  | .hbm, ⟨22, _⟩ => ⟨S384, .i32⟩
  | .hbm, ⟨23, _⟩ => ⟨S384, .i32⟩
  | .hbm, ⟨24, _⟩ => ⟨S_, .i32⟩
  | .hbm, ⟨25, _⟩ => ⟨S384, .i32⟩
  | .hbm, ⟨26, _⟩ => ⟨S384, .i1⟩
  | .hbm, ⟨27, _⟩ => ⟨S384, .i32⟩
  | .hbm, ⟨28, _⟩ => ⟨S384, .i32⟩
  | .hbm, ⟨29, _⟩ => ⟨S_, .i32⟩
  | .hbm, ⟨30, _⟩ => ⟨S384, .i32⟩
  | .hbm, ⟨31, _⟩ => ⟨S384, .i1⟩
  | .hbm, ⟨32, _⟩ => ⟨S384, .i1⟩
  | .hbm, ⟨33, _⟩ => ⟨S_, .i32⟩
  | .hbm, ⟨34, _⟩ => ⟨S384, .i32⟩
  | .hbm, ⟨35, _⟩ => ⟨S384, .i32⟩
  | .hbm, ⟨36, _⟩ => ⟨S384, .i32⟩
  | .hbm, ⟨37, _⟩ => ⟨S384x1, .i32⟩
  | .hbm, ⟨38, _⟩ => ⟨S1x384, .i32⟩
  | .hbm, ⟨39, _⟩ => ⟨S384x384, .i32⟩
  | .hbm, ⟨40, _⟩ => ⟨S384x384, .i32⟩
  | .hbm, ⟨41, _⟩ => ⟨S384x384, .i1⟩
  | .hbm, ⟨42, _⟩ => ⟨S384x384, .bf16⟩
  | .hbm, ⟨43, _⟩ => ⟨S384x384, .f32⟩
  | .hbm, ⟨44, _⟩ => ⟨S1x384, .f32⟩
  | .hbm, ⟨45, _⟩ => ⟨S8x2048x384, .f32⟩
  | .hbm, ⟨46, _⟩ => ⟨S4x2x4x4x4x2x4x4x384, .f32⟩
  | .hbm, ⟨47, _⟩ => ⟨S4x2x4x2x4x4x4x4x384, .f32⟩
  | .hbm, ⟨48, _⟩ => ⟨S4x2x8x16x16x384, .f32⟩
  | .local _ .vmem, ⟨0, _⟩ => ⟨S1024x384, .f32⟩
  | .local _ .vmem, ⟨1, _⟩ => ⟨S1024x384, .f32⟩
  | .local _ .vmem, ⟨2, _⟩ => ⟨S384x1152, .f32⟩
  | .local _ .vmem, ⟨3, _⟩ => ⟨S1x1152, .f32⟩
  | .local _ .vmem, ⟨4, _⟩ => ⟨S1024x384, .bf16⟩
  | .local _ .vmem, ⟨5, _⟩ => ⟨S1024x384, .bf16⟩
  | .local _ .vmem, ⟨6, _⟩ => ⟨S32x64x384, .bf16⟩
  | .local _ .vmem, ⟨7, _⟩ => ⟨S32x64x384, .bf16⟩
  | .local _ .vmem, ⟨8, _⟩ => ⟨S32x1x384, .f32⟩
  | .local _ .vmem, ⟨9, _⟩ => ⟨S32x1x384, .f32⟩
  | .local _ .vmem, ⟨10, _⟩ => ⟨S4x1x64x384, .f32⟩
  | .local _ .vmem, ⟨11, _⟩ => ⟨S4x1x64x384, .f32⟩
  | .local _ .vmem, ⟨12, _⟩ => ⟨S1x64x4, .i32⟩
  | .local _ .vmem, ⟨13, _⟩ => ⟨S1x64x4, .i32⟩
  | .local _ .vmem, ⟨14, _⟩ => ⟨S1x2048x384, .bf16⟩
  | .local _ .vmem, ⟨15, _⟩ => ⟨S1x2048x384, .bf16⟩
  | .local _ .vmem, ⟨16, _⟩ => ⟨S1x4096x384, .bf16⟩
  | .local _ .vmem, ⟨17, _⟩ => ⟨S1x4096x384, .bf16⟩
  | .local _ .vmem, ⟨18, _⟩ => ⟨S384x384, .bf16⟩
  | .local _ .vmem, ⟨19, _⟩ => ⟨S384x384, .f32⟩
  | .local _ .vmem, ⟨20, _⟩ => ⟨S1x384, .f32⟩
  | .local _ .vmem, ⟨21, _⟩ => ⟨S1x2048x384, .f32⟩
  | .local _ .vmem, ⟨22, _⟩ => ⟨S1x2048x384, .f32⟩
  | .local _ .smem, ⟨0, _⟩ => ⟨S2x64x4, .i32⟩
  | _, _ => ⟨S4x2x8x16x16x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x64x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x1x64x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x4 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 2], ![false, false]⟩

def k2_off1 (i : grid2.Coords) : Fin 3 → Nat :=
  let arg1 : BitVec 32 := BitVec.ofNat 32 (i 1).val
  let v2 : Index := Scalar.indexCast arg1
  let c0_1 : Index := 0#32
  let c0_2 : Index := 0#32
  ![v2.toNat, 0, 0]
def k2_off2 (i : grid2.Coords) : Fin 3 → Nat :=
  let arg1 : BitVec 32 := BitVec.ofNat 32 (i 1).val
  let v4 : Index := Scalar.indexCast arg1
  let c0_3 : Index := 0#32
  let c1 : Index := 1#32
  ![v4.toNat, 0, 1]
def k2_off3 (i : grid2.Coords) : Fin 3 → Nat :=
  let arg1 : BitVec 32 := BitVec.ofNat 32 (i 1).val
  let v6 : Index := Scalar.indexCast arg1
  let c0_4 : Index := 0#32
  let c2 : Index := 2#32
  ![v6.toNat, 0, 2]
def k2_off4 (i : grid2.Coords) : Fin 3 → Nat :=
  let arg1 : BitVec 32 := BitVec.ofNat 32 (i 1).val
  let v8 : Index := Scalar.indexCast arg1
  let c0_5 : Index := 0#32
  let c3 : Index := 3#32
  ![v8.toNat, 0, 3]
def k2_mult1 (v3 : BitVec 32) : BitVec 32 :=
  let c64_i32 : BitVec 32 := 64#32
  let v10 : BitVec 32 := Scalar.muli v3 c64_i32
  v10

def k2_off5 (v3 : BitVec 32) : Fin 3 → Nat :=
  let c0_6 : Index := 0#32
  let c64_i32 : BitVec 32 := 64#32
  let v10 : BitVec 32 := Scalar.muli v3 c64_i32
  let v11 : BitVec 32 := v10
  let v12 : Index := Scalar.indexCast v11
  let c0_7 : Index := 0#32
  ![0, v12.toNat, 0]

def k2_chk1 (v3 : BitVec 32) : Prop :=
  (64 ∣ (k2_mult1 v3).toNat) ∧
  (∀ a, (k2_off5 v3) a + S1x64x384.size a ≤ S1x4096x384.size a)
theorem k2_mult1_dvd : ∀ (v3 : BitVec 32) (k2_hw1 : k2_chk1 v3), 64 ∣ (k2_mult1 v3).toNat := fun v3 k2_hw1 => k2_hw1.1
theorem k2_off5_inb : ∀ (v3 : BitVec 32) (k2_hw1 : k2_chk1 v3), ∀ a, (k2_off5 v3) a + S1x64x384.size a ≤ S1x4096x384.size a := fun v3 k2_hw1 => k2_hw1.2

def k2_mult2 (v5 : BitVec 32) : BitVec 32 :=
  let c64_i32_8 : BitVec 32 := 64#32
  let v15 : BitVec 32 := Scalar.muli v5 c64_i32_8
  v15

def k2_off6 (v5 : BitVec 32) : Fin 3 → Nat :=
  let c0_9 : Index := 0#32
  let c64_i32_8 : BitVec 32 := 64#32
  let v15 : BitVec 32 := Scalar.muli v5 c64_i32_8
  let v16 : BitVec 32 := v15
  let v17 : Index := Scalar.indexCast v16
  let c0_10 : Index := 0#32
  ![0, v17.toNat, 0]

def k2_chk2 (v5 : BitVec 32) : Prop :=
  (64 ∣ (k2_mult2 v5).toNat) ∧
  (∀ a, (k2_off6 v5) a + S1x64x384.size a ≤ S1x4096x384.size a)
theorem k2_mult2_dvd : ∀ (v5 : BitVec 32) (k2_hw2 : k2_chk2 v5), 64 ∣ (k2_mult2 v5).toNat := fun v5 k2_hw2 => k2_hw2.1
theorem k2_off6_inb : ∀ (v5 : BitVec 32) (k2_hw2 : k2_chk2 v5), ∀ a, (k2_off6 v5) a + S1x64x384.size a ≤ S1x4096x384.size a := fun v5 k2_hw2 => k2_hw2.2

def k2_mult3 (v7 : BitVec 32) : BitVec 32 :=
  let c64_i32_11 : BitVec 32 := 64#32
  let v21 : BitVec 32 := Scalar.muli v7 c64_i32_11
  v21

def k2_off7 (v7 : BitVec 32) : Fin 3 → Nat :=
  let c0_12 : Index := 0#32
  let c64_i32_11 : BitVec 32 := 64#32
  let v21 : BitVec 32 := Scalar.muli v7 c64_i32_11
  let v22 : BitVec 32 := v21
  let v23 : Index := Scalar.indexCast v22
  let c0_13 : Index := 0#32
  ![0, v23.toNat, 0]

def k2_chk3 (v7 : BitVec 32) : Prop :=
  (64 ∣ (k2_mult3 v7).toNat) ∧
  (∀ a, (k2_off7 v7) a + S1x64x384.size a ≤ S1x4096x384.size a)
theorem k2_mult3_dvd : ∀ (v7 : BitVec 32) (k2_hw3 : k2_chk3 v7), 64 ∣ (k2_mult3 v7).toNat := fun v7 k2_hw3 => k2_hw3.1
theorem k2_off7_inb : ∀ (v7 : BitVec 32) (k2_hw3 : k2_chk3 v7), ∀ a, (k2_off7 v7) a + S1x64x384.size a ≤ S1x4096x384.size a := fun v7 k2_hw3 => k2_hw3.2

def k2_mult4 (v9 : BitVec 32) : BitVec 32 :=
  let c64_i32_14 : BitVec 32 := 64#32
  let v27 : BitVec 32 := Scalar.muli v9 c64_i32_14
  v27

def k2_off8 (v9 : BitVec 32) : Fin 3 → Nat :=
  let c0_15 : Index := 0#32
  let c64_i32_14 : BitVec 32 := 64#32
  let v27 : BitVec 32 := Scalar.muli v9 c64_i32_14
  let v28 : BitVec 32 := v27
  let v29 : Index := Scalar.indexCast v28
  let c0_16 : Index := 0#32
  ![0, v29.toNat, 0]

def k2_chk4 (v9 : BitVec 32) : Prop :=
  (64 ∣ (k2_mult4 v9).toNat) ∧
  (∀ a, (k2_off8 v9) a + S1x64x384.size a ≤ S1x4096x384.size a)
theorem k2_mult4_dvd : ∀ (v9 : BitVec 32) (k2_hw4 : k2_chk4 v9), 64 ∣ (k2_mult4 v9).toNat := fun v9 k2_hw4 => k2_hw4.1
theorem k2_off8_inb : ∀ (v9 : BitVec 32) (k2_hw4 : k2_chk4 v9), ∀ a, (k2_off8 v9) a + S1x64x384.size a ≤ S1x4096x384.size a := fun v9 k2_hw4 => k2_hw4.2

def k2_off9 (i : grid2.Coords) : Fin 3 → Nat :=
  let arg1 : BitVec 32 := BitVec.ofNat 32 (i 1).val
  let v42 : Index := Scalar.indexCast arg1
  let c1_20 : Index := 1#32
  let c0_21 : Index := 0#32
  ![v42.toNat, 1, 0]
def k2_off10 (i : grid2.Coords) : Fin 3 → Nat :=
  let arg1 : BitVec 32 := BitVec.ofNat 32 (i 1).val
  let v44 : Index := Scalar.indexCast arg1
  let c1_22 : Index := 1#32
  let c1_23 : Index := 1#32
  ![v44.toNat, 1, 1]
def k2_off11 (i : grid2.Coords) : Fin 3 → Nat :=
  let arg1 : BitVec 32 := BitVec.ofNat 32 (i 1).val
  let v46 : Index := Scalar.indexCast arg1
  let c1_24 : Index := 1#32
  let c2_25 : Index := 2#32
  ![v46.toNat, 1, 2]
def k2_off12 (i : grid2.Coords) : Fin 3 → Nat :=
  let arg1 : BitVec 32 := BitVec.ofNat 32 (i 1).val
  let v48 : Index := Scalar.indexCast arg1
  let c1_26 : Index := 1#32
  let c3_27 : Index := 3#32
  ![v48.toNat, 1, 3]
def k2_mult5 (v43 : BitVec 32) : BitVec 32 :=
  let c64_i32_28 : BitVec 32 := 64#32
  let v50 : BitVec 32 := Scalar.muli v43 c64_i32_28
  v50

def k2_off13 (v43 : BitVec 32) : Fin 3 → Nat :=
  let c0_29 : Index := 0#32
  let c64_i32_28 : BitVec 32 := 64#32
  let v50 : BitVec 32 := Scalar.muli v43 c64_i32_28
  let v51 : BitVec 32 := v50
  let v52 : Index := Scalar.indexCast v51
  let c0_30 : Index := 0#32
  ![0, v52.toNat, 0]

def k2_chk5 (v43 : BitVec 32) : Prop :=
  (64 ∣ (k2_mult5 v43).toNat) ∧
  (∀ a, (k2_off13 v43) a + S1x64x384.size a ≤ S1x4096x384.size a)
theorem k2_mult5_dvd : ∀ (v43 : BitVec 32) (k2_hw5 : k2_chk5 v43), 64 ∣ (k2_mult5 v43).toNat := fun v43 k2_hw5 => k2_hw5.1
theorem k2_off13_inb : ∀ (v43 : BitVec 32) (k2_hw5 : k2_chk5 v43), ∀ a, (k2_off13 v43) a + S1x64x384.size a ≤ S1x4096x384.size a := fun v43 k2_hw5 => k2_hw5.2

def k2_mult6 (v45 : BitVec 32) : BitVec 32 :=
  let c64_i32_31 : BitVec 32 := 64#32
  let v55 : BitVec 32 := Scalar.muli v45 c64_i32_31
  v55

def k2_off14 (v45 : BitVec 32) : Fin 3 → Nat :=
  let c0_32 : Index := 0#32
  let c64_i32_31 : BitVec 32 := 64#32
  let v55 : BitVec 32 := Scalar.muli v45 c64_i32_31
  let v56 : BitVec 32 := v55
  let v57 : Index := Scalar.indexCast v56
  let c0_33 : Index := 0#32
  ![0, v57.toNat, 0]

def k2_chk6 (v45 : BitVec 32) : Prop :=
  (64 ∣ (k2_mult6 v45).toNat) ∧
  (∀ a, (k2_off14 v45) a + S1x64x384.size a ≤ S1x4096x384.size a)
theorem k2_mult6_dvd : ∀ (v45 : BitVec 32) (k2_hw6 : k2_chk6 v45), 64 ∣ (k2_mult6 v45).toNat := fun v45 k2_hw6 => k2_hw6.1
theorem k2_off14_inb : ∀ (v45 : BitVec 32) (k2_hw6 : k2_chk6 v45), ∀ a, (k2_off14 v45) a + S1x64x384.size a ≤ S1x4096x384.size a := fun v45 k2_hw6 => k2_hw6.2

def k2_mult7 (v47 : BitVec 32) : BitVec 32 :=
  let c64_i32_34 : BitVec 32 := 64#32
  let v61 : BitVec 32 := Scalar.muli v47 c64_i32_34
  v61

def k2_off15 (v47 : BitVec 32) : Fin 3 → Nat :=
  let c0_35 : Index := 0#32
  let c64_i32_34 : BitVec 32 := 64#32
  let v61 : BitVec 32 := Scalar.muli v47 c64_i32_34
  let v62 : BitVec 32 := v61
  let v63 : Index := Scalar.indexCast v62
  let c0_36 : Index := 0#32
  ![0, v63.toNat, 0]

def k2_chk7 (v47 : BitVec 32) : Prop :=
  (64 ∣ (k2_mult7 v47).toNat) ∧
  (∀ a, (k2_off15 v47) a + S1x64x384.size a ≤ S1x4096x384.size a)
theorem k2_mult7_dvd : ∀ (v47 : BitVec 32) (k2_hw7 : k2_chk7 v47), 64 ∣ (k2_mult7 v47).toNat := fun v47 k2_hw7 => k2_hw7.1
theorem k2_off15_inb : ∀ (v47 : BitVec 32) (k2_hw7 : k2_chk7 v47), ∀ a, (k2_off15 v47) a + S1x64x384.size a ≤ S1x4096x384.size a := fun v47 k2_hw7 => k2_hw7.2

def k2_mult8 (v49 : BitVec 32) : BitVec 32 :=
  let c64_i32_37 : BitVec 32 := 64#32
  let v67 : BitVec 32 := Scalar.muli v49 c64_i32_37
  v67

def k2_off16 (v49 : BitVec 32) : Fin 3 → Nat :=
  let c0_38 : Index := 0#32
  let c64_i32_37 : BitVec 32 := 64#32
  let v67 : BitVec 32 := Scalar.muli v49 c64_i32_37
  let v68 : BitVec 32 := v67
  let v69 : Index := Scalar.indexCast v68
  let c0_39 : Index := 0#32
  ![0, v69.toNat, 0]

def k2_chk8 (v49 : BitVec 32) : Prop :=
  (64 ∣ (k2_mult8 v49).toNat) ∧
  (∀ a, (k2_off16 v49) a + S1x64x384.size a ≤ S1x4096x384.size a)
theorem k2_mult8_dvd : ∀ (v49 : BitVec 32) (k2_hw8 : k2_chk8 v49), 64 ∣ (k2_mult8 v49).toNat := fun v49 k2_hw8 => k2_hw8.1
theorem k2_off16_inb : ∀ (v49 : BitVec 32) (k2_hw8 : k2_chk8 v49), ∀ a, (k2_off16 v49) a + S1x64x384.size a ≤ S1x4096x384.size a := fun v49 k2_hw8 => k2_hw8.2

def k2_off17 (i : grid2.Coords) : Fin 3 → Nat :=
  let arg1 : BitVec 32 := BitVec.ofNat 32 (i 1).val
  let v82 : Index := Scalar.indexCast arg1
  let c2_43 : Index := 2#32
  let c0_44 : Index := 0#32
  ![v82.toNat, 2, 0]
def k2_off18 (i : grid2.Coords) : Fin 3 → Nat :=
  let arg1 : BitVec 32 := BitVec.ofNat 32 (i 1).val
  let v84 : Index := Scalar.indexCast arg1
  let c2_45 : Index := 2#32
  let c1_46 : Index := 1#32
  ![v84.toNat, 2, 1]
def k2_off19 (i : grid2.Coords) : Fin 3 → Nat :=
  let arg1 : BitVec 32 := BitVec.ofNat 32 (i 1).val
  let v86 : Index := Scalar.indexCast arg1
  let c2_47 : Index := 2#32
  let c2_48 : Index := 2#32
  ![v86.toNat, 2, 2]
def k2_off20 (i : grid2.Coords) : Fin 3 → Nat :=
  let arg1 : BitVec 32 := BitVec.ofNat 32 (i 1).val
  let v88 : Index := Scalar.indexCast arg1
  let c2_49 : Index := 2#32
  let c3_50 : Index := 3#32
  ![v88.toNat, 2, 3]
def k2_mult9 (v83 : BitVec 32) : BitVec 32 :=
  let c64_i32_51 : BitVec 32 := 64#32
  let v90 : BitVec 32 := Scalar.muli v83 c64_i32_51
  v90

def k2_off21 (v83 : BitVec 32) : Fin 3 → Nat :=
  let c0_52 : Index := 0#32
  let c64_i32_51 : BitVec 32 := 64#32
  let v90 : BitVec 32 := Scalar.muli v83 c64_i32_51
  let v91 : BitVec 32 := v90
  let v92 : Index := Scalar.indexCast v91
  let c0_53 : Index := 0#32
  ![0, v92.toNat, 0]

def k2_chk9 (v83 : BitVec 32) : Prop :=
  (64 ∣ (k2_mult9 v83).toNat) ∧
  (∀ a, (k2_off21 v83) a + S1x64x384.size a ≤ S1x4096x384.size a)
theorem k2_mult9_dvd : ∀ (v83 : BitVec 32) (k2_hw9 : k2_chk9 v83), 64 ∣ (k2_mult9 v83).toNat := fun v83 k2_hw9 => k2_hw9.1
theorem k2_off21_inb : ∀ (v83 : BitVec 32) (k2_hw9 : k2_chk9 v83), ∀ a, (k2_off21 v83) a + S1x64x384.size a ≤ S1x4096x384.size a := fun v83 k2_hw9 => k2_hw9.2

def k2_mult10 (v85 : BitVec 32) : BitVec 32 :=
  let c64_i32_54 : BitVec 32 := 64#32
  let v95 : BitVec 32 := Scalar.muli v85 c64_i32_54
  v95

def k2_off22 (v85 : BitVec 32) : Fin 3 → Nat :=
  let c0_55 : Index := 0#32
  let c64_i32_54 : BitVec 32 := 64#32
  let v95 : BitVec 32 := Scalar.muli v85 c64_i32_54
  let v96 : BitVec 32 := v95
  let v97 : Index := Scalar.indexCast v96
  let c0_56 : Index := 0#32
  ![0, v97.toNat, 0]

def k2_chk10 (v85 : BitVec 32) : Prop :=
  (64 ∣ (k2_mult10 v85).toNat) ∧
  (∀ a, (k2_off22 v85) a + S1x64x384.size a ≤ S1x4096x384.size a)
theorem k2_mult10_dvd : ∀ (v85 : BitVec 32) (k2_hw10 : k2_chk10 v85), 64 ∣ (k2_mult10 v85).toNat := fun v85 k2_hw10 => k2_hw10.1
theorem k2_off22_inb : ∀ (v85 : BitVec 32) (k2_hw10 : k2_chk10 v85), ∀ a, (k2_off22 v85) a + S1x64x384.size a ≤ S1x4096x384.size a := fun v85 k2_hw10 => k2_hw10.2

def k2_mult11 (v87 : BitVec 32) : BitVec 32 :=
  let c64_i32_57 : BitVec 32 := 64#32
  let v101 : BitVec 32 := Scalar.muli v87 c64_i32_57
  v101

def k2_off23 (v87 : BitVec 32) : Fin 3 → Nat :=
  let c0_58 : Index := 0#32
  let c64_i32_57 : BitVec 32 := 64#32
  let v101 : BitVec 32 := Scalar.muli v87 c64_i32_57
  let v102 : BitVec 32 := v101
  let v103 : Index := Scalar.indexCast v102
  let c0_59 : Index := 0#32
  ![0, v103.toNat, 0]

def k2_chk11 (v87 : BitVec 32) : Prop :=
  (64 ∣ (k2_mult11 v87).toNat) ∧
  (∀ a, (k2_off23 v87) a + S1x64x384.size a ≤ S1x4096x384.size a)
theorem k2_mult11_dvd : ∀ (v87 : BitVec 32) (k2_hw11 : k2_chk11 v87), 64 ∣ (k2_mult11 v87).toNat := fun v87 k2_hw11 => k2_hw11.1
theorem k2_off23_inb : ∀ (v87 : BitVec 32) (k2_hw11 : k2_chk11 v87), ∀ a, (k2_off23 v87) a + S1x64x384.size a ≤ S1x4096x384.size a := fun v87 k2_hw11 => k2_hw11.2

def k2_mult12 (v89 : BitVec 32) : BitVec 32 :=
  let c64_i32_60 : BitVec 32 := 64#32
  let v107 : BitVec 32 := Scalar.muli v89 c64_i32_60
  v107

def k2_off24 (v89 : BitVec 32) : Fin 3 → Nat :=
  let c0_61 : Index := 0#32
  let c64_i32_60 : BitVec 32 := 64#32
  let v107 : BitVec 32 := Scalar.muli v89 c64_i32_60
  let v108 : BitVec 32 := v107
  let v109 : Index := Scalar.indexCast v108
  let c0_62 : Index := 0#32
  ![0, v109.toNat, 0]

def k2_chk12 (v89 : BitVec 32) : Prop :=
  (64 ∣ (k2_mult12 v89).toNat) ∧
  (∀ a, (k2_off24 v89) a + S1x64x384.size a ≤ S1x4096x384.size a)
theorem k2_mult12_dvd : ∀ (v89 : BitVec 32) (k2_hw12 : k2_chk12 v89), 64 ∣ (k2_mult12 v89).toNat := fun v89 k2_hw12 => k2_hw12.1
theorem k2_off24_inb : ∀ (v89 : BitVec 32) (k2_hw12 : k2_chk12 v89), ∀ a, (k2_off24 v89) a + S1x64x384.size a ≤ S1x4096x384.size a := fun v89 k2_hw12 => k2_hw12.2

def k2_off25 (i : grid2.Coords) : Fin 3 → Nat :=
  let arg1 : BitVec 32 := BitVec.ofNat 32 (i 1).val
  let v122 : Index := Scalar.indexCast arg1
  let c3_66 : Index := 3#32
  let c0_67 : Index := 0#32
  ![v122.toNat, 3, 0]
def k2_off26 (i : grid2.Coords) : Fin 3 → Nat :=
  let arg1 : BitVec 32 := BitVec.ofNat 32 (i 1).val
  let v124 : Index := Scalar.indexCast arg1
  let c3_68 : Index := 3#32
  let c1_69 : Index := 1#32
  ![v124.toNat, 3, 1]
def k2_off27 (i : grid2.Coords) : Fin 3 → Nat :=
  let arg1 : BitVec 32 := BitVec.ofNat 32 (i 1).val
  let v126 : Index := Scalar.indexCast arg1
  let c3_70 : Index := 3#32
  let c2_71 : Index := 2#32
  ![v126.toNat, 3, 2]
def k2_off28 (i : grid2.Coords) : Fin 3 → Nat :=
  let arg1 : BitVec 32 := BitVec.ofNat 32 (i 1).val
  let v128 : Index := Scalar.indexCast arg1
  let c3_72 : Index := 3#32
  let c3_73 : Index := 3#32
  ![v128.toNat, 3, 3]
def k2_mult13 (v123 : BitVec 32) : BitVec 32 :=
  let c64_i32_74 : BitVec 32 := 64#32
  let v130 : BitVec 32 := Scalar.muli v123 c64_i32_74
  v130

def k2_off29 (v123 : BitVec 32) : Fin 3 → Nat :=
  let c0_75 : Index := 0#32
  let c64_i32_74 : BitVec 32 := 64#32
  let v130 : BitVec 32 := Scalar.muli v123 c64_i32_74
  let v131 : BitVec 32 := v130
  let v132 : Index := Scalar.indexCast v131
  let c0_76 : Index := 0#32
  ![0, v132.toNat, 0]

def k2_chk13 (v123 : BitVec 32) : Prop :=
  (64 ∣ (k2_mult13 v123).toNat) ∧
  (∀ a, (k2_off29 v123) a + S1x64x384.size a ≤ S1x4096x384.size a)
theorem k2_mult13_dvd : ∀ (v123 : BitVec 32) (k2_hw13 : k2_chk13 v123), 64 ∣ (k2_mult13 v123).toNat := fun v123 k2_hw13 => k2_hw13.1
theorem k2_off29_inb : ∀ (v123 : BitVec 32) (k2_hw13 : k2_chk13 v123), ∀ a, (k2_off29 v123) a + S1x64x384.size a ≤ S1x4096x384.size a := fun v123 k2_hw13 => k2_hw13.2

def k2_mult14 (v125 : BitVec 32) : BitVec 32 :=
  let c64_i32_77 : BitVec 32 := 64#32
  let v135 : BitVec 32 := Scalar.muli v125 c64_i32_77
  v135

def k2_off30 (v125 : BitVec 32) : Fin 3 → Nat :=
  let c0_78 : Index := 0#32
  let c64_i32_77 : BitVec 32 := 64#32
  let v135 : BitVec 32 := Scalar.muli v125 c64_i32_77
  let v136 : BitVec 32 := v135
  let v137 : Index := Scalar.indexCast v136
  let c0_79 : Index := 0#32
  ![0, v137.toNat, 0]

def k2_chk14 (v125 : BitVec 32) : Prop :=
  (64 ∣ (k2_mult14 v125).toNat) ∧
  (∀ a, (k2_off30 v125) a + S1x64x384.size a ≤ S1x4096x384.size a)
theorem k2_mult14_dvd : ∀ (v125 : BitVec 32) (k2_hw14 : k2_chk14 v125), 64 ∣ (k2_mult14 v125).toNat := fun v125 k2_hw14 => k2_hw14.1
theorem k2_off30_inb : ∀ (v125 : BitVec 32) (k2_hw14 : k2_chk14 v125), ∀ a, (k2_off30 v125) a + S1x64x384.size a ≤ S1x4096x384.size a := fun v125 k2_hw14 => k2_hw14.2

def k2_mult15 (v127 : BitVec 32) : BitVec 32 :=
  let c64_i32_80 : BitVec 32 := 64#32
  let v141 : BitVec 32 := Scalar.muli v127 c64_i32_80
  v141

def k2_off31 (v127 : BitVec 32) : Fin 3 → Nat :=
  let c0_81 : Index := 0#32
  let c64_i32_80 : BitVec 32 := 64#32
  let v141 : BitVec 32 := Scalar.muli v127 c64_i32_80
  let v142 : BitVec 32 := v141
  let v143 : Index := Scalar.indexCast v142
  let c0_82 : Index := 0#32
  ![0, v143.toNat, 0]

def k2_chk15 (v127 : BitVec 32) : Prop :=
  (64 ∣ (k2_mult15 v127).toNat) ∧
  (∀ a, (k2_off31 v127) a + S1x64x384.size a ≤ S1x4096x384.size a)
theorem k2_mult15_dvd : ∀ (v127 : BitVec 32) (k2_hw15 : k2_chk15 v127), 64 ∣ (k2_mult15 v127).toNat := fun v127 k2_hw15 => k2_hw15.1
theorem k2_off31_inb : ∀ (v127 : BitVec 32) (k2_hw15 : k2_chk15 v127), ∀ a, (k2_off31 v127) a + S1x64x384.size a ≤ S1x4096x384.size a := fun v127 k2_hw15 => k2_hw15.2

def k2_mult16 (v129 : BitVec 32) : BitVec 32 :=
  let c64_i32_83 : BitVec 32 := 64#32
  let v147 : BitVec 32 := Scalar.muli v129 c64_i32_83
  v147

def k2_off32 (v129 : BitVec 32) : Fin 3 → Nat :=
  let c0_84 : Index := 0#32
  let c64_i32_83 : BitVec 32 := 64#32
  let v147 : BitVec 32 := Scalar.muli v129 c64_i32_83
  let v148 : BitVec 32 := v147
  let v149 : Index := Scalar.indexCast v148
  let c0_85 : Index := 0#32
  ![0, v149.toNat, 0]

def k2_chk16 (v129 : BitVec 32) : Prop :=
  (64 ∣ (k2_mult16 v129).toNat) ∧
  (∀ a, (k2_off32 v129) a + S1x64x384.size a ≤ S1x4096x384.size a)
theorem k2_mult16_dvd : ∀ (v129 : BitVec 32) (k2_hw16 : k2_chk16 v129), 64 ∣ (k2_mult16 v129).toNat := fun v129 k2_hw16 => k2_hw16.1
theorem k2_off32_inb : ∀ (v129 : BitVec 32) (k2_hw16 : k2_chk16 v129), ∀ a, (k2_off32 v129) a + S1x64x384.size a ≤ S1x4096x384.size a := fun v129 k2_hw16 => k2_hw16.2

def k2_off33 (i : grid2.Coords) : Fin 3 → Nat :=
  let arg1 : BitVec 32 := BitVec.ofNat 32 (i 1).val
  let v162 : Index := Scalar.indexCast arg1
  let c4 : Index := 4#32
  let c0_89 : Index := 0#32
  ![v162.toNat, 4, 0]
def k2_off34 (i : grid2.Coords) : Fin 3 → Nat :=
  let arg1 : BitVec 32 := BitVec.ofNat 32 (i 1).val
  let v164 : Index := Scalar.indexCast arg1
  let c4_90 : Index := 4#32
  let c1_91 : Index := 1#32
  ![v164.toNat, 4, 1]
def k2_off35 (i : grid2.Coords) : Fin 3 → Nat :=
  let arg1 : BitVec 32 := BitVec.ofNat 32 (i 1).val
  let v166 : Index := Scalar.indexCast arg1
  let c4_92 : Index := 4#32
  let c2_93 : Index := 2#32
  ![v166.toNat, 4, 2]
def k2_off36 (i : grid2.Coords) : Fin 3 → Nat :=
  let arg1 : BitVec 32 := BitVec.ofNat 32 (i 1).val
  let v168 : Index := Scalar.indexCast arg1
  let c4_94 : Index := 4#32
  let c3_95 : Index := 3#32
  ![v168.toNat, 4, 3]
def k2_mult17 (v163 : BitVec 32) : BitVec 32 :=
  let c64_i32_96 : BitVec 32 := 64#32
  let v170 : BitVec 32 := Scalar.muli v163 c64_i32_96
  v170

def k2_off37 (v163 : BitVec 32) : Fin 3 → Nat :=
  let c0_97 : Index := 0#32
  let c64_i32_96 : BitVec 32 := 64#32
  let v170 : BitVec 32 := Scalar.muli v163 c64_i32_96
  let v171 : BitVec 32 := v170
  let v172 : Index := Scalar.indexCast v171
  let c0_98 : Index := 0#32
  ![0, v172.toNat, 0]

def k2_chk17 (v163 : BitVec 32) : Prop :=
  (64 ∣ (k2_mult17 v163).toNat) ∧
  (∀ a, (k2_off37 v163) a + S1x64x384.size a ≤ S1x4096x384.size a)
theorem k2_mult17_dvd : ∀ (v163 : BitVec 32) (k2_hw17 : k2_chk17 v163), 64 ∣ (k2_mult17 v163).toNat := fun v163 k2_hw17 => k2_hw17.1
theorem k2_off37_inb : ∀ (v163 : BitVec 32) (k2_hw17 : k2_chk17 v163), ∀ a, (k2_off37 v163) a + S1x64x384.size a ≤ S1x4096x384.size a := fun v163 k2_hw17 => k2_hw17.2

def k2_mult18 (v165 : BitVec 32) : BitVec 32 :=
  let c64_i32_99 : BitVec 32 := 64#32
  let v175 : BitVec 32 := Scalar.muli v165 c64_i32_99
  v175

def k2_off38 (v165 : BitVec 32) : Fin 3 → Nat :=
  let c0_100 : Index := 0#32
  let c64_i32_99 : BitVec 32 := 64#32
  let v175 : BitVec 32 := Scalar.muli v165 c64_i32_99
  let v176 : BitVec 32 := v175
  let v177 : Index := Scalar.indexCast v176
  let c0_101 : Index := 0#32
  ![0, v177.toNat, 0]

def k2_chk18 (v165 : BitVec 32) : Prop :=
  (64 ∣ (k2_mult18 v165).toNat) ∧
  (∀ a, (k2_off38 v165) a + S1x64x384.size a ≤ S1x4096x384.size a)
theorem k2_mult18_dvd : ∀ (v165 : BitVec 32) (k2_hw18 : k2_chk18 v165), 64 ∣ (k2_mult18 v165).toNat := fun v165 k2_hw18 => k2_hw18.1
theorem k2_off38_inb : ∀ (v165 : BitVec 32) (k2_hw18 : k2_chk18 v165), ∀ a, (k2_off38 v165) a + S1x64x384.size a ≤ S1x4096x384.size a := fun v165 k2_hw18 => k2_hw18.2

def k2_mult19 (v167 : BitVec 32) : BitVec 32 :=
  let c64_i32_102 : BitVec 32 := 64#32
  let v181 : BitVec 32 := Scalar.muli v167 c64_i32_102
  v181

def k2_off39 (v167 : BitVec 32) : Fin 3 → Nat :=
  let c0_103 : Index := 0#32
  let c64_i32_102 : BitVec 32 := 64#32
  let v181 : BitVec 32 := Scalar.muli v167 c64_i32_102
  let v182 : BitVec 32 := v181
  let v183 : Index := Scalar.indexCast v182
  let c0_104 : Index := 0#32
  ![0, v183.toNat, 0]

def k2_chk19 (v167 : BitVec 32) : Prop :=
  (64 ∣ (k2_mult19 v167).toNat) ∧
  (∀ a, (k2_off39 v167) a + S1x64x384.size a ≤ S1x4096x384.size a)
theorem k2_mult19_dvd : ∀ (v167 : BitVec 32) (k2_hw19 : k2_chk19 v167), 64 ∣ (k2_mult19 v167).toNat := fun v167 k2_hw19 => k2_hw19.1
theorem k2_off39_inb : ∀ (v167 : BitVec 32) (k2_hw19 : k2_chk19 v167), ∀ a, (k2_off39 v167) a + S1x64x384.size a ≤ S1x4096x384.size a := fun v167 k2_hw19 => k2_hw19.2

def k2_mult20 (v169 : BitVec 32) : BitVec 32 :=
  let c64_i32_105 : BitVec 32 := 64#32
  let v187 : BitVec 32 := Scalar.muli v169 c64_i32_105
  v187

def k2_off40 (v169 : BitVec 32) : Fin 3 → Nat :=
  let c0_106 : Index := 0#32
  let c64_i32_105 : BitVec 32 := 64#32
  let v187 : BitVec 32 := Scalar.muli v169 c64_i32_105
  let v188 : BitVec 32 := v187
  let v189 : Index := Scalar.indexCast v188
  let c0_107 : Index := 0#32
  ![0, v189.toNat, 0]

def k2_chk20 (v169 : BitVec 32) : Prop :=
  (64 ∣ (k2_mult20 v169).toNat) ∧
  (∀ a, (k2_off40 v169) a + S1x64x384.size a ≤ S1x4096x384.size a)
theorem k2_mult20_dvd : ∀ (v169 : BitVec 32) (k2_hw20 : k2_chk20 v169), 64 ∣ (k2_mult20 v169).toNat := fun v169 k2_hw20 => k2_hw20.1
theorem k2_off40_inb : ∀ (v169 : BitVec 32) (k2_hw20 : k2_chk20 v169), ∀ a, (k2_off40 v169) a + S1x64x384.size a ≤ S1x4096x384.size a := fun v169 k2_hw20 => k2_hw20.2

def k2_off41 (i : grid2.Coords) : Fin 3 → Nat :=
  let arg1 : BitVec 32 := BitVec.ofNat 32 (i 1).val
  let v202 : Index := Scalar.indexCast arg1
  let c5 : Index := 5#32
  let c0_111 : Index := 0#32
  ![v202.toNat, 5, 0]
def k2_off42 (i : grid2.Coords) : Fin 3 → Nat :=
  let arg1 : BitVec 32 := BitVec.ofNat 32 (i 1).val
  let v204 : Index := Scalar.indexCast arg1
  let c5_112 : Index := 5#32
  let c1_113 : Index := 1#32
  ![v204.toNat, 5, 1]
def k2_off43 (i : grid2.Coords) : Fin 3 → Nat :=
  let arg1 : BitVec 32 := BitVec.ofNat 32 (i 1).val
  let v206 : Index := Scalar.indexCast arg1
  let c5_114 : Index := 5#32
  let c2_115 : Index := 2#32
  ![v206.toNat, 5, 2]
def k2_off44 (i : grid2.Coords) : Fin 3 → Nat :=
  let arg1 : BitVec 32 := BitVec.ofNat 32 (i 1).val
  let v208 : Index := Scalar.indexCast arg1
  let c5_116 : Index := 5#32
  let c3_117 : Index := 3#32
  ![v208.toNat, 5, 3]
def k2_mult21 (v203 : BitVec 32) : BitVec 32 :=
  let c64_i32_118 : BitVec 32 := 64#32
  let v210 : BitVec 32 := Scalar.muli v203 c64_i32_118
  v210

def k2_off45 (v203 : BitVec 32) : Fin 3 → Nat :=
  let c0_119 : Index := 0#32
  let c64_i32_118 : BitVec 32 := 64#32
  let v210 : BitVec 32 := Scalar.muli v203 c64_i32_118
  let v211 : BitVec 32 := v210
  let v212 : Index := Scalar.indexCast v211
  let c0_120 : Index := 0#32
  ![0, v212.toNat, 0]

def k2_chk21 (v203 : BitVec 32) : Prop :=
  (64 ∣ (k2_mult21 v203).toNat) ∧
  (∀ a, (k2_off45 v203) a + S1x64x384.size a ≤ S1x4096x384.size a)
theorem k2_mult21_dvd : ∀ (v203 : BitVec 32) (k2_hw21 : k2_chk21 v203), 64 ∣ (k2_mult21 v203).toNat := fun v203 k2_hw21 => k2_hw21.1
theorem k2_off45_inb : ∀ (v203 : BitVec 32) (k2_hw21 : k2_chk21 v203), ∀ a, (k2_off45 v203) a + S1x64x384.size a ≤ S1x4096x384.size a := fun v203 k2_hw21 => k2_hw21.2

def k2_mult22 (v205 : BitVec 32) : BitVec 32 :=
  let c64_i32_121 : BitVec 32 := 64#32
  let v215 : BitVec 32 := Scalar.muli v205 c64_i32_121
  v215

def k2_off46 (v205 : BitVec 32) : Fin 3 → Nat :=
  let c0_122 : Index := 0#32
  let c64_i32_121 : BitVec 32 := 64#32
  let v215 : BitVec 32 := Scalar.muli v205 c64_i32_121
  let v216 : BitVec 32 := v215
  let v217 : Index := Scalar.indexCast v216
  let c0_123 : Index := 0#32
  ![0, v217.toNat, 0]

def k2_chk22 (v205 : BitVec 32) : Prop :=
  (64 ∣ (k2_mult22 v205).toNat) ∧
  (∀ a, (k2_off46 v205) a + S1x64x384.size a ≤ S1x4096x384.size a)
theorem k2_mult22_dvd : ∀ (v205 : BitVec 32) (k2_hw22 : k2_chk22 v205), 64 ∣ (k2_mult22 v205).toNat := fun v205 k2_hw22 => k2_hw22.1
theorem k2_off46_inb : ∀ (v205 : BitVec 32) (k2_hw22 : k2_chk22 v205), ∀ a, (k2_off46 v205) a + S1x64x384.size a ≤ S1x4096x384.size a := fun v205 k2_hw22 => k2_hw22.2

def k2_mult23 (v207 : BitVec 32) : BitVec 32 :=
  let c64_i32_124 : BitVec 32 := 64#32
  let v221 : BitVec 32 := Scalar.muli v207 c64_i32_124
  v221

def k2_off47 (v207 : BitVec 32) : Fin 3 → Nat :=
  let c0_125 : Index := 0#32
  let c64_i32_124 : BitVec 32 := 64#32
  let v221 : BitVec 32 := Scalar.muli v207 c64_i32_124
  let v222 : BitVec 32 := v221
  let v223 : Index := Scalar.indexCast v222
  let c0_126 : Index := 0#32
  ![0, v223.toNat, 0]

def k2_chk23 (v207 : BitVec 32) : Prop :=
  (64 ∣ (k2_mult23 v207).toNat) ∧
  (∀ a, (k2_off47 v207) a + S1x64x384.size a ≤ S1x4096x384.size a)
theorem k2_mult23_dvd : ∀ (v207 : BitVec 32) (k2_hw23 : k2_chk23 v207), 64 ∣ (k2_mult23 v207).toNat := fun v207 k2_hw23 => k2_hw23.1
theorem k2_off47_inb : ∀ (v207 : BitVec 32) (k2_hw23 : k2_chk23 v207), ∀ a, (k2_off47 v207) a + S1x64x384.size a ≤ S1x4096x384.size a := fun v207 k2_hw23 => k2_hw23.2

def k2_mult24 (v209 : BitVec 32) : BitVec 32 :=
  let c64_i32_127 : BitVec 32 := 64#32
  let v227 : BitVec 32 := Scalar.muli v209 c64_i32_127
  v227

def k2_off48 (v209 : BitVec 32) : Fin 3 → Nat :=
  let c0_128 : Index := 0#32
  let c64_i32_127 : BitVec 32 := 64#32
  let v227 : BitVec 32 := Scalar.muli v209 c64_i32_127
  let v228 : BitVec 32 := v227
  let v229 : Index := Scalar.indexCast v228
  let c0_129 : Index := 0#32
  ![0, v229.toNat, 0]

def k2_chk24 (v209 : BitVec 32) : Prop :=
  (64 ∣ (k2_mult24 v209).toNat) ∧
  (∀ a, (k2_off48 v209) a + S1x64x384.size a ≤ S1x4096x384.size a)
theorem k2_mult24_dvd : ∀ (v209 : BitVec 32) (k2_hw24 : k2_chk24 v209), 64 ∣ (k2_mult24 v209).toNat := fun v209 k2_hw24 => k2_hw24.1
theorem k2_off48_inb : ∀ (v209 : BitVec 32) (k2_hw24 : k2_chk24 v209), ∀ a, (k2_off48 v209) a + S1x64x384.size a ≤ S1x4096x384.size a := fun v209 k2_hw24 => k2_hw24.2

def k2_off49 (i : grid2.Coords) : Fin 3 → Nat :=
  let arg1 : BitVec 32 := BitVec.ofNat 32 (i 1).val
  let v242 : Index := Scalar.indexCast arg1
  let c6 : Index := 6#32
  let c0_133 : Index := 0#32
  ![v242.toNat, 6, 0]
def k2_off50 (i : grid2.Coords) : Fin 3 → Nat :=
  let arg1 : BitVec 32 := BitVec.ofNat 32 (i 1).val
  let v244 : Index := Scalar.indexCast arg1
  let c6_134 : Index := 6#32
  let c1_135 : Index := 1#32
  ![v244.toNat, 6, 1]
def k2_off51 (i : grid2.Coords) : Fin 3 → Nat :=
  let arg1 : BitVec 32 := BitVec.ofNat 32 (i 1).val
  let v246 : Index := Scalar.indexCast arg1
  let c6_136 : Index := 6#32
  let c2_137 : Index := 2#32
  ![v246.toNat, 6, 2]
def k2_off52 (i : grid2.Coords) : Fin 3 → Nat :=
  let arg1 : BitVec 32 := BitVec.ofNat 32 (i 1).val
  let v248 : Index := Scalar.indexCast arg1
  let c6_138 : Index := 6#32
  let c3_139 : Index := 3#32
  ![v248.toNat, 6, 3]
def k2_mult25 (v243 : BitVec 32) : BitVec 32 :=
  let c64_i32_140 : BitVec 32 := 64#32
  let v250 : BitVec 32 := Scalar.muli v243 c64_i32_140
  v250

def k2_off53 (v243 : BitVec 32) : Fin 3 → Nat :=
  let c0_141 : Index := 0#32
  let c64_i32_140 : BitVec 32 := 64#32
  let v250 : BitVec 32 := Scalar.muli v243 c64_i32_140
  let v251 : BitVec 32 := v250
  let v252 : Index := Scalar.indexCast v251
  let c0_142 : Index := 0#32
  ![0, v252.toNat, 0]

def k2_chk25 (v243 : BitVec 32) : Prop :=
  (64 ∣ (k2_mult25 v243).toNat) ∧
  (∀ a, (k2_off53 v243) a + S1x64x384.size a ≤ S1x4096x384.size a)
theorem k2_mult25_dvd : ∀ (v243 : BitVec 32) (k2_hw25 : k2_chk25 v243), 64 ∣ (k2_mult25 v243).toNat := fun v243 k2_hw25 => k2_hw25.1
theorem k2_off53_inb : ∀ (v243 : BitVec 32) (k2_hw25 : k2_chk25 v243), ∀ a, (k2_off53 v243) a + S1x64x384.size a ≤ S1x4096x384.size a := fun v243 k2_hw25 => k2_hw25.2

def k2_mult26 (v245 : BitVec 32) : BitVec 32 :=
  let c64_i32_143 : BitVec 32 := 64#32
  let v255 : BitVec 32 := Scalar.muli v245 c64_i32_143
  v255

def k2_off54 (v245 : BitVec 32) : Fin 3 → Nat :=
  let c0_144 : Index := 0#32
  let c64_i32_143 : BitVec 32 := 64#32
  let v255 : BitVec 32 := Scalar.muli v245 c64_i32_143
  let v256 : BitVec 32 := v255
  let v257 : Index := Scalar.indexCast v256
  let c0_145 : Index := 0#32
  ![0, v257.toNat, 0]

def k2_chk26 (v245 : BitVec 32) : Prop :=
  (64 ∣ (k2_mult26 v245).toNat) ∧
  (∀ a, (k2_off54 v245) a + S1x64x384.size a ≤ S1x4096x384.size a)
theorem k2_mult26_dvd : ∀ (v245 : BitVec 32) (k2_hw26 : k2_chk26 v245), 64 ∣ (k2_mult26 v245).toNat := fun v245 k2_hw26 => k2_hw26.1
theorem k2_off54_inb : ∀ (v245 : BitVec 32) (k2_hw26 : k2_chk26 v245), ∀ a, (k2_off54 v245) a + S1x64x384.size a ≤ S1x4096x384.size a := fun v245 k2_hw26 => k2_hw26.2

def k2_mult27 (v247 : BitVec 32) : BitVec 32 :=
  let c64_i32_146 : BitVec 32 := 64#32
  let v261 : BitVec 32 := Scalar.muli v247 c64_i32_146
  v261

def k2_off55 (v247 : BitVec 32) : Fin 3 → Nat :=
  let c0_147 : Index := 0#32
  let c64_i32_146 : BitVec 32 := 64#32
  let v261 : BitVec 32 := Scalar.muli v247 c64_i32_146
  let v262 : BitVec 32 := v261
  let v263 : Index := Scalar.indexCast v262
  let c0_148 : Index := 0#32
  ![0, v263.toNat, 0]

def k2_chk27 (v247 : BitVec 32) : Prop :=
  (64 ∣ (k2_mult27 v247).toNat) ∧
  (∀ a, (k2_off55 v247) a + S1x64x384.size a ≤ S1x4096x384.size a)
theorem k2_mult27_dvd : ∀ (v247 : BitVec 32) (k2_hw27 : k2_chk27 v247), 64 ∣ (k2_mult27 v247).toNat := fun v247 k2_hw27 => k2_hw27.1
theorem k2_off55_inb : ∀ (v247 : BitVec 32) (k2_hw27 : k2_chk27 v247), ∀ a, (k2_off55 v247) a + S1x64x384.size a ≤ S1x4096x384.size a := fun v247 k2_hw27 => k2_hw27.2

def k2_mult28 (v249 : BitVec 32) : BitVec 32 :=
  let c64_i32_149 : BitVec 32 := 64#32
  let v267 : BitVec 32 := Scalar.muli v249 c64_i32_149
  v267

def k2_off56 (v249 : BitVec 32) : Fin 3 → Nat :=
  let c0_150 : Index := 0#32
  let c64_i32_149 : BitVec 32 := 64#32
  let v267 : BitVec 32 := Scalar.muli v249 c64_i32_149
  let v268 : BitVec 32 := v267
  let v269 : Index := Scalar.indexCast v268
  let c0_151 : Index := 0#32
  ![0, v269.toNat, 0]

def k2_chk28 (v249 : BitVec 32) : Prop :=
  (64 ∣ (k2_mult28 v249).toNat) ∧
  (∀ a, (k2_off56 v249) a + S1x64x384.size a ≤ S1x4096x384.size a)
theorem k2_mult28_dvd : ∀ (v249 : BitVec 32) (k2_hw28 : k2_chk28 v249), 64 ∣ (k2_mult28 v249).toNat := fun v249 k2_hw28 => k2_hw28.1
theorem k2_off56_inb : ∀ (v249 : BitVec 32) (k2_hw28 : k2_chk28 v249), ∀ a, (k2_off56 v249) a + S1x64x384.size a ≤ S1x4096x384.size a := fun v249 k2_hw28 => k2_hw28.2

def k2_off57 (i : grid2.Coords) : Fin 3 → Nat :=
  let arg1 : BitVec 32 := BitVec.ofNat 32 (i 1).val
  let v282 : Index := Scalar.indexCast arg1
  let c7 : Index := 7#32
  let c0_155 : Index := 0#32
  ![v282.toNat, 7, 0]
def k2_off58 (i : grid2.Coords) : Fin 3 → Nat :=
  let arg1 : BitVec 32 := BitVec.ofNat 32 (i 1).val
  let v284 : Index := Scalar.indexCast arg1
  let c7_156 : Index := 7#32
  let c1_157 : Index := 1#32
  ![v284.toNat, 7, 1]
def k2_off59 (i : grid2.Coords) : Fin 3 → Nat :=
  let arg1 : BitVec 32 := BitVec.ofNat 32 (i 1).val
  let v286 : Index := Scalar.indexCast arg1
  let c7_158 : Index := 7#32
  let c2_159 : Index := 2#32
  ![v286.toNat, 7, 2]
def k2_off60 (i : grid2.Coords) : Fin 3 → Nat :=
  let arg1 : BitVec 32 := BitVec.ofNat 32 (i 1).val
  let v288 : Index := Scalar.indexCast arg1
  let c7_160 : Index := 7#32
  let c3_161 : Index := 3#32
  ![v288.toNat, 7, 3]
def k2_mult29 (v283 : BitVec 32) : BitVec 32 :=
  let c64_i32_162 : BitVec 32 := 64#32
  let v290 : BitVec 32 := Scalar.muli v283 c64_i32_162
  v290

def k2_off61 (v283 : BitVec 32) : Fin 3 → Nat :=
  let c0_163 : Index := 0#32
  let c64_i32_162 : BitVec 32 := 64#32
  let v290 : BitVec 32 := Scalar.muli v283 c64_i32_162
  let v291 : BitVec 32 := v290
  let v292 : Index := Scalar.indexCast v291
  let c0_164 : Index := 0#32
  ![0, v292.toNat, 0]

def k2_chk29 (v283 : BitVec 32) : Prop :=
  (64 ∣ (k2_mult29 v283).toNat) ∧
  (∀ a, (k2_off61 v283) a + S1x64x384.size a ≤ S1x4096x384.size a)
theorem k2_mult29_dvd : ∀ (v283 : BitVec 32) (k2_hw29 : k2_chk29 v283), 64 ∣ (k2_mult29 v283).toNat := fun v283 k2_hw29 => k2_hw29.1
theorem k2_off61_inb : ∀ (v283 : BitVec 32) (k2_hw29 : k2_chk29 v283), ∀ a, (k2_off61 v283) a + S1x64x384.size a ≤ S1x4096x384.size a := fun v283 k2_hw29 => k2_hw29.2

def k2_mult30 (v285 : BitVec 32) : BitVec 32 :=
  let c64_i32_165 : BitVec 32 := 64#32
  let v295 : BitVec 32 := Scalar.muli v285 c64_i32_165
  v295

def k2_off62 (v285 : BitVec 32) : Fin 3 → Nat :=
  let c0_166 : Index := 0#32
  let c64_i32_165 : BitVec 32 := 64#32
  let v295 : BitVec 32 := Scalar.muli v285 c64_i32_165
  let v296 : BitVec 32 := v295
  let v297 : Index := Scalar.indexCast v296
  let c0_167 : Index := 0#32
  ![0, v297.toNat, 0]

def k2_chk30 (v285 : BitVec 32) : Prop :=
  (64 ∣ (k2_mult30 v285).toNat) ∧
  (∀ a, (k2_off62 v285) a + S1x64x384.size a ≤ S1x4096x384.size a)
theorem k2_mult30_dvd : ∀ (v285 : BitVec 32) (k2_hw30 : k2_chk30 v285), 64 ∣ (k2_mult30 v285).toNat := fun v285 k2_hw30 => k2_hw30.1
theorem k2_off62_inb : ∀ (v285 : BitVec 32) (k2_hw30 : k2_chk30 v285), ∀ a, (k2_off62 v285) a + S1x64x384.size a ≤ S1x4096x384.size a := fun v285 k2_hw30 => k2_hw30.2

def k2_mult31 (v287 : BitVec 32) : BitVec 32 :=
  let c64_i32_168 : BitVec 32 := 64#32
  let v301 : BitVec 32 := Scalar.muli v287 c64_i32_168
  v301

def k2_off63 (v287 : BitVec 32) : Fin 3 → Nat :=
  let c0_169 : Index := 0#32
  let c64_i32_168 : BitVec 32 := 64#32
  let v301 : BitVec 32 := Scalar.muli v287 c64_i32_168
  let v302 : BitVec 32 := v301
  let v303 : Index := Scalar.indexCast v302
  let c0_170 : Index := 0#32
  ![0, v303.toNat, 0]

def k2_chk31 (v287 : BitVec 32) : Prop :=
  (64 ∣ (k2_mult31 v287).toNat) ∧
  (∀ a, (k2_off63 v287) a + S1x64x384.size a ≤ S1x4096x384.size a)
theorem k2_mult31_dvd : ∀ (v287 : BitVec 32) (k2_hw31 : k2_chk31 v287), 64 ∣ (k2_mult31 v287).toNat := fun v287 k2_hw31 => k2_hw31.1
theorem k2_off63_inb : ∀ (v287 : BitVec 32) (k2_hw31 : k2_chk31 v287), ∀ a, (k2_off63 v287) a + S1x64x384.size a ≤ S1x4096x384.size a := fun v287 k2_hw31 => k2_hw31.2

def k2_mult32 (v289 : BitVec 32) : BitVec 32 :=
  let c64_i32_171 : BitVec 32 := 64#32
  let v307 : BitVec 32 := Scalar.muli v289 c64_i32_171
  v307

def k2_off64 (v289 : BitVec 32) : Fin 3 → Nat :=
  let c0_172 : Index := 0#32
  let c64_i32_171 : BitVec 32 := 64#32
  let v307 : BitVec 32 := Scalar.muli v289 c64_i32_171
  let v308 : BitVec 32 := v307
  let v309 : Index := Scalar.indexCast v308
  let c0_173 : Index := 0#32
  ![0, v309.toNat, 0]

def k2_chk32 (v289 : BitVec 32) : Prop :=
  (64 ∣ (k2_mult32 v289).toNat) ∧
  (∀ a, (k2_off64 v289) a + S1x64x384.size a ≤ S1x4096x384.size a)
theorem k2_mult32_dvd : ∀ (v289 : BitVec 32) (k2_hw32 : k2_chk32 v289), 64 ∣ (k2_mult32 v289).toNat := fun v289 k2_hw32 => k2_hw32.1
theorem k2_off64_inb : ∀ (v289 : BitVec 32) (k2_hw32 : k2_chk32 v289), ∀ a, (k2_off64 v289) a + S1x64x384.size a ≤ S1x4096x384.size a := fun v289 k2_hw32 => k2_hw32.2

def k2_off65 (i : grid2.Coords) : Fin 3 → Nat :=
  let arg1 : BitVec 32 := BitVec.ofNat 32 (i 1).val
  let v322 : Index := Scalar.indexCast arg1
  let c8 : Index := 8#32
  let c0_177 : Index := 0#32
  ![v322.toNat, 8, 0]
def k2_off66 (i : grid2.Coords) : Fin 3 → Nat :=
  let arg1 : BitVec 32 := BitVec.ofNat 32 (i 1).val
  let v324 : Index := Scalar.indexCast arg1
  let c8_178 : Index := 8#32
  let c1_179 : Index := 1#32
  ![v324.toNat, 8, 1]
def k2_off67 (i : grid2.Coords) : Fin 3 → Nat :=
  let arg1 : BitVec 32 := BitVec.ofNat 32 (i 1).val
  let v326 : Index := Scalar.indexCast arg1
  let c8_180 : Index := 8#32
  let c2_181 : Index := 2#32
  ![v326.toNat, 8, 2]
def k2_off68 (i : grid2.Coords) : Fin 3 → Nat :=
  let arg1 : BitVec 32 := BitVec.ofNat 32 (i 1).val
  let v328 : Index := Scalar.indexCast arg1
  let c8_182 : Index := 8#32
  let c3_183 : Index := 3#32
  ![v328.toNat, 8, 3]
def k2_mult33 (v323 : BitVec 32) : BitVec 32 :=
  let c64_i32_184 : BitVec 32 := 64#32
  let v330 : BitVec 32 := Scalar.muli v323 c64_i32_184
  v330

def k2_off69 (v323 : BitVec 32) : Fin 3 → Nat :=
  let c0_185 : Index := 0#32
  let c64_i32_184 : BitVec 32 := 64#32
  let v330 : BitVec 32 := Scalar.muli v323 c64_i32_184
  let v331 : BitVec 32 := v330
  let v332 : Index := Scalar.indexCast v331
  let c0_186 : Index := 0#32
  ![0, v332.toNat, 0]

def k2_chk33 (v323 : BitVec 32) : Prop :=
  (64 ∣ (k2_mult33 v323).toNat) ∧
  (∀ a, (k2_off69 v323) a + S1x64x384.size a ≤ S1x4096x384.size a)
theorem k2_mult33_dvd : ∀ (v323 : BitVec 32) (k2_hw33 : k2_chk33 v323), 64 ∣ (k2_mult33 v323).toNat := fun v323 k2_hw33 => k2_hw33.1
theorem k2_off69_inb : ∀ (v323 : BitVec 32) (k2_hw33 : k2_chk33 v323), ∀ a, (k2_off69 v323) a + S1x64x384.size a ≤ S1x4096x384.size a := fun v323 k2_hw33 => k2_hw33.2

def k2_mult34 (v325 : BitVec 32) : BitVec 32 :=
  let c64_i32_187 : BitVec 32 := 64#32
  let v335 : BitVec 32 := Scalar.muli v325 c64_i32_187
  v335

def k2_off70 (v325 : BitVec 32) : Fin 3 → Nat :=
  let c0_188 : Index := 0#32
  let c64_i32_187 : BitVec 32 := 64#32
  let v335 : BitVec 32 := Scalar.muli v325 c64_i32_187
  let v336 : BitVec 32 := v335
  let v337 : Index := Scalar.indexCast v336
  let c0_189 : Index := 0#32
  ![0, v337.toNat, 0]

def k2_chk34 (v325 : BitVec 32) : Prop :=
  (64 ∣ (k2_mult34 v325).toNat) ∧
  (∀ a, (k2_off70 v325) a + S1x64x384.size a ≤ S1x4096x384.size a)
theorem k2_mult34_dvd : ∀ (v325 : BitVec 32) (k2_hw34 : k2_chk34 v325), 64 ∣ (k2_mult34 v325).toNat := fun v325 k2_hw34 => k2_hw34.1
theorem k2_off70_inb : ∀ (v325 : BitVec 32) (k2_hw34 : k2_chk34 v325), ∀ a, (k2_off70 v325) a + S1x64x384.size a ≤ S1x4096x384.size a := fun v325 k2_hw34 => k2_hw34.2

def k2_mult35 (v327 : BitVec 32) : BitVec 32 :=
  let c64_i32_190 : BitVec 32 := 64#32
  let v341 : BitVec 32 := Scalar.muli v327 c64_i32_190
  v341

def k2_off71 (v327 : BitVec 32) : Fin 3 → Nat :=
  let c0_191 : Index := 0#32
  let c64_i32_190 : BitVec 32 := 64#32
  let v341 : BitVec 32 := Scalar.muli v327 c64_i32_190
  let v342 : BitVec 32 := v341
  let v343 : Index := Scalar.indexCast v342
  let c0_192 : Index := 0#32
  ![0, v343.toNat, 0]

def k2_chk35 (v327 : BitVec 32) : Prop :=
  (64 ∣ (k2_mult35 v327).toNat) ∧
  (∀ a, (k2_off71 v327) a + S1x64x384.size a ≤ S1x4096x384.size a)
theorem k2_mult35_dvd : ∀ (v327 : BitVec 32) (k2_hw35 : k2_chk35 v327), 64 ∣ (k2_mult35 v327).toNat := fun v327 k2_hw35 => k2_hw35.1
theorem k2_off71_inb : ∀ (v327 : BitVec 32) (k2_hw35 : k2_chk35 v327), ∀ a, (k2_off71 v327) a + S1x64x384.size a ≤ S1x4096x384.size a := fun v327 k2_hw35 => k2_hw35.2

def k2_mult36 (v329 : BitVec 32) : BitVec 32 :=
  let c64_i32_193 : BitVec 32 := 64#32
  let v347 : BitVec 32 := Scalar.muli v329 c64_i32_193
  v347

def k2_off72 (v329 : BitVec 32) : Fin 3 → Nat :=
  let c0_194 : Index := 0#32
  let c64_i32_193 : BitVec 32 := 64#32
  let v347 : BitVec 32 := Scalar.muli v329 c64_i32_193
  let v348 : BitVec 32 := v347
  let v349 : Index := Scalar.indexCast v348
  let c0_195 : Index := 0#32
  ![0, v349.toNat, 0]

def k2_chk36 (v329 : BitVec 32) : Prop :=
  (64 ∣ (k2_mult36 v329).toNat) ∧
  (∀ a, (k2_off72 v329) a + S1x64x384.size a ≤ S1x4096x384.size a)
theorem k2_mult36_dvd : ∀ (v329 : BitVec 32) (k2_hw36 : k2_chk36 v329), 64 ∣ (k2_mult36 v329).toNat := fun v329 k2_hw36 => k2_hw36.1
theorem k2_off72_inb : ∀ (v329 : BitVec 32) (k2_hw36 : k2_chk36 v329), ∀ a, (k2_off72 v329) a + S1x64x384.size a ≤ S1x4096x384.size a := fun v329 k2_hw36 => k2_hw36.2

def k2_off73 (i : grid2.Coords) : Fin 3 → Nat :=
  let arg1 : BitVec 32 := BitVec.ofNat 32 (i 1).val
  let v362 : Index := Scalar.indexCast arg1
  let c9 : Index := 9#32
  let c0_199 : Index := 0#32
  ![v362.toNat, 9, 0]
def k2_off74 (i : grid2.Coords) : Fin 3 → Nat :=
  let arg1 : BitVec 32 := BitVec.ofNat 32 (i 1).val
  let v364 : Index := Scalar.indexCast arg1
  let c9_200 : Index := 9#32
  let c1_201 : Index := 1#32
  ![v364.toNat, 9, 1]
def k2_off75 (i : grid2.Coords) : Fin 3 → Nat :=
  let arg1 : BitVec 32 := BitVec.ofNat 32 (i 1).val
  let v366 : Index := Scalar.indexCast arg1
  let c9_202 : Index := 9#32
  let c2_203 : Index := 2#32
  ![v366.toNat, 9, 2]
def k2_off76 (i : grid2.Coords) : Fin 3 → Nat :=
  let arg1 : BitVec 32 := BitVec.ofNat 32 (i 1).val
  let v368 : Index := Scalar.indexCast arg1
  let c9_204 : Index := 9#32
  let c3_205 : Index := 3#32
  ![v368.toNat, 9, 3]
def k2_mult37 (v363 : BitVec 32) : BitVec 32 :=
  let c64_i32_206 : BitVec 32 := 64#32
  let v370 : BitVec 32 := Scalar.muli v363 c64_i32_206
  v370

def k2_off77 (v363 : BitVec 32) : Fin 3 → Nat :=
  let c0_207 : Index := 0#32
  let c64_i32_206 : BitVec 32 := 64#32
  let v370 : BitVec 32 := Scalar.muli v363 c64_i32_206
  let v371 : BitVec 32 := v370
  let v372 : Index := Scalar.indexCast v371
  let c0_208 : Index := 0#32
  ![0, v372.toNat, 0]

def k2_chk37 (v363 : BitVec 32) : Prop :=
  (64 ∣ (k2_mult37 v363).toNat) ∧
  (∀ a, (k2_off77 v363) a + S1x64x384.size a ≤ S1x4096x384.size a)
theorem k2_mult37_dvd : ∀ (v363 : BitVec 32) (k2_hw37 : k2_chk37 v363), 64 ∣ (k2_mult37 v363).toNat := fun v363 k2_hw37 => k2_hw37.1
theorem k2_off77_inb : ∀ (v363 : BitVec 32) (k2_hw37 : k2_chk37 v363), ∀ a, (k2_off77 v363) a + S1x64x384.size a ≤ S1x4096x384.size a := fun v363 k2_hw37 => k2_hw37.2

def k2_mult38 (v365 : BitVec 32) : BitVec 32 :=
  let c64_i32_209 : BitVec 32 := 64#32
  let v375 : BitVec 32 := Scalar.muli v365 c64_i32_209
  v375

def k2_off78 (v365 : BitVec 32) : Fin 3 → Nat :=
  let c0_210 : Index := 0#32
  let c64_i32_209 : BitVec 32 := 64#32
  let v375 : BitVec 32 := Scalar.muli v365 c64_i32_209
  let v376 : BitVec 32 := v375
  let v377 : Index := Scalar.indexCast v376
  let c0_211 : Index := 0#32
  ![0, v377.toNat, 0]

def k2_chk38 (v365 : BitVec 32) : Prop :=
  (64 ∣ (k2_mult38 v365).toNat) ∧
  (∀ a, (k2_off78 v365) a + S1x64x384.size a ≤ S1x4096x384.size a)
theorem k2_mult38_dvd : ∀ (v365 : BitVec 32) (k2_hw38 : k2_chk38 v365), 64 ∣ (k2_mult38 v365).toNat := fun v365 k2_hw38 => k2_hw38.1
theorem k2_off78_inb : ∀ (v365 : BitVec 32) (k2_hw38 : k2_chk38 v365), ∀ a, (k2_off78 v365) a + S1x64x384.size a ≤ S1x4096x384.size a := fun v365 k2_hw38 => k2_hw38.2

def k2_mult39 (v367 : BitVec 32) : BitVec 32 :=
  let c64_i32_212 : BitVec 32 := 64#32
  let v381 : BitVec 32 := Scalar.muli v367 c64_i32_212
  v381

def k2_off79 (v367 : BitVec 32) : Fin 3 → Nat :=
  let c0_213 : Index := 0#32
  let c64_i32_212 : BitVec 32 := 64#32
  let v381 : BitVec 32 := Scalar.muli v367 c64_i32_212
  let v382 : BitVec 32 := v381
  let v383 : Index := Scalar.indexCast v382
  let c0_214 : Index := 0#32
  ![0, v383.toNat, 0]

def k2_chk39 (v367 : BitVec 32) : Prop :=
  (64 ∣ (k2_mult39 v367).toNat) ∧
  (∀ a, (k2_off79 v367) a + S1x64x384.size a ≤ S1x4096x384.size a)
theorem k2_mult39_dvd : ∀ (v367 : BitVec 32) (k2_hw39 : k2_chk39 v367), 64 ∣ (k2_mult39 v367).toNat := fun v367 k2_hw39 => k2_hw39.1
theorem k2_off79_inb : ∀ (v367 : BitVec 32) (k2_hw39 : k2_chk39 v367), ∀ a, (k2_off79 v367) a + S1x64x384.size a ≤ S1x4096x384.size a := fun v367 k2_hw39 => k2_hw39.2

def k2_mult40 (v369 : BitVec 32) : BitVec 32 :=
  let c64_i32_215 : BitVec 32 := 64#32
  let v387 : BitVec 32 := Scalar.muli v369 c64_i32_215
  v387

def k2_off80 (v369 : BitVec 32) : Fin 3 → Nat :=
  let c0_216 : Index := 0#32
  let c64_i32_215 : BitVec 32 := 64#32
  let v387 : BitVec 32 := Scalar.muli v369 c64_i32_215
  let v388 : BitVec 32 := v387
  let v389 : Index := Scalar.indexCast v388
  let c0_217 : Index := 0#32
  ![0, v389.toNat, 0]

def k2_chk40 (v369 : BitVec 32) : Prop :=
  (64 ∣ (k2_mult40 v369).toNat) ∧
  (∀ a, (k2_off80 v369) a + S1x64x384.size a ≤ S1x4096x384.size a)
theorem k2_mult40_dvd : ∀ (v369 : BitVec 32) (k2_hw40 : k2_chk40 v369), 64 ∣ (k2_mult40 v369).toNat := fun v369 k2_hw40 => k2_hw40.1
theorem k2_off80_inb : ∀ (v369 : BitVec 32) (k2_hw40 : k2_chk40 v369), ∀ a, (k2_off80 v369) a + S1x64x384.size a ≤ S1x4096x384.size a := fun v369 k2_hw40 => k2_hw40.2

def k2_off81 (i : grid2.Coords) : Fin 3 → Nat :=
  let arg1 : BitVec 32 := BitVec.ofNat 32 (i 1).val
  let v402 : Index := Scalar.indexCast arg1
  let c10 : Index := 10#32
  let c0_221 : Index := 0#32
  ![v402.toNat, 10, 0]
def k2_off82 (i : grid2.Coords) : Fin 3 → Nat :=
  let arg1 : BitVec 32 := BitVec.ofNat 32 (i 1).val
  let v404 : Index := Scalar.indexCast arg1
  let c10_222 : Index := 10#32
  let c1_223 : Index := 1#32
  ![v404.toNat, 10, 1]
def k2_off83 (i : grid2.Coords) : Fin 3 → Nat :=
  let arg1 : BitVec 32 := BitVec.ofNat 32 (i 1).val
  let v406 : Index := Scalar.indexCast arg1
  let c10_224 : Index := 10#32
  let c2_225 : Index := 2#32
  ![v406.toNat, 10, 2]
def k2_off84 (i : grid2.Coords) : Fin 3 → Nat :=
  let arg1 : BitVec 32 := BitVec.ofNat 32 (i 1).val
  let v408 : Index := Scalar.indexCast arg1
  let c10_226 : Index := 10#32
  let c3_227 : Index := 3#32
  ![v408.toNat, 10, 3]
def k2_mult41 (v403 : BitVec 32) : BitVec 32 :=
  let c64_i32_228 : BitVec 32 := 64#32
  let v410 : BitVec 32 := Scalar.muli v403 c64_i32_228
  v410

def k2_off85 (v403 : BitVec 32) : Fin 3 → Nat :=
  let c0_229 : Index := 0#32
  let c64_i32_228 : BitVec 32 := 64#32
  let v410 : BitVec 32 := Scalar.muli v403 c64_i32_228
  let v411 : BitVec 32 := v410
  let v412 : Index := Scalar.indexCast v411
  let c0_230 : Index := 0#32
  ![0, v412.toNat, 0]

def k2_chk41 (v403 : BitVec 32) : Prop :=
  (64 ∣ (k2_mult41 v403).toNat) ∧
  (∀ a, (k2_off85 v403) a + S1x64x384.size a ≤ S1x4096x384.size a)
theorem k2_mult41_dvd : ∀ (v403 : BitVec 32) (k2_hw41 : k2_chk41 v403), 64 ∣ (k2_mult41 v403).toNat := fun v403 k2_hw41 => k2_hw41.1
theorem k2_off85_inb : ∀ (v403 : BitVec 32) (k2_hw41 : k2_chk41 v403), ∀ a, (k2_off85 v403) a + S1x64x384.size a ≤ S1x4096x384.size a := fun v403 k2_hw41 => k2_hw41.2

def k2_mult42 (v405 : BitVec 32) : BitVec 32 :=
  let c64_i32_231 : BitVec 32 := 64#32
  let v415 : BitVec 32 := Scalar.muli v405 c64_i32_231
  v415

def k2_off86 (v405 : BitVec 32) : Fin 3 → Nat :=
  let c0_232 : Index := 0#32
  let c64_i32_231 : BitVec 32 := 64#32
  let v415 : BitVec 32 := Scalar.muli v405 c64_i32_231
  let v416 : BitVec 32 := v415
  let v417 : Index := Scalar.indexCast v416
  let c0_233 : Index := 0#32
  ![0, v417.toNat, 0]

def k2_chk42 (v405 : BitVec 32) : Prop :=
  (64 ∣ (k2_mult42 v405).toNat) ∧
  (∀ a, (k2_off86 v405) a + S1x64x384.size a ≤ S1x4096x384.size a)
theorem k2_mult42_dvd : ∀ (v405 : BitVec 32) (k2_hw42 : k2_chk42 v405), 64 ∣ (k2_mult42 v405).toNat := fun v405 k2_hw42 => k2_hw42.1
theorem k2_off86_inb : ∀ (v405 : BitVec 32) (k2_hw42 : k2_chk42 v405), ∀ a, (k2_off86 v405) a + S1x64x384.size a ≤ S1x4096x384.size a := fun v405 k2_hw42 => k2_hw42.2

def k2_mult43 (v407 : BitVec 32) : BitVec 32 :=
  let c64_i32_234 : BitVec 32 := 64#32
  let v421 : BitVec 32 := Scalar.muli v407 c64_i32_234
  v421

def k2_off87 (v407 : BitVec 32) : Fin 3 → Nat :=
  let c0_235 : Index := 0#32
  let c64_i32_234 : BitVec 32 := 64#32
  let v421 : BitVec 32 := Scalar.muli v407 c64_i32_234
  let v422 : BitVec 32 := v421
  let v423 : Index := Scalar.indexCast v422
  let c0_236 : Index := 0#32
  ![0, v423.toNat, 0]

def k2_chk43 (v407 : BitVec 32) : Prop :=
  (64 ∣ (k2_mult43 v407).toNat) ∧
  (∀ a, (k2_off87 v407) a + S1x64x384.size a ≤ S1x4096x384.size a)
theorem k2_mult43_dvd : ∀ (v407 : BitVec 32) (k2_hw43 : k2_chk43 v407), 64 ∣ (k2_mult43 v407).toNat := fun v407 k2_hw43 => k2_hw43.1
theorem k2_off87_inb : ∀ (v407 : BitVec 32) (k2_hw43 : k2_chk43 v407), ∀ a, (k2_off87 v407) a + S1x64x384.size a ≤ S1x4096x384.size a := fun v407 k2_hw43 => k2_hw43.2

def k2_mult44 (v409 : BitVec 32) : BitVec 32 :=
  let c64_i32_237 : BitVec 32 := 64#32
  let v427 : BitVec 32 := Scalar.muli v409 c64_i32_237
  v427

def k2_off88 (v409 : BitVec 32) : Fin 3 → Nat :=
  let c0_238 : Index := 0#32
  let c64_i32_237 : BitVec 32 := 64#32
  let v427 : BitVec 32 := Scalar.muli v409 c64_i32_237
  let v428 : BitVec 32 := v427
  let v429 : Index := Scalar.indexCast v428
  let c0_239 : Index := 0#32
  ![0, v429.toNat, 0]

def k2_chk44 (v409 : BitVec 32) : Prop :=
  (64 ∣ (k2_mult44 v409).toNat) ∧
  (∀ a, (k2_off88 v409) a + S1x64x384.size a ≤ S1x4096x384.size a)
theorem k2_mult44_dvd : ∀ (v409 : BitVec 32) (k2_hw44 : k2_chk44 v409), 64 ∣ (k2_mult44 v409).toNat := fun v409 k2_hw44 => k2_hw44.1
theorem k2_off88_inb : ∀ (v409 : BitVec 32) (k2_hw44 : k2_chk44 v409), ∀ a, (k2_off88 v409) a + S1x64x384.size a ≤ S1x4096x384.size a := fun v409 k2_hw44 => k2_hw44.2

def k2_off89 (i : grid2.Coords) : Fin 3 → Nat :=
  let arg1 : BitVec 32 := BitVec.ofNat 32 (i 1).val
  let v442 : Index := Scalar.indexCast arg1
  let c11 : Index := 11#32
  let c0_243 : Index := 0#32
  ![v442.toNat, 11, 0]
def k2_off90 (i : grid2.Coords) : Fin 3 → Nat :=
  let arg1 : BitVec 32 := BitVec.ofNat 32 (i 1).val
  let v444 : Index := Scalar.indexCast arg1
  let c11_244 : Index := 11#32
  let c1_245 : Index := 1#32
  ![v444.toNat, 11, 1]
def k2_off91 (i : grid2.Coords) : Fin 3 → Nat :=
  let arg1 : BitVec 32 := BitVec.ofNat 32 (i 1).val
  let v446 : Index := Scalar.indexCast arg1
  let c11_246 : Index := 11#32
  let c2_247 : Index := 2#32
  ![v446.toNat, 11, 2]
def k2_off92 (i : grid2.Coords) : Fin 3 → Nat :=
  let arg1 : BitVec 32 := BitVec.ofNat 32 (i 1).val
  let v448 : Index := Scalar.indexCast arg1
  let c11_248 : Index := 11#32
  let c3_249 : Index := 3#32
  ![v448.toNat, 11, 3]
def k2_mult45 (v443 : BitVec 32) : BitVec 32 :=
  let c64_i32_250 : BitVec 32 := 64#32
  let v450 : BitVec 32 := Scalar.muli v443 c64_i32_250
  v450

def k2_off93 (v443 : BitVec 32) : Fin 3 → Nat :=
  let c0_251 : Index := 0#32
  let c64_i32_250 : BitVec 32 := 64#32
  let v450 : BitVec 32 := Scalar.muli v443 c64_i32_250
  let v451 : BitVec 32 := v450
  let v452 : Index := Scalar.indexCast v451
  let c0_252 : Index := 0#32
  ![0, v452.toNat, 0]

def k2_chk45 (v443 : BitVec 32) : Prop :=
  (64 ∣ (k2_mult45 v443).toNat) ∧
  (∀ a, (k2_off93 v443) a + S1x64x384.size a ≤ S1x4096x384.size a)
theorem k2_mult45_dvd : ∀ (v443 : BitVec 32) (k2_hw45 : k2_chk45 v443), 64 ∣ (k2_mult45 v443).toNat := fun v443 k2_hw45 => k2_hw45.1
theorem k2_off93_inb : ∀ (v443 : BitVec 32) (k2_hw45 : k2_chk45 v443), ∀ a, (k2_off93 v443) a + S1x64x384.size a ≤ S1x4096x384.size a := fun v443 k2_hw45 => k2_hw45.2

def k2_mult46 (v445 : BitVec 32) : BitVec 32 :=
  let c64_i32_253 : BitVec 32 := 64#32
  let v455 : BitVec 32 := Scalar.muli v445 c64_i32_253
  v455

def k2_off94 (v445 : BitVec 32) : Fin 3 → Nat :=
  let c0_254 : Index := 0#32
  let c64_i32_253 : BitVec 32 := 64#32
  let v455 : BitVec 32 := Scalar.muli v445 c64_i32_253
  let v456 : BitVec 32 := v455
  let v457 : Index := Scalar.indexCast v456
  let c0_255 : Index := 0#32
  ![0, v457.toNat, 0]

def k2_chk46 (v445 : BitVec 32) : Prop :=
  (64 ∣ (k2_mult46 v445).toNat) ∧
  (∀ a, (k2_off94 v445) a + S1x64x384.size a ≤ S1x4096x384.size a)
theorem k2_mult46_dvd : ∀ (v445 : BitVec 32) (k2_hw46 : k2_chk46 v445), 64 ∣ (k2_mult46 v445).toNat := fun v445 k2_hw46 => k2_hw46.1
theorem k2_off94_inb : ∀ (v445 : BitVec 32) (k2_hw46 : k2_chk46 v445), ∀ a, (k2_off94 v445) a + S1x64x384.size a ≤ S1x4096x384.size a := fun v445 k2_hw46 => k2_hw46.2

def k2_mult47 (v447 : BitVec 32) : BitVec 32 :=
  let c64_i32_256 : BitVec 32 := 64#32
  let v461 : BitVec 32 := Scalar.muli v447 c64_i32_256
  v461

def k2_off95 (v447 : BitVec 32) : Fin 3 → Nat :=
  let c0_257 : Index := 0#32
  let c64_i32_256 : BitVec 32 := 64#32
  let v461 : BitVec 32 := Scalar.muli v447 c64_i32_256
  let v462 : BitVec 32 := v461
  let v463 : Index := Scalar.indexCast v462
  let c0_258 : Index := 0#32
  ![0, v463.toNat, 0]

def k2_chk47 (v447 : BitVec 32) : Prop :=
  (64 ∣ (k2_mult47 v447).toNat) ∧
  (∀ a, (k2_off95 v447) a + S1x64x384.size a ≤ S1x4096x384.size a)
theorem k2_mult47_dvd : ∀ (v447 : BitVec 32) (k2_hw47 : k2_chk47 v447), 64 ∣ (k2_mult47 v447).toNat := fun v447 k2_hw47 => k2_hw47.1
theorem k2_off95_inb : ∀ (v447 : BitVec 32) (k2_hw47 : k2_chk47 v447), ∀ a, (k2_off95 v447) a + S1x64x384.size a ≤ S1x4096x384.size a := fun v447 k2_hw47 => k2_hw47.2

def k2_mult48 (v449 : BitVec 32) : BitVec 32 :=
  let c64_i32_259 : BitVec 32 := 64#32
  let v467 : BitVec 32 := Scalar.muli v449 c64_i32_259
  v467

def k2_off96 (v449 : BitVec 32) : Fin 3 → Nat :=
  let c0_260 : Index := 0#32
  let c64_i32_259 : BitVec 32 := 64#32
  let v467 : BitVec 32 := Scalar.muli v449 c64_i32_259
  let v468 : BitVec 32 := v467
  let v469 : Index := Scalar.indexCast v468
  let c0_261 : Index := 0#32
  ![0, v469.toNat, 0]

def k2_chk48 (v449 : BitVec 32) : Prop :=
  (64 ∣ (k2_mult48 v449).toNat) ∧
  (∀ a, (k2_off96 v449) a + S1x64x384.size a ≤ S1x4096x384.size a)
theorem k2_mult48_dvd : ∀ (v449 : BitVec 32) (k2_hw48 : k2_chk48 v449), 64 ∣ (k2_mult48 v449).toNat := fun v449 k2_hw48 => k2_hw48.1
theorem k2_off96_inb : ∀ (v449 : BitVec 32) (k2_hw48 : k2_chk48 v449), ∀ a, (k2_off96 v449) a + S1x64x384.size a ≤ S1x4096x384.size a := fun v449 k2_hw48 => k2_hw48.2

def k2_off97 (i : grid2.Coords) : Fin 3 → Nat :=
  let arg1 : BitVec 32 := BitVec.ofNat 32 (i 1).val
  let v482 : Index := Scalar.indexCast arg1
  let c12 : Index := 12#32
  let c0_265 : Index := 0#32
  ![v482.toNat, 12, 0]
def k2_off98 (i : grid2.Coords) : Fin 3 → Nat :=
  let arg1 : BitVec 32 := BitVec.ofNat 32 (i 1).val
  let v484 : Index := Scalar.indexCast arg1
  let c12_266 : Index := 12#32
  let c1_267 : Index := 1#32
  ![v484.toNat, 12, 1]
def k2_off99 (i : grid2.Coords) : Fin 3 → Nat :=
  let arg1 : BitVec 32 := BitVec.ofNat 32 (i 1).val
  let v486 : Index := Scalar.indexCast arg1
  let c12_268 : Index := 12#32
  let c2_269 : Index := 2#32
  ![v486.toNat, 12, 2]
def k2_off100 (i : grid2.Coords) : Fin 3 → Nat :=
  let arg1 : BitVec 32 := BitVec.ofNat 32 (i 1).val
  let v488 : Index := Scalar.indexCast arg1
  let c12_270 : Index := 12#32
  let c3_271 : Index := 3#32
  ![v488.toNat, 12, 3]
def k2_mult49 (v483 : BitVec 32) : BitVec 32 :=
  let c64_i32_272 : BitVec 32 := 64#32
  let v490 : BitVec 32 := Scalar.muli v483 c64_i32_272
  v490

def k2_off101 (v483 : BitVec 32) : Fin 3 → Nat :=
  let c0_273 : Index := 0#32
  let c64_i32_272 : BitVec 32 := 64#32
  let v490 : BitVec 32 := Scalar.muli v483 c64_i32_272
  let v491 : BitVec 32 := v490
  let v492 : Index := Scalar.indexCast v491
  let c0_274 : Index := 0#32
  ![0, v492.toNat, 0]

def k2_chk49 (v483 : BitVec 32) : Prop :=
  (64 ∣ (k2_mult49 v483).toNat) ∧
  (∀ a, (k2_off101 v483) a + S1x64x384.size a ≤ S1x4096x384.size a)
theorem k2_mult49_dvd : ∀ (v483 : BitVec 32) (k2_hw49 : k2_chk49 v483), 64 ∣ (k2_mult49 v483).toNat := fun v483 k2_hw49 => k2_hw49.1
theorem k2_off101_inb : ∀ (v483 : BitVec 32) (k2_hw49 : k2_chk49 v483), ∀ a, (k2_off101 v483) a + S1x64x384.size a ≤ S1x4096x384.size a := fun v483 k2_hw49 => k2_hw49.2

def k2_mult50 (v485 : BitVec 32) : BitVec 32 :=
  let c64_i32_275 : BitVec 32 := 64#32
  let v495 : BitVec 32 := Scalar.muli v485 c64_i32_275
  v495

def k2_off102 (v485 : BitVec 32) : Fin 3 → Nat :=
  let c0_276 : Index := 0#32
  let c64_i32_275 : BitVec 32 := 64#32
  let v495 : BitVec 32 := Scalar.muli v485 c64_i32_275
  let v496 : BitVec 32 := v495
  let v497 : Index := Scalar.indexCast v496
  let c0_277 : Index := 0#32
  ![0, v497.toNat, 0]

def k2_chk50 (v485 : BitVec 32) : Prop :=
  (64 ∣ (k2_mult50 v485).toNat) ∧
  (∀ a, (k2_off102 v485) a + S1x64x384.size a ≤ S1x4096x384.size a)
theorem k2_mult50_dvd : ∀ (v485 : BitVec 32) (k2_hw50 : k2_chk50 v485), 64 ∣ (k2_mult50 v485).toNat := fun v485 k2_hw50 => k2_hw50.1
theorem k2_off102_inb : ∀ (v485 : BitVec 32) (k2_hw50 : k2_chk50 v485), ∀ a, (k2_off102 v485) a + S1x64x384.size a ≤ S1x4096x384.size a := fun v485 k2_hw50 => k2_hw50.2

def k2_mult51 (v487 : BitVec 32) : BitVec 32 :=
  let c64_i32_278 : BitVec 32 := 64#32
  let v501 : BitVec 32 := Scalar.muli v487 c64_i32_278
  v501

def k2_off103 (v487 : BitVec 32) : Fin 3 → Nat :=
  let c0_279 : Index := 0#32
  let c64_i32_278 : BitVec 32 := 64#32
  let v501 : BitVec 32 := Scalar.muli v487 c64_i32_278
  let v502 : BitVec 32 := v501
  let v503 : Index := Scalar.indexCast v502
  let c0_280 : Index := 0#32
  ![0, v503.toNat, 0]

def k2_chk51 (v487 : BitVec 32) : Prop :=
  (64 ∣ (k2_mult51 v487).toNat) ∧
  (∀ a, (k2_off103 v487) a + S1x64x384.size a ≤ S1x4096x384.size a)
theorem k2_mult51_dvd : ∀ (v487 : BitVec 32) (k2_hw51 : k2_chk51 v487), 64 ∣ (k2_mult51 v487).toNat := fun v487 k2_hw51 => k2_hw51.1
theorem k2_off103_inb : ∀ (v487 : BitVec 32) (k2_hw51 : k2_chk51 v487), ∀ a, (k2_off103 v487) a + S1x64x384.size a ≤ S1x4096x384.size a := fun v487 k2_hw51 => k2_hw51.2

def k2_mult52 (v489 : BitVec 32) : BitVec 32 :=
  let c64_i32_281 : BitVec 32 := 64#32
  let v507 : BitVec 32 := Scalar.muli v489 c64_i32_281
  v507

def k2_off104 (v489 : BitVec 32) : Fin 3 → Nat :=
  let c0_282 : Index := 0#32
  let c64_i32_281 : BitVec 32 := 64#32
  let v507 : BitVec 32 := Scalar.muli v489 c64_i32_281
  let v508 : BitVec 32 := v507
  let v509 : Index := Scalar.indexCast v508
  let c0_283 : Index := 0#32
  ![0, v509.toNat, 0]

def k2_chk52 (v489 : BitVec 32) : Prop :=
  (64 ∣ (k2_mult52 v489).toNat) ∧
  (∀ a, (k2_off104 v489) a + S1x64x384.size a ≤ S1x4096x384.size a)
theorem k2_mult52_dvd : ∀ (v489 : BitVec 32) (k2_hw52 : k2_chk52 v489), 64 ∣ (k2_mult52 v489).toNat := fun v489 k2_hw52 => k2_hw52.1
theorem k2_off104_inb : ∀ (v489 : BitVec 32) (k2_hw52 : k2_chk52 v489), ∀ a, (k2_off104 v489) a + S1x64x384.size a ≤ S1x4096x384.size a := fun v489 k2_hw52 => k2_hw52.2

def k2_off105 (i : grid2.Coords) : Fin 3 → Nat :=
  let arg1 : BitVec 32 := BitVec.ofNat 32 (i 1).val
  let v522 : Index := Scalar.indexCast arg1
  let c13 : Index := 13#32
  let c0_287 : Index := 0#32
  ![v522.toNat, 13, 0]
def k2_off106 (i : grid2.Coords) : Fin 3 → Nat :=
  let arg1 : BitVec 32 := BitVec.ofNat 32 (i 1).val
  let v524 : Index := Scalar.indexCast arg1
  let c13_288 : Index := 13#32
  let c1_289 : Index := 1#32
  ![v524.toNat, 13, 1]
def k2_off107 (i : grid2.Coords) : Fin 3 → Nat :=
  let arg1 : BitVec 32 := BitVec.ofNat 32 (i 1).val
  let v526 : Index := Scalar.indexCast arg1
  let c13_290 : Index := 13#32
  let c2_291 : Index := 2#32
  ![v526.toNat, 13, 2]
def k2_off108 (i : grid2.Coords) : Fin 3 → Nat :=
  let arg1 : BitVec 32 := BitVec.ofNat 32 (i 1).val
  let v528 : Index := Scalar.indexCast arg1
  let c13_292 : Index := 13#32
  let c3_293 : Index := 3#32
  ![v528.toNat, 13, 3]
def k2_mult53 (v523 : BitVec 32) : BitVec 32 :=
  let c64_i32_294 : BitVec 32 := 64#32
  let v530 : BitVec 32 := Scalar.muli v523 c64_i32_294
  v530

def k2_off109 (v523 : BitVec 32) : Fin 3 → Nat :=
  let c0_295 : Index := 0#32
  let c64_i32_294 : BitVec 32 := 64#32
  let v530 : BitVec 32 := Scalar.muli v523 c64_i32_294
  let v531 : BitVec 32 := v530
  let v532 : Index := Scalar.indexCast v531
  let c0_296 : Index := 0#32
  ![0, v532.toNat, 0]

def k2_chk53 (v523 : BitVec 32) : Prop :=
  (64 ∣ (k2_mult53 v523).toNat) ∧
  (∀ a, (k2_off109 v523) a + S1x64x384.size a ≤ S1x4096x384.size a)
theorem k2_mult53_dvd : ∀ (v523 : BitVec 32) (k2_hw53 : k2_chk53 v523), 64 ∣ (k2_mult53 v523).toNat := fun v523 k2_hw53 => k2_hw53.1
theorem k2_off109_inb : ∀ (v523 : BitVec 32) (k2_hw53 : k2_chk53 v523), ∀ a, (k2_off109 v523) a + S1x64x384.size a ≤ S1x4096x384.size a := fun v523 k2_hw53 => k2_hw53.2

def k2_mult54 (v525 : BitVec 32) : BitVec 32 :=
  let c64_i32_297 : BitVec 32 := 64#32
  let v535 : BitVec 32 := Scalar.muli v525 c64_i32_297
  v535

def k2_off110 (v525 : BitVec 32) : Fin 3 → Nat :=
  let c0_298 : Index := 0#32
  let c64_i32_297 : BitVec 32 := 64#32
  let v535 : BitVec 32 := Scalar.muli v525 c64_i32_297
  let v536 : BitVec 32 := v535
  let v537 : Index := Scalar.indexCast v536
  let c0_299 : Index := 0#32
  ![0, v537.toNat, 0]

def k2_chk54 (v525 : BitVec 32) : Prop :=
  (64 ∣ (k2_mult54 v525).toNat) ∧
  (∀ a, (k2_off110 v525) a + S1x64x384.size a ≤ S1x4096x384.size a)
theorem k2_mult54_dvd : ∀ (v525 : BitVec 32) (k2_hw54 : k2_chk54 v525), 64 ∣ (k2_mult54 v525).toNat := fun v525 k2_hw54 => k2_hw54.1
theorem k2_off110_inb : ∀ (v525 : BitVec 32) (k2_hw54 : k2_chk54 v525), ∀ a, (k2_off110 v525) a + S1x64x384.size a ≤ S1x4096x384.size a := fun v525 k2_hw54 => k2_hw54.2

def k2_mult55 (v527 : BitVec 32) : BitVec 32 :=
  let c64_i32_300 : BitVec 32 := 64#32
  let v541 : BitVec 32 := Scalar.muli v527 c64_i32_300
  v541

def k2_off111 (v527 : BitVec 32) : Fin 3 → Nat :=
  let c0_301 : Index := 0#32
  let c64_i32_300 : BitVec 32 := 64#32
  let v541 : BitVec 32 := Scalar.muli v527 c64_i32_300
  let v542 : BitVec 32 := v541
  let v543 : Index := Scalar.indexCast v542
  let c0_302 : Index := 0#32
  ![0, v543.toNat, 0]

def k2_chk55 (v527 : BitVec 32) : Prop :=
  (64 ∣ (k2_mult55 v527).toNat) ∧
  (∀ a, (k2_off111 v527) a + S1x64x384.size a ≤ S1x4096x384.size a)
theorem k2_mult55_dvd : ∀ (v527 : BitVec 32) (k2_hw55 : k2_chk55 v527), 64 ∣ (k2_mult55 v527).toNat := fun v527 k2_hw55 => k2_hw55.1
theorem k2_off111_inb : ∀ (v527 : BitVec 32) (k2_hw55 : k2_chk55 v527), ∀ a, (k2_off111 v527) a + S1x64x384.size a ≤ S1x4096x384.size a := fun v527 k2_hw55 => k2_hw55.2

def k2_mult56 (v529 : BitVec 32) : BitVec 32 :=
  let c64_i32_303 : BitVec 32 := 64#32
  let v547 : BitVec 32 := Scalar.muli v529 c64_i32_303
  v547

def k2_off112 (v529 : BitVec 32) : Fin 3 → Nat :=
  let c0_304 : Index := 0#32
  let c64_i32_303 : BitVec 32 := 64#32
  let v547 : BitVec 32 := Scalar.muli v529 c64_i32_303
  let v548 : BitVec 32 := v547
  let v549 : Index := Scalar.indexCast v548
  let c0_305 : Index := 0#32
  ![0, v549.toNat, 0]

def k2_chk56 (v529 : BitVec 32) : Prop :=
  (64 ∣ (k2_mult56 v529).toNat) ∧
  (∀ a, (k2_off112 v529) a + S1x64x384.size a ≤ S1x4096x384.size a)
theorem k2_mult56_dvd : ∀ (v529 : BitVec 32) (k2_hw56 : k2_chk56 v529), 64 ∣ (k2_mult56 v529).toNat := fun v529 k2_hw56 => k2_hw56.1
theorem k2_off112_inb : ∀ (v529 : BitVec 32) (k2_hw56 : k2_chk56 v529), ∀ a, (k2_off112 v529) a + S1x64x384.size a ≤ S1x4096x384.size a := fun v529 k2_hw56 => k2_hw56.2

def k2_off113 (i : grid2.Coords) : Fin 3 → Nat :=
  let arg1 : BitVec 32 := BitVec.ofNat 32 (i 1).val
  let v562 : Index := Scalar.indexCast arg1
  let c14 : Index := 14#32
  let c0_309 : Index := 0#32
  ![v562.toNat, 14, 0]
def k2_off114 (i : grid2.Coords) : Fin 3 → Nat :=
  let arg1 : BitVec 32 := BitVec.ofNat 32 (i 1).val
  let v564 : Index := Scalar.indexCast arg1
  let c14_310 : Index := 14#32
  let c1_311 : Index := 1#32
  ![v564.toNat, 14, 1]
def k2_off115 (i : grid2.Coords) : Fin 3 → Nat :=
  let arg1 : BitVec 32 := BitVec.ofNat 32 (i 1).val
  let v566 : Index := Scalar.indexCast arg1
  let c14_312 : Index := 14#32
  let c2_313 : Index := 2#32
  ![v566.toNat, 14, 2]
def k2_off116 (i : grid2.Coords) : Fin 3 → Nat :=
  let arg1 : BitVec 32 := BitVec.ofNat 32 (i 1).val
  let v568 : Index := Scalar.indexCast arg1
  let c14_314 : Index := 14#32
  let c3_315 : Index := 3#32
  ![v568.toNat, 14, 3]
def k2_mult57 (v563 : BitVec 32) : BitVec 32 :=
  let c64_i32_316 : BitVec 32 := 64#32
  let v570 : BitVec 32 := Scalar.muli v563 c64_i32_316
  v570

def k2_off117 (v563 : BitVec 32) : Fin 3 → Nat :=
  let c0_317 : Index := 0#32
  let c64_i32_316 : BitVec 32 := 64#32
  let v570 : BitVec 32 := Scalar.muli v563 c64_i32_316
  let v571 : BitVec 32 := v570
  let v572 : Index := Scalar.indexCast v571
  let c0_318 : Index := 0#32
  ![0, v572.toNat, 0]

def k2_chk57 (v563 : BitVec 32) : Prop :=
  (64 ∣ (k2_mult57 v563).toNat) ∧
  (∀ a, (k2_off117 v563) a + S1x64x384.size a ≤ S1x4096x384.size a)
theorem k2_mult57_dvd : ∀ (v563 : BitVec 32) (k2_hw57 : k2_chk57 v563), 64 ∣ (k2_mult57 v563).toNat := fun v563 k2_hw57 => k2_hw57.1
theorem k2_off117_inb : ∀ (v563 : BitVec 32) (k2_hw57 : k2_chk57 v563), ∀ a, (k2_off117 v563) a + S1x64x384.size a ≤ S1x4096x384.size a := fun v563 k2_hw57 => k2_hw57.2

def k2_mult58 (v565 : BitVec 32) : BitVec 32 :=
  let c64_i32_319 : BitVec 32 := 64#32
  let v575 : BitVec 32 := Scalar.muli v565 c64_i32_319
  v575

def k2_off118 (v565 : BitVec 32) : Fin 3 → Nat :=
  let c0_320 : Index := 0#32
  let c64_i32_319 : BitVec 32 := 64#32
  let v575 : BitVec 32 := Scalar.muli v565 c64_i32_319
  let v576 : BitVec 32 := v575
  let v577 : Index := Scalar.indexCast v576
  let c0_321 : Index := 0#32
  ![0, v577.toNat, 0]

def k2_chk58 (v565 : BitVec 32) : Prop :=
  (64 ∣ (k2_mult58 v565).toNat) ∧
  (∀ a, (k2_off118 v565) a + S1x64x384.size a ≤ S1x4096x384.size a)
theorem k2_mult58_dvd : ∀ (v565 : BitVec 32) (k2_hw58 : k2_chk58 v565), 64 ∣ (k2_mult58 v565).toNat := fun v565 k2_hw58 => k2_hw58.1
theorem k2_off118_inb : ∀ (v565 : BitVec 32) (k2_hw58 : k2_chk58 v565), ∀ a, (k2_off118 v565) a + S1x64x384.size a ≤ S1x4096x384.size a := fun v565 k2_hw58 => k2_hw58.2

def k2_mult59 (v567 : BitVec 32) : BitVec 32 :=
  let c64_i32_322 : BitVec 32 := 64#32
  let v581 : BitVec 32 := Scalar.muli v567 c64_i32_322
  v581

def k2_off119 (v567 : BitVec 32) : Fin 3 → Nat :=
  let c0_323 : Index := 0#32
  let c64_i32_322 : BitVec 32 := 64#32
  let v581 : BitVec 32 := Scalar.muli v567 c64_i32_322
  let v582 : BitVec 32 := v581
  let v583 : Index := Scalar.indexCast v582
  let c0_324 : Index := 0#32
  ![0, v583.toNat, 0]

def k2_chk59 (v567 : BitVec 32) : Prop :=
  (64 ∣ (k2_mult59 v567).toNat) ∧
  (∀ a, (k2_off119 v567) a + S1x64x384.size a ≤ S1x4096x384.size a)
theorem k2_mult59_dvd : ∀ (v567 : BitVec 32) (k2_hw59 : k2_chk59 v567), 64 ∣ (k2_mult59 v567).toNat := fun v567 k2_hw59 => k2_hw59.1
theorem k2_off119_inb : ∀ (v567 : BitVec 32) (k2_hw59 : k2_chk59 v567), ∀ a, (k2_off119 v567) a + S1x64x384.size a ≤ S1x4096x384.size a := fun v567 k2_hw59 => k2_hw59.2

def k2_mult60 (v569 : BitVec 32) : BitVec 32 :=
  let c64_i32_325 : BitVec 32 := 64#32
  let v587 : BitVec 32 := Scalar.muli v569 c64_i32_325
  v587

def k2_off120 (v569 : BitVec 32) : Fin 3 → Nat :=
  let c0_326 : Index := 0#32
  let c64_i32_325 : BitVec 32 := 64#32
  let v587 : BitVec 32 := Scalar.muli v569 c64_i32_325
  let v588 : BitVec 32 := v587
  let v589 : Index := Scalar.indexCast v588
  let c0_327 : Index := 0#32
  ![0, v589.toNat, 0]

def k2_chk60 (v569 : BitVec 32) : Prop :=
  (64 ∣ (k2_mult60 v569).toNat) ∧
  (∀ a, (k2_off120 v569) a + S1x64x384.size a ≤ S1x4096x384.size a)
theorem k2_mult60_dvd : ∀ (v569 : BitVec 32) (k2_hw60 : k2_chk60 v569), 64 ∣ (k2_mult60 v569).toNat := fun v569 k2_hw60 => k2_hw60.1
theorem k2_off120_inb : ∀ (v569 : BitVec 32) (k2_hw60 : k2_chk60 v569), ∀ a, (k2_off120 v569) a + S1x64x384.size a ≤ S1x4096x384.size a := fun v569 k2_hw60 => k2_hw60.2

def k2_off121 (i : grid2.Coords) : Fin 3 → Nat :=
  let arg1 : BitVec 32 := BitVec.ofNat 32 (i 1).val
  let v602 : Index := Scalar.indexCast arg1
  let c15 : Index := 15#32
  let c0_331 : Index := 0#32
  ![v602.toNat, 15, 0]
def k2_off122 (i : grid2.Coords) : Fin 3 → Nat :=
  let arg1 : BitVec 32 := BitVec.ofNat 32 (i 1).val
  let v604 : Index := Scalar.indexCast arg1
  let c15_332 : Index := 15#32
  let c1_333 : Index := 1#32
  ![v604.toNat, 15, 1]
def k2_off123 (i : grid2.Coords) : Fin 3 → Nat :=
  let arg1 : BitVec 32 := BitVec.ofNat 32 (i 1).val
  let v606 : Index := Scalar.indexCast arg1
  let c15_334 : Index := 15#32
  let c2_335 : Index := 2#32
  ![v606.toNat, 15, 2]
def k2_off124 (i : grid2.Coords) : Fin 3 → Nat :=
  let arg1 : BitVec 32 := BitVec.ofNat 32 (i 1).val
  let v608 : Index := Scalar.indexCast arg1
  let c15_336 : Index := 15#32
  let c3_337 : Index := 3#32
  ![v608.toNat, 15, 3]
def k2_mult61 (v603 : BitVec 32) : BitVec 32 :=
  let c64_i32_338 : BitVec 32 := 64#32
  let v610 : BitVec 32 := Scalar.muli v603 c64_i32_338
  v610

def k2_off125 (v603 : BitVec 32) : Fin 3 → Nat :=
  let c0_339 : Index := 0#32
  let c64_i32_338 : BitVec 32 := 64#32
  let v610 : BitVec 32 := Scalar.muli v603 c64_i32_338
  let v611 : BitVec 32 := v610
  let v612 : Index := Scalar.indexCast v611
  let c0_340 : Index := 0#32
  ![0, v612.toNat, 0]

def k2_chk61 (v603 : BitVec 32) : Prop :=
  (64 ∣ (k2_mult61 v603).toNat) ∧
  (∀ a, (k2_off125 v603) a + S1x64x384.size a ≤ S1x4096x384.size a)
theorem k2_mult61_dvd : ∀ (v603 : BitVec 32) (k2_hw61 : k2_chk61 v603), 64 ∣ (k2_mult61 v603).toNat := fun v603 k2_hw61 => k2_hw61.1
theorem k2_off125_inb : ∀ (v603 : BitVec 32) (k2_hw61 : k2_chk61 v603), ∀ a, (k2_off125 v603) a + S1x64x384.size a ≤ S1x4096x384.size a := fun v603 k2_hw61 => k2_hw61.2

def k2_mult62 (v605 : BitVec 32) : BitVec 32 :=
  let c64_i32_341 : BitVec 32 := 64#32
  let v615 : BitVec 32 := Scalar.muli v605 c64_i32_341
  v615

def k2_off126 (v605 : BitVec 32) : Fin 3 → Nat :=
  let c0_342 : Index := 0#32
  let c64_i32_341 : BitVec 32 := 64#32
  let v615 : BitVec 32 := Scalar.muli v605 c64_i32_341
  let v616 : BitVec 32 := v615
  let v617 : Index := Scalar.indexCast v616
  let c0_343 : Index := 0#32
  ![0, v617.toNat, 0]

def k2_chk62 (v605 : BitVec 32) : Prop :=
  (64 ∣ (k2_mult62 v605).toNat) ∧
  (∀ a, (k2_off126 v605) a + S1x64x384.size a ≤ S1x4096x384.size a)
theorem k2_mult62_dvd : ∀ (v605 : BitVec 32) (k2_hw62 : k2_chk62 v605), 64 ∣ (k2_mult62 v605).toNat := fun v605 k2_hw62 => k2_hw62.1
theorem k2_off126_inb : ∀ (v605 : BitVec 32) (k2_hw62 : k2_chk62 v605), ∀ a, (k2_off126 v605) a + S1x64x384.size a ≤ S1x4096x384.size a := fun v605 k2_hw62 => k2_hw62.2

def k2_mult63 (v607 : BitVec 32) : BitVec 32 :=
  let c64_i32_344 : BitVec 32 := 64#32
  let v621 : BitVec 32 := Scalar.muli v607 c64_i32_344
  v621

def k2_off127 (v607 : BitVec 32) : Fin 3 → Nat :=
  let c0_345 : Index := 0#32
  let c64_i32_344 : BitVec 32 := 64#32
  let v621 : BitVec 32 := Scalar.muli v607 c64_i32_344
  let v622 : BitVec 32 := v621
  let v623 : Index := Scalar.indexCast v622
  let c0_346 : Index := 0#32
  ![0, v623.toNat, 0]

def k2_chk63 (v607 : BitVec 32) : Prop :=
  (64 ∣ (k2_mult63 v607).toNat) ∧
  (∀ a, (k2_off127 v607) a + S1x64x384.size a ≤ S1x4096x384.size a)
theorem k2_mult63_dvd : ∀ (v607 : BitVec 32) (k2_hw63 : k2_chk63 v607), 64 ∣ (k2_mult63 v607).toNat := fun v607 k2_hw63 => k2_hw63.1
theorem k2_off127_inb : ∀ (v607 : BitVec 32) (k2_hw63 : k2_chk63 v607), ∀ a, (k2_off127 v607) a + S1x64x384.size a ≤ S1x4096x384.size a := fun v607 k2_hw63 => k2_hw63.2

def k2_mult64 (v609 : BitVec 32) : BitVec 32 :=
  let c64_i32_347 : BitVec 32 := 64#32
  let v627 : BitVec 32 := Scalar.muli v609 c64_i32_347
  v627

def k2_off128 (v609 : BitVec 32) : Fin 3 → Nat :=
  let c0_348 : Index := 0#32
  let c64_i32_347 : BitVec 32 := 64#32
  let v627 : BitVec 32 := Scalar.muli v609 c64_i32_347
  let v628 : BitVec 32 := v627
  let v629 : Index := Scalar.indexCast v628
  let c0_349 : Index := 0#32
  ![0, v629.toNat, 0]

def k2_chk64 (v609 : BitVec 32) : Prop :=
  (64 ∣ (k2_mult64 v609).toNat) ∧
  (∀ a, (k2_off128 v609) a + S1x64x384.size a ≤ S1x4096x384.size a)
theorem k2_mult64_dvd : ∀ (v609 : BitVec 32) (k2_hw64 : k2_chk64 v609), 64 ∣ (k2_mult64 v609).toNat := fun v609 k2_hw64 => k2_hw64.1
theorem k2_off128_inb : ∀ (v609 : BitVec 32) (k2_hw64 : k2_chk64 v609), ∀ a, (k2_off128 v609) a + S1x64x384.size a ≤ S1x4096x384.size a := fun v609 k2_hw64 => k2_hw64.2

def k2_off129 (i : grid2.Coords) : Fin 3 → Nat :=
  let arg1 : BitVec 32 := BitVec.ofNat 32 (i 1).val
  let v642 : Index := Scalar.indexCast arg1
  let c16 : Index := 16#32
  let c0_353 : Index := 0#32
  ![v642.toNat, 16, 0]
def k2_off130 (i : grid2.Coords) : Fin 3 → Nat :=
  let arg1 : BitVec 32 := BitVec.ofNat 32 (i 1).val
  let v644 : Index := Scalar.indexCast arg1
  let c16_354 : Index := 16#32
  let c1_355 : Index := 1#32
  ![v644.toNat, 16, 1]
def k2_off131 (i : grid2.Coords) : Fin 3 → Nat :=
  let arg1 : BitVec 32 := BitVec.ofNat 32 (i 1).val
  let v646 : Index := Scalar.indexCast arg1
  let c16_356 : Index := 16#32
  let c2_357 : Index := 2#32
  ![v646.toNat, 16, 2]
def k2_off132 (i : grid2.Coords) : Fin 3 → Nat :=
  let arg1 : BitVec 32 := BitVec.ofNat 32 (i 1).val
  let v648 : Index := Scalar.indexCast arg1
  let c16_358 : Index := 16#32
  let c3_359 : Index := 3#32
  ![v648.toNat, 16, 3]
def k2_mult65 (v643 : BitVec 32) : BitVec 32 :=
  let c64_i32_360 : BitVec 32 := 64#32
  let v650 : BitVec 32 := Scalar.muli v643 c64_i32_360
  v650

def k2_off133 (v643 : BitVec 32) : Fin 3 → Nat :=
  let c0_361 : Index := 0#32
  let c64_i32_360 : BitVec 32 := 64#32
  let v650 : BitVec 32 := Scalar.muli v643 c64_i32_360
  let v651 : BitVec 32 := v650
  let v652 : Index := Scalar.indexCast v651
  let c0_362 : Index := 0#32
  ![0, v652.toNat, 0]

def k2_chk65 (v643 : BitVec 32) : Prop :=
  (64 ∣ (k2_mult65 v643).toNat) ∧
  (∀ a, (k2_off133 v643) a + S1x64x384.size a ≤ S1x4096x384.size a)
theorem k2_mult65_dvd : ∀ (v643 : BitVec 32) (k2_hw65 : k2_chk65 v643), 64 ∣ (k2_mult65 v643).toNat := fun v643 k2_hw65 => k2_hw65.1
theorem k2_off133_inb : ∀ (v643 : BitVec 32) (k2_hw65 : k2_chk65 v643), ∀ a, (k2_off133 v643) a + S1x64x384.size a ≤ S1x4096x384.size a := fun v643 k2_hw65 => k2_hw65.2

def k2_mult66 (v645 : BitVec 32) : BitVec 32 :=
  let c64_i32_363 : BitVec 32 := 64#32
  let v655 : BitVec 32 := Scalar.muli v645 c64_i32_363
  v655

def k2_off134 (v645 : BitVec 32) : Fin 3 → Nat :=
  let c0_364 : Index := 0#32
  let c64_i32_363 : BitVec 32 := 64#32
  let v655 : BitVec 32 := Scalar.muli v645 c64_i32_363
  let v656 : BitVec 32 := v655
  let v657 : Index := Scalar.indexCast v656
  let c0_365 : Index := 0#32
  ![0, v657.toNat, 0]

def k2_chk66 (v645 : BitVec 32) : Prop :=
  (64 ∣ (k2_mult66 v645).toNat) ∧
  (∀ a, (k2_off134 v645) a + S1x64x384.size a ≤ S1x4096x384.size a)
theorem k2_mult66_dvd : ∀ (v645 : BitVec 32) (k2_hw66 : k2_chk66 v645), 64 ∣ (k2_mult66 v645).toNat := fun v645 k2_hw66 => k2_hw66.1
theorem k2_off134_inb : ∀ (v645 : BitVec 32) (k2_hw66 : k2_chk66 v645), ∀ a, (k2_off134 v645) a + S1x64x384.size a ≤ S1x4096x384.size a := fun v645 k2_hw66 => k2_hw66.2

def k2_mult67 (v647 : BitVec 32) : BitVec 32 :=
  let c64_i32_366 : BitVec 32 := 64#32
  let v661 : BitVec 32 := Scalar.muli v647 c64_i32_366
  v661

def k2_off135 (v647 : BitVec 32) : Fin 3 → Nat :=
  let c0_367 : Index := 0#32
  let c64_i32_366 : BitVec 32 := 64#32
  let v661 : BitVec 32 := Scalar.muli v647 c64_i32_366
  let v662 : BitVec 32 := v661
  let v663 : Index := Scalar.indexCast v662
  let c0_368 : Index := 0#32
  ![0, v663.toNat, 0]

def k2_chk67 (v647 : BitVec 32) : Prop :=
  (64 ∣ (k2_mult67 v647).toNat) ∧
  (∀ a, (k2_off135 v647) a + S1x64x384.size a ≤ S1x4096x384.size a)
theorem k2_mult67_dvd : ∀ (v647 : BitVec 32) (k2_hw67 : k2_chk67 v647), 64 ∣ (k2_mult67 v647).toNat := fun v647 k2_hw67 => k2_hw67.1
theorem k2_off135_inb : ∀ (v647 : BitVec 32) (k2_hw67 : k2_chk67 v647), ∀ a, (k2_off135 v647) a + S1x64x384.size a ≤ S1x4096x384.size a := fun v647 k2_hw67 => k2_hw67.2

def k2_mult68 (v649 : BitVec 32) : BitVec 32 :=
  let c64_i32_369 : BitVec 32 := 64#32
  let v667 : BitVec 32 := Scalar.muli v649 c64_i32_369
  v667

def k2_off136 (v649 : BitVec 32) : Fin 3 → Nat :=
  let c0_370 : Index := 0#32
  let c64_i32_369 : BitVec 32 := 64#32
  let v667 : BitVec 32 := Scalar.muli v649 c64_i32_369
  let v668 : BitVec 32 := v667
  let v669 : Index := Scalar.indexCast v668
  let c0_371 : Index := 0#32
  ![0, v669.toNat, 0]

def k2_chk68 (v649 : BitVec 32) : Prop :=
  (64 ∣ (k2_mult68 v649).toNat) ∧
  (∀ a, (k2_off136 v649) a + S1x64x384.size a ≤ S1x4096x384.size a)
theorem k2_mult68_dvd : ∀ (v649 : BitVec 32) (k2_hw68 : k2_chk68 v649), 64 ∣ (k2_mult68 v649).toNat := fun v649 k2_hw68 => k2_hw68.1
theorem k2_off136_inb : ∀ (v649 : BitVec 32) (k2_hw68 : k2_chk68 v649), ∀ a, (k2_off136 v649) a + S1x64x384.size a ≤ S1x4096x384.size a := fun v649 k2_hw68 => k2_hw68.2

def k2_off137 (i : grid2.Coords) : Fin 3 → Nat :=
  let arg1 : BitVec 32 := BitVec.ofNat 32 (i 1).val
  let v682 : Index := Scalar.indexCast arg1
  let c17 : Index := 17#32
  let c0_375 : Index := 0#32
  ![v682.toNat, 17, 0]
def k2_off138 (i : grid2.Coords) : Fin 3 → Nat :=
  let arg1 : BitVec 32 := BitVec.ofNat 32 (i 1).val
  let v684 : Index := Scalar.indexCast arg1
  let c17_376 : Index := 17#32
  let c1_377 : Index := 1#32
  ![v684.toNat, 17, 1]
def k2_off139 (i : grid2.Coords) : Fin 3 → Nat :=
  let arg1 : BitVec 32 := BitVec.ofNat 32 (i 1).val
  let v686 : Index := Scalar.indexCast arg1
  let c17_378 : Index := 17#32
  let c2_379 : Index := 2#32
  ![v686.toNat, 17, 2]
def k2_off140 (i : grid2.Coords) : Fin 3 → Nat :=
  let arg1 : BitVec 32 := BitVec.ofNat 32 (i 1).val
  let v688 : Index := Scalar.indexCast arg1
  let c17_380 : Index := 17#32
  let c3_381 : Index := 3#32
  ![v688.toNat, 17, 3]
def k2_mult69 (v683 : BitVec 32) : BitVec 32 :=
  let c64_i32_382 : BitVec 32 := 64#32
  let v690 : BitVec 32 := Scalar.muli v683 c64_i32_382
  v690

def k2_off141 (v683 : BitVec 32) : Fin 3 → Nat :=
  let c0_383 : Index := 0#32
  let c64_i32_382 : BitVec 32 := 64#32
  let v690 : BitVec 32 := Scalar.muli v683 c64_i32_382
  let v691 : BitVec 32 := v690
  let v692 : Index := Scalar.indexCast v691
  let c0_384 : Index := 0#32
  ![0, v692.toNat, 0]

def k2_chk69 (v683 : BitVec 32) : Prop :=
  (64 ∣ (k2_mult69 v683).toNat) ∧
  (∀ a, (k2_off141 v683) a + S1x64x384.size a ≤ S1x4096x384.size a)
theorem k2_mult69_dvd : ∀ (v683 : BitVec 32) (k2_hw69 : k2_chk69 v683), 64 ∣ (k2_mult69 v683).toNat := fun v683 k2_hw69 => k2_hw69.1
theorem k2_off141_inb : ∀ (v683 : BitVec 32) (k2_hw69 : k2_chk69 v683), ∀ a, (k2_off141 v683) a + S1x64x384.size a ≤ S1x4096x384.size a := fun v683 k2_hw69 => k2_hw69.2

def k2_mult70 (v685 : BitVec 32) : BitVec 32 :=
  let c64_i32_385 : BitVec 32 := 64#32
  let v695 : BitVec 32 := Scalar.muli v685 c64_i32_385
  v695

def k2_off142 (v685 : BitVec 32) : Fin 3 → Nat :=
  let c0_386 : Index := 0#32
  let c64_i32_385 : BitVec 32 := 64#32
  let v695 : BitVec 32 := Scalar.muli v685 c64_i32_385
  let v696 : BitVec 32 := v695
  let v697 : Index := Scalar.indexCast v696
  let c0_387 : Index := 0#32
  ![0, v697.toNat, 0]

def k2_chk70 (v685 : BitVec 32) : Prop :=
  (64 ∣ (k2_mult70 v685).toNat) ∧
  (∀ a, (k2_off142 v685) a + S1x64x384.size a ≤ S1x4096x384.size a)
theorem k2_mult70_dvd : ∀ (v685 : BitVec 32) (k2_hw70 : k2_chk70 v685), 64 ∣ (k2_mult70 v685).toNat := fun v685 k2_hw70 => k2_hw70.1
theorem k2_off142_inb : ∀ (v685 : BitVec 32) (k2_hw70 : k2_chk70 v685), ∀ a, (k2_off142 v685) a + S1x64x384.size a ≤ S1x4096x384.size a := fun v685 k2_hw70 => k2_hw70.2

def k2_mult71 (v687 : BitVec 32) : BitVec 32 :=
  let c64_i32_388 : BitVec 32 := 64#32
  let v701 : BitVec 32 := Scalar.muli v687 c64_i32_388
  v701

def k2_off143 (v687 : BitVec 32) : Fin 3 → Nat :=
  let c0_389 : Index := 0#32
  let c64_i32_388 : BitVec 32 := 64#32
  let v701 : BitVec 32 := Scalar.muli v687 c64_i32_388
  let v702 : BitVec 32 := v701
  let v703 : Index := Scalar.indexCast v702
  let c0_390 : Index := 0#32
  ![0, v703.toNat, 0]

def k2_chk71 (v687 : BitVec 32) : Prop :=
  (64 ∣ (k2_mult71 v687).toNat) ∧
  (∀ a, (k2_off143 v687) a + S1x64x384.size a ≤ S1x4096x384.size a)
theorem k2_mult71_dvd : ∀ (v687 : BitVec 32) (k2_hw71 : k2_chk71 v687), 64 ∣ (k2_mult71 v687).toNat := fun v687 k2_hw71 => k2_hw71.1
theorem k2_off143_inb : ∀ (v687 : BitVec 32) (k2_hw71 : k2_chk71 v687), ∀ a, (k2_off143 v687) a + S1x64x384.size a ≤ S1x4096x384.size a := fun v687 k2_hw71 => k2_hw71.2

def k2_mult72 (v689 : BitVec 32) : BitVec 32 :=
  let c64_i32_391 : BitVec 32 := 64#32
  let v707 : BitVec 32 := Scalar.muli v689 c64_i32_391
  v707

def k2_off144 (v689 : BitVec 32) : Fin 3 → Nat :=
  let c0_392 : Index := 0#32
  let c64_i32_391 : BitVec 32 := 64#32
  let v707 : BitVec 32 := Scalar.muli v689 c64_i32_391
  let v708 : BitVec 32 := v707
  let v709 : Index := Scalar.indexCast v708
  let c0_393 : Index := 0#32
  ![0, v709.toNat, 0]

def k2_chk72 (v689 : BitVec 32) : Prop :=
  (64 ∣ (k2_mult72 v689).toNat) ∧
  (∀ a, (k2_off144 v689) a + S1x64x384.size a ≤ S1x4096x384.size a)
theorem k2_mult72_dvd : ∀ (v689 : BitVec 32) (k2_hw72 : k2_chk72 v689), 64 ∣ (k2_mult72 v689).toNat := fun v689 k2_hw72 => k2_hw72.1
theorem k2_off144_inb : ∀ (v689 : BitVec 32) (k2_hw72 : k2_chk72 v689), ∀ a, (k2_off144 v689) a + S1x64x384.size a ≤ S1x4096x384.size a := fun v689 k2_hw72 => k2_hw72.2

def k2_off145 (i : grid2.Coords) : Fin 3 → Nat :=
  let arg1 : BitVec 32 := BitVec.ofNat 32 (i 1).val
  let v722 : Index := Scalar.indexCast arg1
  let c18 : Index := 18#32
  let c0_397 : Index := 0#32
  ![v722.toNat, 18, 0]
def k2_off146 (i : grid2.Coords) : Fin 3 → Nat :=
  let arg1 : BitVec 32 := BitVec.ofNat 32 (i 1).val
  let v724 : Index := Scalar.indexCast arg1
  let c18_398 : Index := 18#32
  let c1_399 : Index := 1#32
  ![v724.toNat, 18, 1]
def k2_off147 (i : grid2.Coords) : Fin 3 → Nat :=
  let arg1 : BitVec 32 := BitVec.ofNat 32 (i 1).val
  let v726 : Index := Scalar.indexCast arg1
  let c18_400 : Index := 18#32
  let c2_401 : Index := 2#32
  ![v726.toNat, 18, 2]
def k2_off148 (i : grid2.Coords) : Fin 3 → Nat :=
  let arg1 : BitVec 32 := BitVec.ofNat 32 (i 1).val
  let v728 : Index := Scalar.indexCast arg1
  let c18_402 : Index := 18#32
  let c3_403 : Index := 3#32
  ![v728.toNat, 18, 3]
def k2_mult73 (v723 : BitVec 32) : BitVec 32 :=
  let c64_i32_404 : BitVec 32 := 64#32
  let v730 : BitVec 32 := Scalar.muli v723 c64_i32_404
  v730

def k2_off149 (v723 : BitVec 32) : Fin 3 → Nat :=
  let c0_405 : Index := 0#32
  let c64_i32_404 : BitVec 32 := 64#32
  let v730 : BitVec 32 := Scalar.muli v723 c64_i32_404
  let v731 : BitVec 32 := v730
  let v732 : Index := Scalar.indexCast v731
  let c0_406 : Index := 0#32
  ![0, v732.toNat, 0]

def k2_chk73 (v723 : BitVec 32) : Prop :=
  (64 ∣ (k2_mult73 v723).toNat) ∧
  (∀ a, (k2_off149 v723) a + S1x64x384.size a ≤ S1x4096x384.size a)
theorem k2_mult73_dvd : ∀ (v723 : BitVec 32) (k2_hw73 : k2_chk73 v723), 64 ∣ (k2_mult73 v723).toNat := fun v723 k2_hw73 => k2_hw73.1
theorem k2_off149_inb : ∀ (v723 : BitVec 32) (k2_hw73 : k2_chk73 v723), ∀ a, (k2_off149 v723) a + S1x64x384.size a ≤ S1x4096x384.size a := fun v723 k2_hw73 => k2_hw73.2

def k2_mult74 (v725 : BitVec 32) : BitVec 32 :=
  let c64_i32_407 : BitVec 32 := 64#32
  let v735 : BitVec 32 := Scalar.muli v725 c64_i32_407
  v735

def k2_off150 (v725 : BitVec 32) : Fin 3 → Nat :=
  let c0_408 : Index := 0#32
  let c64_i32_407 : BitVec 32 := 64#32
  let v735 : BitVec 32 := Scalar.muli v725 c64_i32_407
  let v736 : BitVec 32 := v735
  let v737 : Index := Scalar.indexCast v736
  let c0_409 : Index := 0#32
  ![0, v737.toNat, 0]

def k2_chk74 (v725 : BitVec 32) : Prop :=
  (64 ∣ (k2_mult74 v725).toNat) ∧
  (∀ a, (k2_off150 v725) a + S1x64x384.size a ≤ S1x4096x384.size a)
theorem k2_mult74_dvd : ∀ (v725 : BitVec 32) (k2_hw74 : k2_chk74 v725), 64 ∣ (k2_mult74 v725).toNat := fun v725 k2_hw74 => k2_hw74.1
theorem k2_off150_inb : ∀ (v725 : BitVec 32) (k2_hw74 : k2_chk74 v725), ∀ a, (k2_off150 v725) a + S1x64x384.size a ≤ S1x4096x384.size a := fun v725 k2_hw74 => k2_hw74.2

def k2_mult75 (v727 : BitVec 32) : BitVec 32 :=
  let c64_i32_410 : BitVec 32 := 64#32
  let v741 : BitVec 32 := Scalar.muli v727 c64_i32_410
  v741

def k2_off151 (v727 : BitVec 32) : Fin 3 → Nat :=
  let c0_411 : Index := 0#32
  let c64_i32_410 : BitVec 32 := 64#32
  let v741 : BitVec 32 := Scalar.muli v727 c64_i32_410
  let v742 : BitVec 32 := v741
  let v743 : Index := Scalar.indexCast v742
  let c0_412 : Index := 0#32
  ![0, v743.toNat, 0]

def k2_chk75 (v727 : BitVec 32) : Prop :=
  (64 ∣ (k2_mult75 v727).toNat) ∧
  (∀ a, (k2_off151 v727) a + S1x64x384.size a ≤ S1x4096x384.size a)
theorem k2_mult75_dvd : ∀ (v727 : BitVec 32) (k2_hw75 : k2_chk75 v727), 64 ∣ (k2_mult75 v727).toNat := fun v727 k2_hw75 => k2_hw75.1
theorem k2_off151_inb : ∀ (v727 : BitVec 32) (k2_hw75 : k2_chk75 v727), ∀ a, (k2_off151 v727) a + S1x64x384.size a ≤ S1x4096x384.size a := fun v727 k2_hw75 => k2_hw75.2

def k2_mult76 (v729 : BitVec 32) : BitVec 32 :=
  let c64_i32_413 : BitVec 32 := 64#32
  let v747 : BitVec 32 := Scalar.muli v729 c64_i32_413
  v747

def k2_off152 (v729 : BitVec 32) : Fin 3 → Nat :=
  let c0_414 : Index := 0#32
  let c64_i32_413 : BitVec 32 := 64#32
  let v747 : BitVec 32 := Scalar.muli v729 c64_i32_413
  let v748 : BitVec 32 := v747
  let v749 : Index := Scalar.indexCast v748
  let c0_415 : Index := 0#32
  ![0, v749.toNat, 0]

def k2_chk76 (v729 : BitVec 32) : Prop :=
  (64 ∣ (k2_mult76 v729).toNat) ∧
  (∀ a, (k2_off152 v729) a + S1x64x384.size a ≤ S1x4096x384.size a)
theorem k2_mult76_dvd : ∀ (v729 : BitVec 32) (k2_hw76 : k2_chk76 v729), 64 ∣ (k2_mult76 v729).toNat := fun v729 k2_hw76 => k2_hw76.1
theorem k2_off152_inb : ∀ (v729 : BitVec 32) (k2_hw76 : k2_chk76 v729), ∀ a, (k2_off152 v729) a + S1x64x384.size a ≤ S1x4096x384.size a := fun v729 k2_hw76 => k2_hw76.2

def k2_off153 (i : grid2.Coords) : Fin 3 → Nat :=
  let arg1 : BitVec 32 := BitVec.ofNat 32 (i 1).val
  let v762 : Index := Scalar.indexCast arg1
  let c19 : Index := 19#32
  let c0_419 : Index := 0#32
  ![v762.toNat, 19, 0]
def k2_off154 (i : grid2.Coords) : Fin 3 → Nat :=
  let arg1 : BitVec 32 := BitVec.ofNat 32 (i 1).val
  let v764 : Index := Scalar.indexCast arg1
  let c19_420 : Index := 19#32
  let c1_421 : Index := 1#32
  ![v764.toNat, 19, 1]
def k2_off155 (i : grid2.Coords) : Fin 3 → Nat :=
  let arg1 : BitVec 32 := BitVec.ofNat 32 (i 1).val
  let v766 : Index := Scalar.indexCast arg1
  let c19_422 : Index := 19#32
  let c2_423 : Index := 2#32
  ![v766.toNat, 19, 2]
def k2_off156 (i : grid2.Coords) : Fin 3 → Nat :=
  let arg1 : BitVec 32 := BitVec.ofNat 32 (i 1).val
  let v768 : Index := Scalar.indexCast arg1
  let c19_424 : Index := 19#32
  let c3_425 : Index := 3#32
  ![v768.toNat, 19, 3]
def k2_mult77 (v763 : BitVec 32) : BitVec 32 :=
  let c64_i32_426 : BitVec 32 := 64#32
  let v770 : BitVec 32 := Scalar.muli v763 c64_i32_426
  v770

def k2_off157 (v763 : BitVec 32) : Fin 3 → Nat :=
  let c0_427 : Index := 0#32
  let c64_i32_426 : BitVec 32 := 64#32
  let v770 : BitVec 32 := Scalar.muli v763 c64_i32_426
  let v771 : BitVec 32 := v770
  let v772 : Index := Scalar.indexCast v771
  let c0_428 : Index := 0#32
  ![0, v772.toNat, 0]

def k2_chk77 (v763 : BitVec 32) : Prop :=
  (64 ∣ (k2_mult77 v763).toNat) ∧
  (∀ a, (k2_off157 v763) a + S1x64x384.size a ≤ S1x4096x384.size a)
theorem k2_mult77_dvd : ∀ (v763 : BitVec 32) (k2_hw77 : k2_chk77 v763), 64 ∣ (k2_mult77 v763).toNat := fun v763 k2_hw77 => k2_hw77.1
theorem k2_off157_inb : ∀ (v763 : BitVec 32) (k2_hw77 : k2_chk77 v763), ∀ a, (k2_off157 v763) a + S1x64x384.size a ≤ S1x4096x384.size a := fun v763 k2_hw77 => k2_hw77.2

def k2_mult78 (v765 : BitVec 32) : BitVec 32 :=
  let c64_i32_429 : BitVec 32 := 64#32
  let v775 : BitVec 32 := Scalar.muli v765 c64_i32_429
  v775

def k2_off158 (v765 : BitVec 32) : Fin 3 → Nat :=
  let c0_430 : Index := 0#32
  let c64_i32_429 : BitVec 32 := 64#32
  let v775 : BitVec 32 := Scalar.muli v765 c64_i32_429
  let v776 : BitVec 32 := v775
  let v777 : Index := Scalar.indexCast v776
  let c0_431 : Index := 0#32
  ![0, v777.toNat, 0]

def k2_chk78 (v765 : BitVec 32) : Prop :=
  (64 ∣ (k2_mult78 v765).toNat) ∧
  (∀ a, (k2_off158 v765) a + S1x64x384.size a ≤ S1x4096x384.size a)
theorem k2_mult78_dvd : ∀ (v765 : BitVec 32) (k2_hw78 : k2_chk78 v765), 64 ∣ (k2_mult78 v765).toNat := fun v765 k2_hw78 => k2_hw78.1
theorem k2_off158_inb : ∀ (v765 : BitVec 32) (k2_hw78 : k2_chk78 v765), ∀ a, (k2_off158 v765) a + S1x64x384.size a ≤ S1x4096x384.size a := fun v765 k2_hw78 => k2_hw78.2

def k2_mult79 (v767 : BitVec 32) : BitVec 32 :=
  let c64_i32_432 : BitVec 32 := 64#32
  let v781 : BitVec 32 := Scalar.muli v767 c64_i32_432
  v781

def k2_off159 (v767 : BitVec 32) : Fin 3 → Nat :=
  let c0_433 : Index := 0#32
  let c64_i32_432 : BitVec 32 := 64#32
  let v781 : BitVec 32 := Scalar.muli v767 c64_i32_432
  let v782 : BitVec 32 := v781
  let v783 : Index := Scalar.indexCast v782
  let c0_434 : Index := 0#32
  ![0, v783.toNat, 0]

def k2_chk79 (v767 : BitVec 32) : Prop :=
  (64 ∣ (k2_mult79 v767).toNat) ∧
  (∀ a, (k2_off159 v767) a + S1x64x384.size a ≤ S1x4096x384.size a)
theorem k2_mult79_dvd : ∀ (v767 : BitVec 32) (k2_hw79 : k2_chk79 v767), 64 ∣ (k2_mult79 v767).toNat := fun v767 k2_hw79 => k2_hw79.1
theorem k2_off159_inb : ∀ (v767 : BitVec 32) (k2_hw79 : k2_chk79 v767), ∀ a, (k2_off159 v767) a + S1x64x384.size a ≤ S1x4096x384.size a := fun v767 k2_hw79 => k2_hw79.2

def k2_mult80 (v769 : BitVec 32) : BitVec 32 :=
  let c64_i32_435 : BitVec 32 := 64#32
  let v787 : BitVec 32 := Scalar.muli v769 c64_i32_435
  v787

def k2_off160 (v769 : BitVec 32) : Fin 3 → Nat :=
  let c0_436 : Index := 0#32
  let c64_i32_435 : BitVec 32 := 64#32
  let v787 : BitVec 32 := Scalar.muli v769 c64_i32_435
  let v788 : BitVec 32 := v787
  let v789 : Index := Scalar.indexCast v788
  let c0_437 : Index := 0#32
  ![0, v789.toNat, 0]

def k2_chk80 (v769 : BitVec 32) : Prop :=
  (64 ∣ (k2_mult80 v769).toNat) ∧
  (∀ a, (k2_off160 v769) a + S1x64x384.size a ≤ S1x4096x384.size a)
theorem k2_mult80_dvd : ∀ (v769 : BitVec 32) (k2_hw80 : k2_chk80 v769), 64 ∣ (k2_mult80 v769).toNat := fun v769 k2_hw80 => k2_hw80.1
theorem k2_off160_inb : ∀ (v769 : BitVec 32) (k2_hw80 : k2_chk80 v769), ∀ a, (k2_off160 v769) a + S1x64x384.size a ≤ S1x4096x384.size a := fun v769 k2_hw80 => k2_hw80.2

def k2_off161 (i : grid2.Coords) : Fin 3 → Nat :=
  let arg1 : BitVec 32 := BitVec.ofNat 32 (i 1).val
  let v802 : Index := Scalar.indexCast arg1
  let c20 : Index := 20#32
  let c0_441 : Index := 0#32
  ![v802.toNat, 20, 0]
def k2_off162 (i : grid2.Coords) : Fin 3 → Nat :=
  let arg1 : BitVec 32 := BitVec.ofNat 32 (i 1).val
  let v804 : Index := Scalar.indexCast arg1
  let c20_442 : Index := 20#32
  let c1_443 : Index := 1#32
  ![v804.toNat, 20, 1]
def k2_off163 (i : grid2.Coords) : Fin 3 → Nat :=
  let arg1 : BitVec 32 := BitVec.ofNat 32 (i 1).val
  let v806 : Index := Scalar.indexCast arg1
  let c20_444 : Index := 20#32
  let c2_445 : Index := 2#32
  ![v806.toNat, 20, 2]
def k2_off164 (i : grid2.Coords) : Fin 3 → Nat :=
  let arg1 : BitVec 32 := BitVec.ofNat 32 (i 1).val
  let v808 : Index := Scalar.indexCast arg1
  let c20_446 : Index := 20#32
  let c3_447 : Index := 3#32
  ![v808.toNat, 20, 3]
def k2_mult81 (v803 : BitVec 32) : BitVec 32 :=
  let c64_i32_448 : BitVec 32 := 64#32
  let v810 : BitVec 32 := Scalar.muli v803 c64_i32_448
  v810

def k2_off165 (v803 : BitVec 32) : Fin 3 → Nat :=
  let c0_449 : Index := 0#32
  let c64_i32_448 : BitVec 32 := 64#32
  let v810 : BitVec 32 := Scalar.muli v803 c64_i32_448
  let v811 : BitVec 32 := v810
  let v812 : Index := Scalar.indexCast v811
  let c0_450 : Index := 0#32
  ![0, v812.toNat, 0]

def k2_chk81 (v803 : BitVec 32) : Prop :=
  (64 ∣ (k2_mult81 v803).toNat) ∧
  (∀ a, (k2_off165 v803) a + S1x64x384.size a ≤ S1x4096x384.size a)
theorem k2_mult81_dvd : ∀ (v803 : BitVec 32) (k2_hw81 : k2_chk81 v803), 64 ∣ (k2_mult81 v803).toNat := fun v803 k2_hw81 => k2_hw81.1
theorem k2_off165_inb : ∀ (v803 : BitVec 32) (k2_hw81 : k2_chk81 v803), ∀ a, (k2_off165 v803) a + S1x64x384.size a ≤ S1x4096x384.size a := fun v803 k2_hw81 => k2_hw81.2

def k2_mult82 (v805 : BitVec 32) : BitVec 32 :=
  let c64_i32_451 : BitVec 32 := 64#32
  let v815 : BitVec 32 := Scalar.muli v805 c64_i32_451
  v815

def k2_off166 (v805 : BitVec 32) : Fin 3 → Nat :=
  let c0_452 : Index := 0#32
  let c64_i32_451 : BitVec 32 := 64#32
  let v815 : BitVec 32 := Scalar.muli v805 c64_i32_451
  let v816 : BitVec 32 := v815
  let v817 : Index := Scalar.indexCast v816
  let c0_453 : Index := 0#32
  ![0, v817.toNat, 0]

def k2_chk82 (v805 : BitVec 32) : Prop :=
  (64 ∣ (k2_mult82 v805).toNat) ∧
  (∀ a, (k2_off166 v805) a + S1x64x384.size a ≤ S1x4096x384.size a)
theorem k2_mult82_dvd : ∀ (v805 : BitVec 32) (k2_hw82 : k2_chk82 v805), 64 ∣ (k2_mult82 v805).toNat := fun v805 k2_hw82 => k2_hw82.1
theorem k2_off166_inb : ∀ (v805 : BitVec 32) (k2_hw82 : k2_chk82 v805), ∀ a, (k2_off166 v805) a + S1x64x384.size a ≤ S1x4096x384.size a := fun v805 k2_hw82 => k2_hw82.2

def k2_mult83 (v807 : BitVec 32) : BitVec 32 :=
  let c64_i32_454 : BitVec 32 := 64#32
  let v821 : BitVec 32 := Scalar.muli v807 c64_i32_454
  v821

def k2_off167 (v807 : BitVec 32) : Fin 3 → Nat :=
  let c0_455 : Index := 0#32
  let c64_i32_454 : BitVec 32 := 64#32
  let v821 : BitVec 32 := Scalar.muli v807 c64_i32_454
  let v822 : BitVec 32 := v821
  let v823 : Index := Scalar.indexCast v822
  let c0_456 : Index := 0#32
  ![0, v823.toNat, 0]

def k2_chk83 (v807 : BitVec 32) : Prop :=
  (64 ∣ (k2_mult83 v807).toNat) ∧
  (∀ a, (k2_off167 v807) a + S1x64x384.size a ≤ S1x4096x384.size a)
theorem k2_mult83_dvd : ∀ (v807 : BitVec 32) (k2_hw83 : k2_chk83 v807), 64 ∣ (k2_mult83 v807).toNat := fun v807 k2_hw83 => k2_hw83.1
theorem k2_off167_inb : ∀ (v807 : BitVec 32) (k2_hw83 : k2_chk83 v807), ∀ a, (k2_off167 v807) a + S1x64x384.size a ≤ S1x4096x384.size a := fun v807 k2_hw83 => k2_hw83.2

def k2_mult84 (v809 : BitVec 32) : BitVec 32 :=
  let c64_i32_457 : BitVec 32 := 64#32
  let v827 : BitVec 32 := Scalar.muli v809 c64_i32_457
  v827

def k2_off168 (v809 : BitVec 32) : Fin 3 → Nat :=
  let c0_458 : Index := 0#32
  let c64_i32_457 : BitVec 32 := 64#32
  let v827 : BitVec 32 := Scalar.muli v809 c64_i32_457
  let v828 : BitVec 32 := v827
  let v829 : Index := Scalar.indexCast v828
  let c0_459 : Index := 0#32
  ![0, v829.toNat, 0]

def k2_chk84 (v809 : BitVec 32) : Prop :=
  (64 ∣ (k2_mult84 v809).toNat) ∧
  (∀ a, (k2_off168 v809) a + S1x64x384.size a ≤ S1x4096x384.size a)
theorem k2_mult84_dvd : ∀ (v809 : BitVec 32) (k2_hw84 : k2_chk84 v809), 64 ∣ (k2_mult84 v809).toNat := fun v809 k2_hw84 => k2_hw84.1
theorem k2_off168_inb : ∀ (v809 : BitVec 32) (k2_hw84 : k2_chk84 v809), ∀ a, (k2_off168 v809) a + S1x64x384.size a ≤ S1x4096x384.size a := fun v809 k2_hw84 => k2_hw84.2

def k2_off169 (i : grid2.Coords) : Fin 3 → Nat :=
  let arg1 : BitVec 32 := BitVec.ofNat 32 (i 1).val
  let v842 : Index := Scalar.indexCast arg1
  let c21 : Index := 21#32
  let c0_463 : Index := 0#32
  ![v842.toNat, 21, 0]
def k2_off170 (i : grid2.Coords) : Fin 3 → Nat :=
  let arg1 : BitVec 32 := BitVec.ofNat 32 (i 1).val
  let v844 : Index := Scalar.indexCast arg1
  let c21_464 : Index := 21#32
  let c1_465 : Index := 1#32
  ![v844.toNat, 21, 1]
def k2_off171 (i : grid2.Coords) : Fin 3 → Nat :=
  let arg1 : BitVec 32 := BitVec.ofNat 32 (i 1).val
  let v846 : Index := Scalar.indexCast arg1
  let c21_466 : Index := 21#32
  let c2_467 : Index := 2#32
  ![v846.toNat, 21, 2]
def k2_off172 (i : grid2.Coords) : Fin 3 → Nat :=
  let arg1 : BitVec 32 := BitVec.ofNat 32 (i 1).val
  let v848 : Index := Scalar.indexCast arg1
  let c21_468 : Index := 21#32
  let c3_469 : Index := 3#32
  ![v848.toNat, 21, 3]
def k2_mult85 (v843 : BitVec 32) : BitVec 32 :=
  let c64_i32_470 : BitVec 32 := 64#32
  let v850 : BitVec 32 := Scalar.muli v843 c64_i32_470
  v850

def k2_off173 (v843 : BitVec 32) : Fin 3 → Nat :=
  let c0_471 : Index := 0#32
  let c64_i32_470 : BitVec 32 := 64#32
  let v850 : BitVec 32 := Scalar.muli v843 c64_i32_470
  let v851 : BitVec 32 := v850
  let v852 : Index := Scalar.indexCast v851
  let c0_472 : Index := 0#32
  ![0, v852.toNat, 0]

def k2_chk85 (v843 : BitVec 32) : Prop :=
  (64 ∣ (k2_mult85 v843).toNat) ∧
  (∀ a, (k2_off173 v843) a + S1x64x384.size a ≤ S1x4096x384.size a)
theorem k2_mult85_dvd : ∀ (v843 : BitVec 32) (k2_hw85 : k2_chk85 v843), 64 ∣ (k2_mult85 v843).toNat := fun v843 k2_hw85 => k2_hw85.1
theorem k2_off173_inb : ∀ (v843 : BitVec 32) (k2_hw85 : k2_chk85 v843), ∀ a, (k2_off173 v843) a + S1x64x384.size a ≤ S1x4096x384.size a := fun v843 k2_hw85 => k2_hw85.2

def k2_mult86 (v845 : BitVec 32) : BitVec 32 :=
  let c64_i32_473 : BitVec 32 := 64#32
  let v855 : BitVec 32 := Scalar.muli v845 c64_i32_473
  v855

def k2_off174 (v845 : BitVec 32) : Fin 3 → Nat :=
  let c0_474 : Index := 0#32
  let c64_i32_473 : BitVec 32 := 64#32
  let v855 : BitVec 32 := Scalar.muli v845 c64_i32_473
  let v856 : BitVec 32 := v855
  let v857 : Index := Scalar.indexCast v856
  let c0_475 : Index := 0#32
  ![0, v857.toNat, 0]

def k2_chk86 (v845 : BitVec 32) : Prop :=
  (64 ∣ (k2_mult86 v845).toNat) ∧
  (∀ a, (k2_off174 v845) a + S1x64x384.size a ≤ S1x4096x384.size a)
theorem k2_mult86_dvd : ∀ (v845 : BitVec 32) (k2_hw86 : k2_chk86 v845), 64 ∣ (k2_mult86 v845).toNat := fun v845 k2_hw86 => k2_hw86.1
theorem k2_off174_inb : ∀ (v845 : BitVec 32) (k2_hw86 : k2_chk86 v845), ∀ a, (k2_off174 v845) a + S1x64x384.size a ≤ S1x4096x384.size a := fun v845 k2_hw86 => k2_hw86.2

def k2_mult87 (v847 : BitVec 32) : BitVec 32 :=
  let c64_i32_476 : BitVec 32 := 64#32
  let v861 : BitVec 32 := Scalar.muli v847 c64_i32_476
  v861

def k2_off175 (v847 : BitVec 32) : Fin 3 → Nat :=
  let c0_477 : Index := 0#32
  let c64_i32_476 : BitVec 32 := 64#32
  let v861 : BitVec 32 := Scalar.muli v847 c64_i32_476
  let v862 : BitVec 32 := v861
  let v863 : Index := Scalar.indexCast v862
  let c0_478 : Index := 0#32
  ![0, v863.toNat, 0]

def k2_chk87 (v847 : BitVec 32) : Prop :=
  (64 ∣ (k2_mult87 v847).toNat) ∧
  (∀ a, (k2_off175 v847) a + S1x64x384.size a ≤ S1x4096x384.size a)
theorem k2_mult87_dvd : ∀ (v847 : BitVec 32) (k2_hw87 : k2_chk87 v847), 64 ∣ (k2_mult87 v847).toNat := fun v847 k2_hw87 => k2_hw87.1
theorem k2_off175_inb : ∀ (v847 : BitVec 32) (k2_hw87 : k2_chk87 v847), ∀ a, (k2_off175 v847) a + S1x64x384.size a ≤ S1x4096x384.size a := fun v847 k2_hw87 => k2_hw87.2

def k2_mult88 (v849 : BitVec 32) : BitVec 32 :=
  let c64_i32_479 : BitVec 32 := 64#32
  let v867 : BitVec 32 := Scalar.muli v849 c64_i32_479
  v867

def k2_off176 (v849 : BitVec 32) : Fin 3 → Nat :=
  let c0_480 : Index := 0#32
  let c64_i32_479 : BitVec 32 := 64#32
  let v867 : BitVec 32 := Scalar.muli v849 c64_i32_479
  let v868 : BitVec 32 := v867
  let v869 : Index := Scalar.indexCast v868
  let c0_481 : Index := 0#32
  ![0, v869.toNat, 0]

def k2_chk88 (v849 : BitVec 32) : Prop :=
  (64 ∣ (k2_mult88 v849).toNat) ∧
  (∀ a, (k2_off176 v849) a + S1x64x384.size a ≤ S1x4096x384.size a)
theorem k2_mult88_dvd : ∀ (v849 : BitVec 32) (k2_hw88 : k2_chk88 v849), 64 ∣ (k2_mult88 v849).toNat := fun v849 k2_hw88 => k2_hw88.1
theorem k2_off176_inb : ∀ (v849 : BitVec 32) (k2_hw88 : k2_chk88 v849), ∀ a, (k2_off176 v849) a + S1x64x384.size a ≤ S1x4096x384.size a := fun v849 k2_hw88 => k2_hw88.2

def k2_off177 (i : grid2.Coords) : Fin 3 → Nat :=
  let arg1 : BitVec 32 := BitVec.ofNat 32 (i 1).val
  let v882 : Index := Scalar.indexCast arg1
  let c22 : Index := 22#32
  let c0_485 : Index := 0#32
  ![v882.toNat, 22, 0]
def k2_off178 (i : grid2.Coords) : Fin 3 → Nat :=
  let arg1 : BitVec 32 := BitVec.ofNat 32 (i 1).val
  let v884 : Index := Scalar.indexCast arg1
  let c22_486 : Index := 22#32
  let c1_487 : Index := 1#32
  ![v884.toNat, 22, 1]
def k2_off179 (i : grid2.Coords) : Fin 3 → Nat :=
  let arg1 : BitVec 32 := BitVec.ofNat 32 (i 1).val
  let v886 : Index := Scalar.indexCast arg1
  let c22_488 : Index := 22#32
  let c2_489 : Index := 2#32
  ![v886.toNat, 22, 2]
def k2_off180 (i : grid2.Coords) : Fin 3 → Nat :=
  let arg1 : BitVec 32 := BitVec.ofNat 32 (i 1).val
  let v888 : Index := Scalar.indexCast arg1
  let c22_490 : Index := 22#32
  let c3_491 : Index := 3#32
  ![v888.toNat, 22, 3]
def k2_mult89 (v883 : BitVec 32) : BitVec 32 :=
  let c64_i32_492 : BitVec 32 := 64#32
  let v890 : BitVec 32 := Scalar.muli v883 c64_i32_492
  v890

def k2_off181 (v883 : BitVec 32) : Fin 3 → Nat :=
  let c0_493 : Index := 0#32
  let c64_i32_492 : BitVec 32 := 64#32
  let v890 : BitVec 32 := Scalar.muli v883 c64_i32_492
  let v891 : BitVec 32 := v890
  let v892 : Index := Scalar.indexCast v891
  let c0_494 : Index := 0#32
  ![0, v892.toNat, 0]

def k2_chk89 (v883 : BitVec 32) : Prop :=
  (64 ∣ (k2_mult89 v883).toNat) ∧
  (∀ a, (k2_off181 v883) a + S1x64x384.size a ≤ S1x4096x384.size a)
theorem k2_mult89_dvd : ∀ (v883 : BitVec 32) (k2_hw89 : k2_chk89 v883), 64 ∣ (k2_mult89 v883).toNat := fun v883 k2_hw89 => k2_hw89.1
theorem k2_off181_inb : ∀ (v883 : BitVec 32) (k2_hw89 : k2_chk89 v883), ∀ a, (k2_off181 v883) a + S1x64x384.size a ≤ S1x4096x384.size a := fun v883 k2_hw89 => k2_hw89.2

def k2_mult90 (v885 : BitVec 32) : BitVec 32 :=
  let c64_i32_495 : BitVec 32 := 64#32
  let v895 : BitVec 32 := Scalar.muli v885 c64_i32_495
  v895

def k2_off182 (v885 : BitVec 32) : Fin 3 → Nat :=
  let c0_496 : Index := 0#32
  let c64_i32_495 : BitVec 32 := 64#32
  let v895 : BitVec 32 := Scalar.muli v885 c64_i32_495
  let v896 : BitVec 32 := v895
  let v897 : Index := Scalar.indexCast v896
  let c0_497 : Index := 0#32
  ![0, v897.toNat, 0]

def k2_chk90 (v885 : BitVec 32) : Prop :=
  (64 ∣ (k2_mult90 v885).toNat) ∧
  (∀ a, (k2_off182 v885) a + S1x64x384.size a ≤ S1x4096x384.size a)
theorem k2_mult90_dvd : ∀ (v885 : BitVec 32) (k2_hw90 : k2_chk90 v885), 64 ∣ (k2_mult90 v885).toNat := fun v885 k2_hw90 => k2_hw90.1
theorem k2_off182_inb : ∀ (v885 : BitVec 32) (k2_hw90 : k2_chk90 v885), ∀ a, (k2_off182 v885) a + S1x64x384.size a ≤ S1x4096x384.size a := fun v885 k2_hw90 => k2_hw90.2

def k2_mult91 (v887 : BitVec 32) : BitVec 32 :=
  let c64_i32_498 : BitVec 32 := 64#32
  let v901 : BitVec 32 := Scalar.muli v887 c64_i32_498
  v901

def k2_off183 (v887 : BitVec 32) : Fin 3 → Nat :=
  let c0_499 : Index := 0#32
  let c64_i32_498 : BitVec 32 := 64#32
  let v901 : BitVec 32 := Scalar.muli v887 c64_i32_498
  let v902 : BitVec 32 := v901
  let v903 : Index := Scalar.indexCast v902
  let c0_500 : Index := 0#32
  ![0, v903.toNat, 0]

def k2_chk91 (v887 : BitVec 32) : Prop :=
  (64 ∣ (k2_mult91 v887).toNat) ∧
  (∀ a, (k2_off183 v887) a + S1x64x384.size a ≤ S1x4096x384.size a)
theorem k2_mult91_dvd : ∀ (v887 : BitVec 32) (k2_hw91 : k2_chk91 v887), 64 ∣ (k2_mult91 v887).toNat := fun v887 k2_hw91 => k2_hw91.1
theorem k2_off183_inb : ∀ (v887 : BitVec 32) (k2_hw91 : k2_chk91 v887), ∀ a, (k2_off183 v887) a + S1x64x384.size a ≤ S1x4096x384.size a := fun v887 k2_hw91 => k2_hw91.2

def k2_mult92 (v889 : BitVec 32) : BitVec 32 :=
  let c64_i32_501 : BitVec 32 := 64#32
  let v907 : BitVec 32 := Scalar.muli v889 c64_i32_501
  v907

def k2_off184 (v889 : BitVec 32) : Fin 3 → Nat :=
  let c0_502 : Index := 0#32
  let c64_i32_501 : BitVec 32 := 64#32
  let v907 : BitVec 32 := Scalar.muli v889 c64_i32_501
  let v908 : BitVec 32 := v907
  let v909 : Index := Scalar.indexCast v908
  let c0_503 : Index := 0#32
  ![0, v909.toNat, 0]

def k2_chk92 (v889 : BitVec 32) : Prop :=
  (64 ∣ (k2_mult92 v889).toNat) ∧
  (∀ a, (k2_off184 v889) a + S1x64x384.size a ≤ S1x4096x384.size a)
theorem k2_mult92_dvd : ∀ (v889 : BitVec 32) (k2_hw92 : k2_chk92 v889), 64 ∣ (k2_mult92 v889).toNat := fun v889 k2_hw92 => k2_hw92.1
theorem k2_off184_inb : ∀ (v889 : BitVec 32) (k2_hw92 : k2_chk92 v889), ∀ a, (k2_off184 v889) a + S1x64x384.size a ≤ S1x4096x384.size a := fun v889 k2_hw92 => k2_hw92.2

def k2_off185 (i : grid2.Coords) : Fin 3 → Nat :=
  let arg1 : BitVec 32 := BitVec.ofNat 32 (i 1).val
  let v922 : Index := Scalar.indexCast arg1
  let c23 : Index := 23#32
  let c0_507 : Index := 0#32
  ![v922.toNat, 23, 0]
def k2_off186 (i : grid2.Coords) : Fin 3 → Nat :=
  let arg1 : BitVec 32 := BitVec.ofNat 32 (i 1).val
  let v924 : Index := Scalar.indexCast arg1
  let c23_508 : Index := 23#32
  let c1_509 : Index := 1#32
  ![v924.toNat, 23, 1]
def k2_off187 (i : grid2.Coords) : Fin 3 → Nat :=
  let arg1 : BitVec 32 := BitVec.ofNat 32 (i 1).val
  let v926 : Index := Scalar.indexCast arg1
  let c23_510 : Index := 23#32
  let c2_511 : Index := 2#32
  ![v926.toNat, 23, 2]
def k2_off188 (i : grid2.Coords) : Fin 3 → Nat :=
  let arg1 : BitVec 32 := BitVec.ofNat 32 (i 1).val
  let v928 : Index := Scalar.indexCast arg1
  let c23_512 : Index := 23#32
  let c3_513 : Index := 3#32
  ![v928.toNat, 23, 3]
def k2_mult93 (v923 : BitVec 32) : BitVec 32 :=
  let c64_i32_514 : BitVec 32 := 64#32
  let v930 : BitVec 32 := Scalar.muli v923 c64_i32_514
  v930

def k2_off189 (v923 : BitVec 32) : Fin 3 → Nat :=
  let c0_515 : Index := 0#32
  let c64_i32_514 : BitVec 32 := 64#32
  let v930 : BitVec 32 := Scalar.muli v923 c64_i32_514
  let v931 : BitVec 32 := v930
  let v932 : Index := Scalar.indexCast v931
  let c0_516 : Index := 0#32
  ![0, v932.toNat, 0]

def k2_chk93 (v923 : BitVec 32) : Prop :=
  (64 ∣ (k2_mult93 v923).toNat) ∧
  (∀ a, (k2_off189 v923) a + S1x64x384.size a ≤ S1x4096x384.size a)
theorem k2_mult93_dvd : ∀ (v923 : BitVec 32) (k2_hw93 : k2_chk93 v923), 64 ∣ (k2_mult93 v923).toNat := fun v923 k2_hw93 => k2_hw93.1
theorem k2_off189_inb : ∀ (v923 : BitVec 32) (k2_hw93 : k2_chk93 v923), ∀ a, (k2_off189 v923) a + S1x64x384.size a ≤ S1x4096x384.size a := fun v923 k2_hw93 => k2_hw93.2

def k2_mult94 (v925 : BitVec 32) : BitVec 32 :=
  let c64_i32_517 : BitVec 32 := 64#32
  let v935 : BitVec 32 := Scalar.muli v925 c64_i32_517
  v935

def k2_off190 (v925 : BitVec 32) : Fin 3 → Nat :=
  let c0_518 : Index := 0#32
  let c64_i32_517 : BitVec 32 := 64#32
  let v935 : BitVec 32 := Scalar.muli v925 c64_i32_517
  let v936 : BitVec 32 := v935
  let v937 : Index := Scalar.indexCast v936
  let c0_519 : Index := 0#32
  ![0, v937.toNat, 0]

def k2_chk94 (v925 : BitVec 32) : Prop :=
  (64 ∣ (k2_mult94 v925).toNat) ∧
  (∀ a, (k2_off190 v925) a + S1x64x384.size a ≤ S1x4096x384.size a)
theorem k2_mult94_dvd : ∀ (v925 : BitVec 32) (k2_hw94 : k2_chk94 v925), 64 ∣ (k2_mult94 v925).toNat := fun v925 k2_hw94 => k2_hw94.1
theorem k2_off190_inb : ∀ (v925 : BitVec 32) (k2_hw94 : k2_chk94 v925), ∀ a, (k2_off190 v925) a + S1x64x384.size a ≤ S1x4096x384.size a := fun v925 k2_hw94 => k2_hw94.2

def k2_mult95 (v927 : BitVec 32) : BitVec 32 :=
  let c64_i32_520 : BitVec 32 := 64#32
  let v941 : BitVec 32 := Scalar.muli v927 c64_i32_520
  v941

def k2_off191 (v927 : BitVec 32) : Fin 3 → Nat :=
  let c0_521 : Index := 0#32
  let c64_i32_520 : BitVec 32 := 64#32
  let v941 : BitVec 32 := Scalar.muli v927 c64_i32_520
  let v942 : BitVec 32 := v941
  let v943 : Index := Scalar.indexCast v942
  let c0_522 : Index := 0#32
  ![0, v943.toNat, 0]

def k2_chk95 (v927 : BitVec 32) : Prop :=
  (64 ∣ (k2_mult95 v927).toNat) ∧
  (∀ a, (k2_off191 v927) a + S1x64x384.size a ≤ S1x4096x384.size a)
theorem k2_mult95_dvd : ∀ (v927 : BitVec 32) (k2_hw95 : k2_chk95 v927), 64 ∣ (k2_mult95 v927).toNat := fun v927 k2_hw95 => k2_hw95.1
theorem k2_off191_inb : ∀ (v927 : BitVec 32) (k2_hw95 : k2_chk95 v927), ∀ a, (k2_off191 v927) a + S1x64x384.size a ≤ S1x4096x384.size a := fun v927 k2_hw95 => k2_hw95.2

def k2_mult96 (v929 : BitVec 32) : BitVec 32 :=
  let c64_i32_523 : BitVec 32 := 64#32
  let v947 : BitVec 32 := Scalar.muli v929 c64_i32_523
  v947

def k2_off192 (v929 : BitVec 32) : Fin 3 → Nat :=
  let c0_524 : Index := 0#32
  let c64_i32_523 : BitVec 32 := 64#32
  let v947 : BitVec 32 := Scalar.muli v929 c64_i32_523
  let v948 : BitVec 32 := v947
  let v949 : Index := Scalar.indexCast v948
  let c0_525 : Index := 0#32
  ![0, v949.toNat, 0]

def k2_chk96 (v929 : BitVec 32) : Prop :=
  (64 ∣ (k2_mult96 v929).toNat) ∧
  (∀ a, (k2_off192 v929) a + S1x64x384.size a ≤ S1x4096x384.size a)
theorem k2_mult96_dvd : ∀ (v929 : BitVec 32) (k2_hw96 : k2_chk96 v929), 64 ∣ (k2_mult96 v929).toNat := fun v929 k2_hw96 => k2_hw96.1
theorem k2_off192_inb : ∀ (v929 : BitVec 32) (k2_hw96 : k2_chk96 v929), ∀ a, (k2_off192 v929) a + S1x64x384.size a ≤ S1x4096x384.size a := fun v929 k2_hw96 => k2_hw96.2

def k2_off193 (i : grid2.Coords) : Fin 3 → Nat :=
  let arg1 : BitVec 32 := BitVec.ofNat 32 (i 1).val
  let v962 : Index := Scalar.indexCast arg1
  let c24 : Index := 24#32
  let c0_529 : Index := 0#32
  ![v962.toNat, 24, 0]
def k2_off194 (i : grid2.Coords) : Fin 3 → Nat :=
  let arg1 : BitVec 32 := BitVec.ofNat 32 (i 1).val
  let v964 : Index := Scalar.indexCast arg1
  let c24_530 : Index := 24#32
  let c1_531 : Index := 1#32
  ![v964.toNat, 24, 1]
def k2_off195 (i : grid2.Coords) : Fin 3 → Nat :=
  let arg1 : BitVec 32 := BitVec.ofNat 32 (i 1).val
  let v966 : Index := Scalar.indexCast arg1
  let c24_532 : Index := 24#32
  let c2_533 : Index := 2#32
  ![v966.toNat, 24, 2]
def k2_off196 (i : grid2.Coords) : Fin 3 → Nat :=
  let arg1 : BitVec 32 := BitVec.ofNat 32 (i 1).val
  let v968 : Index := Scalar.indexCast arg1
  let c24_534 : Index := 24#32
  let c3_535 : Index := 3#32
  ![v968.toNat, 24, 3]
def k2_mult97 (v963 : BitVec 32) : BitVec 32 :=
  let c64_i32_536 : BitVec 32 := 64#32
  let v970 : BitVec 32 := Scalar.muli v963 c64_i32_536
  v970

def k2_off197 (v963 : BitVec 32) : Fin 3 → Nat :=
  let c0_537 : Index := 0#32
  let c64_i32_536 : BitVec 32 := 64#32
  let v970 : BitVec 32 := Scalar.muli v963 c64_i32_536
  let v971 : BitVec 32 := v970
  let v972 : Index := Scalar.indexCast v971
  let c0_538 : Index := 0#32
  ![0, v972.toNat, 0]

def k2_chk97 (v963 : BitVec 32) : Prop :=
  (64 ∣ (k2_mult97 v963).toNat) ∧
  (∀ a, (k2_off197 v963) a + S1x64x384.size a ≤ S1x4096x384.size a)
theorem k2_mult97_dvd : ∀ (v963 : BitVec 32) (k2_hw97 : k2_chk97 v963), 64 ∣ (k2_mult97 v963).toNat := fun v963 k2_hw97 => k2_hw97.1
theorem k2_off197_inb : ∀ (v963 : BitVec 32) (k2_hw97 : k2_chk97 v963), ∀ a, (k2_off197 v963) a + S1x64x384.size a ≤ S1x4096x384.size a := fun v963 k2_hw97 => k2_hw97.2

def k2_mult98 (v965 : BitVec 32) : BitVec 32 :=
  let c64_i32_539 : BitVec 32 := 64#32
  let v975 : BitVec 32 := Scalar.muli v965 c64_i32_539
  v975

def k2_off198 (v965 : BitVec 32) : Fin 3 → Nat :=
  let c0_540 : Index := 0#32
  let c64_i32_539 : BitVec 32 := 64#32
  let v975 : BitVec 32 := Scalar.muli v965 c64_i32_539
  let v976 : BitVec 32 := v975
  let v977 : Index := Scalar.indexCast v976
  let c0_541 : Index := 0#32
  ![0, v977.toNat, 0]

def k2_chk98 (v965 : BitVec 32) : Prop :=
  (64 ∣ (k2_mult98 v965).toNat) ∧
  (∀ a, (k2_off198 v965) a + S1x64x384.size a ≤ S1x4096x384.size a)
theorem k2_mult98_dvd : ∀ (v965 : BitVec 32) (k2_hw98 : k2_chk98 v965), 64 ∣ (k2_mult98 v965).toNat := fun v965 k2_hw98 => k2_hw98.1
theorem k2_off198_inb : ∀ (v965 : BitVec 32) (k2_hw98 : k2_chk98 v965), ∀ a, (k2_off198 v965) a + S1x64x384.size a ≤ S1x4096x384.size a := fun v965 k2_hw98 => k2_hw98.2

def k2_mult99 (v967 : BitVec 32) : BitVec 32 :=
  let c64_i32_542 : BitVec 32 := 64#32
  let v981 : BitVec 32 := Scalar.muli v967 c64_i32_542
  v981

def k2_off199 (v967 : BitVec 32) : Fin 3 → Nat :=
  let c0_543 : Index := 0#32
  let c64_i32_542 : BitVec 32 := 64#32
  let v981 : BitVec 32 := Scalar.muli v967 c64_i32_542
  let v982 : BitVec 32 := v981
  let v983 : Index := Scalar.indexCast v982
  let c0_544 : Index := 0#32
  ![0, v983.toNat, 0]

def k2_chk99 (v967 : BitVec 32) : Prop :=
  (64 ∣ (k2_mult99 v967).toNat) ∧
  (∀ a, (k2_off199 v967) a + S1x64x384.size a ≤ S1x4096x384.size a)
theorem k2_mult99_dvd : ∀ (v967 : BitVec 32) (k2_hw99 : k2_chk99 v967), 64 ∣ (k2_mult99 v967).toNat := fun v967 k2_hw99 => k2_hw99.1
theorem k2_off199_inb : ∀ (v967 : BitVec 32) (k2_hw99 : k2_chk99 v967), ∀ a, (k2_off199 v967) a + S1x64x384.size a ≤ S1x4096x384.size a := fun v967 k2_hw99 => k2_hw99.2

def k2_mult100 (v969 : BitVec 32) : BitVec 32 :=
  let c64_i32_545 : BitVec 32 := 64#32
  let v987 : BitVec 32 := Scalar.muli v969 c64_i32_545
  v987

def k2_off200 (v969 : BitVec 32) : Fin 3 → Nat :=
  let c0_546 : Index := 0#32
  let c64_i32_545 : BitVec 32 := 64#32
  let v987 : BitVec 32 := Scalar.muli v969 c64_i32_545
  let v988 : BitVec 32 := v987
  let v989 : Index := Scalar.indexCast v988
  let c0_547 : Index := 0#32
  ![0, v989.toNat, 0]

def k2_chk100 (v969 : BitVec 32) : Prop :=
  (64 ∣ (k2_mult100 v969).toNat) ∧
  (∀ a, (k2_off200 v969) a + S1x64x384.size a ≤ S1x4096x384.size a)
theorem k2_mult100_dvd : ∀ (v969 : BitVec 32) (k2_hw100 : k2_chk100 v969), 64 ∣ (k2_mult100 v969).toNat := fun v969 k2_hw100 => k2_hw100.1
theorem k2_off200_inb : ∀ (v969 : BitVec 32) (k2_hw100 : k2_chk100 v969), ∀ a, (k2_off200 v969) a + S1x64x384.size a ≤ S1x4096x384.size a := fun v969 k2_hw100 => k2_hw100.2

def k2_off201 (i : grid2.Coords) : Fin 3 → Nat :=
  let arg1 : BitVec 32 := BitVec.ofNat 32 (i 1).val
  let v1002 : Index := Scalar.indexCast arg1
  let c25 : Index := 25#32
  let c0_551 : Index := 0#32
  ![v1002.toNat, 25, 0]
def k2_off202 (i : grid2.Coords) : Fin 3 → Nat :=
  let arg1 : BitVec 32 := BitVec.ofNat 32 (i 1).val
  let v1004 : Index := Scalar.indexCast arg1
  let c25_552 : Index := 25#32
  let c1_553 : Index := 1#32
  ![v1004.toNat, 25, 1]
def k2_off203 (i : grid2.Coords) : Fin 3 → Nat :=
  let arg1 : BitVec 32 := BitVec.ofNat 32 (i 1).val
  let v1006 : Index := Scalar.indexCast arg1
  let c25_554 : Index := 25#32
  let c2_555 : Index := 2#32
  ![v1006.toNat, 25, 2]
def k2_off204 (i : grid2.Coords) : Fin 3 → Nat :=
  let arg1 : BitVec 32 := BitVec.ofNat 32 (i 1).val
  let v1008 : Index := Scalar.indexCast arg1
  let c25_556 : Index := 25#32
  let c3_557 : Index := 3#32
  ![v1008.toNat, 25, 3]
def k2_mult101 (v1003 : BitVec 32) : BitVec 32 :=
  let c64_i32_558 : BitVec 32 := 64#32
  let v1010 : BitVec 32 := Scalar.muli v1003 c64_i32_558
  v1010

def k2_off205 (v1003 : BitVec 32) : Fin 3 → Nat :=
  let c0_559 : Index := 0#32
  let c64_i32_558 : BitVec 32 := 64#32
  let v1010 : BitVec 32 := Scalar.muli v1003 c64_i32_558
  let v1011 : BitVec 32 := v1010
  let v1012 : Index := Scalar.indexCast v1011
  let c0_560 : Index := 0#32
  ![0, v1012.toNat, 0]

def k2_chk101 (v1003 : BitVec 32) : Prop :=
  (64 ∣ (k2_mult101 v1003).toNat) ∧
  (∀ a, (k2_off205 v1003) a + S1x64x384.size a ≤ S1x4096x384.size a)
theorem k2_mult101_dvd : ∀ (v1003 : BitVec 32) (k2_hw101 : k2_chk101 v1003), 64 ∣ (k2_mult101 v1003).toNat := fun v1003 k2_hw101 => k2_hw101.1
theorem k2_off205_inb : ∀ (v1003 : BitVec 32) (k2_hw101 : k2_chk101 v1003), ∀ a, (k2_off205 v1003) a + S1x64x384.size a ≤ S1x4096x384.size a := fun v1003 k2_hw101 => k2_hw101.2

def k2_mult102 (v1005 : BitVec 32) : BitVec 32 :=
  let c64_i32_561 : BitVec 32 := 64#32
  let v1015 : BitVec 32 := Scalar.muli v1005 c64_i32_561
  v1015

def k2_off206 (v1005 : BitVec 32) : Fin 3 → Nat :=
  let c0_562 : Index := 0#32
  let c64_i32_561 : BitVec 32 := 64#32
  let v1015 : BitVec 32 := Scalar.muli v1005 c64_i32_561
  let v1016 : BitVec 32 := v1015
  let v1017 : Index := Scalar.indexCast v1016
  let c0_563 : Index := 0#32
  ![0, v1017.toNat, 0]

def k2_chk102 (v1005 : BitVec 32) : Prop :=
  (64 ∣ (k2_mult102 v1005).toNat) ∧
  (∀ a, (k2_off206 v1005) a + S1x64x384.size a ≤ S1x4096x384.size a)
theorem k2_mult102_dvd : ∀ (v1005 : BitVec 32) (k2_hw102 : k2_chk102 v1005), 64 ∣ (k2_mult102 v1005).toNat := fun v1005 k2_hw102 => k2_hw102.1
theorem k2_off206_inb : ∀ (v1005 : BitVec 32) (k2_hw102 : k2_chk102 v1005), ∀ a, (k2_off206 v1005) a + S1x64x384.size a ≤ S1x4096x384.size a := fun v1005 k2_hw102 => k2_hw102.2

def k2_mult103 (v1007 : BitVec 32) : BitVec 32 :=
  let c64_i32_564 : BitVec 32 := 64#32
  let v1021 : BitVec 32 := Scalar.muli v1007 c64_i32_564
  v1021

def k2_off207 (v1007 : BitVec 32) : Fin 3 → Nat :=
  let c0_565 : Index := 0#32
  let c64_i32_564 : BitVec 32 := 64#32
  let v1021 : BitVec 32 := Scalar.muli v1007 c64_i32_564
  let v1022 : BitVec 32 := v1021
  let v1023 : Index := Scalar.indexCast v1022
  let c0_566 : Index := 0#32
  ![0, v1023.toNat, 0]

def k2_chk103 (v1007 : BitVec 32) : Prop :=
  (64 ∣ (k2_mult103 v1007).toNat) ∧
  (∀ a, (k2_off207 v1007) a + S1x64x384.size a ≤ S1x4096x384.size a)
theorem k2_mult103_dvd : ∀ (v1007 : BitVec 32) (k2_hw103 : k2_chk103 v1007), 64 ∣ (k2_mult103 v1007).toNat := fun v1007 k2_hw103 => k2_hw103.1
theorem k2_off207_inb : ∀ (v1007 : BitVec 32) (k2_hw103 : k2_chk103 v1007), ∀ a, (k2_off207 v1007) a + S1x64x384.size a ≤ S1x4096x384.size a := fun v1007 k2_hw103 => k2_hw103.2

def k2_mult104 (v1009 : BitVec 32) : BitVec 32 :=
  let c64_i32_567 : BitVec 32 := 64#32
  let v1027 : BitVec 32 := Scalar.muli v1009 c64_i32_567
  v1027

def k2_off208 (v1009 : BitVec 32) : Fin 3 → Nat :=
  let c0_568 : Index := 0#32
  let c64_i32_567 : BitVec 32 := 64#32
  let v1027 : BitVec 32 := Scalar.muli v1009 c64_i32_567
  let v1028 : BitVec 32 := v1027
  let v1029 : Index := Scalar.indexCast v1028
  let c0_569 : Index := 0#32
  ![0, v1029.toNat, 0]

def k2_chk104 (v1009 : BitVec 32) : Prop :=
  (64 ∣ (k2_mult104 v1009).toNat) ∧
  (∀ a, (k2_off208 v1009) a + S1x64x384.size a ≤ S1x4096x384.size a)
theorem k2_mult104_dvd : ∀ (v1009 : BitVec 32) (k2_hw104 : k2_chk104 v1009), 64 ∣ (k2_mult104 v1009).toNat := fun v1009 k2_hw104 => k2_hw104.1
theorem k2_off208_inb : ∀ (v1009 : BitVec 32) (k2_hw104 : k2_chk104 v1009), ∀ a, (k2_off208 v1009) a + S1x64x384.size a ≤ S1x4096x384.size a := fun v1009 k2_hw104 => k2_hw104.2

def k2_off209 (i : grid2.Coords) : Fin 3 → Nat :=
  let arg1 : BitVec 32 := BitVec.ofNat 32 (i 1).val
  let v1042 : Index := Scalar.indexCast arg1
  let c26 : Index := 26#32
  let c0_573 : Index := 0#32
  ![v1042.toNat, 26, 0]
def k2_off210 (i : grid2.Coords) : Fin 3 → Nat :=
  let arg1 : BitVec 32 := BitVec.ofNat 32 (i 1).val
  let v1044 : Index := Scalar.indexCast arg1
  let c26_574 : Index := 26#32
  let c1_575 : Index := 1#32
  ![v1044.toNat, 26, 1]
def k2_off211 (i : grid2.Coords) : Fin 3 → Nat :=
  let arg1 : BitVec 32 := BitVec.ofNat 32 (i 1).val
  let v1046 : Index := Scalar.indexCast arg1
  let c26_576 : Index := 26#32
  let c2_577 : Index := 2#32
  ![v1046.toNat, 26, 2]
def k2_off212 (i : grid2.Coords) : Fin 3 → Nat :=
  let arg1 : BitVec 32 := BitVec.ofNat 32 (i 1).val
  let v1048 : Index := Scalar.indexCast arg1
  let c26_578 : Index := 26#32
  let c3_579 : Index := 3#32
  ![v1048.toNat, 26, 3]
def k2_mult105 (v1043 : BitVec 32) : BitVec 32 :=
  let c64_i32_580 : BitVec 32 := 64#32
  let v1050 : BitVec 32 := Scalar.muli v1043 c64_i32_580
  v1050

def k2_off213 (v1043 : BitVec 32) : Fin 3 → Nat :=
  let c0_581 : Index := 0#32
  let c64_i32_580 : BitVec 32 := 64#32
  let v1050 : BitVec 32 := Scalar.muli v1043 c64_i32_580
  let v1051 : BitVec 32 := v1050
  let v1052 : Index := Scalar.indexCast v1051
  let c0_582 : Index := 0#32
  ![0, v1052.toNat, 0]

def k2_chk105 (v1043 : BitVec 32) : Prop :=
  (64 ∣ (k2_mult105 v1043).toNat) ∧
  (∀ a, (k2_off213 v1043) a + S1x64x384.size a ≤ S1x4096x384.size a)
theorem k2_mult105_dvd : ∀ (v1043 : BitVec 32) (k2_hw105 : k2_chk105 v1043), 64 ∣ (k2_mult105 v1043).toNat := fun v1043 k2_hw105 => k2_hw105.1
theorem k2_off213_inb : ∀ (v1043 : BitVec 32) (k2_hw105 : k2_chk105 v1043), ∀ a, (k2_off213 v1043) a + S1x64x384.size a ≤ S1x4096x384.size a := fun v1043 k2_hw105 => k2_hw105.2

def k2_mult106 (v1045 : BitVec 32) : BitVec 32 :=
  let c64_i32_583 : BitVec 32 := 64#32
  let v1055 : BitVec 32 := Scalar.muli v1045 c64_i32_583
  v1055

def k2_off214 (v1045 : BitVec 32) : Fin 3 → Nat :=
  let c0_584 : Index := 0#32
  let c64_i32_583 : BitVec 32 := 64#32
  let v1055 : BitVec 32 := Scalar.muli v1045 c64_i32_583
  let v1056 : BitVec 32 := v1055
  let v1057 : Index := Scalar.indexCast v1056
  let c0_585 : Index := 0#32
  ![0, v1057.toNat, 0]

def k2_chk106 (v1045 : BitVec 32) : Prop :=
  (64 ∣ (k2_mult106 v1045).toNat) ∧
  (∀ a, (k2_off214 v1045) a + S1x64x384.size a ≤ S1x4096x384.size a)
theorem k2_mult106_dvd : ∀ (v1045 : BitVec 32) (k2_hw106 : k2_chk106 v1045), 64 ∣ (k2_mult106 v1045).toNat := fun v1045 k2_hw106 => k2_hw106.1
theorem k2_off214_inb : ∀ (v1045 : BitVec 32) (k2_hw106 : k2_chk106 v1045), ∀ a, (k2_off214 v1045) a + S1x64x384.size a ≤ S1x4096x384.size a := fun v1045 k2_hw106 => k2_hw106.2

def k2_mult107 (v1047 : BitVec 32) : BitVec 32 :=
  let c64_i32_586 : BitVec 32 := 64#32
  let v1061 : BitVec 32 := Scalar.muli v1047 c64_i32_586
  v1061

def k2_off215 (v1047 : BitVec 32) : Fin 3 → Nat :=
  let c0_587 : Index := 0#32
  let c64_i32_586 : BitVec 32 := 64#32
  let v1061 : BitVec 32 := Scalar.muli v1047 c64_i32_586
  let v1062 : BitVec 32 := v1061
  let v1063 : Index := Scalar.indexCast v1062
  let c0_588 : Index := 0#32
  ![0, v1063.toNat, 0]

def k2_chk107 (v1047 : BitVec 32) : Prop :=
  (64 ∣ (k2_mult107 v1047).toNat) ∧
  (∀ a, (k2_off215 v1047) a + S1x64x384.size a ≤ S1x4096x384.size a)
theorem k2_mult107_dvd : ∀ (v1047 : BitVec 32) (k2_hw107 : k2_chk107 v1047), 64 ∣ (k2_mult107 v1047).toNat := fun v1047 k2_hw107 => k2_hw107.1
theorem k2_off215_inb : ∀ (v1047 : BitVec 32) (k2_hw107 : k2_chk107 v1047), ∀ a, (k2_off215 v1047) a + S1x64x384.size a ≤ S1x4096x384.size a := fun v1047 k2_hw107 => k2_hw107.2

def k2_mult108 (v1049 : BitVec 32) : BitVec 32 :=
  let c64_i32_589 : BitVec 32 := 64#32
  let v1067 : BitVec 32 := Scalar.muli v1049 c64_i32_589
  v1067

def k2_off216 (v1049 : BitVec 32) : Fin 3 → Nat :=
  let c0_590 : Index := 0#32
  let c64_i32_589 : BitVec 32 := 64#32
  let v1067 : BitVec 32 := Scalar.muli v1049 c64_i32_589
  let v1068 : BitVec 32 := v1067
  let v1069 : Index := Scalar.indexCast v1068
  let c0_591 : Index := 0#32
  ![0, v1069.toNat, 0]

def k2_chk108 (v1049 : BitVec 32) : Prop :=
  (64 ∣ (k2_mult108 v1049).toNat) ∧
  (∀ a, (k2_off216 v1049) a + S1x64x384.size a ≤ S1x4096x384.size a)
theorem k2_mult108_dvd : ∀ (v1049 : BitVec 32) (k2_hw108 : k2_chk108 v1049), 64 ∣ (k2_mult108 v1049).toNat := fun v1049 k2_hw108 => k2_hw108.1
theorem k2_off216_inb : ∀ (v1049 : BitVec 32) (k2_hw108 : k2_chk108 v1049), ∀ a, (k2_off216 v1049) a + S1x64x384.size a ≤ S1x4096x384.size a := fun v1049 k2_hw108 => k2_hw108.2

def k2_off217 (i : grid2.Coords) : Fin 3 → Nat :=
  let arg1 : BitVec 32 := BitVec.ofNat 32 (i 1).val
  let v1082 : Index := Scalar.indexCast arg1
  let c27 : Index := 27#32
  let c0_595 : Index := 0#32
  ![v1082.toNat, 27, 0]
def k2_off218 (i : grid2.Coords) : Fin 3 → Nat :=
  let arg1 : BitVec 32 := BitVec.ofNat 32 (i 1).val
  let v1084 : Index := Scalar.indexCast arg1
  let c27_596 : Index := 27#32
  let c1_597 : Index := 1#32
  ![v1084.toNat, 27, 1]
def k2_off219 (i : grid2.Coords) : Fin 3 → Nat :=
  let arg1 : BitVec 32 := BitVec.ofNat 32 (i 1).val
  let v1086 : Index := Scalar.indexCast arg1
  let c27_598 : Index := 27#32
  let c2_599 : Index := 2#32
  ![v1086.toNat, 27, 2]
def k2_off220 (i : grid2.Coords) : Fin 3 → Nat :=
  let arg1 : BitVec 32 := BitVec.ofNat 32 (i 1).val
  let v1088 : Index := Scalar.indexCast arg1
  let c27_600 : Index := 27#32
  let c3_601 : Index := 3#32
  ![v1088.toNat, 27, 3]
def k2_mult109 (v1083 : BitVec 32) : BitVec 32 :=
  let c64_i32_602 : BitVec 32 := 64#32
  let v1090 : BitVec 32 := Scalar.muli v1083 c64_i32_602
  v1090

def k2_off221 (v1083 : BitVec 32) : Fin 3 → Nat :=
  let c0_603 : Index := 0#32
  let c64_i32_602 : BitVec 32 := 64#32
  let v1090 : BitVec 32 := Scalar.muli v1083 c64_i32_602
  let v1091 : BitVec 32 := v1090
  let v1092 : Index := Scalar.indexCast v1091
  let c0_604 : Index := 0#32
  ![0, v1092.toNat, 0]

def k2_chk109 (v1083 : BitVec 32) : Prop :=
  (64 ∣ (k2_mult109 v1083).toNat) ∧
  (∀ a, (k2_off221 v1083) a + S1x64x384.size a ≤ S1x4096x384.size a)
theorem k2_mult109_dvd : ∀ (v1083 : BitVec 32) (k2_hw109 : k2_chk109 v1083), 64 ∣ (k2_mult109 v1083).toNat := fun v1083 k2_hw109 => k2_hw109.1
theorem k2_off221_inb : ∀ (v1083 : BitVec 32) (k2_hw109 : k2_chk109 v1083), ∀ a, (k2_off221 v1083) a + S1x64x384.size a ≤ S1x4096x384.size a := fun v1083 k2_hw109 => k2_hw109.2

def k2_mult110 (v1085 : BitVec 32) : BitVec 32 :=
  let c64_i32_605 : BitVec 32 := 64#32
  let v1095 : BitVec 32 := Scalar.muli v1085 c64_i32_605
  v1095

def k2_off222 (v1085 : BitVec 32) : Fin 3 → Nat :=
  let c0_606 : Index := 0#32
  let c64_i32_605 : BitVec 32 := 64#32
  let v1095 : BitVec 32 := Scalar.muli v1085 c64_i32_605
  let v1096 : BitVec 32 := v1095
  let v1097 : Index := Scalar.indexCast v1096
  let c0_607 : Index := 0#32
  ![0, v1097.toNat, 0]

def k2_chk110 (v1085 : BitVec 32) : Prop :=
  (64 ∣ (k2_mult110 v1085).toNat) ∧
  (∀ a, (k2_off222 v1085) a + S1x64x384.size a ≤ S1x4096x384.size a)
theorem k2_mult110_dvd : ∀ (v1085 : BitVec 32) (k2_hw110 : k2_chk110 v1085), 64 ∣ (k2_mult110 v1085).toNat := fun v1085 k2_hw110 => k2_hw110.1
theorem k2_off222_inb : ∀ (v1085 : BitVec 32) (k2_hw110 : k2_chk110 v1085), ∀ a, (k2_off222 v1085) a + S1x64x384.size a ≤ S1x4096x384.size a := fun v1085 k2_hw110 => k2_hw110.2

def k2_mult111 (v1087 : BitVec 32) : BitVec 32 :=
  let c64_i32_608 : BitVec 32 := 64#32
  let v1101 : BitVec 32 := Scalar.muli v1087 c64_i32_608
  v1101

def k2_off223 (v1087 : BitVec 32) : Fin 3 → Nat :=
  let c0_609 : Index := 0#32
  let c64_i32_608 : BitVec 32 := 64#32
  let v1101 : BitVec 32 := Scalar.muli v1087 c64_i32_608
  let v1102 : BitVec 32 := v1101
  let v1103 : Index := Scalar.indexCast v1102
  let c0_610 : Index := 0#32
  ![0, v1103.toNat, 0]

def k2_chk111 (v1087 : BitVec 32) : Prop :=
  (64 ∣ (k2_mult111 v1087).toNat) ∧
  (∀ a, (k2_off223 v1087) a + S1x64x384.size a ≤ S1x4096x384.size a)
theorem k2_mult111_dvd : ∀ (v1087 : BitVec 32) (k2_hw111 : k2_chk111 v1087), 64 ∣ (k2_mult111 v1087).toNat := fun v1087 k2_hw111 => k2_hw111.1
theorem k2_off223_inb : ∀ (v1087 : BitVec 32) (k2_hw111 : k2_chk111 v1087), ∀ a, (k2_off223 v1087) a + S1x64x384.size a ≤ S1x4096x384.size a := fun v1087 k2_hw111 => k2_hw111.2

def k2_mult112 (v1089 : BitVec 32) : BitVec 32 :=
  let c64_i32_611 : BitVec 32 := 64#32
  let v1107 : BitVec 32 := Scalar.muli v1089 c64_i32_611
  v1107

def k2_off224 (v1089 : BitVec 32) : Fin 3 → Nat :=
  let c0_612 : Index := 0#32
  let c64_i32_611 : BitVec 32 := 64#32
  let v1107 : BitVec 32 := Scalar.muli v1089 c64_i32_611
  let v1108 : BitVec 32 := v1107
  let v1109 : Index := Scalar.indexCast v1108
  let c0_613 : Index := 0#32
  ![0, v1109.toNat, 0]

def k2_chk112 (v1089 : BitVec 32) : Prop :=
  (64 ∣ (k2_mult112 v1089).toNat) ∧
  (∀ a, (k2_off224 v1089) a + S1x64x384.size a ≤ S1x4096x384.size a)
theorem k2_mult112_dvd : ∀ (v1089 : BitVec 32) (k2_hw112 : k2_chk112 v1089), 64 ∣ (k2_mult112 v1089).toNat := fun v1089 k2_hw112 => k2_hw112.1
theorem k2_off224_inb : ∀ (v1089 : BitVec 32) (k2_hw112 : k2_chk112 v1089), ∀ a, (k2_off224 v1089) a + S1x64x384.size a ≤ S1x4096x384.size a := fun v1089 k2_hw112 => k2_hw112.2

def k2_off225 (i : grid2.Coords) : Fin 3 → Nat :=
  let arg1 : BitVec 32 := BitVec.ofNat 32 (i 1).val
  let v1122 : Index := Scalar.indexCast arg1
  let c28 : Index := 28#32
  let c0_617 : Index := 0#32
  ![v1122.toNat, 28, 0]
def k2_off226 (i : grid2.Coords) : Fin 3 → Nat :=
  let arg1 : BitVec 32 := BitVec.ofNat 32 (i 1).val
  let v1124 : Index := Scalar.indexCast arg1
  let c28_618 : Index := 28#32
  let c1_619 : Index := 1#32
  ![v1124.toNat, 28, 1]
def k2_off227 (i : grid2.Coords) : Fin 3 → Nat :=
  let arg1 : BitVec 32 := BitVec.ofNat 32 (i 1).val
  let v1126 : Index := Scalar.indexCast arg1
  let c28_620 : Index := 28#32
  let c2_621 : Index := 2#32
  ![v1126.toNat, 28, 2]
def k2_off228 (i : grid2.Coords) : Fin 3 → Nat :=
  let arg1 : BitVec 32 := BitVec.ofNat 32 (i 1).val
  let v1128 : Index := Scalar.indexCast arg1
  let c28_622 : Index := 28#32
  let c3_623 : Index := 3#32
  ![v1128.toNat, 28, 3]
def k2_mult113 (v1123 : BitVec 32) : BitVec 32 :=
  let c64_i32_624 : BitVec 32 := 64#32
  let v1130 : BitVec 32 := Scalar.muli v1123 c64_i32_624
  v1130

def k2_off229 (v1123 : BitVec 32) : Fin 3 → Nat :=
  let c0_625 : Index := 0#32
  let c64_i32_624 : BitVec 32 := 64#32
  let v1130 : BitVec 32 := Scalar.muli v1123 c64_i32_624
  let v1131 : BitVec 32 := v1130
  let v1132 : Index := Scalar.indexCast v1131
  let c0_626 : Index := 0#32
  ![0, v1132.toNat, 0]

def k2_chk113 (v1123 : BitVec 32) : Prop :=
  (64 ∣ (k2_mult113 v1123).toNat) ∧
  (∀ a, (k2_off229 v1123) a + S1x64x384.size a ≤ S1x4096x384.size a)
theorem k2_mult113_dvd : ∀ (v1123 : BitVec 32) (k2_hw113 : k2_chk113 v1123), 64 ∣ (k2_mult113 v1123).toNat := fun v1123 k2_hw113 => k2_hw113.1
theorem k2_off229_inb : ∀ (v1123 : BitVec 32) (k2_hw113 : k2_chk113 v1123), ∀ a, (k2_off229 v1123) a + S1x64x384.size a ≤ S1x4096x384.size a := fun v1123 k2_hw113 => k2_hw113.2

def k2_mult114 (v1125 : BitVec 32) : BitVec 32 :=
  let c64_i32_627 : BitVec 32 := 64#32
  let v1135 : BitVec 32 := Scalar.muli v1125 c64_i32_627
  v1135

def k2_off230 (v1125 : BitVec 32) : Fin 3 → Nat :=
  let c0_628 : Index := 0#32
  let c64_i32_627 : BitVec 32 := 64#32
  let v1135 : BitVec 32 := Scalar.muli v1125 c64_i32_627
  let v1136 : BitVec 32 := v1135
  let v1137 : Index := Scalar.indexCast v1136
  let c0_629 : Index := 0#32
  ![0, v1137.toNat, 0]

def k2_chk114 (v1125 : BitVec 32) : Prop :=
  (64 ∣ (k2_mult114 v1125).toNat) ∧
  (∀ a, (k2_off230 v1125) a + S1x64x384.size a ≤ S1x4096x384.size a)
theorem k2_mult114_dvd : ∀ (v1125 : BitVec 32) (k2_hw114 : k2_chk114 v1125), 64 ∣ (k2_mult114 v1125).toNat := fun v1125 k2_hw114 => k2_hw114.1
theorem k2_off230_inb : ∀ (v1125 : BitVec 32) (k2_hw114 : k2_chk114 v1125), ∀ a, (k2_off230 v1125) a + S1x64x384.size a ≤ S1x4096x384.size a := fun v1125 k2_hw114 => k2_hw114.2

def k2_mult115 (v1127 : BitVec 32) : BitVec 32 :=
  let c64_i32_630 : BitVec 32 := 64#32
  let v1141 : BitVec 32 := Scalar.muli v1127 c64_i32_630
  v1141

def k2_off231 (v1127 : BitVec 32) : Fin 3 → Nat :=
  let c0_631 : Index := 0#32
  let c64_i32_630 : BitVec 32 := 64#32
  let v1141 : BitVec 32 := Scalar.muli v1127 c64_i32_630
  let v1142 : BitVec 32 := v1141
  let v1143 : Index := Scalar.indexCast v1142
  let c0_632 : Index := 0#32
  ![0, v1143.toNat, 0]

def k2_chk115 (v1127 : BitVec 32) : Prop :=
  (64 ∣ (k2_mult115 v1127).toNat) ∧
  (∀ a, (k2_off231 v1127) a + S1x64x384.size a ≤ S1x4096x384.size a)
theorem k2_mult115_dvd : ∀ (v1127 : BitVec 32) (k2_hw115 : k2_chk115 v1127), 64 ∣ (k2_mult115 v1127).toNat := fun v1127 k2_hw115 => k2_hw115.1
theorem k2_off231_inb : ∀ (v1127 : BitVec 32) (k2_hw115 : k2_chk115 v1127), ∀ a, (k2_off231 v1127) a + S1x64x384.size a ≤ S1x4096x384.size a := fun v1127 k2_hw115 => k2_hw115.2

def k2_mult116 (v1129 : BitVec 32) : BitVec 32 :=
  let c64_i32_633 : BitVec 32 := 64#32
  let v1147 : BitVec 32 := Scalar.muli v1129 c64_i32_633
  v1147

def k2_off232 (v1129 : BitVec 32) : Fin 3 → Nat :=
  let c0_634 : Index := 0#32
  let c64_i32_633 : BitVec 32 := 64#32
  let v1147 : BitVec 32 := Scalar.muli v1129 c64_i32_633
  let v1148 : BitVec 32 := v1147
  let v1149 : Index := Scalar.indexCast v1148
  let c0_635 : Index := 0#32
  ![0, v1149.toNat, 0]

def k2_chk116 (v1129 : BitVec 32) : Prop :=
  (64 ∣ (k2_mult116 v1129).toNat) ∧
  (∀ a, (k2_off232 v1129) a + S1x64x384.size a ≤ S1x4096x384.size a)
theorem k2_mult116_dvd : ∀ (v1129 : BitVec 32) (k2_hw116 : k2_chk116 v1129), 64 ∣ (k2_mult116 v1129).toNat := fun v1129 k2_hw116 => k2_hw116.1
theorem k2_off232_inb : ∀ (v1129 : BitVec 32) (k2_hw116 : k2_chk116 v1129), ∀ a, (k2_off232 v1129) a + S1x64x384.size a ≤ S1x4096x384.size a := fun v1129 k2_hw116 => k2_hw116.2

def k2_off233 (i : grid2.Coords) : Fin 3 → Nat :=
  let arg1 : BitVec 32 := BitVec.ofNat 32 (i 1).val
  let v1162 : Index := Scalar.indexCast arg1
  let c29 : Index := 29#32
  let c0_639 : Index := 0#32
  ![v1162.toNat, 29, 0]
def k2_off234 (i : grid2.Coords) : Fin 3 → Nat :=
  let arg1 : BitVec 32 := BitVec.ofNat 32 (i 1).val
  let v1164 : Index := Scalar.indexCast arg1
  let c29_640 : Index := 29#32
  let c1_641 : Index := 1#32
  ![v1164.toNat, 29, 1]
def k2_off235 (i : grid2.Coords) : Fin 3 → Nat :=
  let arg1 : BitVec 32 := BitVec.ofNat 32 (i 1).val
  let v1166 : Index := Scalar.indexCast arg1
  let c29_642 : Index := 29#32
  let c2_643 : Index := 2#32
  ![v1166.toNat, 29, 2]
def k2_off236 (i : grid2.Coords) : Fin 3 → Nat :=
  let arg1 : BitVec 32 := BitVec.ofNat 32 (i 1).val
  let v1168 : Index := Scalar.indexCast arg1
  let c29_644 : Index := 29#32
  let c3_645 : Index := 3#32
  ![v1168.toNat, 29, 3]
def k2_mult117 (v1163 : BitVec 32) : BitVec 32 :=
  let c64_i32_646 : BitVec 32 := 64#32
  let v1170 : BitVec 32 := Scalar.muli v1163 c64_i32_646
  v1170

def k2_off237 (v1163 : BitVec 32) : Fin 3 → Nat :=
  let c0_647 : Index := 0#32
  let c64_i32_646 : BitVec 32 := 64#32
  let v1170 : BitVec 32 := Scalar.muli v1163 c64_i32_646
  let v1171 : BitVec 32 := v1170
  let v1172 : Index := Scalar.indexCast v1171
  let c0_648 : Index := 0#32
  ![0, v1172.toNat, 0]

def k2_chk117 (v1163 : BitVec 32) : Prop :=
  (64 ∣ (k2_mult117 v1163).toNat) ∧
  (∀ a, (k2_off237 v1163) a + S1x64x384.size a ≤ S1x4096x384.size a)
theorem k2_mult117_dvd : ∀ (v1163 : BitVec 32) (k2_hw117 : k2_chk117 v1163), 64 ∣ (k2_mult117 v1163).toNat := fun v1163 k2_hw117 => k2_hw117.1
theorem k2_off237_inb : ∀ (v1163 : BitVec 32) (k2_hw117 : k2_chk117 v1163), ∀ a, (k2_off237 v1163) a + S1x64x384.size a ≤ S1x4096x384.size a := fun v1163 k2_hw117 => k2_hw117.2

def k2_mult118 (v1165 : BitVec 32) : BitVec 32 :=
  let c64_i32_649 : BitVec 32 := 64#32
  let v1175 : BitVec 32 := Scalar.muli v1165 c64_i32_649
  v1175

def k2_off238 (v1165 : BitVec 32) : Fin 3 → Nat :=
  let c0_650 : Index := 0#32
  let c64_i32_649 : BitVec 32 := 64#32
  let v1175 : BitVec 32 := Scalar.muli v1165 c64_i32_649
  let v1176 : BitVec 32 := v1175
  let v1177 : Index := Scalar.indexCast v1176
  let c0_651 : Index := 0#32
  ![0, v1177.toNat, 0]

def k2_chk118 (v1165 : BitVec 32) : Prop :=
  (64 ∣ (k2_mult118 v1165).toNat) ∧
  (∀ a, (k2_off238 v1165) a + S1x64x384.size a ≤ S1x4096x384.size a)
theorem k2_mult118_dvd : ∀ (v1165 : BitVec 32) (k2_hw118 : k2_chk118 v1165), 64 ∣ (k2_mult118 v1165).toNat := fun v1165 k2_hw118 => k2_hw118.1
theorem k2_off238_inb : ∀ (v1165 : BitVec 32) (k2_hw118 : k2_chk118 v1165), ∀ a, (k2_off238 v1165) a + S1x64x384.size a ≤ S1x4096x384.size a := fun v1165 k2_hw118 => k2_hw118.2

def k2_mult119 (v1167 : BitVec 32) : BitVec 32 :=
  let c64_i32_652 : BitVec 32 := 64#32
  let v1181 : BitVec 32 := Scalar.muli v1167 c64_i32_652
  v1181

def k2_off239 (v1167 : BitVec 32) : Fin 3 → Nat :=
  let c0_653 : Index := 0#32
  let c64_i32_652 : BitVec 32 := 64#32
  let v1181 : BitVec 32 := Scalar.muli v1167 c64_i32_652
  let v1182 : BitVec 32 := v1181
  let v1183 : Index := Scalar.indexCast v1182
  let c0_654 : Index := 0#32
  ![0, v1183.toNat, 0]

def k2_chk119 (v1167 : BitVec 32) : Prop :=
  (64 ∣ (k2_mult119 v1167).toNat) ∧
  (∀ a, (k2_off239 v1167) a + S1x64x384.size a ≤ S1x4096x384.size a)
theorem k2_mult119_dvd : ∀ (v1167 : BitVec 32) (k2_hw119 : k2_chk119 v1167), 64 ∣ (k2_mult119 v1167).toNat := fun v1167 k2_hw119 => k2_hw119.1
theorem k2_off239_inb : ∀ (v1167 : BitVec 32) (k2_hw119 : k2_chk119 v1167), ∀ a, (k2_off239 v1167) a + S1x64x384.size a ≤ S1x4096x384.size a := fun v1167 k2_hw119 => k2_hw119.2

def k2_mult120 (v1169 : BitVec 32) : BitVec 32 :=
  let c64_i32_655 : BitVec 32 := 64#32
  let v1187 : BitVec 32 := Scalar.muli v1169 c64_i32_655
  v1187

def k2_off240 (v1169 : BitVec 32) : Fin 3 → Nat :=
  let c0_656 : Index := 0#32
  let c64_i32_655 : BitVec 32 := 64#32
  let v1187 : BitVec 32 := Scalar.muli v1169 c64_i32_655
  let v1188 : BitVec 32 := v1187
  let v1189 : Index := Scalar.indexCast v1188
  let c0_657 : Index := 0#32
  ![0, v1189.toNat, 0]

def k2_chk120 (v1169 : BitVec 32) : Prop :=
  (64 ∣ (k2_mult120 v1169).toNat) ∧
  (∀ a, (k2_off240 v1169) a + S1x64x384.size a ≤ S1x4096x384.size a)
theorem k2_mult120_dvd : ∀ (v1169 : BitVec 32) (k2_hw120 : k2_chk120 v1169), 64 ∣ (k2_mult120 v1169).toNat := fun v1169 k2_hw120 => k2_hw120.1
theorem k2_off240_inb : ∀ (v1169 : BitVec 32) (k2_hw120 : k2_chk120 v1169), ∀ a, (k2_off240 v1169) a + S1x64x384.size a ≤ S1x4096x384.size a := fun v1169 k2_hw120 => k2_hw120.2

def k2_off241 (i : grid2.Coords) : Fin 3 → Nat :=
  let arg1 : BitVec 32 := BitVec.ofNat 32 (i 1).val
  let v1202 : Index := Scalar.indexCast arg1
  let c30 : Index := 30#32
  let c0_661 : Index := 0#32
  ![v1202.toNat, 30, 0]
def k2_off242 (i : grid2.Coords) : Fin 3 → Nat :=
  let arg1 : BitVec 32 := BitVec.ofNat 32 (i 1).val
  let v1204 : Index := Scalar.indexCast arg1
  let c30_662 : Index := 30#32
  let c1_663 : Index := 1#32
  ![v1204.toNat, 30, 1]
def k2_off243 (i : grid2.Coords) : Fin 3 → Nat :=
  let arg1 : BitVec 32 := BitVec.ofNat 32 (i 1).val
  let v1206 : Index := Scalar.indexCast arg1
  let c30_664 : Index := 30#32
  let c2_665 : Index := 2#32
  ![v1206.toNat, 30, 2]
def k2_off244 (i : grid2.Coords) : Fin 3 → Nat :=
  let arg1 : BitVec 32 := BitVec.ofNat 32 (i 1).val
  let v1208 : Index := Scalar.indexCast arg1
  let c30_666 : Index := 30#32
  let c3_667 : Index := 3#32
  ![v1208.toNat, 30, 3]
def k2_mult121 (v1203 : BitVec 32) : BitVec 32 :=
  let c64_i32_668 : BitVec 32 := 64#32
  let v1210 : BitVec 32 := Scalar.muli v1203 c64_i32_668
  v1210

def k2_off245 (v1203 : BitVec 32) : Fin 3 → Nat :=
  let c0_669 : Index := 0#32
  let c64_i32_668 : BitVec 32 := 64#32
  let v1210 : BitVec 32 := Scalar.muli v1203 c64_i32_668
  let v1211 : BitVec 32 := v1210
  let v1212 : Index := Scalar.indexCast v1211
  let c0_670 : Index := 0#32
  ![0, v1212.toNat, 0]

def k2_chk121 (v1203 : BitVec 32) : Prop :=
  (64 ∣ (k2_mult121 v1203).toNat) ∧
  (∀ a, (k2_off245 v1203) a + S1x64x384.size a ≤ S1x4096x384.size a)
theorem k2_mult121_dvd : ∀ (v1203 : BitVec 32) (k2_hw121 : k2_chk121 v1203), 64 ∣ (k2_mult121 v1203).toNat := fun v1203 k2_hw121 => k2_hw121.1
theorem k2_off245_inb : ∀ (v1203 : BitVec 32) (k2_hw121 : k2_chk121 v1203), ∀ a, (k2_off245 v1203) a + S1x64x384.size a ≤ S1x4096x384.size a := fun v1203 k2_hw121 => k2_hw121.2

def k2_mult122 (v1205 : BitVec 32) : BitVec 32 :=
  let c64_i32_671 : BitVec 32 := 64#32
  let v1215 : BitVec 32 := Scalar.muli v1205 c64_i32_671
  v1215

def k2_off246 (v1205 : BitVec 32) : Fin 3 → Nat :=
  let c0_672 : Index := 0#32
  let c64_i32_671 : BitVec 32 := 64#32
  let v1215 : BitVec 32 := Scalar.muli v1205 c64_i32_671
  let v1216 : BitVec 32 := v1215
  let v1217 : Index := Scalar.indexCast v1216
  let c0_673 : Index := 0#32
  ![0, v1217.toNat, 0]

def k2_chk122 (v1205 : BitVec 32) : Prop :=
  (64 ∣ (k2_mult122 v1205).toNat) ∧
  (∀ a, (k2_off246 v1205) a + S1x64x384.size a ≤ S1x4096x384.size a)
theorem k2_mult122_dvd : ∀ (v1205 : BitVec 32) (k2_hw122 : k2_chk122 v1205), 64 ∣ (k2_mult122 v1205).toNat := fun v1205 k2_hw122 => k2_hw122.1
theorem k2_off246_inb : ∀ (v1205 : BitVec 32) (k2_hw122 : k2_chk122 v1205), ∀ a, (k2_off246 v1205) a + S1x64x384.size a ≤ S1x4096x384.size a := fun v1205 k2_hw122 => k2_hw122.2

def k2_mult123 (v1207 : BitVec 32) : BitVec 32 :=
  let c64_i32_674 : BitVec 32 := 64#32
  let v1221 : BitVec 32 := Scalar.muli v1207 c64_i32_674
  v1221

def k2_off247 (v1207 : BitVec 32) : Fin 3 → Nat :=
  let c0_675 : Index := 0#32
  let c64_i32_674 : BitVec 32 := 64#32
  let v1221 : BitVec 32 := Scalar.muli v1207 c64_i32_674
  let v1222 : BitVec 32 := v1221
  let v1223 : Index := Scalar.indexCast v1222
  let c0_676 : Index := 0#32
  ![0, v1223.toNat, 0]

def k2_chk123 (v1207 : BitVec 32) : Prop :=
  (64 ∣ (k2_mult123 v1207).toNat) ∧
  (∀ a, (k2_off247 v1207) a + S1x64x384.size a ≤ S1x4096x384.size a)
theorem k2_mult123_dvd : ∀ (v1207 : BitVec 32) (k2_hw123 : k2_chk123 v1207), 64 ∣ (k2_mult123 v1207).toNat := fun v1207 k2_hw123 => k2_hw123.1
theorem k2_off247_inb : ∀ (v1207 : BitVec 32) (k2_hw123 : k2_chk123 v1207), ∀ a, (k2_off247 v1207) a + S1x64x384.size a ≤ S1x4096x384.size a := fun v1207 k2_hw123 => k2_hw123.2

def k2_mult124 (v1209 : BitVec 32) : BitVec 32 :=
  let c64_i32_677 : BitVec 32 := 64#32
  let v1227 : BitVec 32 := Scalar.muli v1209 c64_i32_677
  v1227

def k2_off248 (v1209 : BitVec 32) : Fin 3 → Nat :=
  let c0_678 : Index := 0#32
  let c64_i32_677 : BitVec 32 := 64#32
  let v1227 : BitVec 32 := Scalar.muli v1209 c64_i32_677
  let v1228 : BitVec 32 := v1227
  let v1229 : Index := Scalar.indexCast v1228
  let c0_679 : Index := 0#32
  ![0, v1229.toNat, 0]

def k2_chk124 (v1209 : BitVec 32) : Prop :=
  (64 ∣ (k2_mult124 v1209).toNat) ∧
  (∀ a, (k2_off248 v1209) a + S1x64x384.size a ≤ S1x4096x384.size a)
theorem k2_mult124_dvd : ∀ (v1209 : BitVec 32) (k2_hw124 : k2_chk124 v1209), 64 ∣ (k2_mult124 v1209).toNat := fun v1209 k2_hw124 => k2_hw124.1
theorem k2_off248_inb : ∀ (v1209 : BitVec 32) (k2_hw124 : k2_chk124 v1209), ∀ a, (k2_off248 v1209) a + S1x64x384.size a ≤ S1x4096x384.size a := fun v1209 k2_hw124 => k2_hw124.2

def k2_off249 (i : grid2.Coords) : Fin 3 → Nat :=
  let arg1 : BitVec 32 := BitVec.ofNat 32 (i 1).val
  let v1242 : Index := Scalar.indexCast arg1
  let c31 : Index := 31#32
  let c0_683 : Index := 0#32
  ![v1242.toNat, 31, 0]
def k2_off250 (i : grid2.Coords) : Fin 3 → Nat :=
  let arg1 : BitVec 32 := BitVec.ofNat 32 (i 1).val
  let v1244 : Index := Scalar.indexCast arg1
  let c31_684 : Index := 31#32
  let c1_685 : Index := 1#32
  ![v1244.toNat, 31, 1]
def k2_off251 (i : grid2.Coords) : Fin 3 → Nat :=
  let arg1 : BitVec 32 := BitVec.ofNat 32 (i 1).val
  let v1246 : Index := Scalar.indexCast arg1
  let c31_686 : Index := 31#32
  let c2_687 : Index := 2#32
  ![v1246.toNat, 31, 2]
def k2_off252 (i : grid2.Coords) : Fin 3 → Nat :=
  let arg1 : BitVec 32 := BitVec.ofNat 32 (i 1).val
  let v1248 : Index := Scalar.indexCast arg1
  let c31_688 : Index := 31#32
  let c3_689 : Index := 3#32
  ![v1248.toNat, 31, 3]
def k2_mult125 (v1243 : BitVec 32) : BitVec 32 :=
  let c64_i32_690 : BitVec 32 := 64#32
  let v1250 : BitVec 32 := Scalar.muli v1243 c64_i32_690
  v1250

def k2_off253 (v1243 : BitVec 32) : Fin 3 → Nat :=
  let c0_691 : Index := 0#32
  let c64_i32_690 : BitVec 32 := 64#32
  let v1250 : BitVec 32 := Scalar.muli v1243 c64_i32_690
  let v1251 : BitVec 32 := v1250
  let v1252 : Index := Scalar.indexCast v1251
  let c0_692 : Index := 0#32
  ![0, v1252.toNat, 0]

def k2_chk125 (v1243 : BitVec 32) : Prop :=
  (64 ∣ (k2_mult125 v1243).toNat) ∧
  (∀ a, (k2_off253 v1243) a + S1x64x384.size a ≤ S1x4096x384.size a)
theorem k2_mult125_dvd : ∀ (v1243 : BitVec 32) (k2_hw125 : k2_chk125 v1243), 64 ∣ (k2_mult125 v1243).toNat := fun v1243 k2_hw125 => k2_hw125.1
theorem k2_off253_inb : ∀ (v1243 : BitVec 32) (k2_hw125 : k2_chk125 v1243), ∀ a, (k2_off253 v1243) a + S1x64x384.size a ≤ S1x4096x384.size a := fun v1243 k2_hw125 => k2_hw125.2

def k2_mult126 (v1245 : BitVec 32) : BitVec 32 :=
  let c64_i32_693 : BitVec 32 := 64#32
  let v1255 : BitVec 32 := Scalar.muli v1245 c64_i32_693
  v1255

def k2_off254 (v1245 : BitVec 32) : Fin 3 → Nat :=
  let c0_694 : Index := 0#32
  let c64_i32_693 : BitVec 32 := 64#32
  let v1255 : BitVec 32 := Scalar.muli v1245 c64_i32_693
  let v1256 : BitVec 32 := v1255
  let v1257 : Index := Scalar.indexCast v1256
  let c0_695 : Index := 0#32
  ![0, v1257.toNat, 0]

def k2_chk126 (v1245 : BitVec 32) : Prop :=
  (64 ∣ (k2_mult126 v1245).toNat) ∧
  (∀ a, (k2_off254 v1245) a + S1x64x384.size a ≤ S1x4096x384.size a)
theorem k2_mult126_dvd : ∀ (v1245 : BitVec 32) (k2_hw126 : k2_chk126 v1245), 64 ∣ (k2_mult126 v1245).toNat := fun v1245 k2_hw126 => k2_hw126.1
theorem k2_off254_inb : ∀ (v1245 : BitVec 32) (k2_hw126 : k2_chk126 v1245), ∀ a, (k2_off254 v1245) a + S1x64x384.size a ≤ S1x4096x384.size a := fun v1245 k2_hw126 => k2_hw126.2

def k2_mult127 (v1247 : BitVec 32) : BitVec 32 :=
  let c64_i32_696 : BitVec 32 := 64#32
  let v1261 : BitVec 32 := Scalar.muli v1247 c64_i32_696
  v1261

def k2_off255 (v1247 : BitVec 32) : Fin 3 → Nat :=
  let c0_697 : Index := 0#32
  let c64_i32_696 : BitVec 32 := 64#32
  let v1261 : BitVec 32 := Scalar.muli v1247 c64_i32_696
  let v1262 : BitVec 32 := v1261
  let v1263 : Index := Scalar.indexCast v1262
  let c0_698 : Index := 0#32
  ![0, v1263.toNat, 0]

def k2_chk127 (v1247 : BitVec 32) : Prop :=
  (64 ∣ (k2_mult127 v1247).toNat) ∧
  (∀ a, (k2_off255 v1247) a + S1x64x384.size a ≤ S1x4096x384.size a)
theorem k2_mult127_dvd : ∀ (v1247 : BitVec 32) (k2_hw127 : k2_chk127 v1247), 64 ∣ (k2_mult127 v1247).toNat := fun v1247 k2_hw127 => k2_hw127.1
theorem k2_off255_inb : ∀ (v1247 : BitVec 32) (k2_hw127 : k2_chk127 v1247), ∀ a, (k2_off255 v1247) a + S1x64x384.size a ≤ S1x4096x384.size a := fun v1247 k2_hw127 => k2_hw127.2

def k2_mult128 (v1249 : BitVec 32) : BitVec 32 :=
  let c64_i32_699 : BitVec 32 := 64#32
  let v1267 : BitVec 32 := Scalar.muli v1249 c64_i32_699
  v1267

def k2_off256 (v1249 : BitVec 32) : Fin 3 → Nat :=
  let c0_700 : Index := 0#32
  let c64_i32_699 : BitVec 32 := 64#32
  let v1267 : BitVec 32 := Scalar.muli v1249 c64_i32_699
  let v1268 : BitVec 32 := v1267
  let v1269 : Index := Scalar.indexCast v1268
  let c0_701 : Index := 0#32
  ![0, v1269.toNat, 0]

def k2_chk128 (v1249 : BitVec 32) : Prop :=
  (64 ∣ (k2_mult128 v1249).toNat) ∧
  (∀ a, (k2_off256 v1249) a + S1x64x384.size a ≤ S1x4096x384.size a)
theorem k2_mult128_dvd : ∀ (v1249 : BitVec 32) (k2_hw128 : k2_chk128 v1249), 64 ∣ (k2_mult128 v1249).toNat := fun v1249 k2_hw128 => k2_hw128.1
theorem k2_off256_inb : ∀ (v1249 : BitVec 32) (k2_hw128 : k2_chk128 v1249), ∀ a, (k2_off256 v1249) a + S1x64x384.size a ≤ S1x4096x384.size a := fun v1249 k2_hw128 => k2_hw128.2

def k2_off257 (i : grid2.Coords) : Fin 3 → Nat :=
  let arg1 : BitVec 32 := BitVec.ofNat 32 (i 1).val
  let v1282 : Index := Scalar.indexCast arg1
  let c32_705 : Index := 32#32
  let c0_706 : Index := 0#32
  ![v1282.toNat, 32, 0]
def k2_off258 (i : grid2.Coords) : Fin 3 → Nat :=
  let arg1 : BitVec 32 := BitVec.ofNat 32 (i 1).val
  let v1284 : Index := Scalar.indexCast arg1
  let c32_707 : Index := 32#32
  let c1_708 : Index := 1#32
  ![v1284.toNat, 32, 1]
def k2_off259 (i : grid2.Coords) : Fin 3 → Nat :=
  let arg1 : BitVec 32 := BitVec.ofNat 32 (i 1).val
  let v1286 : Index := Scalar.indexCast arg1
  let c32_709 : Index := 32#32
  let c2_710 : Index := 2#32
  ![v1286.toNat, 32, 2]
def k2_off260 (i : grid2.Coords) : Fin 3 → Nat :=
  let arg1 : BitVec 32 := BitVec.ofNat 32 (i 1).val
  let v1288 : Index := Scalar.indexCast arg1
  let c32_711 : Index := 32#32
  let c3_712 : Index := 3#32
  ![v1288.toNat, 32, 3]
def k2_mult129 (v1283 : BitVec 32) : BitVec 32 :=
  let c64_i32_713 : BitVec 32 := 64#32
  let v1290 : BitVec 32 := Scalar.muli v1283 c64_i32_713
  v1290

def k2_off261 (v1283 : BitVec 32) : Fin 3 → Nat :=
  let c0_714 : Index := 0#32
  let c64_i32_713 : BitVec 32 := 64#32
  let v1290 : BitVec 32 := Scalar.muli v1283 c64_i32_713
  let v1291 : BitVec 32 := v1290
  let v1292 : Index := Scalar.indexCast v1291
  let c0_715 : Index := 0#32
  ![0, v1292.toNat, 0]

def k2_chk129 (v1283 : BitVec 32) : Prop :=
  (64 ∣ (k2_mult129 v1283).toNat) ∧
  (∀ a, (k2_off261 v1283) a + S1x64x384.size a ≤ S1x4096x384.size a)
theorem k2_mult129_dvd : ∀ (v1283 : BitVec 32) (k2_hw129 : k2_chk129 v1283), 64 ∣ (k2_mult129 v1283).toNat := fun v1283 k2_hw129 => k2_hw129.1
theorem k2_off261_inb : ∀ (v1283 : BitVec 32) (k2_hw129 : k2_chk129 v1283), ∀ a, (k2_off261 v1283) a + S1x64x384.size a ≤ S1x4096x384.size a := fun v1283 k2_hw129 => k2_hw129.2

def k2_mult130 (v1285 : BitVec 32) : BitVec 32 :=
  let c64_i32_716 : BitVec 32 := 64#32
  let v1295 : BitVec 32 := Scalar.muli v1285 c64_i32_716
  v1295

def k2_off262 (v1285 : BitVec 32) : Fin 3 → Nat :=
  let c0_717 : Index := 0#32
  let c64_i32_716 : BitVec 32 := 64#32
  let v1295 : BitVec 32 := Scalar.muli v1285 c64_i32_716
  let v1296 : BitVec 32 := v1295
  let v1297 : Index := Scalar.indexCast v1296
  let c0_718 : Index := 0#32
  ![0, v1297.toNat, 0]

def k2_chk130 (v1285 : BitVec 32) : Prop :=
  (64 ∣ (k2_mult130 v1285).toNat) ∧
  (∀ a, (k2_off262 v1285) a + S1x64x384.size a ≤ S1x4096x384.size a)
theorem k2_mult130_dvd : ∀ (v1285 : BitVec 32) (k2_hw130 : k2_chk130 v1285), 64 ∣ (k2_mult130 v1285).toNat := fun v1285 k2_hw130 => k2_hw130.1
theorem k2_off262_inb : ∀ (v1285 : BitVec 32) (k2_hw130 : k2_chk130 v1285), ∀ a, (k2_off262 v1285) a + S1x64x384.size a ≤ S1x4096x384.size a := fun v1285 k2_hw130 => k2_hw130.2

def k2_mult131 (v1287 : BitVec 32) : BitVec 32 :=
  let c64_i32_719 : BitVec 32 := 64#32
  let v1301 : BitVec 32 := Scalar.muli v1287 c64_i32_719
  v1301

def k2_off263 (v1287 : BitVec 32) : Fin 3 → Nat :=
  let c0_720 : Index := 0#32
  let c64_i32_719 : BitVec 32 := 64#32
  let v1301 : BitVec 32 := Scalar.muli v1287 c64_i32_719
  let v1302 : BitVec 32 := v1301
  let v1303 : Index := Scalar.indexCast v1302
  let c0_721 : Index := 0#32
  ![0, v1303.toNat, 0]

def k2_chk131 (v1287 : BitVec 32) : Prop :=
  (64 ∣ (k2_mult131 v1287).toNat) ∧
  (∀ a, (k2_off263 v1287) a + S1x64x384.size a ≤ S1x4096x384.size a)
theorem k2_mult131_dvd : ∀ (v1287 : BitVec 32) (k2_hw131 : k2_chk131 v1287), 64 ∣ (k2_mult131 v1287).toNat := fun v1287 k2_hw131 => k2_hw131.1
theorem k2_off263_inb : ∀ (v1287 : BitVec 32) (k2_hw131 : k2_chk131 v1287), ∀ a, (k2_off263 v1287) a + S1x64x384.size a ≤ S1x4096x384.size a := fun v1287 k2_hw131 => k2_hw131.2

def k2_mult132 (v1289 : BitVec 32) : BitVec 32 :=
  let c64_i32_722 : BitVec 32 := 64#32
  let v1307 : BitVec 32 := Scalar.muli v1289 c64_i32_722
  v1307

def k2_off264 (v1289 : BitVec 32) : Fin 3 → Nat :=
  let c0_723 : Index := 0#32
  let c64_i32_722 : BitVec 32 := 64#32
  let v1307 : BitVec 32 := Scalar.muli v1289 c64_i32_722
  let v1308 : BitVec 32 := v1307
  let v1309 : Index := Scalar.indexCast v1308
  let c0_724 : Index := 0#32
  ![0, v1309.toNat, 0]

def k2_chk132 (v1289 : BitVec 32) : Prop :=
  (64 ∣ (k2_mult132 v1289).toNat) ∧
  (∀ a, (k2_off264 v1289) a + S1x64x384.size a ≤ S1x4096x384.size a)
theorem k2_mult132_dvd : ∀ (v1289 : BitVec 32) (k2_hw132 : k2_chk132 v1289), 64 ∣ (k2_mult132 v1289).toNat := fun v1289 k2_hw132 => k2_hw132.1
theorem k2_off264_inb : ∀ (v1289 : BitVec 32) (k2_hw132 : k2_chk132 v1289), ∀ a, (k2_off264 v1289) a + S1x64x384.size a ≤ S1x4096x384.size a := fun v1289 k2_hw132 => k2_hw132.2

def k2_off265 (i : grid2.Coords) : Fin 3 → Nat :=
  let arg1 : BitVec 32 := BitVec.ofNat 32 (i 1).val
  let v1322 : Index := Scalar.indexCast arg1
  let c33 : Index := 33#32
  let c0_728 : Index := 0#32
  ![v1322.toNat, 33, 0]
def k2_off266 (i : grid2.Coords) : Fin 3 → Nat :=
  let arg1 : BitVec 32 := BitVec.ofNat 32 (i 1).val
  let v1324 : Index := Scalar.indexCast arg1
  let c33_729 : Index := 33#32
  let c1_730 : Index := 1#32
  ![v1324.toNat, 33, 1]
def k2_off267 (i : grid2.Coords) : Fin 3 → Nat :=
  let arg1 : BitVec 32 := BitVec.ofNat 32 (i 1).val
  let v1326 : Index := Scalar.indexCast arg1
  let c33_731 : Index := 33#32
  let c2_732 : Index := 2#32
  ![v1326.toNat, 33, 2]
def k2_off268 (i : grid2.Coords) : Fin 3 → Nat :=
  let arg1 : BitVec 32 := BitVec.ofNat 32 (i 1).val
  let v1328 : Index := Scalar.indexCast arg1
  let c33_733 : Index := 33#32
  let c3_734 : Index := 3#32
  ![v1328.toNat, 33, 3]
def k2_mult133 (v1323 : BitVec 32) : BitVec 32 :=
  let c64_i32_735 : BitVec 32 := 64#32
  let v1330 : BitVec 32 := Scalar.muli v1323 c64_i32_735
  v1330

def k2_off269 (v1323 : BitVec 32) : Fin 3 → Nat :=
  let c0_736 : Index := 0#32
  let c64_i32_735 : BitVec 32 := 64#32
  let v1330 : BitVec 32 := Scalar.muli v1323 c64_i32_735
  let v1331 : BitVec 32 := v1330
  let v1332 : Index := Scalar.indexCast v1331
  let c0_737 : Index := 0#32
  ![0, v1332.toNat, 0]

def k2_chk133 (v1323 : BitVec 32) : Prop :=
  (64 ∣ (k2_mult133 v1323).toNat) ∧
  (∀ a, (k2_off269 v1323) a + S1x64x384.size a ≤ S1x4096x384.size a)
theorem k2_mult133_dvd : ∀ (v1323 : BitVec 32) (k2_hw133 : k2_chk133 v1323), 64 ∣ (k2_mult133 v1323).toNat := fun v1323 k2_hw133 => k2_hw133.1
theorem k2_off269_inb : ∀ (v1323 : BitVec 32) (k2_hw133 : k2_chk133 v1323), ∀ a, (k2_off269 v1323) a + S1x64x384.size a ≤ S1x4096x384.size a := fun v1323 k2_hw133 => k2_hw133.2

def k2_mult134 (v1325 : BitVec 32) : BitVec 32 :=
  let c64_i32_738 : BitVec 32 := 64#32
  let v1335 : BitVec 32 := Scalar.muli v1325 c64_i32_738
  v1335

def k2_off270 (v1325 : BitVec 32) : Fin 3 → Nat :=
  let c0_739 : Index := 0#32
  let c64_i32_738 : BitVec 32 := 64#32
  let v1335 : BitVec 32 := Scalar.muli v1325 c64_i32_738
  let v1336 : BitVec 32 := v1335
  let v1337 : Index := Scalar.indexCast v1336
  let c0_740 : Index := 0#32
  ![0, v1337.toNat, 0]

def k2_chk134 (v1325 : BitVec 32) : Prop :=
  (64 ∣ (k2_mult134 v1325).toNat) ∧
  (∀ a, (k2_off270 v1325) a + S1x64x384.size a ≤ S1x4096x384.size a)
theorem k2_mult134_dvd : ∀ (v1325 : BitVec 32) (k2_hw134 : k2_chk134 v1325), 64 ∣ (k2_mult134 v1325).toNat := fun v1325 k2_hw134 => k2_hw134.1
theorem k2_off270_inb : ∀ (v1325 : BitVec 32) (k2_hw134 : k2_chk134 v1325), ∀ a, (k2_off270 v1325) a + S1x64x384.size a ≤ S1x4096x384.size a := fun v1325 k2_hw134 => k2_hw134.2

def k2_mult135 (v1327 : BitVec 32) : BitVec 32 :=
  let c64_i32_741 : BitVec 32 := 64#32
  let v1341 : BitVec 32 := Scalar.muli v1327 c64_i32_741
  v1341

def k2_off271 (v1327 : BitVec 32) : Fin 3 → Nat :=
  let c0_742 : Index := 0#32
  let c64_i32_741 : BitVec 32 := 64#32
  let v1341 : BitVec 32 := Scalar.muli v1327 c64_i32_741
  let v1342 : BitVec 32 := v1341
  let v1343 : Index := Scalar.indexCast v1342
  let c0_743 : Index := 0#32
  ![0, v1343.toNat, 0]

def k2_chk135 (v1327 : BitVec 32) : Prop :=
  (64 ∣ (k2_mult135 v1327).toNat) ∧
  (∀ a, (k2_off271 v1327) a + S1x64x384.size a ≤ S1x4096x384.size a)
theorem k2_mult135_dvd : ∀ (v1327 : BitVec 32) (k2_hw135 : k2_chk135 v1327), 64 ∣ (k2_mult135 v1327).toNat := fun v1327 k2_hw135 => k2_hw135.1
theorem k2_off271_inb : ∀ (v1327 : BitVec 32) (k2_hw135 : k2_chk135 v1327), ∀ a, (k2_off271 v1327) a + S1x64x384.size a ≤ S1x4096x384.size a := fun v1327 k2_hw135 => k2_hw135.2

def k2_mult136 (v1329 : BitVec 32) : BitVec 32 :=
  let c64_i32_744 : BitVec 32 := 64#32
  let v1347 : BitVec 32 := Scalar.muli v1329 c64_i32_744
  v1347

def k2_off272 (v1329 : BitVec 32) : Fin 3 → Nat :=
  let c0_745 : Index := 0#32
  let c64_i32_744 : BitVec 32 := 64#32
  let v1347 : BitVec 32 := Scalar.muli v1329 c64_i32_744
  let v1348 : BitVec 32 := v1347
  let v1349 : Index := Scalar.indexCast v1348
  let c0_746 : Index := 0#32
  ![0, v1349.toNat, 0]

def k2_chk136 (v1329 : BitVec 32) : Prop :=
  (64 ∣ (k2_mult136 v1329).toNat) ∧
  (∀ a, (k2_off272 v1329) a + S1x64x384.size a ≤ S1x4096x384.size a)
theorem k2_mult136_dvd : ∀ (v1329 : BitVec 32) (k2_hw136 : k2_chk136 v1329), 64 ∣ (k2_mult136 v1329).toNat := fun v1329 k2_hw136 => k2_hw136.1
theorem k2_off272_inb : ∀ (v1329 : BitVec 32) (k2_hw136 : k2_chk136 v1329), ∀ a, (k2_off272 v1329) a + S1x64x384.size a ≤ S1x4096x384.size a := fun v1329 k2_hw136 => k2_hw136.2

def k2_off273 (i : grid2.Coords) : Fin 3 → Nat :=
  let arg1 : BitVec 32 := BitVec.ofNat 32 (i 1).val
  let v1362 : Index := Scalar.indexCast arg1
  let c34 : Index := 34#32
  let c0_750 : Index := 0#32
  ![v1362.toNat, 34, 0]
def k2_off274 (i : grid2.Coords) : Fin 3 → Nat :=
  let arg1 : BitVec 32 := BitVec.ofNat 32 (i 1).val
  let v1364 : Index := Scalar.indexCast arg1
  let c34_751 : Index := 34#32
  let c1_752 : Index := 1#32
  ![v1364.toNat, 34, 1]
def k2_off275 (i : grid2.Coords) : Fin 3 → Nat :=
  let arg1 : BitVec 32 := BitVec.ofNat 32 (i 1).val
  let v1366 : Index := Scalar.indexCast arg1
  let c34_753 : Index := 34#32
  let c2_754 : Index := 2#32
  ![v1366.toNat, 34, 2]
def k2_off276 (i : grid2.Coords) : Fin 3 → Nat :=
  let arg1 : BitVec 32 := BitVec.ofNat 32 (i 1).val
  let v1368 : Index := Scalar.indexCast arg1
  let c34_755 : Index := 34#32
  let c3_756 : Index := 3#32
  ![v1368.toNat, 34, 3]
def k2_mult137 (v1363 : BitVec 32) : BitVec 32 :=
  let c64_i32_757 : BitVec 32 := 64#32
  let v1370 : BitVec 32 := Scalar.muli v1363 c64_i32_757
  v1370

def k2_off277 (v1363 : BitVec 32) : Fin 3 → Nat :=
  let c0_758 : Index := 0#32
  let c64_i32_757 : BitVec 32 := 64#32
  let v1370 : BitVec 32 := Scalar.muli v1363 c64_i32_757
  let v1371 : BitVec 32 := v1370
  let v1372 : Index := Scalar.indexCast v1371
  let c0_759 : Index := 0#32
  ![0, v1372.toNat, 0]

def k2_chk137 (v1363 : BitVec 32) : Prop :=
  (64 ∣ (k2_mult137 v1363).toNat) ∧
  (∀ a, (k2_off277 v1363) a + S1x64x384.size a ≤ S1x4096x384.size a)
theorem k2_mult137_dvd : ∀ (v1363 : BitVec 32) (k2_hw137 : k2_chk137 v1363), 64 ∣ (k2_mult137 v1363).toNat := fun v1363 k2_hw137 => k2_hw137.1
theorem k2_off277_inb : ∀ (v1363 : BitVec 32) (k2_hw137 : k2_chk137 v1363), ∀ a, (k2_off277 v1363) a + S1x64x384.size a ≤ S1x4096x384.size a := fun v1363 k2_hw137 => k2_hw137.2

def k2_mult138 (v1365 : BitVec 32) : BitVec 32 :=
  let c64_i32_760 : BitVec 32 := 64#32
  let v1375 : BitVec 32 := Scalar.muli v1365 c64_i32_760
  v1375

def k2_off278 (v1365 : BitVec 32) : Fin 3 → Nat :=
  let c0_761 : Index := 0#32
  let c64_i32_760 : BitVec 32 := 64#32
  let v1375 : BitVec 32 := Scalar.muli v1365 c64_i32_760
  let v1376 : BitVec 32 := v1375
  let v1377 : Index := Scalar.indexCast v1376
  let c0_762 : Index := 0#32
  ![0, v1377.toNat, 0]

def k2_chk138 (v1365 : BitVec 32) : Prop :=
  (64 ∣ (k2_mult138 v1365).toNat) ∧
  (∀ a, (k2_off278 v1365) a + S1x64x384.size a ≤ S1x4096x384.size a)
theorem k2_mult138_dvd : ∀ (v1365 : BitVec 32) (k2_hw138 : k2_chk138 v1365), 64 ∣ (k2_mult138 v1365).toNat := fun v1365 k2_hw138 => k2_hw138.1
theorem k2_off278_inb : ∀ (v1365 : BitVec 32) (k2_hw138 : k2_chk138 v1365), ∀ a, (k2_off278 v1365) a + S1x64x384.size a ≤ S1x4096x384.size a := fun v1365 k2_hw138 => k2_hw138.2

def k2_mult139 (v1367 : BitVec 32) : BitVec 32 :=
  let c64_i32_763 : BitVec 32 := 64#32
  let v1381 : BitVec 32 := Scalar.muli v1367 c64_i32_763
  v1381

def k2_off279 (v1367 : BitVec 32) : Fin 3 → Nat :=
  let c0_764 : Index := 0#32
  let c64_i32_763 : BitVec 32 := 64#32
  let v1381 : BitVec 32 := Scalar.muli v1367 c64_i32_763
  let v1382 : BitVec 32 := v1381
  let v1383 : Index := Scalar.indexCast v1382
  let c0_765 : Index := 0#32
  ![0, v1383.toNat, 0]

def k2_chk139 (v1367 : BitVec 32) : Prop :=
  (64 ∣ (k2_mult139 v1367).toNat) ∧
  (∀ a, (k2_off279 v1367) a + S1x64x384.size a ≤ S1x4096x384.size a)
theorem k2_mult139_dvd : ∀ (v1367 : BitVec 32) (k2_hw139 : k2_chk139 v1367), 64 ∣ (k2_mult139 v1367).toNat := fun v1367 k2_hw139 => k2_hw139.1
theorem k2_off279_inb : ∀ (v1367 : BitVec 32) (k2_hw139 : k2_chk139 v1367), ∀ a, (k2_off279 v1367) a + S1x64x384.size a ≤ S1x4096x384.size a := fun v1367 k2_hw139 => k2_hw139.2

def k2_mult140 (v1369 : BitVec 32) : BitVec 32 :=
  let c64_i32_766 : BitVec 32 := 64#32
  let v1387 : BitVec 32 := Scalar.muli v1369 c64_i32_766
  v1387

def k2_off280 (v1369 : BitVec 32) : Fin 3 → Nat :=
  let c0_767 : Index := 0#32
  let c64_i32_766 : BitVec 32 := 64#32
  let v1387 : BitVec 32 := Scalar.muli v1369 c64_i32_766
  let v1388 : BitVec 32 := v1387
  let v1389 : Index := Scalar.indexCast v1388
  let c0_768 : Index := 0#32
  ![0, v1389.toNat, 0]

def k2_chk140 (v1369 : BitVec 32) : Prop :=
  (64 ∣ (k2_mult140 v1369).toNat) ∧
  (∀ a, (k2_off280 v1369) a + S1x64x384.size a ≤ S1x4096x384.size a)
theorem k2_mult140_dvd : ∀ (v1369 : BitVec 32) (k2_hw140 : k2_chk140 v1369), 64 ∣ (k2_mult140 v1369).toNat := fun v1369 k2_hw140 => k2_hw140.1
theorem k2_off280_inb : ∀ (v1369 : BitVec 32) (k2_hw140 : k2_chk140 v1369), ∀ a, (k2_off280 v1369) a + S1x64x384.size a ≤ S1x4096x384.size a := fun v1369 k2_hw140 => k2_hw140.2

def k2_off281 (i : grid2.Coords) : Fin 3 → Nat :=
  let arg1 : BitVec 32 := BitVec.ofNat 32 (i 1).val
  let v1402 : Index := Scalar.indexCast arg1
  let c35 : Index := 35#32
  let c0_772 : Index := 0#32
  ![v1402.toNat, 35, 0]
def k2_off282 (i : grid2.Coords) : Fin 3 → Nat :=
  let arg1 : BitVec 32 := BitVec.ofNat 32 (i 1).val
  let v1404 : Index := Scalar.indexCast arg1
  let c35_773 : Index := 35#32
  let c1_774 : Index := 1#32
  ![v1404.toNat, 35, 1]
def k2_off283 (i : grid2.Coords) : Fin 3 → Nat :=
  let arg1 : BitVec 32 := BitVec.ofNat 32 (i 1).val
  let v1406 : Index := Scalar.indexCast arg1
  let c35_775 : Index := 35#32
  let c2_776 : Index := 2#32
  ![v1406.toNat, 35, 2]
def k2_off284 (i : grid2.Coords) : Fin 3 → Nat :=
  let arg1 : BitVec 32 := BitVec.ofNat 32 (i 1).val
  let v1408 : Index := Scalar.indexCast arg1
  let c35_777 : Index := 35#32
  let c3_778 : Index := 3#32
  ![v1408.toNat, 35, 3]
def k2_mult141 (v1403 : BitVec 32) : BitVec 32 :=
  let c64_i32_779 : BitVec 32 := 64#32
  let v1410 : BitVec 32 := Scalar.muli v1403 c64_i32_779
  v1410

def k2_off285 (v1403 : BitVec 32) : Fin 3 → Nat :=
  let c0_780 : Index := 0#32
  let c64_i32_779 : BitVec 32 := 64#32
  let v1410 : BitVec 32 := Scalar.muli v1403 c64_i32_779
  let v1411 : BitVec 32 := v1410
  let v1412 : Index := Scalar.indexCast v1411
  let c0_781 : Index := 0#32
  ![0, v1412.toNat, 0]

def k2_chk141 (v1403 : BitVec 32) : Prop :=
  (64 ∣ (k2_mult141 v1403).toNat) ∧
  (∀ a, (k2_off285 v1403) a + S1x64x384.size a ≤ S1x4096x384.size a)
theorem k2_mult141_dvd : ∀ (v1403 : BitVec 32) (k2_hw141 : k2_chk141 v1403), 64 ∣ (k2_mult141 v1403).toNat := fun v1403 k2_hw141 => k2_hw141.1
theorem k2_off285_inb : ∀ (v1403 : BitVec 32) (k2_hw141 : k2_chk141 v1403), ∀ a, (k2_off285 v1403) a + S1x64x384.size a ≤ S1x4096x384.size a := fun v1403 k2_hw141 => k2_hw141.2

def k2_mult142 (v1405 : BitVec 32) : BitVec 32 :=
  let c64_i32_782 : BitVec 32 := 64#32
  let v1415 : BitVec 32 := Scalar.muli v1405 c64_i32_782
  v1415

def k2_off286 (v1405 : BitVec 32) : Fin 3 → Nat :=
  let c0_783 : Index := 0#32
  let c64_i32_782 : BitVec 32 := 64#32
  let v1415 : BitVec 32 := Scalar.muli v1405 c64_i32_782
  let v1416 : BitVec 32 := v1415
  let v1417 : Index := Scalar.indexCast v1416
  let c0_784 : Index := 0#32
  ![0, v1417.toNat, 0]

def k2_chk142 (v1405 : BitVec 32) : Prop :=
  (64 ∣ (k2_mult142 v1405).toNat) ∧
  (∀ a, (k2_off286 v1405) a + S1x64x384.size a ≤ S1x4096x384.size a)
theorem k2_mult142_dvd : ∀ (v1405 : BitVec 32) (k2_hw142 : k2_chk142 v1405), 64 ∣ (k2_mult142 v1405).toNat := fun v1405 k2_hw142 => k2_hw142.1
theorem k2_off286_inb : ∀ (v1405 : BitVec 32) (k2_hw142 : k2_chk142 v1405), ∀ a, (k2_off286 v1405) a + S1x64x384.size a ≤ S1x4096x384.size a := fun v1405 k2_hw142 => k2_hw142.2

def k2_mult143 (v1407 : BitVec 32) : BitVec 32 :=
  let c64_i32_785 : BitVec 32 := 64#32
  let v1421 : BitVec 32 := Scalar.muli v1407 c64_i32_785
  v1421

def k2_off287 (v1407 : BitVec 32) : Fin 3 → Nat :=
  let c0_786 : Index := 0#32
  let c64_i32_785 : BitVec 32 := 64#32
  let v1421 : BitVec 32 := Scalar.muli v1407 c64_i32_785
  let v1422 : BitVec 32 := v1421
  let v1423 : Index := Scalar.indexCast v1422
  let c0_787 : Index := 0#32
  ![0, v1423.toNat, 0]

def k2_chk143 (v1407 : BitVec 32) : Prop :=
  (64 ∣ (k2_mult143 v1407).toNat) ∧
  (∀ a, (k2_off287 v1407) a + S1x64x384.size a ≤ S1x4096x384.size a)
theorem k2_mult143_dvd : ∀ (v1407 : BitVec 32) (k2_hw143 : k2_chk143 v1407), 64 ∣ (k2_mult143 v1407).toNat := fun v1407 k2_hw143 => k2_hw143.1
theorem k2_off287_inb : ∀ (v1407 : BitVec 32) (k2_hw143 : k2_chk143 v1407), ∀ a, (k2_off287 v1407) a + S1x64x384.size a ≤ S1x4096x384.size a := fun v1407 k2_hw143 => k2_hw143.2

def k2_mult144 (v1409 : BitVec 32) : BitVec 32 :=
  let c64_i32_788 : BitVec 32 := 64#32
  let v1427 : BitVec 32 := Scalar.muli v1409 c64_i32_788
  v1427

def k2_off288 (v1409 : BitVec 32) : Fin 3 → Nat :=
  let c0_789 : Index := 0#32
  let c64_i32_788 : BitVec 32 := 64#32
  let v1427 : BitVec 32 := Scalar.muli v1409 c64_i32_788
  let v1428 : BitVec 32 := v1427
  let v1429 : Index := Scalar.indexCast v1428
  let c0_790 : Index := 0#32
  ![0, v1429.toNat, 0]

def k2_chk144 (v1409 : BitVec 32) : Prop :=
  (64 ∣ (k2_mult144 v1409).toNat) ∧
  (∀ a, (k2_off288 v1409) a + S1x64x384.size a ≤ S1x4096x384.size a)
theorem k2_mult144_dvd : ∀ (v1409 : BitVec 32) (k2_hw144 : k2_chk144 v1409), 64 ∣ (k2_mult144 v1409).toNat := fun v1409 k2_hw144 => k2_hw144.1
theorem k2_off288_inb : ∀ (v1409 : BitVec 32) (k2_hw144 : k2_chk144 v1409), ∀ a, (k2_off288 v1409) a + S1x64x384.size a ≤ S1x4096x384.size a := fun v1409 k2_hw144 => k2_hw144.2

def k2_off289 (i : grid2.Coords) : Fin 3 → Nat :=
  let arg1 : BitVec 32 := BitVec.ofNat 32 (i 1).val
  let v1442 : Index := Scalar.indexCast arg1
  let c36 : Index := 36#32
  let c0_794 : Index := 0#32
  ![v1442.toNat, 36, 0]
def k2_off290 (i : grid2.Coords) : Fin 3 → Nat :=
  let arg1 : BitVec 32 := BitVec.ofNat 32 (i 1).val
  let v1444 : Index := Scalar.indexCast arg1
  let c36_795 : Index := 36#32
  let c1_796 : Index := 1#32
  ![v1444.toNat, 36, 1]
def k2_off291 (i : grid2.Coords) : Fin 3 → Nat :=
  let arg1 : BitVec 32 := BitVec.ofNat 32 (i 1).val
  let v1446 : Index := Scalar.indexCast arg1
  let c36_797 : Index := 36#32
  let c2_798 : Index := 2#32
  ![v1446.toNat, 36, 2]
def k2_off292 (i : grid2.Coords) : Fin 3 → Nat :=
  let arg1 : BitVec 32 := BitVec.ofNat 32 (i 1).val
  let v1448 : Index := Scalar.indexCast arg1
  let c36_799 : Index := 36#32
  let c3_800 : Index := 3#32
  ![v1448.toNat, 36, 3]
def k2_mult145 (v1443 : BitVec 32) : BitVec 32 :=
  let c64_i32_801 : BitVec 32 := 64#32
  let v1450 : BitVec 32 := Scalar.muli v1443 c64_i32_801
  v1450

def k2_off293 (v1443 : BitVec 32) : Fin 3 → Nat :=
  let c0_802 : Index := 0#32
  let c64_i32_801 : BitVec 32 := 64#32
  let v1450 : BitVec 32 := Scalar.muli v1443 c64_i32_801
  let v1451 : BitVec 32 := v1450
  let v1452 : Index := Scalar.indexCast v1451
  let c0_803 : Index := 0#32
  ![0, v1452.toNat, 0]

def k2_chk145 (v1443 : BitVec 32) : Prop :=
  (64 ∣ (k2_mult145 v1443).toNat) ∧
  (∀ a, (k2_off293 v1443) a + S1x64x384.size a ≤ S1x4096x384.size a)
theorem k2_mult145_dvd : ∀ (v1443 : BitVec 32) (k2_hw145 : k2_chk145 v1443), 64 ∣ (k2_mult145 v1443).toNat := fun v1443 k2_hw145 => k2_hw145.1
theorem k2_off293_inb : ∀ (v1443 : BitVec 32) (k2_hw145 : k2_chk145 v1443), ∀ a, (k2_off293 v1443) a + S1x64x384.size a ≤ S1x4096x384.size a := fun v1443 k2_hw145 => k2_hw145.2

def k2_mult146 (v1445 : BitVec 32) : BitVec 32 :=
  let c64_i32_804 : BitVec 32 := 64#32
  let v1455 : BitVec 32 := Scalar.muli v1445 c64_i32_804
  v1455

def k2_off294 (v1445 : BitVec 32) : Fin 3 → Nat :=
  let c0_805 : Index := 0#32
  let c64_i32_804 : BitVec 32 := 64#32
  let v1455 : BitVec 32 := Scalar.muli v1445 c64_i32_804
  let v1456 : BitVec 32 := v1455
  let v1457 : Index := Scalar.indexCast v1456
  let c0_806 : Index := 0#32
  ![0, v1457.toNat, 0]

def k2_chk146 (v1445 : BitVec 32) : Prop :=
  (64 ∣ (k2_mult146 v1445).toNat) ∧
  (∀ a, (k2_off294 v1445) a + S1x64x384.size a ≤ S1x4096x384.size a)
theorem k2_mult146_dvd : ∀ (v1445 : BitVec 32) (k2_hw146 : k2_chk146 v1445), 64 ∣ (k2_mult146 v1445).toNat := fun v1445 k2_hw146 => k2_hw146.1
theorem k2_off294_inb : ∀ (v1445 : BitVec 32) (k2_hw146 : k2_chk146 v1445), ∀ a, (k2_off294 v1445) a + S1x64x384.size a ≤ S1x4096x384.size a := fun v1445 k2_hw146 => k2_hw146.2

def k2_mult147 (v1447 : BitVec 32) : BitVec 32 :=
  let c64_i32_807 : BitVec 32 := 64#32
  let v1461 : BitVec 32 := Scalar.muli v1447 c64_i32_807
  v1461

def k2_off295 (v1447 : BitVec 32) : Fin 3 → Nat :=
  let c0_808 : Index := 0#32
  let c64_i32_807 : BitVec 32 := 64#32
  let v1461 : BitVec 32 := Scalar.muli v1447 c64_i32_807
  let v1462 : BitVec 32 := v1461
  let v1463 : Index := Scalar.indexCast v1462
  let c0_809 : Index := 0#32
  ![0, v1463.toNat, 0]

def k2_chk147 (v1447 : BitVec 32) : Prop :=
  (64 ∣ (k2_mult147 v1447).toNat) ∧
  (∀ a, (k2_off295 v1447) a + S1x64x384.size a ≤ S1x4096x384.size a)
theorem k2_mult147_dvd : ∀ (v1447 : BitVec 32) (k2_hw147 : k2_chk147 v1447), 64 ∣ (k2_mult147 v1447).toNat := fun v1447 k2_hw147 => k2_hw147.1
theorem k2_off295_inb : ∀ (v1447 : BitVec 32) (k2_hw147 : k2_chk147 v1447), ∀ a, (k2_off295 v1447) a + S1x64x384.size a ≤ S1x4096x384.size a := fun v1447 k2_hw147 => k2_hw147.2

def k2_mult148 (v1449 : BitVec 32) : BitVec 32 :=
  let c64_i32_810 : BitVec 32 := 64#32
  let v1467 : BitVec 32 := Scalar.muli v1449 c64_i32_810
  v1467

def k2_off296 (v1449 : BitVec 32) : Fin 3 → Nat :=
  let c0_811 : Index := 0#32
  let c64_i32_810 : BitVec 32 := 64#32
  let v1467 : BitVec 32 := Scalar.muli v1449 c64_i32_810
  let v1468 : BitVec 32 := v1467
  let v1469 : Index := Scalar.indexCast v1468
  let c0_812 : Index := 0#32
  ![0, v1469.toNat, 0]

def k2_chk148 (v1449 : BitVec 32) : Prop :=
  (64 ∣ (k2_mult148 v1449).toNat) ∧
  (∀ a, (k2_off296 v1449) a + S1x64x384.size a ≤ S1x4096x384.size a)
theorem k2_mult148_dvd : ∀ (v1449 : BitVec 32) (k2_hw148 : k2_chk148 v1449), 64 ∣ (k2_mult148 v1449).toNat := fun v1449 k2_hw148 => k2_hw148.1
theorem k2_off296_inb : ∀ (v1449 : BitVec 32) (k2_hw148 : k2_chk148 v1449), ∀ a, (k2_off296 v1449) a + S1x64x384.size a ≤ S1x4096x384.size a := fun v1449 k2_hw148 => k2_hw148.2

def k2_off297 (i : grid2.Coords) : Fin 3 → Nat :=
  let arg1 : BitVec 32 := BitVec.ofNat 32 (i 1).val
  let v1482 : Index := Scalar.indexCast arg1
  let c37 : Index := 37#32
  let c0_816 : Index := 0#32
  ![v1482.toNat, 37, 0]
def k2_off298 (i : grid2.Coords) : Fin 3 → Nat :=
  let arg1 : BitVec 32 := BitVec.ofNat 32 (i 1).val
  let v1484 : Index := Scalar.indexCast arg1
  let c37_817 : Index := 37#32
  let c1_818 : Index := 1#32
  ![v1484.toNat, 37, 1]
def k2_off299 (i : grid2.Coords) : Fin 3 → Nat :=
  let arg1 : BitVec 32 := BitVec.ofNat 32 (i 1).val
  let v1486 : Index := Scalar.indexCast arg1
  let c37_819 : Index := 37#32
  let c2_820 : Index := 2#32
  ![v1486.toNat, 37, 2]
def k2_off300 (i : grid2.Coords) : Fin 3 → Nat :=
  let arg1 : BitVec 32 := BitVec.ofNat 32 (i 1).val
  let v1488 : Index := Scalar.indexCast arg1
  let c37_821 : Index := 37#32
  let c3_822 : Index := 3#32
  ![v1488.toNat, 37, 3]
def k2_mult149 (v1483 : BitVec 32) : BitVec 32 :=
  let c64_i32_823 : BitVec 32 := 64#32
  let v1490 : BitVec 32 := Scalar.muli v1483 c64_i32_823
  v1490

def k2_off301 (v1483 : BitVec 32) : Fin 3 → Nat :=
  let c0_824 : Index := 0#32
  let c64_i32_823 : BitVec 32 := 64#32
  let v1490 : BitVec 32 := Scalar.muli v1483 c64_i32_823
  let v1491 : BitVec 32 := v1490
  let v1492 : Index := Scalar.indexCast v1491
  let c0_825 : Index := 0#32
  ![0, v1492.toNat, 0]

def k2_chk149 (v1483 : BitVec 32) : Prop :=
  (64 ∣ (k2_mult149 v1483).toNat) ∧
  (∀ a, (k2_off301 v1483) a + S1x64x384.size a ≤ S1x4096x384.size a)
theorem k2_mult149_dvd : ∀ (v1483 : BitVec 32) (k2_hw149 : k2_chk149 v1483), 64 ∣ (k2_mult149 v1483).toNat := fun v1483 k2_hw149 => k2_hw149.1
theorem k2_off301_inb : ∀ (v1483 : BitVec 32) (k2_hw149 : k2_chk149 v1483), ∀ a, (k2_off301 v1483) a + S1x64x384.size a ≤ S1x4096x384.size a := fun v1483 k2_hw149 => k2_hw149.2

def k2_mult150 (v1485 : BitVec 32) : BitVec 32 :=
  let c64_i32_826 : BitVec 32 := 64#32
  let v1495 : BitVec 32 := Scalar.muli v1485 c64_i32_826
  v1495

def k2_off302 (v1485 : BitVec 32) : Fin 3 → Nat :=
  let c0_827 : Index := 0#32
  let c64_i32_826 : BitVec 32 := 64#32
  let v1495 : BitVec 32 := Scalar.muli v1485 c64_i32_826
  let v1496 : BitVec 32 := v1495
  let v1497 : Index := Scalar.indexCast v1496
  let c0_828 : Index := 0#32
  ![0, v1497.toNat, 0]

def k2_chk150 (v1485 : BitVec 32) : Prop :=
  (64 ∣ (k2_mult150 v1485).toNat) ∧
  (∀ a, (k2_off302 v1485) a + S1x64x384.size a ≤ S1x4096x384.size a)
theorem k2_mult150_dvd : ∀ (v1485 : BitVec 32) (k2_hw150 : k2_chk150 v1485), 64 ∣ (k2_mult150 v1485).toNat := fun v1485 k2_hw150 => k2_hw150.1
theorem k2_off302_inb : ∀ (v1485 : BitVec 32) (k2_hw150 : k2_chk150 v1485), ∀ a, (k2_off302 v1485) a + S1x64x384.size a ≤ S1x4096x384.size a := fun v1485 k2_hw150 => k2_hw150.2

def k2_mult151 (v1487 : BitVec 32) : BitVec 32 :=
  let c64_i32_829 : BitVec 32 := 64#32
  let v1501 : BitVec 32 := Scalar.muli v1487 c64_i32_829
  v1501

def k2_off303 (v1487 : BitVec 32) : Fin 3 → Nat :=
  let c0_830 : Index := 0#32
  let c64_i32_829 : BitVec 32 := 64#32
  let v1501 : BitVec 32 := Scalar.muli v1487 c64_i32_829
  let v1502 : BitVec 32 := v1501
  let v1503 : Index := Scalar.indexCast v1502
  let c0_831 : Index := 0#32
  ![0, v1503.toNat, 0]

def k2_chk151 (v1487 : BitVec 32) : Prop :=
  (64 ∣ (k2_mult151 v1487).toNat) ∧
  (∀ a, (k2_off303 v1487) a + S1x64x384.size a ≤ S1x4096x384.size a)
theorem k2_mult151_dvd : ∀ (v1487 : BitVec 32) (k2_hw151 : k2_chk151 v1487), 64 ∣ (k2_mult151 v1487).toNat := fun v1487 k2_hw151 => k2_hw151.1
theorem k2_off303_inb : ∀ (v1487 : BitVec 32) (k2_hw151 : k2_chk151 v1487), ∀ a, (k2_off303 v1487) a + S1x64x384.size a ≤ S1x4096x384.size a := fun v1487 k2_hw151 => k2_hw151.2

def k2_mult152 (v1489 : BitVec 32) : BitVec 32 :=
  let c64_i32_832 : BitVec 32 := 64#32
  let v1507 : BitVec 32 := Scalar.muli v1489 c64_i32_832
  v1507

def k2_off304 (v1489 : BitVec 32) : Fin 3 → Nat :=
  let c0_833 : Index := 0#32
  let c64_i32_832 : BitVec 32 := 64#32
  let v1507 : BitVec 32 := Scalar.muli v1489 c64_i32_832
  let v1508 : BitVec 32 := v1507
  let v1509 : Index := Scalar.indexCast v1508
  let c0_834 : Index := 0#32
  ![0, v1509.toNat, 0]

def k2_chk152 (v1489 : BitVec 32) : Prop :=
  (64 ∣ (k2_mult152 v1489).toNat) ∧
  (∀ a, (k2_off304 v1489) a + S1x64x384.size a ≤ S1x4096x384.size a)
theorem k2_mult152_dvd : ∀ (v1489 : BitVec 32) (k2_hw152 : k2_chk152 v1489), 64 ∣ (k2_mult152 v1489).toNat := fun v1489 k2_hw152 => k2_hw152.1
theorem k2_off304_inb : ∀ (v1489 : BitVec 32) (k2_hw152 : k2_chk152 v1489), ∀ a, (k2_off304 v1489) a + S1x64x384.size a ≤ S1x4096x384.size a := fun v1489 k2_hw152 => k2_hw152.2

def k2_off305 (i : grid2.Coords) : Fin 3 → Nat :=
  let arg1 : BitVec 32 := BitVec.ofNat 32 (i 1).val
  let v1522 : Index := Scalar.indexCast arg1
  let c38 : Index := 38#32
  let c0_838 : Index := 0#32
  ![v1522.toNat, 38, 0]
def k2_off306 (i : grid2.Coords) : Fin 3 → Nat :=
  let arg1 : BitVec 32 := BitVec.ofNat 32 (i 1).val
  let v1524 : Index := Scalar.indexCast arg1
  let c38_839 : Index := 38#32
  let c1_840 : Index := 1#32
  ![v1524.toNat, 38, 1]
def k2_off307 (i : grid2.Coords) : Fin 3 → Nat :=
  let arg1 : BitVec 32 := BitVec.ofNat 32 (i 1).val
  let v1526 : Index := Scalar.indexCast arg1
  let c38_841 : Index := 38#32
  let c2_842 : Index := 2#32
  ![v1526.toNat, 38, 2]
def k2_off308 (i : grid2.Coords) : Fin 3 → Nat :=
  let arg1 : BitVec 32 := BitVec.ofNat 32 (i 1).val
  let v1528 : Index := Scalar.indexCast arg1
  let c38_843 : Index := 38#32
  let c3_844 : Index := 3#32
  ![v1528.toNat, 38, 3]
def k2_mult153 (v1523 : BitVec 32) : BitVec 32 :=
  let c64_i32_845 : BitVec 32 := 64#32
  let v1530 : BitVec 32 := Scalar.muli v1523 c64_i32_845
  v1530

def k2_off309 (v1523 : BitVec 32) : Fin 3 → Nat :=
  let c0_846 : Index := 0#32
  let c64_i32_845 : BitVec 32 := 64#32
  let v1530 : BitVec 32 := Scalar.muli v1523 c64_i32_845
  let v1531 : BitVec 32 := v1530
  let v1532 : Index := Scalar.indexCast v1531
  let c0_847 : Index := 0#32
  ![0, v1532.toNat, 0]

def k2_chk153 (v1523 : BitVec 32) : Prop :=
  (64 ∣ (k2_mult153 v1523).toNat) ∧
  (∀ a, (k2_off309 v1523) a + S1x64x384.size a ≤ S1x4096x384.size a)
theorem k2_mult153_dvd : ∀ (v1523 : BitVec 32) (k2_hw153 : k2_chk153 v1523), 64 ∣ (k2_mult153 v1523).toNat := fun v1523 k2_hw153 => k2_hw153.1
theorem k2_off309_inb : ∀ (v1523 : BitVec 32) (k2_hw153 : k2_chk153 v1523), ∀ a, (k2_off309 v1523) a + S1x64x384.size a ≤ S1x4096x384.size a := fun v1523 k2_hw153 => k2_hw153.2

def k2_mult154 (v1525 : BitVec 32) : BitVec 32 :=
  let c64_i32_848 : BitVec 32 := 64#32
  let v1535 : BitVec 32 := Scalar.muli v1525 c64_i32_848
  v1535

def k2_off310 (v1525 : BitVec 32) : Fin 3 → Nat :=
  let c0_849 : Index := 0#32
  let c64_i32_848 : BitVec 32 := 64#32
  let v1535 : BitVec 32 := Scalar.muli v1525 c64_i32_848
  let v1536 : BitVec 32 := v1535
  let v1537 : Index := Scalar.indexCast v1536
  let c0_850 : Index := 0#32
  ![0, v1537.toNat, 0]

def k2_chk154 (v1525 : BitVec 32) : Prop :=
  (64 ∣ (k2_mult154 v1525).toNat) ∧
  (∀ a, (k2_off310 v1525) a + S1x64x384.size a ≤ S1x4096x384.size a)
theorem k2_mult154_dvd : ∀ (v1525 : BitVec 32) (k2_hw154 : k2_chk154 v1525), 64 ∣ (k2_mult154 v1525).toNat := fun v1525 k2_hw154 => k2_hw154.1
theorem k2_off310_inb : ∀ (v1525 : BitVec 32) (k2_hw154 : k2_chk154 v1525), ∀ a, (k2_off310 v1525) a + S1x64x384.size a ≤ S1x4096x384.size a := fun v1525 k2_hw154 => k2_hw154.2

def k2_mult155 (v1527 : BitVec 32) : BitVec 32 :=
  let c64_i32_851 : BitVec 32 := 64#32
  let v1541 : BitVec 32 := Scalar.muli v1527 c64_i32_851
  v1541

def k2_off311 (v1527 : BitVec 32) : Fin 3 → Nat :=
  let c0_852 : Index := 0#32
  let c64_i32_851 : BitVec 32 := 64#32
  let v1541 : BitVec 32 := Scalar.muli v1527 c64_i32_851
  let v1542 : BitVec 32 := v1541
  let v1543 : Index := Scalar.indexCast v1542
  let c0_853 : Index := 0#32
  ![0, v1543.toNat, 0]

def k2_chk155 (v1527 : BitVec 32) : Prop :=
  (64 ∣ (k2_mult155 v1527).toNat) ∧
  (∀ a, (k2_off311 v1527) a + S1x64x384.size a ≤ S1x4096x384.size a)
theorem k2_mult155_dvd : ∀ (v1527 : BitVec 32) (k2_hw155 : k2_chk155 v1527), 64 ∣ (k2_mult155 v1527).toNat := fun v1527 k2_hw155 => k2_hw155.1
theorem k2_off311_inb : ∀ (v1527 : BitVec 32) (k2_hw155 : k2_chk155 v1527), ∀ a, (k2_off311 v1527) a + S1x64x384.size a ≤ S1x4096x384.size a := fun v1527 k2_hw155 => k2_hw155.2

def k2_mult156 (v1529 : BitVec 32) : BitVec 32 :=
  let c64_i32_854 : BitVec 32 := 64#32
  let v1547 : BitVec 32 := Scalar.muli v1529 c64_i32_854
  v1547

def k2_off312 (v1529 : BitVec 32) : Fin 3 → Nat :=
  let c0_855 : Index := 0#32
  let c64_i32_854 : BitVec 32 := 64#32
  let v1547 : BitVec 32 := Scalar.muli v1529 c64_i32_854
  let v1548 : BitVec 32 := v1547
  let v1549 : Index := Scalar.indexCast v1548
  let c0_856 : Index := 0#32
  ![0, v1549.toNat, 0]

def k2_chk156 (v1529 : BitVec 32) : Prop :=
  (64 ∣ (k2_mult156 v1529).toNat) ∧
  (∀ a, (k2_off312 v1529) a + S1x64x384.size a ≤ S1x4096x384.size a)
theorem k2_mult156_dvd : ∀ (v1529 : BitVec 32) (k2_hw156 : k2_chk156 v1529), 64 ∣ (k2_mult156 v1529).toNat := fun v1529 k2_hw156 => k2_hw156.1
theorem k2_off312_inb : ∀ (v1529 : BitVec 32) (k2_hw156 : k2_chk156 v1529), ∀ a, (k2_off312 v1529) a + S1x64x384.size a ≤ S1x4096x384.size a := fun v1529 k2_hw156 => k2_hw156.2

def k2_off313 (i : grid2.Coords) : Fin 3 → Nat :=
  let arg1 : BitVec 32 := BitVec.ofNat 32 (i 1).val
  let v1562 : Index := Scalar.indexCast arg1
  let c39 : Index := 39#32
  let c0_860 : Index := 0#32
  ![v1562.toNat, 39, 0]
def k2_off314 (i : grid2.Coords) : Fin 3 → Nat :=
  let arg1 : BitVec 32 := BitVec.ofNat 32 (i 1).val
  let v1564 : Index := Scalar.indexCast arg1
  let c39_861 : Index := 39#32
  let c1_862 : Index := 1#32
  ![v1564.toNat, 39, 1]
def k2_off315 (i : grid2.Coords) : Fin 3 → Nat :=
  let arg1 : BitVec 32 := BitVec.ofNat 32 (i 1).val
  let v1566 : Index := Scalar.indexCast arg1
  let c39_863 : Index := 39#32
  let c2_864 : Index := 2#32
  ![v1566.toNat, 39, 2]
def k2_off316 (i : grid2.Coords) : Fin 3 → Nat :=
  let arg1 : BitVec 32 := BitVec.ofNat 32 (i 1).val
  let v1568 : Index := Scalar.indexCast arg1
  let c39_865 : Index := 39#32
  let c3_866 : Index := 3#32
  ![v1568.toNat, 39, 3]
def k2_mult157 (v1563 : BitVec 32) : BitVec 32 :=
  let c64_i32_867 : BitVec 32 := 64#32
  let v1570 : BitVec 32 := Scalar.muli v1563 c64_i32_867
  v1570

def k2_off317 (v1563 : BitVec 32) : Fin 3 → Nat :=
  let c0_868 : Index := 0#32
  let c64_i32_867 : BitVec 32 := 64#32
  let v1570 : BitVec 32 := Scalar.muli v1563 c64_i32_867
  let v1571 : BitVec 32 := v1570
  let v1572 : Index := Scalar.indexCast v1571
  let c0_869 : Index := 0#32
  ![0, v1572.toNat, 0]

def k2_chk157 (v1563 : BitVec 32) : Prop :=
  (64 ∣ (k2_mult157 v1563).toNat) ∧
  (∀ a, (k2_off317 v1563) a + S1x64x384.size a ≤ S1x4096x384.size a)
theorem k2_mult157_dvd : ∀ (v1563 : BitVec 32) (k2_hw157 : k2_chk157 v1563), 64 ∣ (k2_mult157 v1563).toNat := fun v1563 k2_hw157 => k2_hw157.1
theorem k2_off317_inb : ∀ (v1563 : BitVec 32) (k2_hw157 : k2_chk157 v1563), ∀ a, (k2_off317 v1563) a + S1x64x384.size a ≤ S1x4096x384.size a := fun v1563 k2_hw157 => k2_hw157.2

def k2_mult158 (v1565 : BitVec 32) : BitVec 32 :=
  let c64_i32_870 : BitVec 32 := 64#32
  let v1575 : BitVec 32 := Scalar.muli v1565 c64_i32_870
  v1575

def k2_off318 (v1565 : BitVec 32) : Fin 3 → Nat :=
  let c0_871 : Index := 0#32
  let c64_i32_870 : BitVec 32 := 64#32
  let v1575 : BitVec 32 := Scalar.muli v1565 c64_i32_870
  let v1576 : BitVec 32 := v1575
  let v1577 : Index := Scalar.indexCast v1576
  let c0_872 : Index := 0#32
  ![0, v1577.toNat, 0]

def k2_chk158 (v1565 : BitVec 32) : Prop :=
  (64 ∣ (k2_mult158 v1565).toNat) ∧
  (∀ a, (k2_off318 v1565) a + S1x64x384.size a ≤ S1x4096x384.size a)
theorem k2_mult158_dvd : ∀ (v1565 : BitVec 32) (k2_hw158 : k2_chk158 v1565), 64 ∣ (k2_mult158 v1565).toNat := fun v1565 k2_hw158 => k2_hw158.1
theorem k2_off318_inb : ∀ (v1565 : BitVec 32) (k2_hw158 : k2_chk158 v1565), ∀ a, (k2_off318 v1565) a + S1x64x384.size a ≤ S1x4096x384.size a := fun v1565 k2_hw158 => k2_hw158.2

def k2_mult159 (v1567 : BitVec 32) : BitVec 32 :=
  let c64_i32_873 : BitVec 32 := 64#32
  let v1581 : BitVec 32 := Scalar.muli v1567 c64_i32_873
  v1581

def k2_off319 (v1567 : BitVec 32) : Fin 3 → Nat :=
  let c0_874 : Index := 0#32
  let c64_i32_873 : BitVec 32 := 64#32
  let v1581 : BitVec 32 := Scalar.muli v1567 c64_i32_873
  let v1582 : BitVec 32 := v1581
  let v1583 : Index := Scalar.indexCast v1582
  let c0_875 : Index := 0#32
  ![0, v1583.toNat, 0]

def k2_chk159 (v1567 : BitVec 32) : Prop :=
  (64 ∣ (k2_mult159 v1567).toNat) ∧
  (∀ a, (k2_off319 v1567) a + S1x64x384.size a ≤ S1x4096x384.size a)
theorem k2_mult159_dvd : ∀ (v1567 : BitVec 32) (k2_hw159 : k2_chk159 v1567), 64 ∣ (k2_mult159 v1567).toNat := fun v1567 k2_hw159 => k2_hw159.1
theorem k2_off319_inb : ∀ (v1567 : BitVec 32) (k2_hw159 : k2_chk159 v1567), ∀ a, (k2_off319 v1567) a + S1x64x384.size a ≤ S1x4096x384.size a := fun v1567 k2_hw159 => k2_hw159.2

def k2_mult160 (v1569 : BitVec 32) : BitVec 32 :=
  let c64_i32_876 : BitVec 32 := 64#32
  let v1587 : BitVec 32 := Scalar.muli v1569 c64_i32_876
  v1587

def k2_off320 (v1569 : BitVec 32) : Fin 3 → Nat :=
  let c0_877 : Index := 0#32
  let c64_i32_876 : BitVec 32 := 64#32
  let v1587 : BitVec 32 := Scalar.muli v1569 c64_i32_876
  let v1588 : BitVec 32 := v1587
  let v1589 : Index := Scalar.indexCast v1588
  let c0_878 : Index := 0#32
  ![0, v1589.toNat, 0]

def k2_chk160 (v1569 : BitVec 32) : Prop :=
  (64 ∣ (k2_mult160 v1569).toNat) ∧
  (∀ a, (k2_off320 v1569) a + S1x64x384.size a ≤ S1x4096x384.size a)
theorem k2_mult160_dvd : ∀ (v1569 : BitVec 32) (k2_hw160 : k2_chk160 v1569), 64 ∣ (k2_mult160 v1569).toNat := fun v1569 k2_hw160 => k2_hw160.1
theorem k2_off320_inb : ∀ (v1569 : BitVec 32) (k2_hw160 : k2_chk160 v1569), ∀ a, (k2_off320 v1569) a + S1x64x384.size a ≤ S1x4096x384.size a := fun v1569 k2_hw160 => k2_hw160.2

def k2_off321 (i : grid2.Coords) : Fin 3 → Nat :=
  let arg1 : BitVec 32 := BitVec.ofNat 32 (i 1).val
  let v1602 : Index := Scalar.indexCast arg1
  let c40 : Index := 40#32
  let c0_882 : Index := 0#32
  ![v1602.toNat, 40, 0]
def k2_off322 (i : grid2.Coords) : Fin 3 → Nat :=
  let arg1 : BitVec 32 := BitVec.ofNat 32 (i 1).val
  let v1604 : Index := Scalar.indexCast arg1
  let c40_883 : Index := 40#32
  let c1_884 : Index := 1#32
  ![v1604.toNat, 40, 1]
def k2_off323 (i : grid2.Coords) : Fin 3 → Nat :=
  let arg1 : BitVec 32 := BitVec.ofNat 32 (i 1).val
  let v1606 : Index := Scalar.indexCast arg1
  let c40_885 : Index := 40#32
  let c2_886 : Index := 2#32
  ![v1606.toNat, 40, 2]
def k2_off324 (i : grid2.Coords) : Fin 3 → Nat :=
  let arg1 : BitVec 32 := BitVec.ofNat 32 (i 1).val
  let v1608 : Index := Scalar.indexCast arg1
  let c40_887 : Index := 40#32
  let c3_888 : Index := 3#32
  ![v1608.toNat, 40, 3]
def k2_mult161 (v1603 : BitVec 32) : BitVec 32 :=
  let c64_i32_889 : BitVec 32 := 64#32
  let v1610 : BitVec 32 := Scalar.muli v1603 c64_i32_889
  v1610

def k2_off325 (v1603 : BitVec 32) : Fin 3 → Nat :=
  let c0_890 : Index := 0#32
  let c64_i32_889 : BitVec 32 := 64#32
  let v1610 : BitVec 32 := Scalar.muli v1603 c64_i32_889
  let v1611 : BitVec 32 := v1610
  let v1612 : Index := Scalar.indexCast v1611
  let c0_891 : Index := 0#32
  ![0, v1612.toNat, 0]

def k2_chk161 (v1603 : BitVec 32) : Prop :=
  (64 ∣ (k2_mult161 v1603).toNat) ∧
  (∀ a, (k2_off325 v1603) a + S1x64x384.size a ≤ S1x4096x384.size a)
theorem k2_mult161_dvd : ∀ (v1603 : BitVec 32) (k2_hw161 : k2_chk161 v1603), 64 ∣ (k2_mult161 v1603).toNat := fun v1603 k2_hw161 => k2_hw161.1
theorem k2_off325_inb : ∀ (v1603 : BitVec 32) (k2_hw161 : k2_chk161 v1603), ∀ a, (k2_off325 v1603) a + S1x64x384.size a ≤ S1x4096x384.size a := fun v1603 k2_hw161 => k2_hw161.2

def k2_mult162 (v1605 : BitVec 32) : BitVec 32 :=
  let c64_i32_892 : BitVec 32 := 64#32
  let v1615 : BitVec 32 := Scalar.muli v1605 c64_i32_892
  v1615

def k2_off326 (v1605 : BitVec 32) : Fin 3 → Nat :=
  let c0_893 : Index := 0#32
  let c64_i32_892 : BitVec 32 := 64#32
  let v1615 : BitVec 32 := Scalar.muli v1605 c64_i32_892
  let v1616 : BitVec 32 := v1615
  let v1617 : Index := Scalar.indexCast v1616
  let c0_894 : Index := 0#32
  ![0, v1617.toNat, 0]

def k2_chk162 (v1605 : BitVec 32) : Prop :=
  (64 ∣ (k2_mult162 v1605).toNat) ∧
  (∀ a, (k2_off326 v1605) a + S1x64x384.size a ≤ S1x4096x384.size a)
theorem k2_mult162_dvd : ∀ (v1605 : BitVec 32) (k2_hw162 : k2_chk162 v1605), 64 ∣ (k2_mult162 v1605).toNat := fun v1605 k2_hw162 => k2_hw162.1
theorem k2_off326_inb : ∀ (v1605 : BitVec 32) (k2_hw162 : k2_chk162 v1605), ∀ a, (k2_off326 v1605) a + S1x64x384.size a ≤ S1x4096x384.size a := fun v1605 k2_hw162 => k2_hw162.2

def k2_mult163 (v1607 : BitVec 32) : BitVec 32 :=
  let c64_i32_895 : BitVec 32 := 64#32
  let v1621 : BitVec 32 := Scalar.muli v1607 c64_i32_895
  v1621

def k2_off327 (v1607 : BitVec 32) : Fin 3 → Nat :=
  let c0_896 : Index := 0#32
  let c64_i32_895 : BitVec 32 := 64#32
  let v1621 : BitVec 32 := Scalar.muli v1607 c64_i32_895
  let v1622 : BitVec 32 := v1621
  let v1623 : Index := Scalar.indexCast v1622
  let c0_897 : Index := 0#32
  ![0, v1623.toNat, 0]

def k2_chk163 (v1607 : BitVec 32) : Prop :=
  (64 ∣ (k2_mult163 v1607).toNat) ∧
  (∀ a, (k2_off327 v1607) a + S1x64x384.size a ≤ S1x4096x384.size a)
theorem k2_mult163_dvd : ∀ (v1607 : BitVec 32) (k2_hw163 : k2_chk163 v1607), 64 ∣ (k2_mult163 v1607).toNat := fun v1607 k2_hw163 => k2_hw163.1
theorem k2_off327_inb : ∀ (v1607 : BitVec 32) (k2_hw163 : k2_chk163 v1607), ∀ a, (k2_off327 v1607) a + S1x64x384.size a ≤ S1x4096x384.size a := fun v1607 k2_hw163 => k2_hw163.2

def k2_mult164 (v1609 : BitVec 32) : BitVec 32 :=
  let c64_i32_898 : BitVec 32 := 64#32
  let v1627 : BitVec 32 := Scalar.muli v1609 c64_i32_898
  v1627

def k2_off328 (v1609 : BitVec 32) : Fin 3 → Nat :=
  let c0_899 : Index := 0#32
  let c64_i32_898 : BitVec 32 := 64#32
  let v1627 : BitVec 32 := Scalar.muli v1609 c64_i32_898
  let v1628 : BitVec 32 := v1627
  let v1629 : Index := Scalar.indexCast v1628
  let c0_900 : Index := 0#32
  ![0, v1629.toNat, 0]

def k2_chk164 (v1609 : BitVec 32) : Prop :=
  (64 ∣ (k2_mult164 v1609).toNat) ∧
  (∀ a, (k2_off328 v1609) a + S1x64x384.size a ≤ S1x4096x384.size a)
theorem k2_mult164_dvd : ∀ (v1609 : BitVec 32) (k2_hw164 : k2_chk164 v1609), 64 ∣ (k2_mult164 v1609).toNat := fun v1609 k2_hw164 => k2_hw164.1
theorem k2_off328_inb : ∀ (v1609 : BitVec 32) (k2_hw164 : k2_chk164 v1609), ∀ a, (k2_off328 v1609) a + S1x64x384.size a ≤ S1x4096x384.size a := fun v1609 k2_hw164 => k2_hw164.2

def k2_off329 (i : grid2.Coords) : Fin 3 → Nat :=
  let arg1 : BitVec 32 := BitVec.ofNat 32 (i 1).val
  let v1642 : Index := Scalar.indexCast arg1
  let c41 : Index := 41#32
  let c0_904 : Index := 0#32
  ![v1642.toNat, 41, 0]
def k2_off330 (i : grid2.Coords) : Fin 3 → Nat :=
  let arg1 : BitVec 32 := BitVec.ofNat 32 (i 1).val
  let v1644 : Index := Scalar.indexCast arg1
  let c41_905 : Index := 41#32
  let c1_906 : Index := 1#32
  ![v1644.toNat, 41, 1]
def k2_off331 (i : grid2.Coords) : Fin 3 → Nat :=
  let arg1 : BitVec 32 := BitVec.ofNat 32 (i 1).val
  let v1646 : Index := Scalar.indexCast arg1
  let c41_907 : Index := 41#32
  let c2_908 : Index := 2#32
  ![v1646.toNat, 41, 2]
def k2_off332 (i : grid2.Coords) : Fin 3 → Nat :=
  let arg1 : BitVec 32 := BitVec.ofNat 32 (i 1).val
  let v1648 : Index := Scalar.indexCast arg1
  let c41_909 : Index := 41#32
  let c3_910 : Index := 3#32
  ![v1648.toNat, 41, 3]
def k2_mult165 (v1643 : BitVec 32) : BitVec 32 :=
  let c64_i32_911 : BitVec 32 := 64#32
  let v1650 : BitVec 32 := Scalar.muli v1643 c64_i32_911
  v1650

def k2_off333 (v1643 : BitVec 32) : Fin 3 → Nat :=
  let c0_912 : Index := 0#32
  let c64_i32_911 : BitVec 32 := 64#32
  let v1650 : BitVec 32 := Scalar.muli v1643 c64_i32_911
  let v1651 : BitVec 32 := v1650
  let v1652 : Index := Scalar.indexCast v1651
  let c0_913 : Index := 0#32
  ![0, v1652.toNat, 0]

def k2_chk165 (v1643 : BitVec 32) : Prop :=
  (64 ∣ (k2_mult165 v1643).toNat) ∧
  (∀ a, (k2_off333 v1643) a + S1x64x384.size a ≤ S1x4096x384.size a)
theorem k2_mult165_dvd : ∀ (v1643 : BitVec 32) (k2_hw165 : k2_chk165 v1643), 64 ∣ (k2_mult165 v1643).toNat := fun v1643 k2_hw165 => k2_hw165.1
theorem k2_off333_inb : ∀ (v1643 : BitVec 32) (k2_hw165 : k2_chk165 v1643), ∀ a, (k2_off333 v1643) a + S1x64x384.size a ≤ S1x4096x384.size a := fun v1643 k2_hw165 => k2_hw165.2

def k2_mult166 (v1645 : BitVec 32) : BitVec 32 :=
  let c64_i32_914 : BitVec 32 := 64#32
  let v1655 : BitVec 32 := Scalar.muli v1645 c64_i32_914
  v1655

def k2_off334 (v1645 : BitVec 32) : Fin 3 → Nat :=
  let c0_915 : Index := 0#32
  let c64_i32_914 : BitVec 32 := 64#32
  let v1655 : BitVec 32 := Scalar.muli v1645 c64_i32_914
  let v1656 : BitVec 32 := v1655
  let v1657 : Index := Scalar.indexCast v1656
  let c0_916 : Index := 0#32
  ![0, v1657.toNat, 0]

def k2_chk166 (v1645 : BitVec 32) : Prop :=
  (64 ∣ (k2_mult166 v1645).toNat) ∧
  (∀ a, (k2_off334 v1645) a + S1x64x384.size a ≤ S1x4096x384.size a)
theorem k2_mult166_dvd : ∀ (v1645 : BitVec 32) (k2_hw166 : k2_chk166 v1645), 64 ∣ (k2_mult166 v1645).toNat := fun v1645 k2_hw166 => k2_hw166.1
theorem k2_off334_inb : ∀ (v1645 : BitVec 32) (k2_hw166 : k2_chk166 v1645), ∀ a, (k2_off334 v1645) a + S1x64x384.size a ≤ S1x4096x384.size a := fun v1645 k2_hw166 => k2_hw166.2

def k2_mult167 (v1647 : BitVec 32) : BitVec 32 :=
  let c64_i32_917 : BitVec 32 := 64#32
  let v1661 : BitVec 32 := Scalar.muli v1647 c64_i32_917
  v1661

def k2_off335 (v1647 : BitVec 32) : Fin 3 → Nat :=
  let c0_918 : Index := 0#32
  let c64_i32_917 : BitVec 32 := 64#32
  let v1661 : BitVec 32 := Scalar.muli v1647 c64_i32_917
  let v1662 : BitVec 32 := v1661
  let v1663 : Index := Scalar.indexCast v1662
  let c0_919 : Index := 0#32
  ![0, v1663.toNat, 0]

def k2_chk167 (v1647 : BitVec 32) : Prop :=
  (64 ∣ (k2_mult167 v1647).toNat) ∧
  (∀ a, (k2_off335 v1647) a + S1x64x384.size a ≤ S1x4096x384.size a)
theorem k2_mult167_dvd : ∀ (v1647 : BitVec 32) (k2_hw167 : k2_chk167 v1647), 64 ∣ (k2_mult167 v1647).toNat := fun v1647 k2_hw167 => k2_hw167.1
theorem k2_off335_inb : ∀ (v1647 : BitVec 32) (k2_hw167 : k2_chk167 v1647), ∀ a, (k2_off335 v1647) a + S1x64x384.size a ≤ S1x4096x384.size a := fun v1647 k2_hw167 => k2_hw167.2

def k2_mult168 (v1649 : BitVec 32) : BitVec 32 :=
  let c64_i32_920 : BitVec 32 := 64#32
  let v1667 : BitVec 32 := Scalar.muli v1649 c64_i32_920
  v1667

def k2_off336 (v1649 : BitVec 32) : Fin 3 → Nat :=
  let c0_921 : Index := 0#32
  let c64_i32_920 : BitVec 32 := 64#32
  let v1667 : BitVec 32 := Scalar.muli v1649 c64_i32_920
  let v1668 : BitVec 32 := v1667
  let v1669 : Index := Scalar.indexCast v1668
  let c0_922 : Index := 0#32
  ![0, v1669.toNat, 0]

def k2_chk168 (v1649 : BitVec 32) : Prop :=
  (64 ∣ (k2_mult168 v1649).toNat) ∧
  (∀ a, (k2_off336 v1649) a + S1x64x384.size a ≤ S1x4096x384.size a)
theorem k2_mult168_dvd : ∀ (v1649 : BitVec 32) (k2_hw168 : k2_chk168 v1649), 64 ∣ (k2_mult168 v1649).toNat := fun v1649 k2_hw168 => k2_hw168.1
theorem k2_off336_inb : ∀ (v1649 : BitVec 32) (k2_hw168 : k2_chk168 v1649), ∀ a, (k2_off336 v1649) a + S1x64x384.size a ≤ S1x4096x384.size a := fun v1649 k2_hw168 => k2_hw168.2

def k2_off337 (i : grid2.Coords) : Fin 3 → Nat :=
  let arg1 : BitVec 32 := BitVec.ofNat 32 (i 1).val
  let v1682 : Index := Scalar.indexCast arg1
  let c42 : Index := 42#32
  let c0_926 : Index := 0#32
  ![v1682.toNat, 42, 0]
def k2_off338 (i : grid2.Coords) : Fin 3 → Nat :=
  let arg1 : BitVec 32 := BitVec.ofNat 32 (i 1).val
  let v1684 : Index := Scalar.indexCast arg1
  let c42_927 : Index := 42#32
  let c1_928 : Index := 1#32
  ![v1684.toNat, 42, 1]
def k2_off339 (i : grid2.Coords) : Fin 3 → Nat :=
  let arg1 : BitVec 32 := BitVec.ofNat 32 (i 1).val
  let v1686 : Index := Scalar.indexCast arg1
  let c42_929 : Index := 42#32
  let c2_930 : Index := 2#32
  ![v1686.toNat, 42, 2]
def k2_off340 (i : grid2.Coords) : Fin 3 → Nat :=
  let arg1 : BitVec 32 := BitVec.ofNat 32 (i 1).val
  let v1688 : Index := Scalar.indexCast arg1
  let c42_931 : Index := 42#32
  let c3_932 : Index := 3#32
  ![v1688.toNat, 42, 3]
def k2_mult169 (v1683 : BitVec 32) : BitVec 32 :=
  let c64_i32_933 : BitVec 32 := 64#32
  let v1690 : BitVec 32 := Scalar.muli v1683 c64_i32_933
  v1690

def k2_off341 (v1683 : BitVec 32) : Fin 3 → Nat :=
  let c0_934 : Index := 0#32
  let c64_i32_933 : BitVec 32 := 64#32
  let v1690 : BitVec 32 := Scalar.muli v1683 c64_i32_933
  let v1691 : BitVec 32 := v1690
  let v1692 : Index := Scalar.indexCast v1691
  let c0_935 : Index := 0#32
  ![0, v1692.toNat, 0]

def k2_chk169 (v1683 : BitVec 32) : Prop :=
  (64 ∣ (k2_mult169 v1683).toNat) ∧
  (∀ a, (k2_off341 v1683) a + S1x64x384.size a ≤ S1x4096x384.size a)
theorem k2_mult169_dvd : ∀ (v1683 : BitVec 32) (k2_hw169 : k2_chk169 v1683), 64 ∣ (k2_mult169 v1683).toNat := fun v1683 k2_hw169 => k2_hw169.1
theorem k2_off341_inb : ∀ (v1683 : BitVec 32) (k2_hw169 : k2_chk169 v1683), ∀ a, (k2_off341 v1683) a + S1x64x384.size a ≤ S1x4096x384.size a := fun v1683 k2_hw169 => k2_hw169.2

def k2_mult170 (v1685 : BitVec 32) : BitVec 32 :=
  let c64_i32_936 : BitVec 32 := 64#32
  let v1695 : BitVec 32 := Scalar.muli v1685 c64_i32_936
  v1695

def k2_off342 (v1685 : BitVec 32) : Fin 3 → Nat :=
  let c0_937 : Index := 0#32
  let c64_i32_936 : BitVec 32 := 64#32
  let v1695 : BitVec 32 := Scalar.muli v1685 c64_i32_936
  let v1696 : BitVec 32 := v1695
  let v1697 : Index := Scalar.indexCast v1696
  let c0_938 : Index := 0#32
  ![0, v1697.toNat, 0]

def k2_chk170 (v1685 : BitVec 32) : Prop :=
  (64 ∣ (k2_mult170 v1685).toNat) ∧
  (∀ a, (k2_off342 v1685) a + S1x64x384.size a ≤ S1x4096x384.size a)
theorem k2_mult170_dvd : ∀ (v1685 : BitVec 32) (k2_hw170 : k2_chk170 v1685), 64 ∣ (k2_mult170 v1685).toNat := fun v1685 k2_hw170 => k2_hw170.1
theorem k2_off342_inb : ∀ (v1685 : BitVec 32) (k2_hw170 : k2_chk170 v1685), ∀ a, (k2_off342 v1685) a + S1x64x384.size a ≤ S1x4096x384.size a := fun v1685 k2_hw170 => k2_hw170.2

def k2_mult171 (v1687 : BitVec 32) : BitVec 32 :=
  let c64_i32_939 : BitVec 32 := 64#32
  let v1701 : BitVec 32 := Scalar.muli v1687 c64_i32_939
  v1701

def k2_off343 (v1687 : BitVec 32) : Fin 3 → Nat :=
  let c0_940 : Index := 0#32
  let c64_i32_939 : BitVec 32 := 64#32
  let v1701 : BitVec 32 := Scalar.muli v1687 c64_i32_939
  let v1702 : BitVec 32 := v1701
  let v1703 : Index := Scalar.indexCast v1702
  let c0_941 : Index := 0#32
  ![0, v1703.toNat, 0]

def k2_chk171 (v1687 : BitVec 32) : Prop :=
  (64 ∣ (k2_mult171 v1687).toNat) ∧
  (∀ a, (k2_off343 v1687) a + S1x64x384.size a ≤ S1x4096x384.size a)
theorem k2_mult171_dvd : ∀ (v1687 : BitVec 32) (k2_hw171 : k2_chk171 v1687), 64 ∣ (k2_mult171 v1687).toNat := fun v1687 k2_hw171 => k2_hw171.1
theorem k2_off343_inb : ∀ (v1687 : BitVec 32) (k2_hw171 : k2_chk171 v1687), ∀ a, (k2_off343 v1687) a + S1x64x384.size a ≤ S1x4096x384.size a := fun v1687 k2_hw171 => k2_hw171.2

def k2_mult172 (v1689 : BitVec 32) : BitVec 32 :=
  let c64_i32_942 : BitVec 32 := 64#32
  let v1707 : BitVec 32 := Scalar.muli v1689 c64_i32_942
  v1707

def k2_off344 (v1689 : BitVec 32) : Fin 3 → Nat :=
  let c0_943 : Index := 0#32
  let c64_i32_942 : BitVec 32 := 64#32
  let v1707 : BitVec 32 := Scalar.muli v1689 c64_i32_942
  let v1708 : BitVec 32 := v1707
  let v1709 : Index := Scalar.indexCast v1708
  let c0_944 : Index := 0#32
  ![0, v1709.toNat, 0]

def k2_chk172 (v1689 : BitVec 32) : Prop :=
  (64 ∣ (k2_mult172 v1689).toNat) ∧
  (∀ a, (k2_off344 v1689) a + S1x64x384.size a ≤ S1x4096x384.size a)
theorem k2_mult172_dvd : ∀ (v1689 : BitVec 32) (k2_hw172 : k2_chk172 v1689), 64 ∣ (k2_mult172 v1689).toNat := fun v1689 k2_hw172 => k2_hw172.1
theorem k2_off344_inb : ∀ (v1689 : BitVec 32) (k2_hw172 : k2_chk172 v1689), ∀ a, (k2_off344 v1689) a + S1x64x384.size a ≤ S1x4096x384.size a := fun v1689 k2_hw172 => k2_hw172.2

def k2_off345 (i : grid2.Coords) : Fin 3 → Nat :=
  let arg1 : BitVec 32 := BitVec.ofNat 32 (i 1).val
  let v1722 : Index := Scalar.indexCast arg1
  let c43 : Index := 43#32
  let c0_948 : Index := 0#32
  ![v1722.toNat, 43, 0]
def k2_off346 (i : grid2.Coords) : Fin 3 → Nat :=
  let arg1 : BitVec 32 := BitVec.ofNat 32 (i 1).val
  let v1724 : Index := Scalar.indexCast arg1
  let c43_949 : Index := 43#32
  let c1_950 : Index := 1#32
  ![v1724.toNat, 43, 1]
def k2_off347 (i : grid2.Coords) : Fin 3 → Nat :=
  let arg1 : BitVec 32 := BitVec.ofNat 32 (i 1).val
  let v1726 : Index := Scalar.indexCast arg1
  let c43_951 : Index := 43#32
  let c2_952 : Index := 2#32
  ![v1726.toNat, 43, 2]
def k2_off348 (i : grid2.Coords) : Fin 3 → Nat :=
  let arg1 : BitVec 32 := BitVec.ofNat 32 (i 1).val
  let v1728 : Index := Scalar.indexCast arg1
  let c43_953 : Index := 43#32
  let c3_954 : Index := 3#32
  ![v1728.toNat, 43, 3]
def k2_mult173 (v1723 : BitVec 32) : BitVec 32 :=
  let c64_i32_955 : BitVec 32 := 64#32
  let v1730 : BitVec 32 := Scalar.muli v1723 c64_i32_955
  v1730

def k2_off349 (v1723 : BitVec 32) : Fin 3 → Nat :=
  let c0_956 : Index := 0#32
  let c64_i32_955 : BitVec 32 := 64#32
  let v1730 : BitVec 32 := Scalar.muli v1723 c64_i32_955
  let v1731 : BitVec 32 := v1730
  let v1732 : Index := Scalar.indexCast v1731
  let c0_957 : Index := 0#32
  ![0, v1732.toNat, 0]

def k2_chk173 (v1723 : BitVec 32) : Prop :=
  (64 ∣ (k2_mult173 v1723).toNat) ∧
  (∀ a, (k2_off349 v1723) a + S1x64x384.size a ≤ S1x4096x384.size a)
theorem k2_mult173_dvd : ∀ (v1723 : BitVec 32) (k2_hw173 : k2_chk173 v1723), 64 ∣ (k2_mult173 v1723).toNat := fun v1723 k2_hw173 => k2_hw173.1
theorem k2_off349_inb : ∀ (v1723 : BitVec 32) (k2_hw173 : k2_chk173 v1723), ∀ a, (k2_off349 v1723) a + S1x64x384.size a ≤ S1x4096x384.size a := fun v1723 k2_hw173 => k2_hw173.2

def k2_mult174 (v1725 : BitVec 32) : BitVec 32 :=
  let c64_i32_958 : BitVec 32 := 64#32
  let v1735 : BitVec 32 := Scalar.muli v1725 c64_i32_958
  v1735

def k2_off350 (v1725 : BitVec 32) : Fin 3 → Nat :=
  let c0_959 : Index := 0#32
  let c64_i32_958 : BitVec 32 := 64#32
  let v1735 : BitVec 32 := Scalar.muli v1725 c64_i32_958
  let v1736 : BitVec 32 := v1735
  let v1737 : Index := Scalar.indexCast v1736
  let c0_960 : Index := 0#32
  ![0, v1737.toNat, 0]

def k2_chk174 (v1725 : BitVec 32) : Prop :=
  (64 ∣ (k2_mult174 v1725).toNat) ∧
  (∀ a, (k2_off350 v1725) a + S1x64x384.size a ≤ S1x4096x384.size a)
theorem k2_mult174_dvd : ∀ (v1725 : BitVec 32) (k2_hw174 : k2_chk174 v1725), 64 ∣ (k2_mult174 v1725).toNat := fun v1725 k2_hw174 => k2_hw174.1
theorem k2_off350_inb : ∀ (v1725 : BitVec 32) (k2_hw174 : k2_chk174 v1725), ∀ a, (k2_off350 v1725) a + S1x64x384.size a ≤ S1x4096x384.size a := fun v1725 k2_hw174 => k2_hw174.2

def k2_mult175 (v1727 : BitVec 32) : BitVec 32 :=
  let c64_i32_961 : BitVec 32 := 64#32
  let v1741 : BitVec 32 := Scalar.muli v1727 c64_i32_961
  v1741

def k2_off351 (v1727 : BitVec 32) : Fin 3 → Nat :=
  let c0_962 : Index := 0#32
  let c64_i32_961 : BitVec 32 := 64#32
  let v1741 : BitVec 32 := Scalar.muli v1727 c64_i32_961
  let v1742 : BitVec 32 := v1741
  let v1743 : Index := Scalar.indexCast v1742
  let c0_963 : Index := 0#32
  ![0, v1743.toNat, 0]

def k2_chk175 (v1727 : BitVec 32) : Prop :=
  (64 ∣ (k2_mult175 v1727).toNat) ∧
  (∀ a, (k2_off351 v1727) a + S1x64x384.size a ≤ S1x4096x384.size a)
theorem k2_mult175_dvd : ∀ (v1727 : BitVec 32) (k2_hw175 : k2_chk175 v1727), 64 ∣ (k2_mult175 v1727).toNat := fun v1727 k2_hw175 => k2_hw175.1
theorem k2_off351_inb : ∀ (v1727 : BitVec 32) (k2_hw175 : k2_chk175 v1727), ∀ a, (k2_off351 v1727) a + S1x64x384.size a ≤ S1x4096x384.size a := fun v1727 k2_hw175 => k2_hw175.2

def k2_mult176 (v1729 : BitVec 32) : BitVec 32 :=
  let c64_i32_964 : BitVec 32 := 64#32
  let v1747 : BitVec 32 := Scalar.muli v1729 c64_i32_964
  v1747

def k2_off352 (v1729 : BitVec 32) : Fin 3 → Nat :=
  let c0_965 : Index := 0#32
  let c64_i32_964 : BitVec 32 := 64#32
  let v1747 : BitVec 32 := Scalar.muli v1729 c64_i32_964
  let v1748 : BitVec 32 := v1747
  let v1749 : Index := Scalar.indexCast v1748
  let c0_966 : Index := 0#32
  ![0, v1749.toNat, 0]

def k2_chk176 (v1729 : BitVec 32) : Prop :=
  (64 ∣ (k2_mult176 v1729).toNat) ∧
  (∀ a, (k2_off352 v1729) a + S1x64x384.size a ≤ S1x4096x384.size a)
theorem k2_mult176_dvd : ∀ (v1729 : BitVec 32) (k2_hw176 : k2_chk176 v1729), 64 ∣ (k2_mult176 v1729).toNat := fun v1729 k2_hw176 => k2_hw176.1
theorem k2_off352_inb : ∀ (v1729 : BitVec 32) (k2_hw176 : k2_chk176 v1729), ∀ a, (k2_off352 v1729) a + S1x64x384.size a ≤ S1x4096x384.size a := fun v1729 k2_hw176 => k2_hw176.2

def k2_off353 (i : grid2.Coords) : Fin 3 → Nat :=
  let arg1 : BitVec 32 := BitVec.ofNat 32 (i 1).val
  let v1762 : Index := Scalar.indexCast arg1
  let c44 : Index := 44#32
  let c0_970 : Index := 0#32
  ![v1762.toNat, 44, 0]
def k2_off354 (i : grid2.Coords) : Fin 3 → Nat :=
  let arg1 : BitVec 32 := BitVec.ofNat 32 (i 1).val
  let v1764 : Index := Scalar.indexCast arg1
  let c44_971 : Index := 44#32
  let c1_972 : Index := 1#32
  ![v1764.toNat, 44, 1]
def k2_off355 (i : grid2.Coords) : Fin 3 → Nat :=
  let arg1 : BitVec 32 := BitVec.ofNat 32 (i 1).val
  let v1766 : Index := Scalar.indexCast arg1
  let c44_973 : Index := 44#32
  let c2_974 : Index := 2#32
  ![v1766.toNat, 44, 2]
def k2_off356 (i : grid2.Coords) : Fin 3 → Nat :=
  let arg1 : BitVec 32 := BitVec.ofNat 32 (i 1).val
  let v1768 : Index := Scalar.indexCast arg1
  let c44_975 : Index := 44#32
  let c3_976 : Index := 3#32
  ![v1768.toNat, 44, 3]
def k2_mult177 (v1763 : BitVec 32) : BitVec 32 :=
  let c64_i32_977 : BitVec 32 := 64#32
  let v1770 : BitVec 32 := Scalar.muli v1763 c64_i32_977
  v1770

def k2_off357 (v1763 : BitVec 32) : Fin 3 → Nat :=
  let c0_978 : Index := 0#32
  let c64_i32_977 : BitVec 32 := 64#32
  let v1770 : BitVec 32 := Scalar.muli v1763 c64_i32_977
  let v1771 : BitVec 32 := v1770
  let v1772 : Index := Scalar.indexCast v1771
  let c0_979 : Index := 0#32
  ![0, v1772.toNat, 0]

def k2_chk177 (v1763 : BitVec 32) : Prop :=
  (64 ∣ (k2_mult177 v1763).toNat) ∧
  (∀ a, (k2_off357 v1763) a + S1x64x384.size a ≤ S1x4096x384.size a)
theorem k2_mult177_dvd : ∀ (v1763 : BitVec 32) (k2_hw177 : k2_chk177 v1763), 64 ∣ (k2_mult177 v1763).toNat := fun v1763 k2_hw177 => k2_hw177.1
theorem k2_off357_inb : ∀ (v1763 : BitVec 32) (k2_hw177 : k2_chk177 v1763), ∀ a, (k2_off357 v1763) a + S1x64x384.size a ≤ S1x4096x384.size a := fun v1763 k2_hw177 => k2_hw177.2

def k2_mult178 (v1765 : BitVec 32) : BitVec 32 :=
  let c64_i32_980 : BitVec 32 := 64#32
  let v1775 : BitVec 32 := Scalar.muli v1765 c64_i32_980
  v1775

def k2_off358 (v1765 : BitVec 32) : Fin 3 → Nat :=
  let c0_981 : Index := 0#32
  let c64_i32_980 : BitVec 32 := 64#32
  let v1775 : BitVec 32 := Scalar.muli v1765 c64_i32_980
  let v1776 : BitVec 32 := v1775
  let v1777 : Index := Scalar.indexCast v1776
  let c0_982 : Index := 0#32
  ![0, v1777.toNat, 0]

def k2_chk178 (v1765 : BitVec 32) : Prop :=
  (64 ∣ (k2_mult178 v1765).toNat) ∧
  (∀ a, (k2_off358 v1765) a + S1x64x384.size a ≤ S1x4096x384.size a)
theorem k2_mult178_dvd : ∀ (v1765 : BitVec 32) (k2_hw178 : k2_chk178 v1765), 64 ∣ (k2_mult178 v1765).toNat := fun v1765 k2_hw178 => k2_hw178.1
theorem k2_off358_inb : ∀ (v1765 : BitVec 32) (k2_hw178 : k2_chk178 v1765), ∀ a, (k2_off358 v1765) a + S1x64x384.size a ≤ S1x4096x384.size a := fun v1765 k2_hw178 => k2_hw178.2

def k2_mult179 (v1767 : BitVec 32) : BitVec 32 :=
  let c64_i32_983 : BitVec 32 := 64#32
  let v1781 : BitVec 32 := Scalar.muli v1767 c64_i32_983
  v1781

def k2_off359 (v1767 : BitVec 32) : Fin 3 → Nat :=
  let c0_984 : Index := 0#32
  let c64_i32_983 : BitVec 32 := 64#32
  let v1781 : BitVec 32 := Scalar.muli v1767 c64_i32_983
  let v1782 : BitVec 32 := v1781
  let v1783 : Index := Scalar.indexCast v1782
  let c0_985 : Index := 0#32
  ![0, v1783.toNat, 0]

def k2_chk179 (v1767 : BitVec 32) : Prop :=
  (64 ∣ (k2_mult179 v1767).toNat) ∧
  (∀ a, (k2_off359 v1767) a + S1x64x384.size a ≤ S1x4096x384.size a)
theorem k2_mult179_dvd : ∀ (v1767 : BitVec 32) (k2_hw179 : k2_chk179 v1767), 64 ∣ (k2_mult179 v1767).toNat := fun v1767 k2_hw179 => k2_hw179.1
theorem k2_off359_inb : ∀ (v1767 : BitVec 32) (k2_hw179 : k2_chk179 v1767), ∀ a, (k2_off359 v1767) a + S1x64x384.size a ≤ S1x4096x384.size a := fun v1767 k2_hw179 => k2_hw179.2

def k2_mult180 (v1769 : BitVec 32) : BitVec 32 :=
  let c64_i32_986 : BitVec 32 := 64#32
  let v1787 : BitVec 32 := Scalar.muli v1769 c64_i32_986
  v1787

def k2_off360 (v1769 : BitVec 32) : Fin 3 → Nat :=
  let c0_987 : Index := 0#32
  let c64_i32_986 : BitVec 32 := 64#32
  let v1787 : BitVec 32 := Scalar.muli v1769 c64_i32_986
  let v1788 : BitVec 32 := v1787
  let v1789 : Index := Scalar.indexCast v1788
  let c0_988 : Index := 0#32
  ![0, v1789.toNat, 0]

def k2_chk180 (v1769 : BitVec 32) : Prop :=
  (64 ∣ (k2_mult180 v1769).toNat) ∧
  (∀ a, (k2_off360 v1769) a + S1x64x384.size a ≤ S1x4096x384.size a)
theorem k2_mult180_dvd : ∀ (v1769 : BitVec 32) (k2_hw180 : k2_chk180 v1769), 64 ∣ (k2_mult180 v1769).toNat := fun v1769 k2_hw180 => k2_hw180.1
theorem k2_off360_inb : ∀ (v1769 : BitVec 32) (k2_hw180 : k2_chk180 v1769), ∀ a, (k2_off360 v1769) a + S1x64x384.size a ≤ S1x4096x384.size a := fun v1769 k2_hw180 => k2_hw180.2

def k2_off361 (i : grid2.Coords) : Fin 3 → Nat :=
  let arg1 : BitVec 32 := BitVec.ofNat 32 (i 1).val
  let v1802 : Index := Scalar.indexCast arg1
  let c45 : Index := 45#32
  let c0_992 : Index := 0#32
  ![v1802.toNat, 45, 0]
def k2_off362 (i : grid2.Coords) : Fin 3 → Nat :=
  let arg1 : BitVec 32 := BitVec.ofNat 32 (i 1).val
  let v1804 : Index := Scalar.indexCast arg1
  let c45_993 : Index := 45#32
  let c1_994 : Index := 1#32
  ![v1804.toNat, 45, 1]
def k2_off363 (i : grid2.Coords) : Fin 3 → Nat :=
  let arg1 : BitVec 32 := BitVec.ofNat 32 (i 1).val
  let v1806 : Index := Scalar.indexCast arg1
  let c45_995 : Index := 45#32
  let c2_996 : Index := 2#32
  ![v1806.toNat, 45, 2]
def k2_off364 (i : grid2.Coords) : Fin 3 → Nat :=
  let arg1 : BitVec 32 := BitVec.ofNat 32 (i 1).val
  let v1808 : Index := Scalar.indexCast arg1
  let c45_997 : Index := 45#32
  let c3_998 : Index := 3#32
  ![v1808.toNat, 45, 3]
def k2_mult181 (v1803 : BitVec 32) : BitVec 32 :=
  let c64_i32_999 : BitVec 32 := 64#32
  let v1810 : BitVec 32 := Scalar.muli v1803 c64_i32_999
  v1810

def k2_off365 (v1803 : BitVec 32) : Fin 3 → Nat :=
  let c0_1000 : Index := 0#32
  let c64_i32_999 : BitVec 32 := 64#32
  let v1810 : BitVec 32 := Scalar.muli v1803 c64_i32_999
  let v1811 : BitVec 32 := v1810
  let v1812 : Index := Scalar.indexCast v1811
  let c0_1001 : Index := 0#32
  ![0, v1812.toNat, 0]

def k2_chk181 (v1803 : BitVec 32) : Prop :=
  (64 ∣ (k2_mult181 v1803).toNat) ∧
  (∀ a, (k2_off365 v1803) a + S1x64x384.size a ≤ S1x4096x384.size a)
theorem k2_mult181_dvd : ∀ (v1803 : BitVec 32) (k2_hw181 : k2_chk181 v1803), 64 ∣ (k2_mult181 v1803).toNat := fun v1803 k2_hw181 => k2_hw181.1
theorem k2_off365_inb : ∀ (v1803 : BitVec 32) (k2_hw181 : k2_chk181 v1803), ∀ a, (k2_off365 v1803) a + S1x64x384.size a ≤ S1x4096x384.size a := fun v1803 k2_hw181 => k2_hw181.2

def k2_mult182 (v1805 : BitVec 32) : BitVec 32 :=
  let c64_i32_1002 : BitVec 32 := 64#32
  let v1815 : BitVec 32 := Scalar.muli v1805 c64_i32_1002
  v1815

def k2_off366 (v1805 : BitVec 32) : Fin 3 → Nat :=
  let c0_1003 : Index := 0#32
  let c64_i32_1002 : BitVec 32 := 64#32
  let v1815 : BitVec 32 := Scalar.muli v1805 c64_i32_1002
  let v1816 : BitVec 32 := v1815
  let v1817 : Index := Scalar.indexCast v1816
  let c0_1004 : Index := 0#32
  ![0, v1817.toNat, 0]

def k2_chk182 (v1805 : BitVec 32) : Prop :=
  (64 ∣ (k2_mult182 v1805).toNat) ∧
  (∀ a, (k2_off366 v1805) a + S1x64x384.size a ≤ S1x4096x384.size a)
theorem k2_mult182_dvd : ∀ (v1805 : BitVec 32) (k2_hw182 : k2_chk182 v1805), 64 ∣ (k2_mult182 v1805).toNat := fun v1805 k2_hw182 => k2_hw182.1
theorem k2_off366_inb : ∀ (v1805 : BitVec 32) (k2_hw182 : k2_chk182 v1805), ∀ a, (k2_off366 v1805) a + S1x64x384.size a ≤ S1x4096x384.size a := fun v1805 k2_hw182 => k2_hw182.2

def k2_mult183 (v1807 : BitVec 32) : BitVec 32 :=
  let c64_i32_1005 : BitVec 32 := 64#32
  let v1821 : BitVec 32 := Scalar.muli v1807 c64_i32_1005
  v1821

def k2_off367 (v1807 : BitVec 32) : Fin 3 → Nat :=
  let c0_1006 : Index := 0#32
  let c64_i32_1005 : BitVec 32 := 64#32
  let v1821 : BitVec 32 := Scalar.muli v1807 c64_i32_1005
  let v1822 : BitVec 32 := v1821
  let v1823 : Index := Scalar.indexCast v1822
  let c0_1007 : Index := 0#32
  ![0, v1823.toNat, 0]

def k2_chk183 (v1807 : BitVec 32) : Prop :=
  (64 ∣ (k2_mult183 v1807).toNat) ∧
  (∀ a, (k2_off367 v1807) a + S1x64x384.size a ≤ S1x4096x384.size a)
theorem k2_mult183_dvd : ∀ (v1807 : BitVec 32) (k2_hw183 : k2_chk183 v1807), 64 ∣ (k2_mult183 v1807).toNat := fun v1807 k2_hw183 => k2_hw183.1
theorem k2_off367_inb : ∀ (v1807 : BitVec 32) (k2_hw183 : k2_chk183 v1807), ∀ a, (k2_off367 v1807) a + S1x64x384.size a ≤ S1x4096x384.size a := fun v1807 k2_hw183 => k2_hw183.2

def k2_mult184 (v1809 : BitVec 32) : BitVec 32 :=
  let c64_i32_1008 : BitVec 32 := 64#32
  let v1827 : BitVec 32 := Scalar.muli v1809 c64_i32_1008
  v1827

def k2_off368 (v1809 : BitVec 32) : Fin 3 → Nat :=
  let c0_1009 : Index := 0#32
  let c64_i32_1008 : BitVec 32 := 64#32
  let v1827 : BitVec 32 := Scalar.muli v1809 c64_i32_1008
  let v1828 : BitVec 32 := v1827
  let v1829 : Index := Scalar.indexCast v1828
  let c0_1010 : Index := 0#32
  ![0, v1829.toNat, 0]

def k2_chk184 (v1809 : BitVec 32) : Prop :=
  (64 ∣ (k2_mult184 v1809).toNat) ∧
  (∀ a, (k2_off368 v1809) a + S1x64x384.size a ≤ S1x4096x384.size a)
theorem k2_mult184_dvd : ∀ (v1809 : BitVec 32) (k2_hw184 : k2_chk184 v1809), 64 ∣ (k2_mult184 v1809).toNat := fun v1809 k2_hw184 => k2_hw184.1
theorem k2_off368_inb : ∀ (v1809 : BitVec 32) (k2_hw184 : k2_chk184 v1809), ∀ a, (k2_off368 v1809) a + S1x64x384.size a ≤ S1x4096x384.size a := fun v1809 k2_hw184 => k2_hw184.2

def k2_off369 (i : grid2.Coords) : Fin 3 → Nat :=
  let arg1 : BitVec 32 := BitVec.ofNat 32 (i 1).val
  let v1842 : Index := Scalar.indexCast arg1
  let c46 : Index := 46#32
  let c0_1014 : Index := 0#32
  ![v1842.toNat, 46, 0]
def k2_off370 (i : grid2.Coords) : Fin 3 → Nat :=
  let arg1 : BitVec 32 := BitVec.ofNat 32 (i 1).val
  let v1844 : Index := Scalar.indexCast arg1
  let c46_1015 : Index := 46#32
  let c1_1016 : Index := 1#32
  ![v1844.toNat, 46, 1]
def k2_off371 (i : grid2.Coords) : Fin 3 → Nat :=
  let arg1 : BitVec 32 := BitVec.ofNat 32 (i 1).val
  let v1846 : Index := Scalar.indexCast arg1
  let c46_1017 : Index := 46#32
  let c2_1018 : Index := 2#32
  ![v1846.toNat, 46, 2]
def k2_off372 (i : grid2.Coords) : Fin 3 → Nat :=
  let arg1 : BitVec 32 := BitVec.ofNat 32 (i 1).val
  let v1848 : Index := Scalar.indexCast arg1
  let c46_1019 : Index := 46#32
  let c3_1020 : Index := 3#32
  ![v1848.toNat, 46, 3]
def k2_mult185 (v1843 : BitVec 32) : BitVec 32 :=
  let c64_i32_1021 : BitVec 32 := 64#32
  let v1850 : BitVec 32 := Scalar.muli v1843 c64_i32_1021
  v1850

def k2_off373 (v1843 : BitVec 32) : Fin 3 → Nat :=
  let c0_1022 : Index := 0#32
  let c64_i32_1021 : BitVec 32 := 64#32
  let v1850 : BitVec 32 := Scalar.muli v1843 c64_i32_1021
  let v1851 : BitVec 32 := v1850
  let v1852 : Index := Scalar.indexCast v1851
  let c0_1023 : Index := 0#32
  ![0, v1852.toNat, 0]

def k2_chk185 (v1843 : BitVec 32) : Prop :=
  (64 ∣ (k2_mult185 v1843).toNat) ∧
  (∀ a, (k2_off373 v1843) a + S1x64x384.size a ≤ S1x4096x384.size a)
theorem k2_mult185_dvd : ∀ (v1843 : BitVec 32) (k2_hw185 : k2_chk185 v1843), 64 ∣ (k2_mult185 v1843).toNat := fun v1843 k2_hw185 => k2_hw185.1
theorem k2_off373_inb : ∀ (v1843 : BitVec 32) (k2_hw185 : k2_chk185 v1843), ∀ a, (k2_off373 v1843) a + S1x64x384.size a ≤ S1x4096x384.size a := fun v1843 k2_hw185 => k2_hw185.2

def k2_mult186 (v1845 : BitVec 32) : BitVec 32 :=
  let c64_i32_1024 : BitVec 32 := 64#32
  let v1855 : BitVec 32 := Scalar.muli v1845 c64_i32_1024
  v1855

def k2_off374 (v1845 : BitVec 32) : Fin 3 → Nat :=
  let c0_1025 : Index := 0#32
  let c64_i32_1024 : BitVec 32 := 64#32
  let v1855 : BitVec 32 := Scalar.muli v1845 c64_i32_1024
  let v1856 : BitVec 32 := v1855
  let v1857 : Index := Scalar.indexCast v1856
  let c0_1026 : Index := 0#32
  ![0, v1857.toNat, 0]

def k2_chk186 (v1845 : BitVec 32) : Prop :=
  (64 ∣ (k2_mult186 v1845).toNat) ∧
  (∀ a, (k2_off374 v1845) a + S1x64x384.size a ≤ S1x4096x384.size a)
theorem k2_mult186_dvd : ∀ (v1845 : BitVec 32) (k2_hw186 : k2_chk186 v1845), 64 ∣ (k2_mult186 v1845).toNat := fun v1845 k2_hw186 => k2_hw186.1
theorem k2_off374_inb : ∀ (v1845 : BitVec 32) (k2_hw186 : k2_chk186 v1845), ∀ a, (k2_off374 v1845) a + S1x64x384.size a ≤ S1x4096x384.size a := fun v1845 k2_hw186 => k2_hw186.2

def k2_mult187 (v1847 : BitVec 32) : BitVec 32 :=
  let c64_i32_1027 : BitVec 32 := 64#32
  let v1861 : BitVec 32 := Scalar.muli v1847 c64_i32_1027
  v1861

def k2_off375 (v1847 : BitVec 32) : Fin 3 → Nat :=
  let c0_1028 : Index := 0#32
  let c64_i32_1027 : BitVec 32 := 64#32
  let v1861 : BitVec 32 := Scalar.muli v1847 c64_i32_1027
  let v1862 : BitVec 32 := v1861
  let v1863 : Index := Scalar.indexCast v1862
  let c0_1029 : Index := 0#32
  ![0, v1863.toNat, 0]

def k2_chk187 (v1847 : BitVec 32) : Prop :=
  (64 ∣ (k2_mult187 v1847).toNat) ∧
  (∀ a, (k2_off375 v1847) a + S1x64x384.size a ≤ S1x4096x384.size a)
theorem k2_mult187_dvd : ∀ (v1847 : BitVec 32) (k2_hw187 : k2_chk187 v1847), 64 ∣ (k2_mult187 v1847).toNat := fun v1847 k2_hw187 => k2_hw187.1
theorem k2_off375_inb : ∀ (v1847 : BitVec 32) (k2_hw187 : k2_chk187 v1847), ∀ a, (k2_off375 v1847) a + S1x64x384.size a ≤ S1x4096x384.size a := fun v1847 k2_hw187 => k2_hw187.2

def k2_mult188 (v1849 : BitVec 32) : BitVec 32 :=
  let c64_i32_1030 : BitVec 32 := 64#32
  let v1867 : BitVec 32 := Scalar.muli v1849 c64_i32_1030
  v1867

def k2_off376 (v1849 : BitVec 32) : Fin 3 → Nat :=
  let c0_1031 : Index := 0#32
  let c64_i32_1030 : BitVec 32 := 64#32
  let v1867 : BitVec 32 := Scalar.muli v1849 c64_i32_1030
  let v1868 : BitVec 32 := v1867
  let v1869 : Index := Scalar.indexCast v1868
  let c0_1032 : Index := 0#32
  ![0, v1869.toNat, 0]

def k2_chk188 (v1849 : BitVec 32) : Prop :=
  (64 ∣ (k2_mult188 v1849).toNat) ∧
  (∀ a, (k2_off376 v1849) a + S1x64x384.size a ≤ S1x4096x384.size a)
theorem k2_mult188_dvd : ∀ (v1849 : BitVec 32) (k2_hw188 : k2_chk188 v1849), 64 ∣ (k2_mult188 v1849).toNat := fun v1849 k2_hw188 => k2_hw188.1
theorem k2_off376_inb : ∀ (v1849 : BitVec 32) (k2_hw188 : k2_chk188 v1849), ∀ a, (k2_off376 v1849) a + S1x64x384.size a ≤ S1x4096x384.size a := fun v1849 k2_hw188 => k2_hw188.2

def k2_off377 (i : grid2.Coords) : Fin 3 → Nat :=
  let arg1 : BitVec 32 := BitVec.ofNat 32 (i 1).val
  let v1882 : Index := Scalar.indexCast arg1
  let c47 : Index := 47#32
  let c0_1036 : Index := 0#32
  ![v1882.toNat, 47, 0]
def k2_off378 (i : grid2.Coords) : Fin 3 → Nat :=
  let arg1 : BitVec 32 := BitVec.ofNat 32 (i 1).val
  let v1884 : Index := Scalar.indexCast arg1
  let c47_1037 : Index := 47#32
  let c1_1038 : Index := 1#32
  ![v1884.toNat, 47, 1]
def k2_off379 (i : grid2.Coords) : Fin 3 → Nat :=
  let arg1 : BitVec 32 := BitVec.ofNat 32 (i 1).val
  let v1886 : Index := Scalar.indexCast arg1
  let c47_1039 : Index := 47#32
  let c2_1040 : Index := 2#32
  ![v1886.toNat, 47, 2]
def k2_off380 (i : grid2.Coords) : Fin 3 → Nat :=
  let arg1 : BitVec 32 := BitVec.ofNat 32 (i 1).val
  let v1888 : Index := Scalar.indexCast arg1
  let c47_1041 : Index := 47#32
  let c3_1042 : Index := 3#32
  ![v1888.toNat, 47, 3]
def k2_mult189 (v1883 : BitVec 32) : BitVec 32 :=
  let c64_i32_1043 : BitVec 32 := 64#32
  let v1890 : BitVec 32 := Scalar.muli v1883 c64_i32_1043
  v1890

def k2_off381 (v1883 : BitVec 32) : Fin 3 → Nat :=
  let c0_1044 : Index := 0#32
  let c64_i32_1043 : BitVec 32 := 64#32
  let v1890 : BitVec 32 := Scalar.muli v1883 c64_i32_1043
  let v1891 : BitVec 32 := v1890
  let v1892 : Index := Scalar.indexCast v1891
  let c0_1045 : Index := 0#32
  ![0, v1892.toNat, 0]

def k2_chk189 (v1883 : BitVec 32) : Prop :=
  (64 ∣ (k2_mult189 v1883).toNat) ∧
  (∀ a, (k2_off381 v1883) a + S1x64x384.size a ≤ S1x4096x384.size a)
theorem k2_mult189_dvd : ∀ (v1883 : BitVec 32) (k2_hw189 : k2_chk189 v1883), 64 ∣ (k2_mult189 v1883).toNat := fun v1883 k2_hw189 => k2_hw189.1
theorem k2_off381_inb : ∀ (v1883 : BitVec 32) (k2_hw189 : k2_chk189 v1883), ∀ a, (k2_off381 v1883) a + S1x64x384.size a ≤ S1x4096x384.size a := fun v1883 k2_hw189 => k2_hw189.2

def k2_mult190 (v1885 : BitVec 32) : BitVec 32 :=
  let c64_i32_1046 : BitVec 32 := 64#32
  let v1895 : BitVec 32 := Scalar.muli v1885 c64_i32_1046
  v1895

def k2_off382 (v1885 : BitVec 32) : Fin 3 → Nat :=
  let c0_1047 : Index := 0#32
  let c64_i32_1046 : BitVec 32 := 64#32
  let v1895 : BitVec 32 := Scalar.muli v1885 c64_i32_1046
  let v1896 : BitVec 32 := v1895
  let v1897 : Index := Scalar.indexCast v1896
  let c0_1048 : Index := 0#32
  ![0, v1897.toNat, 0]

def k2_chk190 (v1885 : BitVec 32) : Prop :=
  (64 ∣ (k2_mult190 v1885).toNat) ∧
  (∀ a, (k2_off382 v1885) a + S1x64x384.size a ≤ S1x4096x384.size a)
theorem k2_mult190_dvd : ∀ (v1885 : BitVec 32) (k2_hw190 : k2_chk190 v1885), 64 ∣ (k2_mult190 v1885).toNat := fun v1885 k2_hw190 => k2_hw190.1
theorem k2_off382_inb : ∀ (v1885 : BitVec 32) (k2_hw190 : k2_chk190 v1885), ∀ a, (k2_off382 v1885) a + S1x64x384.size a ≤ S1x4096x384.size a := fun v1885 k2_hw190 => k2_hw190.2

def k2_mult191 (v1887 : BitVec 32) : BitVec 32 :=
  let c64_i32_1049 : BitVec 32 := 64#32
  let v1901 : BitVec 32 := Scalar.muli v1887 c64_i32_1049
  v1901

def k2_off383 (v1887 : BitVec 32) : Fin 3 → Nat :=
  let c0_1050 : Index := 0#32
  let c64_i32_1049 : BitVec 32 := 64#32
  let v1901 : BitVec 32 := Scalar.muli v1887 c64_i32_1049
  let v1902 : BitVec 32 := v1901
  let v1903 : Index := Scalar.indexCast v1902
  let c0_1051 : Index := 0#32
  ![0, v1903.toNat, 0]

def k2_chk191 (v1887 : BitVec 32) : Prop :=
  (64 ∣ (k2_mult191 v1887).toNat) ∧
  (∀ a, (k2_off383 v1887) a + S1x64x384.size a ≤ S1x4096x384.size a)
theorem k2_mult191_dvd : ∀ (v1887 : BitVec 32) (k2_hw191 : k2_chk191 v1887), 64 ∣ (k2_mult191 v1887).toNat := fun v1887 k2_hw191 => k2_hw191.1
theorem k2_off383_inb : ∀ (v1887 : BitVec 32) (k2_hw191 : k2_chk191 v1887), ∀ a, (k2_off383 v1887) a + S1x64x384.size a ≤ S1x4096x384.size a := fun v1887 k2_hw191 => k2_hw191.2

def k2_mult192 (v1889 : BitVec 32) : BitVec 32 :=
  let c64_i32_1052 : BitVec 32 := 64#32
  let v1907 : BitVec 32 := Scalar.muli v1889 c64_i32_1052
  v1907

def k2_off384 (v1889 : BitVec 32) : Fin 3 → Nat :=
  let c0_1053 : Index := 0#32
  let c64_i32_1052 : BitVec 32 := 64#32
  let v1907 : BitVec 32 := Scalar.muli v1889 c64_i32_1052
  let v1908 : BitVec 32 := v1907
  let v1909 : Index := Scalar.indexCast v1908
  let c0_1054 : Index := 0#32
  ![0, v1909.toNat, 0]

def k2_chk192 (v1889 : BitVec 32) : Prop :=
  (64 ∣ (k2_mult192 v1889).toNat) ∧
  (∀ a, (k2_off384 v1889) a + S1x64x384.size a ≤ S1x4096x384.size a)
theorem k2_mult192_dvd : ∀ (v1889 : BitVec 32) (k2_hw192 : k2_chk192 v1889), 64 ∣ (k2_mult192 v1889).toNat := fun v1889 k2_hw192 => k2_hw192.1
theorem k2_off384_inb : ∀ (v1889 : BitVec 32) (k2_hw192 : k2_chk192 v1889), ∀ a, (k2_off384 v1889) a + S1x64x384.size a ≤ S1x4096x384.size a := fun v1889 k2_hw192 => k2_hw192.2

def k2_off385 (i : grid2.Coords) : Fin 3 → Nat :=
  let arg1 : BitVec 32 := BitVec.ofNat 32 (i 1).val
  let v1922 : Index := Scalar.indexCast arg1
  let c48 : Index := 48#32
  let c0_1058 : Index := 0#32
  ![v1922.toNat, 48, 0]
def k2_off386 (i : grid2.Coords) : Fin 3 → Nat :=
  let arg1 : BitVec 32 := BitVec.ofNat 32 (i 1).val
  let v1924 : Index := Scalar.indexCast arg1
  let c48_1059 : Index := 48#32
  let c1_1060 : Index := 1#32
  ![v1924.toNat, 48, 1]
def k2_off387 (i : grid2.Coords) : Fin 3 → Nat :=
  let arg1 : BitVec 32 := BitVec.ofNat 32 (i 1).val
  let v1926 : Index := Scalar.indexCast arg1
  let c48_1061 : Index := 48#32
  let c2_1062 : Index := 2#32
  ![v1926.toNat, 48, 2]
def k2_off388 (i : grid2.Coords) : Fin 3 → Nat :=
  let arg1 : BitVec 32 := BitVec.ofNat 32 (i 1).val
  let v1928 : Index := Scalar.indexCast arg1
  let c48_1063 : Index := 48#32
  let c3_1064 : Index := 3#32
  ![v1928.toNat, 48, 3]
def k2_mult193 (v1923 : BitVec 32) : BitVec 32 :=
  let c64_i32_1065 : BitVec 32 := 64#32
  let v1930 : BitVec 32 := Scalar.muli v1923 c64_i32_1065
  v1930

def k2_off389 (v1923 : BitVec 32) : Fin 3 → Nat :=
  let c0_1066 : Index := 0#32
  let c64_i32_1065 : BitVec 32 := 64#32
  let v1930 : BitVec 32 := Scalar.muli v1923 c64_i32_1065
  let v1931 : BitVec 32 := v1930
  let v1932 : Index := Scalar.indexCast v1931
  let c0_1067 : Index := 0#32
  ![0, v1932.toNat, 0]

def k2_chk193 (v1923 : BitVec 32) : Prop :=
  (64 ∣ (k2_mult193 v1923).toNat) ∧
  (∀ a, (k2_off389 v1923) a + S1x64x384.size a ≤ S1x4096x384.size a)
theorem k2_mult193_dvd : ∀ (v1923 : BitVec 32) (k2_hw193 : k2_chk193 v1923), 64 ∣ (k2_mult193 v1923).toNat := fun v1923 k2_hw193 => k2_hw193.1
theorem k2_off389_inb : ∀ (v1923 : BitVec 32) (k2_hw193 : k2_chk193 v1923), ∀ a, (k2_off389 v1923) a + S1x64x384.size a ≤ S1x4096x384.size a := fun v1923 k2_hw193 => k2_hw193.2

def k2_mult194 (v1925 : BitVec 32) : BitVec 32 :=
  let c64_i32_1068 : BitVec 32 := 64#32
  let v1935 : BitVec 32 := Scalar.muli v1925 c64_i32_1068
  v1935

def k2_off390 (v1925 : BitVec 32) : Fin 3 → Nat :=
  let c0_1069 : Index := 0#32
  let c64_i32_1068 : BitVec 32 := 64#32
  let v1935 : BitVec 32 := Scalar.muli v1925 c64_i32_1068
  let v1936 : BitVec 32 := v1935
  let v1937 : Index := Scalar.indexCast v1936
  let c0_1070 : Index := 0#32
  ![0, v1937.toNat, 0]

def k2_chk194 (v1925 : BitVec 32) : Prop :=
  (64 ∣ (k2_mult194 v1925).toNat) ∧
  (∀ a, (k2_off390 v1925) a + S1x64x384.size a ≤ S1x4096x384.size a)
theorem k2_mult194_dvd : ∀ (v1925 : BitVec 32) (k2_hw194 : k2_chk194 v1925), 64 ∣ (k2_mult194 v1925).toNat := fun v1925 k2_hw194 => k2_hw194.1
theorem k2_off390_inb : ∀ (v1925 : BitVec 32) (k2_hw194 : k2_chk194 v1925), ∀ a, (k2_off390 v1925) a + S1x64x384.size a ≤ S1x4096x384.size a := fun v1925 k2_hw194 => k2_hw194.2

def k2_mult195 (v1927 : BitVec 32) : BitVec 32 :=
  let c64_i32_1071 : BitVec 32 := 64#32
  let v1941 : BitVec 32 := Scalar.muli v1927 c64_i32_1071
  v1941

def k2_off391 (v1927 : BitVec 32) : Fin 3 → Nat :=
  let c0_1072 : Index := 0#32
  let c64_i32_1071 : BitVec 32 := 64#32
  let v1941 : BitVec 32 := Scalar.muli v1927 c64_i32_1071
  let v1942 : BitVec 32 := v1941
  let v1943 : Index := Scalar.indexCast v1942
  let c0_1073 : Index := 0#32
  ![0, v1943.toNat, 0]

def k2_chk195 (v1927 : BitVec 32) : Prop :=
  (64 ∣ (k2_mult195 v1927).toNat) ∧
  (∀ a, (k2_off391 v1927) a + S1x64x384.size a ≤ S1x4096x384.size a)
theorem k2_mult195_dvd : ∀ (v1927 : BitVec 32) (k2_hw195 : k2_chk195 v1927), 64 ∣ (k2_mult195 v1927).toNat := fun v1927 k2_hw195 => k2_hw195.1
theorem k2_off391_inb : ∀ (v1927 : BitVec 32) (k2_hw195 : k2_chk195 v1927), ∀ a, (k2_off391 v1927) a + S1x64x384.size a ≤ S1x4096x384.size a := fun v1927 k2_hw195 => k2_hw195.2

def k2_mult196 (v1929 : BitVec 32) : BitVec 32 :=
  let c64_i32_1074 : BitVec 32 := 64#32
  let v1947 : BitVec 32 := Scalar.muli v1929 c64_i32_1074
  v1947

def k2_off392 (v1929 : BitVec 32) : Fin 3 → Nat :=
  let c0_1075 : Index := 0#32
  let c64_i32_1074 : BitVec 32 := 64#32
  let v1947 : BitVec 32 := Scalar.muli v1929 c64_i32_1074
  let v1948 : BitVec 32 := v1947
  let v1949 : Index := Scalar.indexCast v1948
  let c0_1076 : Index := 0#32
  ![0, v1949.toNat, 0]

def k2_chk196 (v1929 : BitVec 32) : Prop :=
  (64 ∣ (k2_mult196 v1929).toNat) ∧
  (∀ a, (k2_off392 v1929) a + S1x64x384.size a ≤ S1x4096x384.size a)
theorem k2_mult196_dvd : ∀ (v1929 : BitVec 32) (k2_hw196 : k2_chk196 v1929), 64 ∣ (k2_mult196 v1929).toNat := fun v1929 k2_hw196 => k2_hw196.1
theorem k2_off392_inb : ∀ (v1929 : BitVec 32) (k2_hw196 : k2_chk196 v1929), ∀ a, (k2_off392 v1929) a + S1x64x384.size a ≤ S1x4096x384.size a := fun v1929 k2_hw196 => k2_hw196.2

def k2_off393 (i : grid2.Coords) : Fin 3 → Nat :=
  let arg1 : BitVec 32 := BitVec.ofNat 32 (i 1).val
  let v1962 : Index := Scalar.indexCast arg1
  let c49 : Index := 49#32
  let c0_1080 : Index := 0#32
  ![v1962.toNat, 49, 0]
def k2_off394 (i : grid2.Coords) : Fin 3 → Nat :=
  let arg1 : BitVec 32 := BitVec.ofNat 32 (i 1).val
  let v1964 : Index := Scalar.indexCast arg1
  let c49_1081 : Index := 49#32
  let c1_1082 : Index := 1#32
  ![v1964.toNat, 49, 1]
def k2_off395 (i : grid2.Coords) : Fin 3 → Nat :=
  let arg1 : BitVec 32 := BitVec.ofNat 32 (i 1).val
  let v1966 : Index := Scalar.indexCast arg1
  let c49_1083 : Index := 49#32
  let c2_1084 : Index := 2#32
  ![v1966.toNat, 49, 2]
def k2_off396 (i : grid2.Coords) : Fin 3 → Nat :=
  let arg1 : BitVec 32 := BitVec.ofNat 32 (i 1).val
  let v1968 : Index := Scalar.indexCast arg1
  let c49_1085 : Index := 49#32
  let c3_1086 : Index := 3#32
  ![v1968.toNat, 49, 3]
def k2_mult197 (v1963 : BitVec 32) : BitVec 32 :=
  let c64_i32_1087 : BitVec 32 := 64#32
  let v1970 : BitVec 32 := Scalar.muli v1963 c64_i32_1087
  v1970

def k2_off397 (v1963 : BitVec 32) : Fin 3 → Nat :=
  let c0_1088 : Index := 0#32
  let c64_i32_1087 : BitVec 32 := 64#32
  let v1970 : BitVec 32 := Scalar.muli v1963 c64_i32_1087
  let v1971 : BitVec 32 := v1970
  let v1972 : Index := Scalar.indexCast v1971
  let c0_1089 : Index := 0#32
  ![0, v1972.toNat, 0]

def k2_chk197 (v1963 : BitVec 32) : Prop :=
  (64 ∣ (k2_mult197 v1963).toNat) ∧
  (∀ a, (k2_off397 v1963) a + S1x64x384.size a ≤ S1x4096x384.size a)
theorem k2_mult197_dvd : ∀ (v1963 : BitVec 32) (k2_hw197 : k2_chk197 v1963), 64 ∣ (k2_mult197 v1963).toNat := fun v1963 k2_hw197 => k2_hw197.1
theorem k2_off397_inb : ∀ (v1963 : BitVec 32) (k2_hw197 : k2_chk197 v1963), ∀ a, (k2_off397 v1963) a + S1x64x384.size a ≤ S1x4096x384.size a := fun v1963 k2_hw197 => k2_hw197.2

def k2_mult198 (v1965 : BitVec 32) : BitVec 32 :=
  let c64_i32_1090 : BitVec 32 := 64#32
  let v1975 : BitVec 32 := Scalar.muli v1965 c64_i32_1090
  v1975

def k2_off398 (v1965 : BitVec 32) : Fin 3 → Nat :=
  let c0_1091 : Index := 0#32
  let c64_i32_1090 : BitVec 32 := 64#32
  let v1975 : BitVec 32 := Scalar.muli v1965 c64_i32_1090
  let v1976 : BitVec 32 := v1975
  let v1977 : Index := Scalar.indexCast v1976
  let c0_1092 : Index := 0#32
  ![0, v1977.toNat, 0]

def k2_chk198 (v1965 : BitVec 32) : Prop :=
  (64 ∣ (k2_mult198 v1965).toNat) ∧
  (∀ a, (k2_off398 v1965) a + S1x64x384.size a ≤ S1x4096x384.size a)
theorem k2_mult198_dvd : ∀ (v1965 : BitVec 32) (k2_hw198 : k2_chk198 v1965), 64 ∣ (k2_mult198 v1965).toNat := fun v1965 k2_hw198 => k2_hw198.1
theorem k2_off398_inb : ∀ (v1965 : BitVec 32) (k2_hw198 : k2_chk198 v1965), ∀ a, (k2_off398 v1965) a + S1x64x384.size a ≤ S1x4096x384.size a := fun v1965 k2_hw198 => k2_hw198.2

def k2_mult199 (v1967 : BitVec 32) : BitVec 32 :=
  let c64_i32_1093 : BitVec 32 := 64#32
  let v1981 : BitVec 32 := Scalar.muli v1967 c64_i32_1093
  v1981

def k2_off399 (v1967 : BitVec 32) : Fin 3 → Nat :=
  let c0_1094 : Index := 0#32
  let c64_i32_1093 : BitVec 32 := 64#32
  let v1981 : BitVec 32 := Scalar.muli v1967 c64_i32_1093
  let v1982 : BitVec 32 := v1981
  let v1983 : Index := Scalar.indexCast v1982
  let c0_1095 : Index := 0#32
  ![0, v1983.toNat, 0]

def k2_chk199 (v1967 : BitVec 32) : Prop :=
  (64 ∣ (k2_mult199 v1967).toNat) ∧
  (∀ a, (k2_off399 v1967) a + S1x64x384.size a ≤ S1x4096x384.size a)
theorem k2_mult199_dvd : ∀ (v1967 : BitVec 32) (k2_hw199 : k2_chk199 v1967), 64 ∣ (k2_mult199 v1967).toNat := fun v1967 k2_hw199 => k2_hw199.1
theorem k2_off399_inb : ∀ (v1967 : BitVec 32) (k2_hw199 : k2_chk199 v1967), ∀ a, (k2_off399 v1967) a + S1x64x384.size a ≤ S1x4096x384.size a := fun v1967 k2_hw199 => k2_hw199.2

def k2_mult200 (v1969 : BitVec 32) : BitVec 32 :=
  let c64_i32_1096 : BitVec 32 := 64#32
  let v1987 : BitVec 32 := Scalar.muli v1969 c64_i32_1096
  v1987

def k2_off400 (v1969 : BitVec 32) : Fin 3 → Nat :=
  let c0_1097 : Index := 0#32
  let c64_i32_1096 : BitVec 32 := 64#32
  let v1987 : BitVec 32 := Scalar.muli v1969 c64_i32_1096
  let v1988 : BitVec 32 := v1987
  let v1989 : Index := Scalar.indexCast v1988
  let c0_1098 : Index := 0#32
  ![0, v1989.toNat, 0]

def k2_chk200 (v1969 : BitVec 32) : Prop :=
  (64 ∣ (k2_mult200 v1969).toNat) ∧
  (∀ a, (k2_off400 v1969) a + S1x64x384.size a ≤ S1x4096x384.size a)
theorem k2_mult200_dvd : ∀ (v1969 : BitVec 32) (k2_hw200 : k2_chk200 v1969), 64 ∣ (k2_mult200 v1969).toNat := fun v1969 k2_hw200 => k2_hw200.1
theorem k2_off400_inb : ∀ (v1969 : BitVec 32) (k2_hw200 : k2_chk200 v1969), ∀ a, (k2_off400 v1969) a + S1x64x384.size a ≤ S1x4096x384.size a := fun v1969 k2_hw200 => k2_hw200.2

def k2_off401 (i : grid2.Coords) : Fin 3 → Nat :=
  let arg1 : BitVec 32 := BitVec.ofNat 32 (i 1).val
  let v2002 : Index := Scalar.indexCast arg1
  let c50 : Index := 50#32
  let c0_1102 : Index := 0#32
  ![v2002.toNat, 50, 0]
def k2_off402 (i : grid2.Coords) : Fin 3 → Nat :=
  let arg1 : BitVec 32 := BitVec.ofNat 32 (i 1).val
  let v2004 : Index := Scalar.indexCast arg1
  let c50_1103 : Index := 50#32
  let c1_1104 : Index := 1#32
  ![v2004.toNat, 50, 1]
def k2_off403 (i : grid2.Coords) : Fin 3 → Nat :=
  let arg1 : BitVec 32 := BitVec.ofNat 32 (i 1).val
  let v2006 : Index := Scalar.indexCast arg1
  let c50_1105 : Index := 50#32
  let c2_1106 : Index := 2#32
  ![v2006.toNat, 50, 2]
def k2_off404 (i : grid2.Coords) : Fin 3 → Nat :=
  let arg1 : BitVec 32 := BitVec.ofNat 32 (i 1).val
  let v2008 : Index := Scalar.indexCast arg1
  let c50_1107 : Index := 50#32
  let c3_1108 : Index := 3#32
  ![v2008.toNat, 50, 3]
def k2_mult201 (v2003 : BitVec 32) : BitVec 32 :=
  let c64_i32_1109 : BitVec 32 := 64#32
  let v2010 : BitVec 32 := Scalar.muli v2003 c64_i32_1109
  v2010

def k2_off405 (v2003 : BitVec 32) : Fin 3 → Nat :=
  let c0_1110 : Index := 0#32
  let c64_i32_1109 : BitVec 32 := 64#32
  let v2010 : BitVec 32 := Scalar.muli v2003 c64_i32_1109
  let v2011 : BitVec 32 := v2010
  let v2012 : Index := Scalar.indexCast v2011
  let c0_1111 : Index := 0#32
  ![0, v2012.toNat, 0]

def k2_chk201 (v2003 : BitVec 32) : Prop :=
  (64 ∣ (k2_mult201 v2003).toNat) ∧
  (∀ a, (k2_off405 v2003) a + S1x64x384.size a ≤ S1x4096x384.size a)
theorem k2_mult201_dvd : ∀ (v2003 : BitVec 32) (k2_hw201 : k2_chk201 v2003), 64 ∣ (k2_mult201 v2003).toNat := fun v2003 k2_hw201 => k2_hw201.1
theorem k2_off405_inb : ∀ (v2003 : BitVec 32) (k2_hw201 : k2_chk201 v2003), ∀ a, (k2_off405 v2003) a + S1x64x384.size a ≤ S1x4096x384.size a := fun v2003 k2_hw201 => k2_hw201.2

def k2_mult202 (v2005 : BitVec 32) : BitVec 32 :=
  let c64_i32_1112 : BitVec 32 := 64#32
  let v2015 : BitVec 32 := Scalar.muli v2005 c64_i32_1112
  v2015

def k2_off406 (v2005 : BitVec 32) : Fin 3 → Nat :=
  let c0_1113 : Index := 0#32
  let c64_i32_1112 : BitVec 32 := 64#32
  let v2015 : BitVec 32 := Scalar.muli v2005 c64_i32_1112
  let v2016 : BitVec 32 := v2015
  let v2017 : Index := Scalar.indexCast v2016
  let c0_1114 : Index := 0#32
  ![0, v2017.toNat, 0]

def k2_chk202 (v2005 : BitVec 32) : Prop :=
  (64 ∣ (k2_mult202 v2005).toNat) ∧
  (∀ a, (k2_off406 v2005) a + S1x64x384.size a ≤ S1x4096x384.size a)
theorem k2_mult202_dvd : ∀ (v2005 : BitVec 32) (k2_hw202 : k2_chk202 v2005), 64 ∣ (k2_mult202 v2005).toNat := fun v2005 k2_hw202 => k2_hw202.1
theorem k2_off406_inb : ∀ (v2005 : BitVec 32) (k2_hw202 : k2_chk202 v2005), ∀ a, (k2_off406 v2005) a + S1x64x384.size a ≤ S1x4096x384.size a := fun v2005 k2_hw202 => k2_hw202.2

def k2_mult203 (v2007 : BitVec 32) : BitVec 32 :=
  let c64_i32_1115 : BitVec 32 := 64#32
  let v2021 : BitVec 32 := Scalar.muli v2007 c64_i32_1115
  v2021

def k2_off407 (v2007 : BitVec 32) : Fin 3 → Nat :=
  let c0_1116 : Index := 0#32
  let c64_i32_1115 : BitVec 32 := 64#32
  let v2021 : BitVec 32 := Scalar.muli v2007 c64_i32_1115
  let v2022 : BitVec 32 := v2021
  let v2023 : Index := Scalar.indexCast v2022
  let c0_1117 : Index := 0#32
  ![0, v2023.toNat, 0]

def k2_chk203 (v2007 : BitVec 32) : Prop :=
  (64 ∣ (k2_mult203 v2007).toNat) ∧
  (∀ a, (k2_off407 v2007) a + S1x64x384.size a ≤ S1x4096x384.size a)
theorem k2_mult203_dvd : ∀ (v2007 : BitVec 32) (k2_hw203 : k2_chk203 v2007), 64 ∣ (k2_mult203 v2007).toNat := fun v2007 k2_hw203 => k2_hw203.1
theorem k2_off407_inb : ∀ (v2007 : BitVec 32) (k2_hw203 : k2_chk203 v2007), ∀ a, (k2_off407 v2007) a + S1x64x384.size a ≤ S1x4096x384.size a := fun v2007 k2_hw203 => k2_hw203.2

def k2_mult204 (v2009 : BitVec 32) : BitVec 32 :=
  let c64_i32_1118 : BitVec 32 := 64#32
  let v2027 : BitVec 32 := Scalar.muli v2009 c64_i32_1118
  v2027

def k2_off408 (v2009 : BitVec 32) : Fin 3 → Nat :=
  let c0_1119 : Index := 0#32
  let c64_i32_1118 : BitVec 32 := 64#32
  let v2027 : BitVec 32 := Scalar.muli v2009 c64_i32_1118
  let v2028 : BitVec 32 := v2027
  let v2029 : Index := Scalar.indexCast v2028
  let c0_1120 : Index := 0#32
  ![0, v2029.toNat, 0]

def k2_chk204 (v2009 : BitVec 32) : Prop :=
  (64 ∣ (k2_mult204 v2009).toNat) ∧
  (∀ a, (k2_off408 v2009) a + S1x64x384.size a ≤ S1x4096x384.size a)
theorem k2_mult204_dvd : ∀ (v2009 : BitVec 32) (k2_hw204 : k2_chk204 v2009), 64 ∣ (k2_mult204 v2009).toNat := fun v2009 k2_hw204 => k2_hw204.1
theorem k2_off408_inb : ∀ (v2009 : BitVec 32) (k2_hw204 : k2_chk204 v2009), ∀ a, (k2_off408 v2009) a + S1x64x384.size a ≤ S1x4096x384.size a := fun v2009 k2_hw204 => k2_hw204.2

def k2_off409 (i : grid2.Coords) : Fin 3 → Nat :=
  let arg1 : BitVec 32 := BitVec.ofNat 32 (i 1).val
  let v2042 : Index := Scalar.indexCast arg1
  let c51 : Index := 51#32
  let c0_1124 : Index := 0#32
  ![v2042.toNat, 51, 0]
def k2_off410 (i : grid2.Coords) : Fin 3 → Nat :=
  let arg1 : BitVec 32 := BitVec.ofNat 32 (i 1).val
  let v2044 : Index := Scalar.indexCast arg1
  let c51_1125 : Index := 51#32
  let c1_1126 : Index := 1#32
  ![v2044.toNat, 51, 1]
def k2_off411 (i : grid2.Coords) : Fin 3 → Nat :=
  let arg1 : BitVec 32 := BitVec.ofNat 32 (i 1).val
  let v2046 : Index := Scalar.indexCast arg1
  let c51_1127 : Index := 51#32
  let c2_1128 : Index := 2#32
  ![v2046.toNat, 51, 2]
def k2_off412 (i : grid2.Coords) : Fin 3 → Nat :=
  let arg1 : BitVec 32 := BitVec.ofNat 32 (i 1).val
  let v2048 : Index := Scalar.indexCast arg1
  let c51_1129 : Index := 51#32
  let c3_1130 : Index := 3#32
  ![v2048.toNat, 51, 3]
def k2_mult205 (v2043 : BitVec 32) : BitVec 32 :=
  let c64_i32_1131 : BitVec 32 := 64#32
  let v2050 : BitVec 32 := Scalar.muli v2043 c64_i32_1131
  v2050

def k2_off413 (v2043 : BitVec 32) : Fin 3 → Nat :=
  let c0_1132 : Index := 0#32
  let c64_i32_1131 : BitVec 32 := 64#32
  let v2050 : BitVec 32 := Scalar.muli v2043 c64_i32_1131
  let v2051 : BitVec 32 := v2050
  let v2052 : Index := Scalar.indexCast v2051
  let c0_1133 : Index := 0#32
  ![0, v2052.toNat, 0]

def k2_chk205 (v2043 : BitVec 32) : Prop :=
  (64 ∣ (k2_mult205 v2043).toNat) ∧
  (∀ a, (k2_off413 v2043) a + S1x64x384.size a ≤ S1x4096x384.size a)
theorem k2_mult205_dvd : ∀ (v2043 : BitVec 32) (k2_hw205 : k2_chk205 v2043), 64 ∣ (k2_mult205 v2043).toNat := fun v2043 k2_hw205 => k2_hw205.1
theorem k2_off413_inb : ∀ (v2043 : BitVec 32) (k2_hw205 : k2_chk205 v2043), ∀ a, (k2_off413 v2043) a + S1x64x384.size a ≤ S1x4096x384.size a := fun v2043 k2_hw205 => k2_hw205.2

def k2_mult206 (v2045 : BitVec 32) : BitVec 32 :=
  let c64_i32_1134 : BitVec 32 := 64#32
  let v2055 : BitVec 32 := Scalar.muli v2045 c64_i32_1134
  v2055

def k2_off414 (v2045 : BitVec 32) : Fin 3 → Nat :=
  let c0_1135 : Index := 0#32
  let c64_i32_1134 : BitVec 32 := 64#32
  let v2055 : BitVec 32 := Scalar.muli v2045 c64_i32_1134
  let v2056 : BitVec 32 := v2055
  let v2057 : Index := Scalar.indexCast v2056
  let c0_1136 : Index := 0#32
  ![0, v2057.toNat, 0]

def k2_chk206 (v2045 : BitVec 32) : Prop :=
  (64 ∣ (k2_mult206 v2045).toNat) ∧
  (∀ a, (k2_off414 v2045) a + S1x64x384.size a ≤ S1x4096x384.size a)
theorem k2_mult206_dvd : ∀ (v2045 : BitVec 32) (k2_hw206 : k2_chk206 v2045), 64 ∣ (k2_mult206 v2045).toNat := fun v2045 k2_hw206 => k2_hw206.1
theorem k2_off414_inb : ∀ (v2045 : BitVec 32) (k2_hw206 : k2_chk206 v2045), ∀ a, (k2_off414 v2045) a + S1x64x384.size a ≤ S1x4096x384.size a := fun v2045 k2_hw206 => k2_hw206.2

def k2_mult207 (v2047 : BitVec 32) : BitVec 32 :=
  let c64_i32_1137 : BitVec 32 := 64#32
  let v2061 : BitVec 32 := Scalar.muli v2047 c64_i32_1137
  v2061

def k2_off415 (v2047 : BitVec 32) : Fin 3 → Nat :=
  let c0_1138 : Index := 0#32
  let c64_i32_1137 : BitVec 32 := 64#32
  let v2061 : BitVec 32 := Scalar.muli v2047 c64_i32_1137
  let v2062 : BitVec 32 := v2061
  let v2063 : Index := Scalar.indexCast v2062
  let c0_1139 : Index := 0#32
  ![0, v2063.toNat, 0]

def k2_chk207 (v2047 : BitVec 32) : Prop :=
  (64 ∣ (k2_mult207 v2047).toNat) ∧
  (∀ a, (k2_off415 v2047) a + S1x64x384.size a ≤ S1x4096x384.size a)
theorem k2_mult207_dvd : ∀ (v2047 : BitVec 32) (k2_hw207 : k2_chk207 v2047), 64 ∣ (k2_mult207 v2047).toNat := fun v2047 k2_hw207 => k2_hw207.1
theorem k2_off415_inb : ∀ (v2047 : BitVec 32) (k2_hw207 : k2_chk207 v2047), ∀ a, (k2_off415 v2047) a + S1x64x384.size a ≤ S1x4096x384.size a := fun v2047 k2_hw207 => k2_hw207.2

def k2_mult208 (v2049 : BitVec 32) : BitVec 32 :=
  let c64_i32_1140 : BitVec 32 := 64#32
  let v2067 : BitVec 32 := Scalar.muli v2049 c64_i32_1140
  v2067

def k2_off416 (v2049 : BitVec 32) : Fin 3 → Nat :=
  let c0_1141 : Index := 0#32
  let c64_i32_1140 : BitVec 32 := 64#32
  let v2067 : BitVec 32 := Scalar.muli v2049 c64_i32_1140
  let v2068 : BitVec 32 := v2067
  let v2069 : Index := Scalar.indexCast v2068
  let c0_1142 : Index := 0#32
  ![0, v2069.toNat, 0]

def k2_chk208 (v2049 : BitVec 32) : Prop :=
  (64 ∣ (k2_mult208 v2049).toNat) ∧
  (∀ a, (k2_off416 v2049) a + S1x64x384.size a ≤ S1x4096x384.size a)
theorem k2_mult208_dvd : ∀ (v2049 : BitVec 32) (k2_hw208 : k2_chk208 v2049), 64 ∣ (k2_mult208 v2049).toNat := fun v2049 k2_hw208 => k2_hw208.1
theorem k2_off416_inb : ∀ (v2049 : BitVec 32) (k2_hw208 : k2_chk208 v2049), ∀ a, (k2_off416 v2049) a + S1x64x384.size a ≤ S1x4096x384.size a := fun v2049 k2_hw208 => k2_hw208.2

def k2_off417 (i : grid2.Coords) : Fin 3 → Nat :=
  let arg1 : BitVec 32 := BitVec.ofNat 32 (i 1).val
  let v2082 : Index := Scalar.indexCast arg1
  let c52 : Index := 52#32
  let c0_1146 : Index := 0#32
  ![v2082.toNat, 52, 0]
def k2_off418 (i : grid2.Coords) : Fin 3 → Nat :=
  let arg1 : BitVec 32 := BitVec.ofNat 32 (i 1).val
  let v2084 : Index := Scalar.indexCast arg1
  let c52_1147 : Index := 52#32
  let c1_1148 : Index := 1#32
  ![v2084.toNat, 52, 1]
def k2_off419 (i : grid2.Coords) : Fin 3 → Nat :=
  let arg1 : BitVec 32 := BitVec.ofNat 32 (i 1).val
  let v2086 : Index := Scalar.indexCast arg1
  let c52_1149 : Index := 52#32
  let c2_1150 : Index := 2#32
  ![v2086.toNat, 52, 2]
def k2_off420 (i : grid2.Coords) : Fin 3 → Nat :=
  let arg1 : BitVec 32 := BitVec.ofNat 32 (i 1).val
  let v2088 : Index := Scalar.indexCast arg1
  let c52_1151 : Index := 52#32
  let c3_1152 : Index := 3#32
  ![v2088.toNat, 52, 3]
def k2_mult209 (v2083 : BitVec 32) : BitVec 32 :=
  let c64_i32_1153 : BitVec 32 := 64#32
  let v2090 : BitVec 32 := Scalar.muli v2083 c64_i32_1153
  v2090

def k2_off421 (v2083 : BitVec 32) : Fin 3 → Nat :=
  let c0_1154 : Index := 0#32
  let c64_i32_1153 : BitVec 32 := 64#32
  let v2090 : BitVec 32 := Scalar.muli v2083 c64_i32_1153
  let v2091 : BitVec 32 := v2090
  let v2092 : Index := Scalar.indexCast v2091
  let c0_1155 : Index := 0#32
  ![0, v2092.toNat, 0]

def k2_chk209 (v2083 : BitVec 32) : Prop :=
  (64 ∣ (k2_mult209 v2083).toNat) ∧
  (∀ a, (k2_off421 v2083) a + S1x64x384.size a ≤ S1x4096x384.size a)
theorem k2_mult209_dvd : ∀ (v2083 : BitVec 32) (k2_hw209 : k2_chk209 v2083), 64 ∣ (k2_mult209 v2083).toNat := fun v2083 k2_hw209 => k2_hw209.1
theorem k2_off421_inb : ∀ (v2083 : BitVec 32) (k2_hw209 : k2_chk209 v2083), ∀ a, (k2_off421 v2083) a + S1x64x384.size a ≤ S1x4096x384.size a := fun v2083 k2_hw209 => k2_hw209.2

def k2_mult210 (v2085 : BitVec 32) : BitVec 32 :=
  let c64_i32_1156 : BitVec 32 := 64#32
  let v2095 : BitVec 32 := Scalar.muli v2085 c64_i32_1156
  v2095

def k2_off422 (v2085 : BitVec 32) : Fin 3 → Nat :=
  let c0_1157 : Index := 0#32
  let c64_i32_1156 : BitVec 32 := 64#32
  let v2095 : BitVec 32 := Scalar.muli v2085 c64_i32_1156
  let v2096 : BitVec 32 := v2095
  let v2097 : Index := Scalar.indexCast v2096
  let c0_1158 : Index := 0#32
  ![0, v2097.toNat, 0]

def k2_chk210 (v2085 : BitVec 32) : Prop :=
  (64 ∣ (k2_mult210 v2085).toNat) ∧
  (∀ a, (k2_off422 v2085) a + S1x64x384.size a ≤ S1x4096x384.size a)
theorem k2_mult210_dvd : ∀ (v2085 : BitVec 32) (k2_hw210 : k2_chk210 v2085), 64 ∣ (k2_mult210 v2085).toNat := fun v2085 k2_hw210 => k2_hw210.1
theorem k2_off422_inb : ∀ (v2085 : BitVec 32) (k2_hw210 : k2_chk210 v2085), ∀ a, (k2_off422 v2085) a + S1x64x384.size a ≤ S1x4096x384.size a := fun v2085 k2_hw210 => k2_hw210.2

def k2_mult211 (v2087 : BitVec 32) : BitVec 32 :=
  let c64_i32_1159 : BitVec 32 := 64#32
  let v2101 : BitVec 32 := Scalar.muli v2087 c64_i32_1159
  v2101

def k2_off423 (v2087 : BitVec 32) : Fin 3 → Nat :=
  let c0_1160 : Index := 0#32
  let c64_i32_1159 : BitVec 32 := 64#32
  let v2101 : BitVec 32 := Scalar.muli v2087 c64_i32_1159
  let v2102 : BitVec 32 := v2101
  let v2103 : Index := Scalar.indexCast v2102
  let c0_1161 : Index := 0#32
  ![0, v2103.toNat, 0]

def k2_chk211 (v2087 : BitVec 32) : Prop :=
  (64 ∣ (k2_mult211 v2087).toNat) ∧
  (∀ a, (k2_off423 v2087) a + S1x64x384.size a ≤ S1x4096x384.size a)
theorem k2_mult211_dvd : ∀ (v2087 : BitVec 32) (k2_hw211 : k2_chk211 v2087), 64 ∣ (k2_mult211 v2087).toNat := fun v2087 k2_hw211 => k2_hw211.1
theorem k2_off423_inb : ∀ (v2087 : BitVec 32) (k2_hw211 : k2_chk211 v2087), ∀ a, (k2_off423 v2087) a + S1x64x384.size a ≤ S1x4096x384.size a := fun v2087 k2_hw211 => k2_hw211.2

def k2_mult212 (v2089 : BitVec 32) : BitVec 32 :=
  let c64_i32_1162 : BitVec 32 := 64#32
  let v2107 : BitVec 32 := Scalar.muli v2089 c64_i32_1162
  v2107

def k2_off424 (v2089 : BitVec 32) : Fin 3 → Nat :=
  let c0_1163 : Index := 0#32
  let c64_i32_1162 : BitVec 32 := 64#32
  let v2107 : BitVec 32 := Scalar.muli v2089 c64_i32_1162
  let v2108 : BitVec 32 := v2107
  let v2109 : Index := Scalar.indexCast v2108
  let c0_1164 : Index := 0#32
  ![0, v2109.toNat, 0]

def k2_chk212 (v2089 : BitVec 32) : Prop :=
  (64 ∣ (k2_mult212 v2089).toNat) ∧
  (∀ a, (k2_off424 v2089) a + S1x64x384.size a ≤ S1x4096x384.size a)
theorem k2_mult212_dvd : ∀ (v2089 : BitVec 32) (k2_hw212 : k2_chk212 v2089), 64 ∣ (k2_mult212 v2089).toNat := fun v2089 k2_hw212 => k2_hw212.1
theorem k2_off424_inb : ∀ (v2089 : BitVec 32) (k2_hw212 : k2_chk212 v2089), ∀ a, (k2_off424 v2089) a + S1x64x384.size a ≤ S1x4096x384.size a := fun v2089 k2_hw212 => k2_hw212.2

def k2_off425 (i : grid2.Coords) : Fin 3 → Nat :=
  let arg1 : BitVec 32 := BitVec.ofNat 32 (i 1).val
  let v2122 : Index := Scalar.indexCast arg1
  let c53 : Index := 53#32
  let c0_1168 : Index := 0#32
  ![v2122.toNat, 53, 0]
def k2_off426 (i : grid2.Coords) : Fin 3 → Nat :=
  let arg1 : BitVec 32 := BitVec.ofNat 32 (i 1).val
  let v2124 : Index := Scalar.indexCast arg1
  let c53_1169 : Index := 53#32
  let c1_1170 : Index := 1#32
  ![v2124.toNat, 53, 1]
def k2_off427 (i : grid2.Coords) : Fin 3 → Nat :=
  let arg1 : BitVec 32 := BitVec.ofNat 32 (i 1).val
  let v2126 : Index := Scalar.indexCast arg1
  let c53_1171 : Index := 53#32
  let c2_1172 : Index := 2#32
  ![v2126.toNat, 53, 2]
def k2_off428 (i : grid2.Coords) : Fin 3 → Nat :=
  let arg1 : BitVec 32 := BitVec.ofNat 32 (i 1).val
  let v2128 : Index := Scalar.indexCast arg1
  let c53_1173 : Index := 53#32
  let c3_1174 : Index := 3#32
  ![v2128.toNat, 53, 3]
def k2_mult213 (v2123 : BitVec 32) : BitVec 32 :=
  let c64_i32_1175 : BitVec 32 := 64#32
  let v2130 : BitVec 32 := Scalar.muli v2123 c64_i32_1175
  v2130

def k2_off429 (v2123 : BitVec 32) : Fin 3 → Nat :=
  let c0_1176 : Index := 0#32
  let c64_i32_1175 : BitVec 32 := 64#32
  let v2130 : BitVec 32 := Scalar.muli v2123 c64_i32_1175
  let v2131 : BitVec 32 := v2130
  let v2132 : Index := Scalar.indexCast v2131
  let c0_1177 : Index := 0#32
  ![0, v2132.toNat, 0]

def k2_chk213 (v2123 : BitVec 32) : Prop :=
  (64 ∣ (k2_mult213 v2123).toNat) ∧
  (∀ a, (k2_off429 v2123) a + S1x64x384.size a ≤ S1x4096x384.size a)
theorem k2_mult213_dvd : ∀ (v2123 : BitVec 32) (k2_hw213 : k2_chk213 v2123), 64 ∣ (k2_mult213 v2123).toNat := fun v2123 k2_hw213 => k2_hw213.1
theorem k2_off429_inb : ∀ (v2123 : BitVec 32) (k2_hw213 : k2_chk213 v2123), ∀ a, (k2_off429 v2123) a + S1x64x384.size a ≤ S1x4096x384.size a := fun v2123 k2_hw213 => k2_hw213.2

def k2_mult214 (v2125 : BitVec 32) : BitVec 32 :=
  let c64_i32_1178 : BitVec 32 := 64#32
  let v2135 : BitVec 32 := Scalar.muli v2125 c64_i32_1178
  v2135

def k2_off430 (v2125 : BitVec 32) : Fin 3 → Nat :=
  let c0_1179 : Index := 0#32
  let c64_i32_1178 : BitVec 32 := 64#32
  let v2135 : BitVec 32 := Scalar.muli v2125 c64_i32_1178
  let v2136 : BitVec 32 := v2135
  let v2137 : Index := Scalar.indexCast v2136
  let c0_1180 : Index := 0#32
  ![0, v2137.toNat, 0]

def k2_chk214 (v2125 : BitVec 32) : Prop :=
  (64 ∣ (k2_mult214 v2125).toNat) ∧
  (∀ a, (k2_off430 v2125) a + S1x64x384.size a ≤ S1x4096x384.size a)
theorem k2_mult214_dvd : ∀ (v2125 : BitVec 32) (k2_hw214 : k2_chk214 v2125), 64 ∣ (k2_mult214 v2125).toNat := fun v2125 k2_hw214 => k2_hw214.1
theorem k2_off430_inb : ∀ (v2125 : BitVec 32) (k2_hw214 : k2_chk214 v2125), ∀ a, (k2_off430 v2125) a + S1x64x384.size a ≤ S1x4096x384.size a := fun v2125 k2_hw214 => k2_hw214.2

def k2_mult215 (v2127 : BitVec 32) : BitVec 32 :=
  let c64_i32_1181 : BitVec 32 := 64#32
  let v2141 : BitVec 32 := Scalar.muli v2127 c64_i32_1181
  v2141

def k2_off431 (v2127 : BitVec 32) : Fin 3 → Nat :=
  let c0_1182 : Index := 0#32
  let c64_i32_1181 : BitVec 32 := 64#32
  let v2141 : BitVec 32 := Scalar.muli v2127 c64_i32_1181
  let v2142 : BitVec 32 := v2141
  let v2143 : Index := Scalar.indexCast v2142
  let c0_1183 : Index := 0#32
  ![0, v2143.toNat, 0]

def k2_chk215 (v2127 : BitVec 32) : Prop :=
  (64 ∣ (k2_mult215 v2127).toNat) ∧
  (∀ a, (k2_off431 v2127) a + S1x64x384.size a ≤ S1x4096x384.size a)
theorem k2_mult215_dvd : ∀ (v2127 : BitVec 32) (k2_hw215 : k2_chk215 v2127), 64 ∣ (k2_mult215 v2127).toNat := fun v2127 k2_hw215 => k2_hw215.1
theorem k2_off431_inb : ∀ (v2127 : BitVec 32) (k2_hw215 : k2_chk215 v2127), ∀ a, (k2_off431 v2127) a + S1x64x384.size a ≤ S1x4096x384.size a := fun v2127 k2_hw215 => k2_hw215.2

def k2_mult216 (v2129 : BitVec 32) : BitVec 32 :=
  let c64_i32_1184 : BitVec 32 := 64#32
  let v2147 : BitVec 32 := Scalar.muli v2129 c64_i32_1184
  v2147

def k2_off432 (v2129 : BitVec 32) : Fin 3 → Nat :=
  let c0_1185 : Index := 0#32
  let c64_i32_1184 : BitVec 32 := 64#32
  let v2147 : BitVec 32 := Scalar.muli v2129 c64_i32_1184
  let v2148 : BitVec 32 := v2147
  let v2149 : Index := Scalar.indexCast v2148
  let c0_1186 : Index := 0#32
  ![0, v2149.toNat, 0]

def k2_chk216 (v2129 : BitVec 32) : Prop :=
  (64 ∣ (k2_mult216 v2129).toNat) ∧
  (∀ a, (k2_off432 v2129) a + S1x64x384.size a ≤ S1x4096x384.size a)
theorem k2_mult216_dvd : ∀ (v2129 : BitVec 32) (k2_hw216 : k2_chk216 v2129), 64 ∣ (k2_mult216 v2129).toNat := fun v2129 k2_hw216 => k2_hw216.1
theorem k2_off432_inb : ∀ (v2129 : BitVec 32) (k2_hw216 : k2_chk216 v2129), ∀ a, (k2_off432 v2129) a + S1x64x384.size a ≤ S1x4096x384.size a := fun v2129 k2_hw216 => k2_hw216.2

def k2_off433 (i : grid2.Coords) : Fin 3 → Nat :=
  let arg1 : BitVec 32 := BitVec.ofNat 32 (i 1).val
  let v2162 : Index := Scalar.indexCast arg1
  let c54 : Index := 54#32
  let c0_1190 : Index := 0#32
  ![v2162.toNat, 54, 0]
def k2_off434 (i : grid2.Coords) : Fin 3 → Nat :=
  let arg1 : BitVec 32 := BitVec.ofNat 32 (i 1).val
  let v2164 : Index := Scalar.indexCast arg1
  let c54_1191 : Index := 54#32
  let c1_1192 : Index := 1#32
  ![v2164.toNat, 54, 1]
def k2_off435 (i : grid2.Coords) : Fin 3 → Nat :=
  let arg1 : BitVec 32 := BitVec.ofNat 32 (i 1).val
  let v2166 : Index := Scalar.indexCast arg1
  let c54_1193 : Index := 54#32
  let c2_1194 : Index := 2#32
  ![v2166.toNat, 54, 2]
def k2_off436 (i : grid2.Coords) : Fin 3 → Nat :=
  let arg1 : BitVec 32 := BitVec.ofNat 32 (i 1).val
  let v2168 : Index := Scalar.indexCast arg1
  let c54_1195 : Index := 54#32
  let c3_1196 : Index := 3#32
  ![v2168.toNat, 54, 3]
def k2_mult217 (v2163 : BitVec 32) : BitVec 32 :=
  let c64_i32_1197 : BitVec 32 := 64#32
  let v2170 : BitVec 32 := Scalar.muli v2163 c64_i32_1197
  v2170

def k2_off437 (v2163 : BitVec 32) : Fin 3 → Nat :=
  let c0_1198 : Index := 0#32
  let c64_i32_1197 : BitVec 32 := 64#32
  let v2170 : BitVec 32 := Scalar.muli v2163 c64_i32_1197
  let v2171 : BitVec 32 := v2170
  let v2172 : Index := Scalar.indexCast v2171
  let c0_1199 : Index := 0#32
  ![0, v2172.toNat, 0]

def k2_chk217 (v2163 : BitVec 32) : Prop :=
  (64 ∣ (k2_mult217 v2163).toNat) ∧
  (∀ a, (k2_off437 v2163) a + S1x64x384.size a ≤ S1x4096x384.size a)
theorem k2_mult217_dvd : ∀ (v2163 : BitVec 32) (k2_hw217 : k2_chk217 v2163), 64 ∣ (k2_mult217 v2163).toNat := fun v2163 k2_hw217 => k2_hw217.1
theorem k2_off437_inb : ∀ (v2163 : BitVec 32) (k2_hw217 : k2_chk217 v2163), ∀ a, (k2_off437 v2163) a + S1x64x384.size a ≤ S1x4096x384.size a := fun v2163 k2_hw217 => k2_hw217.2

def k2_mult218 (v2165 : BitVec 32) : BitVec 32 :=
  let c64_i32_1200 : BitVec 32 := 64#32
  let v2175 : BitVec 32 := Scalar.muli v2165 c64_i32_1200
  v2175

def k2_off438 (v2165 : BitVec 32) : Fin 3 → Nat :=
  let c0_1201 : Index := 0#32
  let c64_i32_1200 : BitVec 32 := 64#32
  let v2175 : BitVec 32 := Scalar.muli v2165 c64_i32_1200
  let v2176 : BitVec 32 := v2175
  let v2177 : Index := Scalar.indexCast v2176
  let c0_1202 : Index := 0#32
  ![0, v2177.toNat, 0]

def k2_chk218 (v2165 : BitVec 32) : Prop :=
  (64 ∣ (k2_mult218 v2165).toNat) ∧
  (∀ a, (k2_off438 v2165) a + S1x64x384.size a ≤ S1x4096x384.size a)
theorem k2_mult218_dvd : ∀ (v2165 : BitVec 32) (k2_hw218 : k2_chk218 v2165), 64 ∣ (k2_mult218 v2165).toNat := fun v2165 k2_hw218 => k2_hw218.1
theorem k2_off438_inb : ∀ (v2165 : BitVec 32) (k2_hw218 : k2_chk218 v2165), ∀ a, (k2_off438 v2165) a + S1x64x384.size a ≤ S1x4096x384.size a := fun v2165 k2_hw218 => k2_hw218.2

def k2_mult219 (v2167 : BitVec 32) : BitVec 32 :=
  let c64_i32_1203 : BitVec 32 := 64#32
  let v2181 : BitVec 32 := Scalar.muli v2167 c64_i32_1203
  v2181

def k2_off439 (v2167 : BitVec 32) : Fin 3 → Nat :=
  let c0_1204 : Index := 0#32
  let c64_i32_1203 : BitVec 32 := 64#32
  let v2181 : BitVec 32 := Scalar.muli v2167 c64_i32_1203
  let v2182 : BitVec 32 := v2181
  let v2183 : Index := Scalar.indexCast v2182
  let c0_1205 : Index := 0#32
  ![0, v2183.toNat, 0]

def k2_chk219 (v2167 : BitVec 32) : Prop :=
  (64 ∣ (k2_mult219 v2167).toNat) ∧
  (∀ a, (k2_off439 v2167) a + S1x64x384.size a ≤ S1x4096x384.size a)
theorem k2_mult219_dvd : ∀ (v2167 : BitVec 32) (k2_hw219 : k2_chk219 v2167), 64 ∣ (k2_mult219 v2167).toNat := fun v2167 k2_hw219 => k2_hw219.1
theorem k2_off439_inb : ∀ (v2167 : BitVec 32) (k2_hw219 : k2_chk219 v2167), ∀ a, (k2_off439 v2167) a + S1x64x384.size a ≤ S1x4096x384.size a := fun v2167 k2_hw219 => k2_hw219.2

def k2_mult220 (v2169 : BitVec 32) : BitVec 32 :=
  let c64_i32_1206 : BitVec 32 := 64#32
  let v2187 : BitVec 32 := Scalar.muli v2169 c64_i32_1206
  v2187

def k2_off440 (v2169 : BitVec 32) : Fin 3 → Nat :=
  let c0_1207 : Index := 0#32
  let c64_i32_1206 : BitVec 32 := 64#32
  let v2187 : BitVec 32 := Scalar.muli v2169 c64_i32_1206
  let v2188 : BitVec 32 := v2187
  let v2189 : Index := Scalar.indexCast v2188
  let c0_1208 : Index := 0#32
  ![0, v2189.toNat, 0]

def k2_chk220 (v2169 : BitVec 32) : Prop :=
  (64 ∣ (k2_mult220 v2169).toNat) ∧
  (∀ a, (k2_off440 v2169) a + S1x64x384.size a ≤ S1x4096x384.size a)
theorem k2_mult220_dvd : ∀ (v2169 : BitVec 32) (k2_hw220 : k2_chk220 v2169), 64 ∣ (k2_mult220 v2169).toNat := fun v2169 k2_hw220 => k2_hw220.1
theorem k2_off440_inb : ∀ (v2169 : BitVec 32) (k2_hw220 : k2_chk220 v2169), ∀ a, (k2_off440 v2169) a + S1x64x384.size a ≤ S1x4096x384.size a := fun v2169 k2_hw220 => k2_hw220.2

def k2_off441 (i : grid2.Coords) : Fin 3 → Nat :=
  let arg1 : BitVec 32 := BitVec.ofNat 32 (i 1).val
  let v2202 : Index := Scalar.indexCast arg1
  let c55 : Index := 55#32
  let c0_1212 : Index := 0#32
  ![v2202.toNat, 55, 0]
def k2_off442 (i : grid2.Coords) : Fin 3 → Nat :=
  let arg1 : BitVec 32 := BitVec.ofNat 32 (i 1).val
  let v2204 : Index := Scalar.indexCast arg1
  let c55_1213 : Index := 55#32
  let c1_1214 : Index := 1#32
  ![v2204.toNat, 55, 1]
def k2_off443 (i : grid2.Coords) : Fin 3 → Nat :=
  let arg1 : BitVec 32 := BitVec.ofNat 32 (i 1).val
  let v2206 : Index := Scalar.indexCast arg1
  let c55_1215 : Index := 55#32
  let c2_1216 : Index := 2#32
  ![v2206.toNat, 55, 2]
def k2_off444 (i : grid2.Coords) : Fin 3 → Nat :=
  let arg1 : BitVec 32 := BitVec.ofNat 32 (i 1).val
  let v2208 : Index := Scalar.indexCast arg1
  let c55_1217 : Index := 55#32
  let c3_1218 : Index := 3#32
  ![v2208.toNat, 55, 3]
def k2_mult221 (v2203 : BitVec 32) : BitVec 32 :=
  let c64_i32_1219 : BitVec 32 := 64#32
  let v2210 : BitVec 32 := Scalar.muli v2203 c64_i32_1219
  v2210

def k2_off445 (v2203 : BitVec 32) : Fin 3 → Nat :=
  let c0_1220 : Index := 0#32
  let c64_i32_1219 : BitVec 32 := 64#32
  let v2210 : BitVec 32 := Scalar.muli v2203 c64_i32_1219
  let v2211 : BitVec 32 := v2210
  let v2212 : Index := Scalar.indexCast v2211
  let c0_1221 : Index := 0#32
  ![0, v2212.toNat, 0]

def k2_chk221 (v2203 : BitVec 32) : Prop :=
  (64 ∣ (k2_mult221 v2203).toNat) ∧
  (∀ a, (k2_off445 v2203) a + S1x64x384.size a ≤ S1x4096x384.size a)
theorem k2_mult221_dvd : ∀ (v2203 : BitVec 32) (k2_hw221 : k2_chk221 v2203), 64 ∣ (k2_mult221 v2203).toNat := fun v2203 k2_hw221 => k2_hw221.1
theorem k2_off445_inb : ∀ (v2203 : BitVec 32) (k2_hw221 : k2_chk221 v2203), ∀ a, (k2_off445 v2203) a + S1x64x384.size a ≤ S1x4096x384.size a := fun v2203 k2_hw221 => k2_hw221.2

def k2_mult222 (v2205 : BitVec 32) : BitVec 32 :=
  let c64_i32_1222 : BitVec 32 := 64#32
  let v2215 : BitVec 32 := Scalar.muli v2205 c64_i32_1222
  v2215

def k2_off446 (v2205 : BitVec 32) : Fin 3 → Nat :=
  let c0_1223 : Index := 0#32
  let c64_i32_1222 : BitVec 32 := 64#32
  let v2215 : BitVec 32 := Scalar.muli v2205 c64_i32_1222
  let v2216 : BitVec 32 := v2215
  let v2217 : Index := Scalar.indexCast v2216
  let c0_1224 : Index := 0#32
  ![0, v2217.toNat, 0]

def k2_chk222 (v2205 : BitVec 32) : Prop :=
  (64 ∣ (k2_mult222 v2205).toNat) ∧
  (∀ a, (k2_off446 v2205) a + S1x64x384.size a ≤ S1x4096x384.size a)
theorem k2_mult222_dvd : ∀ (v2205 : BitVec 32) (k2_hw222 : k2_chk222 v2205), 64 ∣ (k2_mult222 v2205).toNat := fun v2205 k2_hw222 => k2_hw222.1
theorem k2_off446_inb : ∀ (v2205 : BitVec 32) (k2_hw222 : k2_chk222 v2205), ∀ a, (k2_off446 v2205) a + S1x64x384.size a ≤ S1x4096x384.size a := fun v2205 k2_hw222 => k2_hw222.2

def k2_mult223 (v2207 : BitVec 32) : BitVec 32 :=
  let c64_i32_1225 : BitVec 32 := 64#32
  let v2221 : BitVec 32 := Scalar.muli v2207 c64_i32_1225
  v2221

def k2_off447 (v2207 : BitVec 32) : Fin 3 → Nat :=
  let c0_1226 : Index := 0#32
  let c64_i32_1225 : BitVec 32 := 64#32
  let v2221 : BitVec 32 := Scalar.muli v2207 c64_i32_1225
  let v2222 : BitVec 32 := v2221
  let v2223 : Index := Scalar.indexCast v2222
  let c0_1227 : Index := 0#32
  ![0, v2223.toNat, 0]

def k2_chk223 (v2207 : BitVec 32) : Prop :=
  (64 ∣ (k2_mult223 v2207).toNat) ∧
  (∀ a, (k2_off447 v2207) a + S1x64x384.size a ≤ S1x4096x384.size a)
theorem k2_mult223_dvd : ∀ (v2207 : BitVec 32) (k2_hw223 : k2_chk223 v2207), 64 ∣ (k2_mult223 v2207).toNat := fun v2207 k2_hw223 => k2_hw223.1
theorem k2_off447_inb : ∀ (v2207 : BitVec 32) (k2_hw223 : k2_chk223 v2207), ∀ a, (k2_off447 v2207) a + S1x64x384.size a ≤ S1x4096x384.size a := fun v2207 k2_hw223 => k2_hw223.2

def k2_mult224 (v2209 : BitVec 32) : BitVec 32 :=
  let c64_i32_1228 : BitVec 32 := 64#32
  let v2227 : BitVec 32 := Scalar.muli v2209 c64_i32_1228
  v2227

def k2_off448 (v2209 : BitVec 32) : Fin 3 → Nat :=
  let c0_1229 : Index := 0#32
  let c64_i32_1228 : BitVec 32 := 64#32
  let v2227 : BitVec 32 := Scalar.muli v2209 c64_i32_1228
  let v2228 : BitVec 32 := v2227
  let v2229 : Index := Scalar.indexCast v2228
  let c0_1230 : Index := 0#32
  ![0, v2229.toNat, 0]

def k2_chk224 (v2209 : BitVec 32) : Prop :=
  (64 ∣ (k2_mult224 v2209).toNat) ∧
  (∀ a, (k2_off448 v2209) a + S1x64x384.size a ≤ S1x4096x384.size a)
theorem k2_mult224_dvd : ∀ (v2209 : BitVec 32) (k2_hw224 : k2_chk224 v2209), 64 ∣ (k2_mult224 v2209).toNat := fun v2209 k2_hw224 => k2_hw224.1
theorem k2_off448_inb : ∀ (v2209 : BitVec 32) (k2_hw224 : k2_chk224 v2209), ∀ a, (k2_off448 v2209) a + S1x64x384.size a ≤ S1x4096x384.size a := fun v2209 k2_hw224 => k2_hw224.2

def k2_off449 (i : grid2.Coords) : Fin 3 → Nat :=
  let arg1 : BitVec 32 := BitVec.ofNat 32 (i 1).val
  let v2242 : Index := Scalar.indexCast arg1
  let c56 : Index := 56#32
  let c0_1234 : Index := 0#32
  ![v2242.toNat, 56, 0]
def k2_off450 (i : grid2.Coords) : Fin 3 → Nat :=
  let arg1 : BitVec 32 := BitVec.ofNat 32 (i 1).val
  let v2244 : Index := Scalar.indexCast arg1
  let c56_1235 : Index := 56#32
  let c1_1236 : Index := 1#32
  ![v2244.toNat, 56, 1]
def k2_off451 (i : grid2.Coords) : Fin 3 → Nat :=
  let arg1 : BitVec 32 := BitVec.ofNat 32 (i 1).val
  let v2246 : Index := Scalar.indexCast arg1
  let c56_1237 : Index := 56#32
  let c2_1238 : Index := 2#32
  ![v2246.toNat, 56, 2]
def k2_off452 (i : grid2.Coords) : Fin 3 → Nat :=
  let arg1 : BitVec 32 := BitVec.ofNat 32 (i 1).val
  let v2248 : Index := Scalar.indexCast arg1
  let c56_1239 : Index := 56#32
  let c3_1240 : Index := 3#32
  ![v2248.toNat, 56, 3]
def k2_mult225 (v2243 : BitVec 32) : BitVec 32 :=
  let c64_i32_1241 : BitVec 32 := 64#32
  let v2250 : BitVec 32 := Scalar.muli v2243 c64_i32_1241
  v2250

def k2_off453 (v2243 : BitVec 32) : Fin 3 → Nat :=
  let c0_1242 : Index := 0#32
  let c64_i32_1241 : BitVec 32 := 64#32
  let v2250 : BitVec 32 := Scalar.muli v2243 c64_i32_1241
  let v2251 : BitVec 32 := v2250
  let v2252 : Index := Scalar.indexCast v2251
  let c0_1243 : Index := 0#32
  ![0, v2252.toNat, 0]

def k2_chk225 (v2243 : BitVec 32) : Prop :=
  (64 ∣ (k2_mult225 v2243).toNat) ∧
  (∀ a, (k2_off453 v2243) a + S1x64x384.size a ≤ S1x4096x384.size a)
theorem k2_mult225_dvd : ∀ (v2243 : BitVec 32) (k2_hw225 : k2_chk225 v2243), 64 ∣ (k2_mult225 v2243).toNat := fun v2243 k2_hw225 => k2_hw225.1
theorem k2_off453_inb : ∀ (v2243 : BitVec 32) (k2_hw225 : k2_chk225 v2243), ∀ a, (k2_off453 v2243) a + S1x64x384.size a ≤ S1x4096x384.size a := fun v2243 k2_hw225 => k2_hw225.2

def k2_mult226 (v2245 : BitVec 32) : BitVec 32 :=
  let c64_i32_1244 : BitVec 32 := 64#32
  let v2255 : BitVec 32 := Scalar.muli v2245 c64_i32_1244
  v2255

def k2_off454 (v2245 : BitVec 32) : Fin 3 → Nat :=
  let c0_1245 : Index := 0#32
  let c64_i32_1244 : BitVec 32 := 64#32
  let v2255 : BitVec 32 := Scalar.muli v2245 c64_i32_1244
  let v2256 : BitVec 32 := v2255
  let v2257 : Index := Scalar.indexCast v2256
  let c0_1246 : Index := 0#32
  ![0, v2257.toNat, 0]

def k2_chk226 (v2245 : BitVec 32) : Prop :=
  (64 ∣ (k2_mult226 v2245).toNat) ∧
  (∀ a, (k2_off454 v2245) a + S1x64x384.size a ≤ S1x4096x384.size a)
theorem k2_mult226_dvd : ∀ (v2245 : BitVec 32) (k2_hw226 : k2_chk226 v2245), 64 ∣ (k2_mult226 v2245).toNat := fun v2245 k2_hw226 => k2_hw226.1
theorem k2_off454_inb : ∀ (v2245 : BitVec 32) (k2_hw226 : k2_chk226 v2245), ∀ a, (k2_off454 v2245) a + S1x64x384.size a ≤ S1x4096x384.size a := fun v2245 k2_hw226 => k2_hw226.2

def k2_mult227 (v2247 : BitVec 32) : BitVec 32 :=
  let c64_i32_1247 : BitVec 32 := 64#32
  let v2261 : BitVec 32 := Scalar.muli v2247 c64_i32_1247
  v2261

def k2_off455 (v2247 : BitVec 32) : Fin 3 → Nat :=
  let c0_1248 : Index := 0#32
  let c64_i32_1247 : BitVec 32 := 64#32
  let v2261 : BitVec 32 := Scalar.muli v2247 c64_i32_1247
  let v2262 : BitVec 32 := v2261
  let v2263 : Index := Scalar.indexCast v2262
  let c0_1249 : Index := 0#32
  ![0, v2263.toNat, 0]

def k2_chk227 (v2247 : BitVec 32) : Prop :=
  (64 ∣ (k2_mult227 v2247).toNat) ∧
  (∀ a, (k2_off455 v2247) a + S1x64x384.size a ≤ S1x4096x384.size a)
theorem k2_mult227_dvd : ∀ (v2247 : BitVec 32) (k2_hw227 : k2_chk227 v2247), 64 ∣ (k2_mult227 v2247).toNat := fun v2247 k2_hw227 => k2_hw227.1
theorem k2_off455_inb : ∀ (v2247 : BitVec 32) (k2_hw227 : k2_chk227 v2247), ∀ a, (k2_off455 v2247) a + S1x64x384.size a ≤ S1x4096x384.size a := fun v2247 k2_hw227 => k2_hw227.2

def k2_mult228 (v2249 : BitVec 32) : BitVec 32 :=
  let c64_i32_1250 : BitVec 32 := 64#32
  let v2267 : BitVec 32 := Scalar.muli v2249 c64_i32_1250
  v2267

def k2_off456 (v2249 : BitVec 32) : Fin 3 → Nat :=
  let c0_1251 : Index := 0#32
  let c64_i32_1250 : BitVec 32 := 64#32
  let v2267 : BitVec 32 := Scalar.muli v2249 c64_i32_1250
  let v2268 : BitVec 32 := v2267
  let v2269 : Index := Scalar.indexCast v2268
  let c0_1252 : Index := 0#32
  ![0, v2269.toNat, 0]

def k2_chk228 (v2249 : BitVec 32) : Prop :=
  (64 ∣ (k2_mult228 v2249).toNat) ∧
  (∀ a, (k2_off456 v2249) a + S1x64x384.size a ≤ S1x4096x384.size a)
theorem k2_mult228_dvd : ∀ (v2249 : BitVec 32) (k2_hw228 : k2_chk228 v2249), 64 ∣ (k2_mult228 v2249).toNat := fun v2249 k2_hw228 => k2_hw228.1
theorem k2_off456_inb : ∀ (v2249 : BitVec 32) (k2_hw228 : k2_chk228 v2249), ∀ a, (k2_off456 v2249) a + S1x64x384.size a ≤ S1x4096x384.size a := fun v2249 k2_hw228 => k2_hw228.2

def k2_off457 (i : grid2.Coords) : Fin 3 → Nat :=
  let arg1 : BitVec 32 := BitVec.ofNat 32 (i 1).val
  let v2282 : Index := Scalar.indexCast arg1
  let c57 : Index := 57#32
  let c0_1256 : Index := 0#32
  ![v2282.toNat, 57, 0]
def k2_off458 (i : grid2.Coords) : Fin 3 → Nat :=
  let arg1 : BitVec 32 := BitVec.ofNat 32 (i 1).val
  let v2284 : Index := Scalar.indexCast arg1
  let c57_1257 : Index := 57#32
  let c1_1258 : Index := 1#32
  ![v2284.toNat, 57, 1]
def k2_off459 (i : grid2.Coords) : Fin 3 → Nat :=
  let arg1 : BitVec 32 := BitVec.ofNat 32 (i 1).val
  let v2286 : Index := Scalar.indexCast arg1
  let c57_1259 : Index := 57#32
  let c2_1260 : Index := 2#32
  ![v2286.toNat, 57, 2]
def k2_off460 (i : grid2.Coords) : Fin 3 → Nat :=
  let arg1 : BitVec 32 := BitVec.ofNat 32 (i 1).val
  let v2288 : Index := Scalar.indexCast arg1
  let c57_1261 : Index := 57#32
  let c3_1262 : Index := 3#32
  ![v2288.toNat, 57, 3]
def k2_mult229 (v2283 : BitVec 32) : BitVec 32 :=
  let c64_i32_1263 : BitVec 32 := 64#32
  let v2290 : BitVec 32 := Scalar.muli v2283 c64_i32_1263
  v2290

def k2_off461 (v2283 : BitVec 32) : Fin 3 → Nat :=
  let c0_1264 : Index := 0#32
  let c64_i32_1263 : BitVec 32 := 64#32
  let v2290 : BitVec 32 := Scalar.muli v2283 c64_i32_1263
  let v2291 : BitVec 32 := v2290
  let v2292 : Index := Scalar.indexCast v2291
  let c0_1265 : Index := 0#32
  ![0, v2292.toNat, 0]

def k2_chk229 (v2283 : BitVec 32) : Prop :=
  (64 ∣ (k2_mult229 v2283).toNat) ∧
  (∀ a, (k2_off461 v2283) a + S1x64x384.size a ≤ S1x4096x384.size a)
theorem k2_mult229_dvd : ∀ (v2283 : BitVec 32) (k2_hw229 : k2_chk229 v2283), 64 ∣ (k2_mult229 v2283).toNat := fun v2283 k2_hw229 => k2_hw229.1
theorem k2_off461_inb : ∀ (v2283 : BitVec 32) (k2_hw229 : k2_chk229 v2283), ∀ a, (k2_off461 v2283) a + S1x64x384.size a ≤ S1x4096x384.size a := fun v2283 k2_hw229 => k2_hw229.2

def k2_mult230 (v2285 : BitVec 32) : BitVec 32 :=
  let c64_i32_1266 : BitVec 32 := 64#32
  let v2295 : BitVec 32 := Scalar.muli v2285 c64_i32_1266
  v2295

def k2_off462 (v2285 : BitVec 32) : Fin 3 → Nat :=
  let c0_1267 : Index := 0#32
  let c64_i32_1266 : BitVec 32 := 64#32
  let v2295 : BitVec 32 := Scalar.muli v2285 c64_i32_1266
  let v2296 : BitVec 32 := v2295
  let v2297 : Index := Scalar.indexCast v2296
  let c0_1268 : Index := 0#32
  ![0, v2297.toNat, 0]

def k2_chk230 (v2285 : BitVec 32) : Prop :=
  (64 ∣ (k2_mult230 v2285).toNat) ∧
  (∀ a, (k2_off462 v2285) a + S1x64x384.size a ≤ S1x4096x384.size a)
theorem k2_mult230_dvd : ∀ (v2285 : BitVec 32) (k2_hw230 : k2_chk230 v2285), 64 ∣ (k2_mult230 v2285).toNat := fun v2285 k2_hw230 => k2_hw230.1
theorem k2_off462_inb : ∀ (v2285 : BitVec 32) (k2_hw230 : k2_chk230 v2285), ∀ a, (k2_off462 v2285) a + S1x64x384.size a ≤ S1x4096x384.size a := fun v2285 k2_hw230 => k2_hw230.2

def k2_mult231 (v2287 : BitVec 32) : BitVec 32 :=
  let c64_i32_1269 : BitVec 32 := 64#32
  let v2301 : BitVec 32 := Scalar.muli v2287 c64_i32_1269
  v2301

def k2_off463 (v2287 : BitVec 32) : Fin 3 → Nat :=
  let c0_1270 : Index := 0#32
  let c64_i32_1269 : BitVec 32 := 64#32
  let v2301 : BitVec 32 := Scalar.muli v2287 c64_i32_1269
  let v2302 : BitVec 32 := v2301
  let v2303 : Index := Scalar.indexCast v2302
  let c0_1271 : Index := 0#32
  ![0, v2303.toNat, 0]

def k2_chk231 (v2287 : BitVec 32) : Prop :=
  (64 ∣ (k2_mult231 v2287).toNat) ∧
  (∀ a, (k2_off463 v2287) a + S1x64x384.size a ≤ S1x4096x384.size a)
theorem k2_mult231_dvd : ∀ (v2287 : BitVec 32) (k2_hw231 : k2_chk231 v2287), 64 ∣ (k2_mult231 v2287).toNat := fun v2287 k2_hw231 => k2_hw231.1
theorem k2_off463_inb : ∀ (v2287 : BitVec 32) (k2_hw231 : k2_chk231 v2287), ∀ a, (k2_off463 v2287) a + S1x64x384.size a ≤ S1x4096x384.size a := fun v2287 k2_hw231 => k2_hw231.2

def k2_mult232 (v2289 : BitVec 32) : BitVec 32 :=
  let c64_i32_1272 : BitVec 32 := 64#32
  let v2307 : BitVec 32 := Scalar.muli v2289 c64_i32_1272
  v2307

def k2_off464 (v2289 : BitVec 32) : Fin 3 → Nat :=
  let c0_1273 : Index := 0#32
  let c64_i32_1272 : BitVec 32 := 64#32
  let v2307 : BitVec 32 := Scalar.muli v2289 c64_i32_1272
  let v2308 : BitVec 32 := v2307
  let v2309 : Index := Scalar.indexCast v2308
  let c0_1274 : Index := 0#32
  ![0, v2309.toNat, 0]

def k2_chk232 (v2289 : BitVec 32) : Prop :=
  (64 ∣ (k2_mult232 v2289).toNat) ∧
  (∀ a, (k2_off464 v2289) a + S1x64x384.size a ≤ S1x4096x384.size a)
theorem k2_mult232_dvd : ∀ (v2289 : BitVec 32) (k2_hw232 : k2_chk232 v2289), 64 ∣ (k2_mult232 v2289).toNat := fun v2289 k2_hw232 => k2_hw232.1
theorem k2_off464_inb : ∀ (v2289 : BitVec 32) (k2_hw232 : k2_chk232 v2289), ∀ a, (k2_off464 v2289) a + S1x64x384.size a ≤ S1x4096x384.size a := fun v2289 k2_hw232 => k2_hw232.2

def k2_off465 (i : grid2.Coords) : Fin 3 → Nat :=
  let arg1 : BitVec 32 := BitVec.ofNat 32 (i 1).val
  let v2322 : Index := Scalar.indexCast arg1
  let c58 : Index := 58#32
  let c0_1278 : Index := 0#32
  ![v2322.toNat, 58, 0]
def k2_off466 (i : grid2.Coords) : Fin 3 → Nat :=
  let arg1 : BitVec 32 := BitVec.ofNat 32 (i 1).val
  let v2324 : Index := Scalar.indexCast arg1
  let c58_1279 : Index := 58#32
  let c1_1280 : Index := 1#32
  ![v2324.toNat, 58, 1]
def k2_off467 (i : grid2.Coords) : Fin 3 → Nat :=
  let arg1 : BitVec 32 := BitVec.ofNat 32 (i 1).val
  let v2326 : Index := Scalar.indexCast arg1
  let c58_1281 : Index := 58#32
  let c2_1282 : Index := 2#32
  ![v2326.toNat, 58, 2]
def k2_off468 (i : grid2.Coords) : Fin 3 → Nat :=
  let arg1 : BitVec 32 := BitVec.ofNat 32 (i 1).val
  let v2328 : Index := Scalar.indexCast arg1
  let c58_1283 : Index := 58#32
  let c3_1284 : Index := 3#32
  ![v2328.toNat, 58, 3]
def k2_mult233 (v2323 : BitVec 32) : BitVec 32 :=
  let c64_i32_1285 : BitVec 32 := 64#32
  let v2330 : BitVec 32 := Scalar.muli v2323 c64_i32_1285
  v2330

def k2_off469 (v2323 : BitVec 32) : Fin 3 → Nat :=
  let c0_1286 : Index := 0#32
  let c64_i32_1285 : BitVec 32 := 64#32
  let v2330 : BitVec 32 := Scalar.muli v2323 c64_i32_1285
  let v2331 : BitVec 32 := v2330
  let v2332 : Index := Scalar.indexCast v2331
  let c0_1287 : Index := 0#32
  ![0, v2332.toNat, 0]

def k2_chk233 (v2323 : BitVec 32) : Prop :=
  (64 ∣ (k2_mult233 v2323).toNat) ∧
  (∀ a, (k2_off469 v2323) a + S1x64x384.size a ≤ S1x4096x384.size a)
theorem k2_mult233_dvd : ∀ (v2323 : BitVec 32) (k2_hw233 : k2_chk233 v2323), 64 ∣ (k2_mult233 v2323).toNat := fun v2323 k2_hw233 => k2_hw233.1
theorem k2_off469_inb : ∀ (v2323 : BitVec 32) (k2_hw233 : k2_chk233 v2323), ∀ a, (k2_off469 v2323) a + S1x64x384.size a ≤ S1x4096x384.size a := fun v2323 k2_hw233 => k2_hw233.2

def k2_mult234 (v2325 : BitVec 32) : BitVec 32 :=
  let c64_i32_1288 : BitVec 32 := 64#32
  let v2335 : BitVec 32 := Scalar.muli v2325 c64_i32_1288
  v2335

def k2_off470 (v2325 : BitVec 32) : Fin 3 → Nat :=
  let c0_1289 : Index := 0#32
  let c64_i32_1288 : BitVec 32 := 64#32
  let v2335 : BitVec 32 := Scalar.muli v2325 c64_i32_1288
  let v2336 : BitVec 32 := v2335
  let v2337 : Index := Scalar.indexCast v2336
  let c0_1290 : Index := 0#32
  ![0, v2337.toNat, 0]

def k2_chk234 (v2325 : BitVec 32) : Prop :=
  (64 ∣ (k2_mult234 v2325).toNat) ∧
  (∀ a, (k2_off470 v2325) a + S1x64x384.size a ≤ S1x4096x384.size a)
theorem k2_mult234_dvd : ∀ (v2325 : BitVec 32) (k2_hw234 : k2_chk234 v2325), 64 ∣ (k2_mult234 v2325).toNat := fun v2325 k2_hw234 => k2_hw234.1
theorem k2_off470_inb : ∀ (v2325 : BitVec 32) (k2_hw234 : k2_chk234 v2325), ∀ a, (k2_off470 v2325) a + S1x64x384.size a ≤ S1x4096x384.size a := fun v2325 k2_hw234 => k2_hw234.2

def k2_mult235 (v2327 : BitVec 32) : BitVec 32 :=
  let c64_i32_1291 : BitVec 32 := 64#32
  let v2341 : BitVec 32 := Scalar.muli v2327 c64_i32_1291
  v2341

def k2_off471 (v2327 : BitVec 32) : Fin 3 → Nat :=
  let c0_1292 : Index := 0#32
  let c64_i32_1291 : BitVec 32 := 64#32
  let v2341 : BitVec 32 := Scalar.muli v2327 c64_i32_1291
  let v2342 : BitVec 32 := v2341
  let v2343 : Index := Scalar.indexCast v2342
  let c0_1293 : Index := 0#32
  ![0, v2343.toNat, 0]

def k2_chk235 (v2327 : BitVec 32) : Prop :=
  (64 ∣ (k2_mult235 v2327).toNat) ∧
  (∀ a, (k2_off471 v2327) a + S1x64x384.size a ≤ S1x4096x384.size a)
theorem k2_mult235_dvd : ∀ (v2327 : BitVec 32) (k2_hw235 : k2_chk235 v2327), 64 ∣ (k2_mult235 v2327).toNat := fun v2327 k2_hw235 => k2_hw235.1
theorem k2_off471_inb : ∀ (v2327 : BitVec 32) (k2_hw235 : k2_chk235 v2327), ∀ a, (k2_off471 v2327) a + S1x64x384.size a ≤ S1x4096x384.size a := fun v2327 k2_hw235 => k2_hw235.2

def k2_mult236 (v2329 : BitVec 32) : BitVec 32 :=
  let c64_i32_1294 : BitVec 32 := 64#32
  let v2347 : BitVec 32 := Scalar.muli v2329 c64_i32_1294
  v2347

def k2_off472 (v2329 : BitVec 32) : Fin 3 → Nat :=
  let c0_1295 : Index := 0#32
  let c64_i32_1294 : BitVec 32 := 64#32
  let v2347 : BitVec 32 := Scalar.muli v2329 c64_i32_1294
  let v2348 : BitVec 32 := v2347
  let v2349 : Index := Scalar.indexCast v2348
  let c0_1296 : Index := 0#32
  ![0, v2349.toNat, 0]

def k2_chk236 (v2329 : BitVec 32) : Prop :=
  (64 ∣ (k2_mult236 v2329).toNat) ∧
  (∀ a, (k2_off472 v2329) a + S1x64x384.size a ≤ S1x4096x384.size a)
theorem k2_mult236_dvd : ∀ (v2329 : BitVec 32) (k2_hw236 : k2_chk236 v2329), 64 ∣ (k2_mult236 v2329).toNat := fun v2329 k2_hw236 => k2_hw236.1
theorem k2_off472_inb : ∀ (v2329 : BitVec 32) (k2_hw236 : k2_chk236 v2329), ∀ a, (k2_off472 v2329) a + S1x64x384.size a ≤ S1x4096x384.size a := fun v2329 k2_hw236 => k2_hw236.2

def k2_off473 (i : grid2.Coords) : Fin 3 → Nat :=
  let arg1 : BitVec 32 := BitVec.ofNat 32 (i 1).val
  let v2362 : Index := Scalar.indexCast arg1
  let c59 : Index := 59#32
  let c0_1300 : Index := 0#32
  ![v2362.toNat, 59, 0]
def k2_off474 (i : grid2.Coords) : Fin 3 → Nat :=
  let arg1 : BitVec 32 := BitVec.ofNat 32 (i 1).val
  let v2364 : Index := Scalar.indexCast arg1
  let c59_1301 : Index := 59#32
  let c1_1302 : Index := 1#32
  ![v2364.toNat, 59, 1]
def k2_off475 (i : grid2.Coords) : Fin 3 → Nat :=
  let arg1 : BitVec 32 := BitVec.ofNat 32 (i 1).val
  let v2366 : Index := Scalar.indexCast arg1
  let c59_1303 : Index := 59#32
  let c2_1304 : Index := 2#32
  ![v2366.toNat, 59, 2]
def k2_off476 (i : grid2.Coords) : Fin 3 → Nat :=
  let arg1 : BitVec 32 := BitVec.ofNat 32 (i 1).val
  let v2368 : Index := Scalar.indexCast arg1
  let c59_1305 : Index := 59#32
  let c3_1306 : Index := 3#32
  ![v2368.toNat, 59, 3]
def k2_mult237 (v2363 : BitVec 32) : BitVec 32 :=
  let c64_i32_1307 : BitVec 32 := 64#32
  let v2370 : BitVec 32 := Scalar.muli v2363 c64_i32_1307
  v2370

def k2_off477 (v2363 : BitVec 32) : Fin 3 → Nat :=
  let c0_1308 : Index := 0#32
  let c64_i32_1307 : BitVec 32 := 64#32
  let v2370 : BitVec 32 := Scalar.muli v2363 c64_i32_1307
  let v2371 : BitVec 32 := v2370
  let v2372 : Index := Scalar.indexCast v2371
  let c0_1309 : Index := 0#32
  ![0, v2372.toNat, 0]

def k2_chk237 (v2363 : BitVec 32) : Prop :=
  (64 ∣ (k2_mult237 v2363).toNat) ∧
  (∀ a, (k2_off477 v2363) a + S1x64x384.size a ≤ S1x4096x384.size a)
theorem k2_mult237_dvd : ∀ (v2363 : BitVec 32) (k2_hw237 : k2_chk237 v2363), 64 ∣ (k2_mult237 v2363).toNat := fun v2363 k2_hw237 => k2_hw237.1
theorem k2_off477_inb : ∀ (v2363 : BitVec 32) (k2_hw237 : k2_chk237 v2363), ∀ a, (k2_off477 v2363) a + S1x64x384.size a ≤ S1x4096x384.size a := fun v2363 k2_hw237 => k2_hw237.2

def k2_mult238 (v2365 : BitVec 32) : BitVec 32 :=
  let c64_i32_1310 : BitVec 32 := 64#32
  let v2375 : BitVec 32 := Scalar.muli v2365 c64_i32_1310
  v2375

def k2_off478 (v2365 : BitVec 32) : Fin 3 → Nat :=
  let c0_1311 : Index := 0#32
  let c64_i32_1310 : BitVec 32 := 64#32
  let v2375 : BitVec 32 := Scalar.muli v2365 c64_i32_1310
  let v2376 : BitVec 32 := v2375
  let v2377 : Index := Scalar.indexCast v2376
  let c0_1312 : Index := 0#32
  ![0, v2377.toNat, 0]

def k2_chk238 (v2365 : BitVec 32) : Prop :=
  (64 ∣ (k2_mult238 v2365).toNat) ∧
  (∀ a, (k2_off478 v2365) a + S1x64x384.size a ≤ S1x4096x384.size a)
theorem k2_mult238_dvd : ∀ (v2365 : BitVec 32) (k2_hw238 : k2_chk238 v2365), 64 ∣ (k2_mult238 v2365).toNat := fun v2365 k2_hw238 => k2_hw238.1
theorem k2_off478_inb : ∀ (v2365 : BitVec 32) (k2_hw238 : k2_chk238 v2365), ∀ a, (k2_off478 v2365) a + S1x64x384.size a ≤ S1x4096x384.size a := fun v2365 k2_hw238 => k2_hw238.2

def k2_mult239 (v2367 : BitVec 32) : BitVec 32 :=
  let c64_i32_1313 : BitVec 32 := 64#32
  let v2381 : BitVec 32 := Scalar.muli v2367 c64_i32_1313
  v2381

def k2_off479 (v2367 : BitVec 32) : Fin 3 → Nat :=
  let c0_1314 : Index := 0#32
  let c64_i32_1313 : BitVec 32 := 64#32
  let v2381 : BitVec 32 := Scalar.muli v2367 c64_i32_1313
  let v2382 : BitVec 32 := v2381
  let v2383 : Index := Scalar.indexCast v2382
  let c0_1315 : Index := 0#32
  ![0, v2383.toNat, 0]

def k2_chk239 (v2367 : BitVec 32) : Prop :=
  (64 ∣ (k2_mult239 v2367).toNat) ∧
  (∀ a, (k2_off479 v2367) a + S1x64x384.size a ≤ S1x4096x384.size a)
theorem k2_mult239_dvd : ∀ (v2367 : BitVec 32) (k2_hw239 : k2_chk239 v2367), 64 ∣ (k2_mult239 v2367).toNat := fun v2367 k2_hw239 => k2_hw239.1
theorem k2_off479_inb : ∀ (v2367 : BitVec 32) (k2_hw239 : k2_chk239 v2367), ∀ a, (k2_off479 v2367) a + S1x64x384.size a ≤ S1x4096x384.size a := fun v2367 k2_hw239 => k2_hw239.2

def k2_mult240 (v2369 : BitVec 32) : BitVec 32 :=
  let c64_i32_1316 : BitVec 32 := 64#32
  let v2387 : BitVec 32 := Scalar.muli v2369 c64_i32_1316
  v2387

def k2_off480 (v2369 : BitVec 32) : Fin 3 → Nat :=
  let c0_1317 : Index := 0#32
  let c64_i32_1316 : BitVec 32 := 64#32
  let v2387 : BitVec 32 := Scalar.muli v2369 c64_i32_1316
  let v2388 : BitVec 32 := v2387
  let v2389 : Index := Scalar.indexCast v2388
  let c0_1318 : Index := 0#32
  ![0, v2389.toNat, 0]

def k2_chk240 (v2369 : BitVec 32) : Prop :=
  (64 ∣ (k2_mult240 v2369).toNat) ∧
  (∀ a, (k2_off480 v2369) a + S1x64x384.size a ≤ S1x4096x384.size a)
theorem k2_mult240_dvd : ∀ (v2369 : BitVec 32) (k2_hw240 : k2_chk240 v2369), 64 ∣ (k2_mult240 v2369).toNat := fun v2369 k2_hw240 => k2_hw240.1
theorem k2_off480_inb : ∀ (v2369 : BitVec 32) (k2_hw240 : k2_chk240 v2369), ∀ a, (k2_off480 v2369) a + S1x64x384.size a ≤ S1x4096x384.size a := fun v2369 k2_hw240 => k2_hw240.2

def k2_off481 (i : grid2.Coords) : Fin 3 → Nat :=
  let arg1 : BitVec 32 := BitVec.ofNat 32 (i 1).val
  let v2402 : Index := Scalar.indexCast arg1
  let c60 : Index := 60#32
  let c0_1322 : Index := 0#32
  ![v2402.toNat, 60, 0]
def k2_off482 (i : grid2.Coords) : Fin 3 → Nat :=
  let arg1 : BitVec 32 := BitVec.ofNat 32 (i 1).val
  let v2404 : Index := Scalar.indexCast arg1
  let c60_1323 : Index := 60#32
  let c1_1324 : Index := 1#32
  ![v2404.toNat, 60, 1]
def k2_off483 (i : grid2.Coords) : Fin 3 → Nat :=
  let arg1 : BitVec 32 := BitVec.ofNat 32 (i 1).val
  let v2406 : Index := Scalar.indexCast arg1
  let c60_1325 : Index := 60#32
  let c2_1326 : Index := 2#32
  ![v2406.toNat, 60, 2]
def k2_off484 (i : grid2.Coords) : Fin 3 → Nat :=
  let arg1 : BitVec 32 := BitVec.ofNat 32 (i 1).val
  let v2408 : Index := Scalar.indexCast arg1
  let c60_1327 : Index := 60#32
  let c3_1328 : Index := 3#32
  ![v2408.toNat, 60, 3]
def k2_mult241 (v2403 : BitVec 32) : BitVec 32 :=
  let c64_i32_1329 : BitVec 32 := 64#32
  let v2410 : BitVec 32 := Scalar.muli v2403 c64_i32_1329
  v2410

def k2_off485 (v2403 : BitVec 32) : Fin 3 → Nat :=
  let c0_1330 : Index := 0#32
  let c64_i32_1329 : BitVec 32 := 64#32
  let v2410 : BitVec 32 := Scalar.muli v2403 c64_i32_1329
  let v2411 : BitVec 32 := v2410
  let v2412 : Index := Scalar.indexCast v2411
  let c0_1331 : Index := 0#32
  ![0, v2412.toNat, 0]

def k2_chk241 (v2403 : BitVec 32) : Prop :=
  (64 ∣ (k2_mult241 v2403).toNat) ∧
  (∀ a, (k2_off485 v2403) a + S1x64x384.size a ≤ S1x4096x384.size a)
theorem k2_mult241_dvd : ∀ (v2403 : BitVec 32) (k2_hw241 : k2_chk241 v2403), 64 ∣ (k2_mult241 v2403).toNat := fun v2403 k2_hw241 => k2_hw241.1
theorem k2_off485_inb : ∀ (v2403 : BitVec 32) (k2_hw241 : k2_chk241 v2403), ∀ a, (k2_off485 v2403) a + S1x64x384.size a ≤ S1x4096x384.size a := fun v2403 k2_hw241 => k2_hw241.2

def k2_mult242 (v2405 : BitVec 32) : BitVec 32 :=
  let c64_i32_1332 : BitVec 32 := 64#32
  let v2415 : BitVec 32 := Scalar.muli v2405 c64_i32_1332
  v2415

def k2_off486 (v2405 : BitVec 32) : Fin 3 → Nat :=
  let c0_1333 : Index := 0#32
  let c64_i32_1332 : BitVec 32 := 64#32
  let v2415 : BitVec 32 := Scalar.muli v2405 c64_i32_1332
  let v2416 : BitVec 32 := v2415
  let v2417 : Index := Scalar.indexCast v2416
  let c0_1334 : Index := 0#32
  ![0, v2417.toNat, 0]

def k2_chk242 (v2405 : BitVec 32) : Prop :=
  (64 ∣ (k2_mult242 v2405).toNat) ∧
  (∀ a, (k2_off486 v2405) a + S1x64x384.size a ≤ S1x4096x384.size a)
theorem k2_mult242_dvd : ∀ (v2405 : BitVec 32) (k2_hw242 : k2_chk242 v2405), 64 ∣ (k2_mult242 v2405).toNat := fun v2405 k2_hw242 => k2_hw242.1
theorem k2_off486_inb : ∀ (v2405 : BitVec 32) (k2_hw242 : k2_chk242 v2405), ∀ a, (k2_off486 v2405) a + S1x64x384.size a ≤ S1x4096x384.size a := fun v2405 k2_hw242 => k2_hw242.2

def k2_mult243 (v2407 : BitVec 32) : BitVec 32 :=
  let c64_i32_1335 : BitVec 32 := 64#32
  let v2421 : BitVec 32 := Scalar.muli v2407 c64_i32_1335
  v2421

def k2_off487 (v2407 : BitVec 32) : Fin 3 → Nat :=
  let c0_1336 : Index := 0#32
  let c64_i32_1335 : BitVec 32 := 64#32
  let v2421 : BitVec 32 := Scalar.muli v2407 c64_i32_1335
  let v2422 : BitVec 32 := v2421
  let v2423 : Index := Scalar.indexCast v2422
  let c0_1337 : Index := 0#32
  ![0, v2423.toNat, 0]

def k2_chk243 (v2407 : BitVec 32) : Prop :=
  (64 ∣ (k2_mult243 v2407).toNat) ∧
  (∀ a, (k2_off487 v2407) a + S1x64x384.size a ≤ S1x4096x384.size a)
theorem k2_mult243_dvd : ∀ (v2407 : BitVec 32) (k2_hw243 : k2_chk243 v2407), 64 ∣ (k2_mult243 v2407).toNat := fun v2407 k2_hw243 => k2_hw243.1
theorem k2_off487_inb : ∀ (v2407 : BitVec 32) (k2_hw243 : k2_chk243 v2407), ∀ a, (k2_off487 v2407) a + S1x64x384.size a ≤ S1x4096x384.size a := fun v2407 k2_hw243 => k2_hw243.2

def k2_mult244 (v2409 : BitVec 32) : BitVec 32 :=
  let c64_i32_1338 : BitVec 32 := 64#32
  let v2427 : BitVec 32 := Scalar.muli v2409 c64_i32_1338
  v2427

def k2_off488 (v2409 : BitVec 32) : Fin 3 → Nat :=
  let c0_1339 : Index := 0#32
  let c64_i32_1338 : BitVec 32 := 64#32
  let v2427 : BitVec 32 := Scalar.muli v2409 c64_i32_1338
  let v2428 : BitVec 32 := v2427
  let v2429 : Index := Scalar.indexCast v2428
  let c0_1340 : Index := 0#32
  ![0, v2429.toNat, 0]

def k2_chk244 (v2409 : BitVec 32) : Prop :=
  (64 ∣ (k2_mult244 v2409).toNat) ∧
  (∀ a, (k2_off488 v2409) a + S1x64x384.size a ≤ S1x4096x384.size a)
theorem k2_mult244_dvd : ∀ (v2409 : BitVec 32) (k2_hw244 : k2_chk244 v2409), 64 ∣ (k2_mult244 v2409).toNat := fun v2409 k2_hw244 => k2_hw244.1
theorem k2_off488_inb : ∀ (v2409 : BitVec 32) (k2_hw244 : k2_chk244 v2409), ∀ a, (k2_off488 v2409) a + S1x64x384.size a ≤ S1x4096x384.size a := fun v2409 k2_hw244 => k2_hw244.2

def k2_off489 (i : grid2.Coords) : Fin 3 → Nat :=
  let arg1 : BitVec 32 := BitVec.ofNat 32 (i 1).val
  let v2442 : Index := Scalar.indexCast arg1
  let c61 : Index := 61#32
  let c0_1344 : Index := 0#32
  ![v2442.toNat, 61, 0]
def k2_off490 (i : grid2.Coords) : Fin 3 → Nat :=
  let arg1 : BitVec 32 := BitVec.ofNat 32 (i 1).val
  let v2444 : Index := Scalar.indexCast arg1
  let c61_1345 : Index := 61#32
  let c1_1346 : Index := 1#32
  ![v2444.toNat, 61, 1]
def k2_off491 (i : grid2.Coords) : Fin 3 → Nat :=
  let arg1 : BitVec 32 := BitVec.ofNat 32 (i 1).val
  let v2446 : Index := Scalar.indexCast arg1
  let c61_1347 : Index := 61#32
  let c2_1348 : Index := 2#32
  ![v2446.toNat, 61, 2]
def k2_off492 (i : grid2.Coords) : Fin 3 → Nat :=
  let arg1 : BitVec 32 := BitVec.ofNat 32 (i 1).val
  let v2448 : Index := Scalar.indexCast arg1
  let c61_1349 : Index := 61#32
  let c3_1350 : Index := 3#32
  ![v2448.toNat, 61, 3]
def k2_mult245 (v2443 : BitVec 32) : BitVec 32 :=
  let c64_i32_1351 : BitVec 32 := 64#32
  let v2450 : BitVec 32 := Scalar.muli v2443 c64_i32_1351
  v2450

def k2_off493 (v2443 : BitVec 32) : Fin 3 → Nat :=
  let c0_1352 : Index := 0#32
  let c64_i32_1351 : BitVec 32 := 64#32
  let v2450 : BitVec 32 := Scalar.muli v2443 c64_i32_1351
  let v2451 : BitVec 32 := v2450
  let v2452 : Index := Scalar.indexCast v2451
  let c0_1353 : Index := 0#32
  ![0, v2452.toNat, 0]

def k2_chk245 (v2443 : BitVec 32) : Prop :=
  (64 ∣ (k2_mult245 v2443).toNat) ∧
  (∀ a, (k2_off493 v2443) a + S1x64x384.size a ≤ S1x4096x384.size a)
theorem k2_mult245_dvd : ∀ (v2443 : BitVec 32) (k2_hw245 : k2_chk245 v2443), 64 ∣ (k2_mult245 v2443).toNat := fun v2443 k2_hw245 => k2_hw245.1
theorem k2_off493_inb : ∀ (v2443 : BitVec 32) (k2_hw245 : k2_chk245 v2443), ∀ a, (k2_off493 v2443) a + S1x64x384.size a ≤ S1x4096x384.size a := fun v2443 k2_hw245 => k2_hw245.2

def k2_mult246 (v2445 : BitVec 32) : BitVec 32 :=
  let c64_i32_1354 : BitVec 32 := 64#32
  let v2455 : BitVec 32 := Scalar.muli v2445 c64_i32_1354
  v2455

def k2_off494 (v2445 : BitVec 32) : Fin 3 → Nat :=
  let c0_1355 : Index := 0#32
  let c64_i32_1354 : BitVec 32 := 64#32
  let v2455 : BitVec 32 := Scalar.muli v2445 c64_i32_1354
  let v2456 : BitVec 32 := v2455
  let v2457 : Index := Scalar.indexCast v2456
  let c0_1356 : Index := 0#32
  ![0, v2457.toNat, 0]

def k2_chk246 (v2445 : BitVec 32) : Prop :=
  (64 ∣ (k2_mult246 v2445).toNat) ∧
  (∀ a, (k2_off494 v2445) a + S1x64x384.size a ≤ S1x4096x384.size a)
theorem k2_mult246_dvd : ∀ (v2445 : BitVec 32) (k2_hw246 : k2_chk246 v2445), 64 ∣ (k2_mult246 v2445).toNat := fun v2445 k2_hw246 => k2_hw246.1
theorem k2_off494_inb : ∀ (v2445 : BitVec 32) (k2_hw246 : k2_chk246 v2445), ∀ a, (k2_off494 v2445) a + S1x64x384.size a ≤ S1x4096x384.size a := fun v2445 k2_hw246 => k2_hw246.2

def k2_mult247 (v2447 : BitVec 32) : BitVec 32 :=
  let c64_i32_1357 : BitVec 32 := 64#32
  let v2461 : BitVec 32 := Scalar.muli v2447 c64_i32_1357
  v2461

def k2_off495 (v2447 : BitVec 32) : Fin 3 → Nat :=
  let c0_1358 : Index := 0#32
  let c64_i32_1357 : BitVec 32 := 64#32
  let v2461 : BitVec 32 := Scalar.muli v2447 c64_i32_1357
  let v2462 : BitVec 32 := v2461
  let v2463 : Index := Scalar.indexCast v2462
  let c0_1359 : Index := 0#32
  ![0, v2463.toNat, 0]

def k2_chk247 (v2447 : BitVec 32) : Prop :=
  (64 ∣ (k2_mult247 v2447).toNat) ∧
  (∀ a, (k2_off495 v2447) a + S1x64x384.size a ≤ S1x4096x384.size a)
theorem k2_mult247_dvd : ∀ (v2447 : BitVec 32) (k2_hw247 : k2_chk247 v2447), 64 ∣ (k2_mult247 v2447).toNat := fun v2447 k2_hw247 => k2_hw247.1
theorem k2_off495_inb : ∀ (v2447 : BitVec 32) (k2_hw247 : k2_chk247 v2447), ∀ a, (k2_off495 v2447) a + S1x64x384.size a ≤ S1x4096x384.size a := fun v2447 k2_hw247 => k2_hw247.2

def k2_mult248 (v2449 : BitVec 32) : BitVec 32 :=
  let c64_i32_1360 : BitVec 32 := 64#32
  let v2467 : BitVec 32 := Scalar.muli v2449 c64_i32_1360
  v2467

def k2_off496 (v2449 : BitVec 32) : Fin 3 → Nat :=
  let c0_1361 : Index := 0#32
  let c64_i32_1360 : BitVec 32 := 64#32
  let v2467 : BitVec 32 := Scalar.muli v2449 c64_i32_1360
  let v2468 : BitVec 32 := v2467
  let v2469 : Index := Scalar.indexCast v2468
  let c0_1362 : Index := 0#32
  ![0, v2469.toNat, 0]

def k2_chk248 (v2449 : BitVec 32) : Prop :=
  (64 ∣ (k2_mult248 v2449).toNat) ∧
  (∀ a, (k2_off496 v2449) a + S1x64x384.size a ≤ S1x4096x384.size a)
theorem k2_mult248_dvd : ∀ (v2449 : BitVec 32) (k2_hw248 : k2_chk248 v2449), 64 ∣ (k2_mult248 v2449).toNat := fun v2449 k2_hw248 => k2_hw248.1
theorem k2_off496_inb : ∀ (v2449 : BitVec 32) (k2_hw248 : k2_chk248 v2449), ∀ a, (k2_off496 v2449) a + S1x64x384.size a ≤ S1x4096x384.size a := fun v2449 k2_hw248 => k2_hw248.2

def k2_off497 (i : grid2.Coords) : Fin 3 → Nat :=
  let arg1 : BitVec 32 := BitVec.ofNat 32 (i 1).val
  let v2482 : Index := Scalar.indexCast arg1
  let c62 : Index := 62#32
  let c0_1366 : Index := 0#32
  ![v2482.toNat, 62, 0]
def k2_off498 (i : grid2.Coords) : Fin 3 → Nat :=
  let arg1 : BitVec 32 := BitVec.ofNat 32 (i 1).val
  let v2484 : Index := Scalar.indexCast arg1
  let c62_1367 : Index := 62#32
  let c1_1368 : Index := 1#32
  ![v2484.toNat, 62, 1]
def k2_off499 (i : grid2.Coords) : Fin 3 → Nat :=
  let arg1 : BitVec 32 := BitVec.ofNat 32 (i 1).val
  let v2486 : Index := Scalar.indexCast arg1
  let c62_1369 : Index := 62#32
  let c2_1370 : Index := 2#32
  ![v2486.toNat, 62, 2]
def k2_off500 (i : grid2.Coords) : Fin 3 → Nat :=
  let arg1 : BitVec 32 := BitVec.ofNat 32 (i 1).val
  let v2488 : Index := Scalar.indexCast arg1
  let c62_1371 : Index := 62#32
  let c3_1372 : Index := 3#32
  ![v2488.toNat, 62, 3]
def k2_mult249 (v2483 : BitVec 32) : BitVec 32 :=
  let c64_i32_1373 : BitVec 32 := 64#32
  let v2490 : BitVec 32 := Scalar.muli v2483 c64_i32_1373
  v2490

def k2_off501 (v2483 : BitVec 32) : Fin 3 → Nat :=
  let c0_1374 : Index := 0#32
  let c64_i32_1373 : BitVec 32 := 64#32
  let v2490 : BitVec 32 := Scalar.muli v2483 c64_i32_1373
  let v2491 : BitVec 32 := v2490
  let v2492 : Index := Scalar.indexCast v2491
  let c0_1375 : Index := 0#32
  ![0, v2492.toNat, 0]

def k2_chk249 (v2483 : BitVec 32) : Prop :=
  (64 ∣ (k2_mult249 v2483).toNat) ∧
  (∀ a, (k2_off501 v2483) a + S1x64x384.size a ≤ S1x4096x384.size a)
theorem k2_mult249_dvd : ∀ (v2483 : BitVec 32) (k2_hw249 : k2_chk249 v2483), 64 ∣ (k2_mult249 v2483).toNat := fun v2483 k2_hw249 => k2_hw249.1
theorem k2_off501_inb : ∀ (v2483 : BitVec 32) (k2_hw249 : k2_chk249 v2483), ∀ a, (k2_off501 v2483) a + S1x64x384.size a ≤ S1x4096x384.size a := fun v2483 k2_hw249 => k2_hw249.2

def k2_mult250 (v2485 : BitVec 32) : BitVec 32 :=
  let c64_i32_1376 : BitVec 32 := 64#32
  let v2495 : BitVec 32 := Scalar.muli v2485 c64_i32_1376
  v2495

def k2_off502 (v2485 : BitVec 32) : Fin 3 → Nat :=
  let c0_1377 : Index := 0#32
  let c64_i32_1376 : BitVec 32 := 64#32
  let v2495 : BitVec 32 := Scalar.muli v2485 c64_i32_1376
  let v2496 : BitVec 32 := v2495
  let v2497 : Index := Scalar.indexCast v2496
  let c0_1378 : Index := 0#32
  ![0, v2497.toNat, 0]

def k2_chk250 (v2485 : BitVec 32) : Prop :=
  (64 ∣ (k2_mult250 v2485).toNat) ∧
  (∀ a, (k2_off502 v2485) a + S1x64x384.size a ≤ S1x4096x384.size a)
theorem k2_mult250_dvd : ∀ (v2485 : BitVec 32) (k2_hw250 : k2_chk250 v2485), 64 ∣ (k2_mult250 v2485).toNat := fun v2485 k2_hw250 => k2_hw250.1
theorem k2_off502_inb : ∀ (v2485 : BitVec 32) (k2_hw250 : k2_chk250 v2485), ∀ a, (k2_off502 v2485) a + S1x64x384.size a ≤ S1x4096x384.size a := fun v2485 k2_hw250 => k2_hw250.2

def k2_mult251 (v2487 : BitVec 32) : BitVec 32 :=
  let c64_i32_1379 : BitVec 32 := 64#32
  let v2501 : BitVec 32 := Scalar.muli v2487 c64_i32_1379
  v2501

def k2_off503 (v2487 : BitVec 32) : Fin 3 → Nat :=
  let c0_1380 : Index := 0#32
  let c64_i32_1379 : BitVec 32 := 64#32
  let v2501 : BitVec 32 := Scalar.muli v2487 c64_i32_1379
  let v2502 : BitVec 32 := v2501
  let v2503 : Index := Scalar.indexCast v2502
  let c0_1381 : Index := 0#32
  ![0, v2503.toNat, 0]

def k2_chk251 (v2487 : BitVec 32) : Prop :=
  (64 ∣ (k2_mult251 v2487).toNat) ∧
  (∀ a, (k2_off503 v2487) a + S1x64x384.size a ≤ S1x4096x384.size a)
theorem k2_mult251_dvd : ∀ (v2487 : BitVec 32) (k2_hw251 : k2_chk251 v2487), 64 ∣ (k2_mult251 v2487).toNat := fun v2487 k2_hw251 => k2_hw251.1
theorem k2_off503_inb : ∀ (v2487 : BitVec 32) (k2_hw251 : k2_chk251 v2487), ∀ a, (k2_off503 v2487) a + S1x64x384.size a ≤ S1x4096x384.size a := fun v2487 k2_hw251 => k2_hw251.2

def k2_mult252 (v2489 : BitVec 32) : BitVec 32 :=
  let c64_i32_1382 : BitVec 32 := 64#32
  let v2507 : BitVec 32 := Scalar.muli v2489 c64_i32_1382
  v2507

def k2_off504 (v2489 : BitVec 32) : Fin 3 → Nat :=
  let c0_1383 : Index := 0#32
  let c64_i32_1382 : BitVec 32 := 64#32
  let v2507 : BitVec 32 := Scalar.muli v2489 c64_i32_1382
  let v2508 : BitVec 32 := v2507
  let v2509 : Index := Scalar.indexCast v2508
  let c0_1384 : Index := 0#32
  ![0, v2509.toNat, 0]

def k2_chk252 (v2489 : BitVec 32) : Prop :=
  (64 ∣ (k2_mult252 v2489).toNat) ∧
  (∀ a, (k2_off504 v2489) a + S1x64x384.size a ≤ S1x4096x384.size a)
theorem k2_mult252_dvd : ∀ (v2489 : BitVec 32) (k2_hw252 : k2_chk252 v2489), 64 ∣ (k2_mult252 v2489).toNat := fun v2489 k2_hw252 => k2_hw252.1
theorem k2_off504_inb : ∀ (v2489 : BitVec 32) (k2_hw252 : k2_chk252 v2489), ∀ a, (k2_off504 v2489) a + S1x64x384.size a ≤ S1x4096x384.size a := fun v2489 k2_hw252 => k2_hw252.2

def k2_off505 (i : grid2.Coords) : Fin 3 → Nat :=
  let arg1 : BitVec 32 := BitVec.ofNat 32 (i 1).val
  let v2522 : Index := Scalar.indexCast arg1
  let c63 : Index := 63#32
  let c0_1388 : Index := 0#32
  ![v2522.toNat, 63, 0]
def k2_off506 (i : grid2.Coords) : Fin 3 → Nat :=
  let arg1 : BitVec 32 := BitVec.ofNat 32 (i 1).val
  let v2524 : Index := Scalar.indexCast arg1
  let c63_1389 : Index := 63#32
  let c1_1390 : Index := 1#32
  ![v2524.toNat, 63, 1]
def k2_off507 (i : grid2.Coords) : Fin 3 → Nat :=
  let arg1 : BitVec 32 := BitVec.ofNat 32 (i 1).val
  let v2526 : Index := Scalar.indexCast arg1
  let c63_1391 : Index := 63#32
  let c2_1392 : Index := 2#32
  ![v2526.toNat, 63, 2]
def k2_off508 (i : grid2.Coords) : Fin 3 → Nat :=
  let arg1 : BitVec 32 := BitVec.ofNat 32 (i 1).val
  let v2528 : Index := Scalar.indexCast arg1
  let c63_1393 : Index := 63#32
  let c3_1394 : Index := 3#32
  ![v2528.toNat, 63, 3]
def k2_mult253 (v2523 : BitVec 32) : BitVec 32 :=
  let c64_i32_1395 : BitVec 32 := 64#32
  let v2530 : BitVec 32 := Scalar.muli v2523 c64_i32_1395
  v2530

def k2_off509 (v2523 : BitVec 32) : Fin 3 → Nat :=
  let c0_1396 : Index := 0#32
  let c64_i32_1395 : BitVec 32 := 64#32
  let v2530 : BitVec 32 := Scalar.muli v2523 c64_i32_1395
  let v2531 : BitVec 32 := v2530
  let v2532 : Index := Scalar.indexCast v2531
  let c0_1397 : Index := 0#32
  ![0, v2532.toNat, 0]

def k2_chk253 (v2523 : BitVec 32) : Prop :=
  (64 ∣ (k2_mult253 v2523).toNat) ∧
  (∀ a, (k2_off509 v2523) a + S1x64x384.size a ≤ S1x4096x384.size a)
theorem k2_mult253_dvd : ∀ (v2523 : BitVec 32) (k2_hw253 : k2_chk253 v2523), 64 ∣ (k2_mult253 v2523).toNat := fun v2523 k2_hw253 => k2_hw253.1
theorem k2_off509_inb : ∀ (v2523 : BitVec 32) (k2_hw253 : k2_chk253 v2523), ∀ a, (k2_off509 v2523) a + S1x64x384.size a ≤ S1x4096x384.size a := fun v2523 k2_hw253 => k2_hw253.2

def k2_mult254 (v2525 : BitVec 32) : BitVec 32 :=
  let c64_i32_1398 : BitVec 32 := 64#32
  let v2535 : BitVec 32 := Scalar.muli v2525 c64_i32_1398
  v2535

def k2_off510 (v2525 : BitVec 32) : Fin 3 → Nat :=
  let c0_1399 : Index := 0#32
  let c64_i32_1398 : BitVec 32 := 64#32
  let v2535 : BitVec 32 := Scalar.muli v2525 c64_i32_1398
  let v2536 : BitVec 32 := v2535
  let v2537 : Index := Scalar.indexCast v2536
  let c0_1400 : Index := 0#32
  ![0, v2537.toNat, 0]

def k2_chk254 (v2525 : BitVec 32) : Prop :=
  (64 ∣ (k2_mult254 v2525).toNat) ∧
  (∀ a, (k2_off510 v2525) a + S1x64x384.size a ≤ S1x4096x384.size a)
theorem k2_mult254_dvd : ∀ (v2525 : BitVec 32) (k2_hw254 : k2_chk254 v2525), 64 ∣ (k2_mult254 v2525).toNat := fun v2525 k2_hw254 => k2_hw254.1
theorem k2_off510_inb : ∀ (v2525 : BitVec 32) (k2_hw254 : k2_chk254 v2525), ∀ a, (k2_off510 v2525) a + S1x64x384.size a ≤ S1x4096x384.size a := fun v2525 k2_hw254 => k2_hw254.2

def k2_mult255 (v2527 : BitVec 32) : BitVec 32 :=
  let c64_i32_1401 : BitVec 32 := 64#32
  let v2541 : BitVec 32 := Scalar.muli v2527 c64_i32_1401
  v2541

def k2_off511 (v2527 : BitVec 32) : Fin 3 → Nat :=
  let c0_1402 : Index := 0#32
  let c64_i32_1401 : BitVec 32 := 64#32
  let v2541 : BitVec 32 := Scalar.muli v2527 c64_i32_1401
  let v2542 : BitVec 32 := v2541
  let v2543 : Index := Scalar.indexCast v2542
  let c0_1403 : Index := 0#32
  ![0, v2543.toNat, 0]

def k2_chk255 (v2527 : BitVec 32) : Prop :=
  (64 ∣ (k2_mult255 v2527).toNat) ∧
  (∀ a, (k2_off511 v2527) a + S1x64x384.size a ≤ S1x4096x384.size a)
theorem k2_mult255_dvd : ∀ (v2527 : BitVec 32) (k2_hw255 : k2_chk255 v2527), 64 ∣ (k2_mult255 v2527).toNat := fun v2527 k2_hw255 => k2_hw255.1
theorem k2_off511_inb : ∀ (v2527 : BitVec 32) (k2_hw255 : k2_chk255 v2527), ∀ a, (k2_off511 v2527) a + S1x64x384.size a ≤ S1x4096x384.size a := fun v2527 k2_hw255 => k2_hw255.2

def k2_mult256 (v2529 : BitVec 32) : BitVec 32 :=
  let c64_i32_1404 : BitVec 32 := 64#32
  let v2547 : BitVec 32 := Scalar.muli v2529 c64_i32_1404
  v2547

def k2_off512 (v2529 : BitVec 32) : Fin 3 → Nat :=
  let c0_1405 : Index := 0#32
  let c64_i32_1404 : BitVec 32 := 64#32
  let v2547 : BitVec 32 := Scalar.muli v2529 c64_i32_1404
  let v2548 : BitVec 32 := v2547
  let v2549 : Index := Scalar.indexCast v2548
  let c0_1406 : Index := 0#32
  ![0, v2549.toNat, 0]

def k2_chk256 (v2529 : BitVec 32) : Prop :=
  (64 ∣ (k2_mult256 v2529).toNat) ∧
  (∀ a, (k2_off512 v2529) a + S1x64x384.size a ≤ S1x4096x384.size a)
theorem k2_mult256_dvd : ∀ (v2529 : BitVec 32) (k2_hw256 : k2_chk256 v2529), 64 ∣ (k2_mult256 v2529).toNat := fun v2529 k2_hw256 => k2_hw256.1
theorem k2_off512_inb : ∀ (v2529 : BitVec 32) (k2_hw256 : k2_chk256 v2529), ∀ a, (k2_off512 v2529) a + S1x64x384.size a ≤ S1x4096x384.size a := fun v2529 k2_hw256 => k2_hw256.2

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage2_0 : Fin 1 → Memref sig .tc .smem S2x64x4 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x2048x384 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x4096x384 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S384x384 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S384x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x2048x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== ReferenceIdeal.lean ====
abbrev S4x2x8x16x16x384 : Shape := ⟨6, ![4, 2, 8, 16, 16, 384]⟩
abbrev S1152x384 : Shape := ⟨2, ![1152, 384]⟩
abbrev S1152 : Shape := ⟨1, ![1152]⟩
abbrev S384x384 : Shape := ⟨2, ![384, 384]⟩
abbrev S384 : Shape := ⟨1, ![384]⟩
abbrev S4x2x4x2x4x4x4x4x384 : Shape := ⟨9, ![4, 2, 4, 2, 4, 4, 4, 4, 384]⟩
abbrev S4x2x4x4x4x2x4x4x384 : Shape := ⟨9, ![4, 2, 4, 4, 4, 2, 4, 4, 384]⟩
abbrev S4x2x64x32x384 : Shape := ⟨5, ![4, 2, 64, 32, 384]⟩
abbrev S_ : Shape := ⟨0, ![]⟩
abbrev S2x64x32x384 : Shape := ⟨4, ![2, 64, 32, 384]⟩
abbrev S2x64x384 : Shape := ⟨3, ![2, 64, 384]⟩
abbrev S2x64x64 : Shape := ⟨3, ![2, 64, 64]⟩
abbrev S2x64x4 : Shape := ⟨3, ![2, 64, 4]⟩
abbrev S384x1152 : Shape := ⟨2, ![384, 1152]⟩
abbrev S4x2x64x32x1152 : Shape := ⟨5, ![4, 2, 64, 32, 1152]⟩
abbrev S1x1x1x1x1152 : Shape := ⟨5, ![1, 1, 1, 1, 1152]⟩
abbrev S4x2x64x32x8x48 : Shape := ⟨6, ![4, 2, 64, 32, 8, 48]⟩
abbrev S2 : Shape := ⟨1, ![2]⟩
abbrev S2x1x1 : Shape := ⟨3, ![2, 1, 1]⟩
abbrev S2x64x4x1 : Shape := ⟨4, ![2, 64, 4, 1]⟩
abbrev S2x64x4x2 : Shape := ⟨4, ![2, 64, 4, 2]⟩
abbrev S4x2x64x4x32x8x48 : Shape := ⟨7, ![4, 2, 64, 4, 32, 8, 48]⟩
abbrev S4x2x64x128x8x48 : Shape := ⟨6, ![4, 2, 64, 128, 8, 48]⟩
abbrev S4x2x64x8x32x48 : Shape := ⟨6, ![4, 2, 64, 8, 32, 48]⟩
abbrev S4x2x64x8x128x48 : Shape := ⟨6, ![4, 2, 64, 8, 128, 48]⟩
abbrev S4x2x64x8x48x48 : Shape := ⟨6, ![4, 2, 64, 8, 48, 48]⟩
abbrev S4x2x64x8x48 : Shape := ⟨5, ![4, 2, 64, 8, 48]⟩
abbrev S4x2x64x8x32 : Shape := ⟨5, ![4, 2, 64, 8, 32]⟩
abbrev S4x2x64x8x32x1 : Shape := ⟨6, ![4, 2, 64, 8, 32, 1]⟩
abbrev S1x1x1x1x384 : Shape := ⟨5, ![1, 1, 1, 1, 384]⟩

abbrev nBuf : Space → Nat
  | .hbm => 128
  | .vmem => 0
  | .smem => 0
  | _ => 0

abbrev bufTy : (tb : Table) → Fin (tcTables nBuf tb) → BufTy
  | .hbm, ⟨0, _⟩ => ⟨S4x2x8x16x16x384, .f32⟩
  | .hbm, ⟨1, _⟩ => ⟨S1152x384, .f32⟩
  | .hbm, ⟨2, _⟩ => ⟨S1152, .f32⟩
  | .hbm, ⟨3, _⟩ => ⟨S384x384, .f32⟩
  | .hbm, ⟨4, _⟩ => ⟨S384, .f32⟩
  | .hbm, ⟨5, _⟩ => ⟨S4x2x4x2x4x4x4x4x384, .f32⟩
  | .hbm, ⟨6, _⟩ => ⟨S4x2x4x4x4x2x4x4x384, .f32⟩
  | .hbm, ⟨7, _⟩ => ⟨S4x2x64x32x384, .f32⟩
  | .hbm, ⟨8, _⟩ => ⟨S_, .f32⟩
  | .hbm, ⟨9, _⟩ => ⟨S2x64x32x384, .f32⟩
  | .hbm, ⟨10, _⟩ => ⟨S_, .f32⟩
  | .hbm, ⟨11, _⟩ => ⟨S2x64x384, .f32⟩
  | .hbm, ⟨12, _⟩ => ⟨S_, .f32⟩
  | .hbm, ⟨13, _⟩ => ⟨S2x64x384, .f32⟩
  | .hbm, ⟨14, _⟩ => ⟨S2x64x384, .f32⟩
  | .hbm, ⟨15, _⟩ => ⟨S2x64x64, .f32⟩
  | .hbm, ⟨16, _⟩ => ⟨S_, .f32⟩
  | .hbm, ⟨17, _⟩ => ⟨S2x64x64, .f32⟩
  | .hbm, ⟨18, _⟩ => ⟨S2x64x64, .f32⟩
  | .hbm, ⟨19, _⟩ => ⟨S2x64x4, .f32⟩
  | .hbm, ⟨20, _⟩ => ⟨S2x64x4, .i32⟩
  | .hbm, ⟨21, _⟩ => ⟨S384x1152, .f32⟩
  | .hbm, ⟨22, _⟩ => ⟨S4x2x64x32x1152, .f32⟩
  | .hbm, ⟨23, _⟩ => ⟨S1x1x1x1x1152, .f32⟩
  | .hbm, ⟨24, _⟩ => ⟨S4x2x64x32x1152, .f32⟩
  | .hbm, ⟨25, _⟩ => ⟨S4x2x64x32x1152, .f32⟩
  | .hbm, ⟨26, _⟩ => ⟨S4x2x64x32x384, .f32⟩
  | .hbm, ⟨27, _⟩ => ⟨S4x2x64x32x384, .f32⟩
  | .hbm, ⟨28, _⟩ => ⟨S4x2x64x32x384, .f32⟩
  | .hbm, ⟨29, _⟩ => ⟨S_, .f32⟩
  | .hbm, ⟨30, _⟩ => ⟨S4x2x64x32x384, .f32⟩
  | .hbm, ⟨31, _⟩ => ⟨S4x2x64x32x384, .f32⟩
  | .hbm, ⟨32, _⟩ => ⟨S_, .f32⟩
  | .hbm, ⟨33, _⟩ => ⟨S4x2x64x32x384, .f32⟩
  | .hbm, ⟨34, _⟩ => ⟨S4x2x64x32x384, .f32⟩
  | .hbm, ⟨35, _⟩ => ⟨S_, .f32⟩
  | .hbm, ⟨36, _⟩ => ⟨S4x2x64x32x384, .f32⟩
  | .hbm, ⟨37, _⟩ => ⟨S4x2x64x32x384, .i1⟩
  | .hbm, ⟨38, _⟩ => ⟨S4x2x64x32x384, .f32⟩
  | .hbm, ⟨39, _⟩ => ⟨S_, .f32⟩
  | .hbm, ⟨40, _⟩ => ⟨S4x2x64x32x384, .f32⟩
  | .hbm, ⟨41, _⟩ => ⟨S4x2x64x32x384, .f32⟩
  | .hbm, ⟨42, _⟩ => ⟨S_, .f32⟩
  | .hbm, ⟨43, _⟩ => ⟨S4x2x64x32x384, .f32⟩
  | .hbm, ⟨44, _⟩ => ⟨S4x2x64x32x384, .f32⟩
  | .hbm, ⟨45, _⟩ => ⟨S_, .f32⟩
  | .hbm, ⟨46, _⟩ => ⟨S4x2x64x32x384, .f32⟩
  | .hbm, ⟨47, _⟩ => ⟨S4x2x64x32x384, .i1⟩
  | .hbm, ⟨48, _⟩ => ⟨S4x2x64x32x384, .f32⟩
  | .hbm, ⟨49, _⟩ => ⟨S_, .f32⟩
  | .hbm, ⟨50, _⟩ => ⟨S4x2x64x32x384, .f32⟩
  | .hbm, ⟨51, _⟩ => ⟨S4x2x64x32x384, .f32⟩
  | .hbm, ⟨52, _⟩ => ⟨S_, .f32⟩
  | .hbm, ⟨53, _⟩ => ⟨S4x2x64x32x384, .f32⟩
  | .hbm, ⟨54, _⟩ => ⟨S4x2x64x32x384, .f32⟩
  | .hbm, ⟨55, _⟩ => ⟨S_, .f32⟩
  | .hbm, ⟨56, _⟩ => ⟨S4x2x64x32x384, .f32⟩
  | .hbm, ⟨57, _⟩ => ⟨S4x2x64x32x384, .i1⟩
  | .hbm, ⟨58, _⟩ => ⟨S4x2x64x32x384, .f32⟩
  | .hbm, ⟨59, _⟩ => ⟨S4x2x64x32x8x48, .f32⟩
  | .hbm, ⟨60, _⟩ => ⟨S4x2x64x32x8x48, .f32⟩
  | .hbm, ⟨61, _⟩ => ⟨S4x2x64x32x8x48, .f32⟩
  | .hbm, ⟨62, _⟩ => ⟨S2, .i32⟩
  | .hbm, ⟨63, _⟩ => ⟨S2x1x1, .i32⟩
  | .hbm, ⟨64, _⟩ => ⟨S_, .i32⟩
  | .hbm, ⟨65, _⟩ => ⟨S2x1x1, .i32⟩
  | .hbm, ⟨66, _⟩ => ⟨S2x1x1, .i1⟩
  | .hbm, ⟨67, _⟩ => ⟨S_, .i32⟩
  | .hbm, ⟨68, _⟩ => ⟨S2x1x1, .i32⟩
  | .hbm, ⟨69, _⟩ => ⟨S2x1x1, .i32⟩
  | .hbm, ⟨70, _⟩ => ⟨S2x1x1, .i32⟩
  | .hbm, ⟨71, _⟩ => ⟨S_, .i32⟩
  | .hbm, ⟨72, _⟩ => ⟨S2x64x4, .i32⟩
  | .hbm, ⟨73, _⟩ => ⟨S2x64x4, .i1⟩
  | .hbm, ⟨74, _⟩ => ⟨S_, .i32⟩
  | .hbm, ⟨75, _⟩ => ⟨S2x64x4, .i32⟩
  | .hbm, ⟨76, _⟩ => ⟨S2x64x4, .i32⟩
  | .hbm, ⟨77, _⟩ => ⟨S2x64x4, .i32⟩
  | .hbm, ⟨78, _⟩ => ⟨S2x64x4, .i32⟩
  | .hbm, ⟨79, _⟩ => ⟨S2x64x4x1, .i32⟩
  | .hbm, ⟨80, _⟩ => ⟨S2x64x4x1, .i32⟩
  | .hbm, ⟨81, _⟩ => ⟨S2x64x4x2, .i32⟩
  | .hbm, ⟨82, _⟩ => ⟨S4x2x64x4x32x8x48, .f32⟩
  | .hbm, ⟨83, _⟩ => ⟨S4x2x64x128x8x48, .f32⟩
  | .hbm, ⟨84, _⟩ => ⟨S_, .i32⟩
  | .hbm, ⟨85, _⟩ => ⟨S2x1x1, .i32⟩
  | .hbm, ⟨86, _⟩ => ⟨S2x1x1, .i1⟩
  | .hbm, ⟨87, _⟩ => ⟨S_, .i32⟩
  | .hbm, ⟨88, _⟩ => ⟨S2x1x1, .i32⟩
  | .hbm, ⟨89, _⟩ => ⟨S2x1x1, .i32⟩
  | .hbm, ⟨90, _⟩ => ⟨S2x1x1, .i32⟩
  | .hbm, ⟨91, _⟩ => ⟨S_, .i32⟩
  | .hbm, ⟨92, _⟩ => ⟨S2x64x4, .i32⟩
  | .hbm, ⟨93, _⟩ => ⟨S2x64x4, .i1⟩
  | .hbm, ⟨94, _⟩ => ⟨S_, .i32⟩
  | .hbm, ⟨95, _⟩ => ⟨S2x64x4, .i32⟩
  | .hbm, ⟨96, _⟩ => ⟨S2x64x4, .i32⟩
  | .hbm, ⟨97, _⟩ => ⟨S2x64x4, .i32⟩
  | .hbm, ⟨98, _⟩ => ⟨S2x64x4, .i32⟩
  | .hbm, ⟨99, _⟩ => ⟨S2x64x4x1, .i32⟩
  | .hbm, ⟨100, _⟩ => ⟨S2x64x4x1, .i32⟩
  | .hbm, ⟨101, _⟩ => ⟨S2x64x4x2, .i32⟩
  | .hbm, ⟨102, _⟩ => ⟨S4x2x64x4x32x8x48, .f32⟩
  | .hbm, ⟨103, _⟩ => ⟨S4x2x64x128x8x48, .f32⟩
  | .hbm, ⟨104, _⟩ => ⟨S4x2x64x8x32x48, .f32⟩
  | .hbm, ⟨105, _⟩ => ⟨S4x2x64x8x128x48, .f32⟩
  | .hbm, ⟨106, _⟩ => ⟨S4x2x64x8x128x48, .f32⟩
  | .hbm, ⟨107, _⟩ => ⟨S4x2x64x8x48x48, .f32⟩
  | .hbm, ⟨108, _⟩ => ⟨S4x2x64x8x32x48, .f32⟩
  | .hbm, ⟨109, _⟩ => ⟨S_, .f32⟩
  | .hbm, ⟨110, _⟩ => ⟨S4x2x64x8x48, .f32⟩
  | .hbm, ⟨111, _⟩ => ⟨S4x2x64x8x32, .f32⟩
  | .hbm, ⟨112, _⟩ => ⟨S4x2x64x8x32x1, .f32⟩
  | .hbm, ⟨113, _⟩ => ⟨S_, .f32⟩
  | .hbm, ⟨114, _⟩ => ⟨S4x2x64x8x32x1, .f32⟩
  | .hbm, ⟨115, _⟩ => ⟨S4x2x64x8x32x1, .f32⟩
  | .hbm, ⟨116, _⟩ => ⟨S4x2x64x8x32x48, .f32⟩
  | .hbm, ⟨117, _⟩ => ⟨S4x2x64x8x32x48, .f32⟩
  | .hbm, ⟨118, _⟩ => ⟨S4x2x64x32x8x48, .f32⟩
  | .hbm, ⟨119, _⟩ => ⟨S4x2x64x32x384, .f32⟩
  | .hbm, ⟨120, _⟩ => ⟨S384x384, .f32⟩
  | .hbm, ⟨121, _⟩ => ⟨S4x2x64x32x384, .f32⟩
  | .hbm, ⟨122, _⟩ => ⟨S1x1x1x1x384, .f32⟩
  | .hbm, ⟨123, _⟩ => ⟨S4x2x64x32x384, .f32⟩
  | .hbm, ⟨124, _⟩ => ⟨S4x2x64x32x384, .f32⟩
  | .hbm, ⟨125, _⟩ => ⟨S4x2x4x4x4x2x4x4x384, .f32⟩
  | .hbm, ⟨126, _⟩ => ⟨S4x2x4x2x4x4x4x4x384, .f32⟩
  | .hbm, ⟨127, _⟩ => ⟨S4x2x8x16x16x384, .f32⟩
  | _, _ => ⟨S4x2x8x16x16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_values : Ref sig .tc := ⟨.hbm, 19, rfl⟩
abbrev main_indices : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c : Ref sig .tc := ⟨.hbm, 64, rfl⟩
abbrev main_v44 : Ref sig .tc := ⟨.hbm, 65, rfl⟩
abbrev main_v45 : Ref sig .tc := ⟨.hbm, 66, rfl⟩
abbrev main_c_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_13 : Ref sig .tc := ⟨.hbm, 71, rfl⟩
abbrev main_v49 : Ref sig .tc := ⟨.hbm, 72, rfl⟩
abbrev main_v50 : Ref sig .tc := ⟨.hbm, 73, rfl⟩
abbrev main_c_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_15 : Ref sig .tc := ⟨.hbm, 84, rfl⟩
abbrev main_v60 : Ref sig .tc := ⟨.hbm, 85, rfl⟩
abbrev main_v61 : Ref sig .tc := ⟨.hbm, 86, rfl⟩
abbrev main_c_16 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_17 : Ref sig .tc := ⟨.hbm, 91, rfl⟩
abbrev main_v65 : Ref sig .tc := ⟨.hbm, 92, rfl⟩
abbrev main_v66 : Ref sig .tc := ⟨.hbm, 93, rfl⟩
abbrev main_c_18 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_19 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_20 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩

abbrev nD : Nat := 1
abbrev τ : Topo := Topo.v7x

variable {F : FTy → Type} [FloatOps F]
-- ==== Proof.Attn.lean ====
/- The third call of @main, the routed attention and the projection: what its body leaves in the result's block, and
   that the body runs to it. The body is unrolled over the 64 windows; what it computes is stated here once for a
   window, and the 64 of them as a family. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The routing table's words -/

/-- A word of the routing table names a window: 64 times it, as the body computes it, is the first row of a block of
    64 rows of the 4096. -/
abbrev NamesWindow (w : BitVec 32) : Prop := k2_chk1 w

/-- Where word `j` of window `n` lies in the table, for the batch the grid point names. -/
def wordOff (i : grid2.Coords) (n : Fin 64) (j : Fin 4) : Fin 3 → Nat :=
  ![(Scalar.indexCast (BitVec.ofNat 32 (i 1).val)).toNat, n.val, j.val]

theorem wordOff_inb (i : grid2.Coords) (n : Fin 64) (j : Fin 4) : ∀ a, wordOff i n j a + S1x1x1.size a ≤ S2x64x4.size a := by
  intro a
  have h0 := k2_off1_inb i 0
  match a with
  | ⟨0, _⟩ => exact h0
  | ⟨1, _⟩ => exact Nat.succ_le_of_lt n.isLt
  | ⟨2, _⟩ => exact Nat.succ_le_of_lt j.isLt

/-- Word `j` of window `n`. -/
def word (i : grid2.Coords) (x0 : Vec F S2x64x4 .i32) (n : Fin 64) (j : Fin 4) : BitVec 32 :=
  View.ld x0 (Rect.unit (s := S2x64x4) (wordOff i n j) S1x1x1.size (wordOff_inb i n j))
    (Shape.Idx.first (numel1_S1x1x1.symm ▸ Nat.one_pos))

/-! ## One window -/

/-- The block of 64 rows that a word names. -/
def named (x2 : Vec F S1x4096x384 .bf16) (w : BitVec 32) (hw : NamesWindow w) : FVec F S64x384 .bf16 :=
  shapeCast S64x384 (View.ld x2 (Rect.unit (s := S1x4096x384) (k2_off5 w) S1x64x384.size (k2_off5_inb w hw))) shapeCasts_S1x64x384_S64x384

/-- The sum of the four blocks routed to window `n`. -/
def routed (i : grid2.Coords) (x0 : Vec F S2x64x4 .i32) (x2 : Vec F S1x4096x384 .bf16) (hok : ∀ y, NamesWindow (x0 y)) (n : Fin 64) :
    FVec F S64x384 .bf16 :=
  addf (addf (addf (named x2 (word i x0 n 0) (hok _)) (named x2 (word i x0 n 1) (hok _))) (named x2 (word i x0 n 2) (hok _)))
    (named x2 (word i x0 n 3) (hok _))

/-- Where window `n`'s 32 rows of queries lie. -/
def rowsOff (n : Fin 64) : Fin 3 → Nat := ![0, 32 * n.val, 0]

theorem rowsOff_inb (n : Fin 64) : ∀ a, rowsOff n a + S1x32x384.size a ≤ S1x2048x384.size a := by
  intro a
  have := n.isLt
  match a with
  | ⟨0, _⟩ => exact Nat.le_refl 1
  | ⟨1, _⟩ => show 32 * n.val + 32 ≤ 2048; omega
  | ⟨2, _⟩ => exact Nat.le_refl 384

/-- Window `n`'s queries. -/
def queries (x1 : Vec F S1x2048x384 .bf16) (n : Fin 64) : FVec F S32x384 .bf16 :=
  shapeCast S32x384 (View.ld x1 (Rect.unit (s := S1x2048x384) (rowsOff n) S1x32x384.size (rowsOff_inb n))) shapeCasts_S1x32x384_S32x384

/-- The mask, as loaded. -/
def maskV (x3 : Vec F S384x384 .bf16) : FVec F S384x384 .bf16 :=
  shapeCast S384x384 (View.ld x3 (Rect.unit (s := S384x384) ![0, 0] S384x384.size inb_S384x384_S384x384_0_0)) shapeCasts_S384x384_S384x384

/-- A window's queries against its routed key-value sums, head by head: the sums' 48 rows laid out eight times and masked to
    the diagonal blocks. -/
def numer (blk : FVec F S64x384 .bf16) (q : FVec F S32x384 .bf16) (msk : FVec F S384x384 .bf16) : FVec F S32x384 .f32 :=
  have kv : FVec F S48x384 .bf16 := extractStridedSlice S48x384 ![0, 0] blk slices_S64x384_o0_0_S48x384
  matmul dot_S32x384_S384x384_S32x384_1_0_0_1_n_n none q
    (mulf (concatenate S384x384 0 [⟨S48x384, kv⟩, ⟨S48x384, kv⟩, ⟨S48x384, kv⟩, ⟨S48x384, kv⟩, ⟨S48x384, kv⟩, ⟨S48x384, kv⟩, ⟨S48x384, kv⟩, ⟨S48x384, kv⟩]
      concatenates_S48x384_S48x384_S48x384_S48x384_S48x384_S48x384_S48x384_S48x384_S384x384_d0) msk)
    (constant S32x384 .f32 0x00000000#32)

/-- A window's queries times its routed key sums, element by element. -/
def qks (blk : FVec F S64x384 .bf16) (q : FVec F S32x384 .bf16) : FVec F S32x384 .bf16 :=
  mulf q (broadcastTo S32x384 (extractStridedSlice S1x384 ![48, 0] blk slices_S64x384_o48_0_S1x384) broadcasts_S1x384_S32x384)

/-! ## The block -/

theorem cat64 {α : Type} (f : Fin 64 → S32x384.Idx → α) :
    Shape.Concatenates ((List.ofFn fun n : Fin 64 => (⟨S32x384, f n⟩ : (s : Shape) × (s.Idx → α))).map (·.1)) S2048x384 0 := by
  rw [List.map_ofFn]
  exact (by decide : Shape.Concatenates (List.ofFn fun _ : Fin 64 => S32x384) S2048x384 0)

/-- 64 windows' 32 rows each, end to end. -/
def stack {α : Type} (f : Fin 64 → S32x384.Idx → α) : S2048x384.Idx → α :=
  concatenate S2048x384 0 (List.ofFn fun n : Fin 64 => ⟨S32x384, f n⟩) (cat64 f)

/-- The attention of all windows, before the projection. -/
def attnV (i : grid2.Coords) (x0 : Vec F S2x64x4 .i32) (x1 : Vec F S1x2048x384 .bf16) (x2 : Vec F S1x4096x384 .bf16)
    (x3 : Vec F S384x384 .bf16) (hok : ∀ y, NamesWindow (x0 y)) : FVec F S2048x384 .f32 :=
  divf (stack fun n => numer (routed i x0 x2 hok n) (queries x1 n) (maskV x3))
    (addf (matmul dot_S2048x384_S384x384_S2048x384_1_0_0_1_n_n none (stack fun n => qks (routed i x0 x2 hok n) (queries x1 n)) (maskV x3)
        (constant S2048x384 .f32 0x00000000#32))
      (broadcast S2048x384 (Scalar.ofBits .f32 0x358637BD#32)))

/-- What the body stores. -/
def blockV (i : grid2.Coords) (x0 : Vec F S2x64x4 .i32) (x1 : Vec F S1x2048x384 .bf16) (x2 : Vec F S1x4096x384 .bf16)
    (x3 : Vec F S384x384 .bf16) (x4 : Vec F S384x384 .f32) (x5 : Vec F S1x384 .f32) (hok : ∀ y, NamesWindow (x0 y)) : FVec F S1x2048x384 .f32 :=
  shapeCast S1x2048x384
    (addf (matmul dot_S2048x384_S384x384_S2048x384_1_0_0_1_n_n none (attnV i x0 x1 x2 x3 hok)
        (shapeCast S384x384 (View.ld x4 (Rect.unit (s := S384x384) ![0, 0] S384x384.size inb_S384x384_S384x384_0_0)) shapeCasts_S384x384_S384x384)
        (constant S2048x384 .f32 0x00000000#32))
      (broadcastTo S2048x384 (shapeCast S1x384 (View.ld x5 (Rect.unit (s := S1x384) ![0, 0] S1x384.size inb_S1x384_S1x384_0_0)) shapeCasts_S1x384_S1x384)
        broadcasts_S1x384_S2048x384))
    shapeCasts_S2048x384_S1x2048x384

abbrev rOut : Rect S1x2048x384 := Rect.unit (s := S1x2048x384) ![0, 0, 0] S1x2048x384.size inb_S1x2048x384_S1x2048x384_0_0_0

/-- The result's block after the body: its one store. -/
def out2_6 (i : grid2.Coords) (x0 : Vec F S2x64x4 .i32) (x1 : Vec F S1x2048x384 .bf16) (x2 : Vec F S1x4096x384 .bf16)
    (x3 : Vec F S384x384 .bf16) (x4 : Vec F S384x384 .f32) (x5 : Vec F S1x384 .f32) (hok : ∀ y, NamesWindow (x0 y)) : Vec F S1x2048x384 .f32 :=
  View.canon [⟨rOut, blockV i x0 x1 x2 x3 x4 x5 hok⟩]

theorem cover2_6 (p0 : Vec F S1x2048x384 .f32) (y : S1x2048x384.Idx) :
    ∃ pc ∈ ([⟨rOut, p0⟩] : List (View.Piece (Elt F) S1x2048x384 .f32)), y ∈ pc.1.set :=
  View.cover_of_tiled [⟨rOut, p0⟩] S1x2048x384.size (by rfl) y

/-! ## The body's triple -/

set_option maxHeartbeats 20000000 in
set_option sl_exec.parts true in
/-- The body on whole staging memrefs, the inputs' at read contents and the result's at anything, every word of the table
    naming a window, runs to the continuation holding the inputs' as they were and the result's at `out2_6`. -/
theorem sound_kernel2 (c : Dev nD) (E : Set ℕ) (i : grid2.Coords)
    (arg2 : Memref sig .tc .smem S2x64x4 .i32) (harg2 : arg2.IsWhole)
    (arg3 : Memref sig .tc .vmem S1x2048x384 .bf16) (harg3 : arg3.IsWhole)
    (arg4 : Memref sig .tc .vmem S1x4096x384 .bf16) (harg4 : arg4.IsWhole)
    (arg5 : Memref sig .tc .vmem S384x384 .bf16) (harg5 : arg5.IsWhole)
    (arg6 : Memref sig .tc .vmem S384x384 .f32) (harg6 : arg6.IsWhole)
    (arg7 : Memref sig .tc .vmem S1x384 .f32) (harg7 : arg7.IsWhole)
    (arg8 : Memref sig .tc .vmem S1x2048x384 .f32) (harg8 : arg8.IsWhole)
    (x0 : Vec F S2x64x4 .i32) (x1 : Vec F S1x2048x384 .bf16) (x2 : Vec F S1x4096x384 .bf16)
    (x3 : Vec F S384x384 .bf16) (x4 : Vec F S384x384 .f32) (x5 : Vec F S1x384 .f32)
    (hok : ∀ y, NamesWindow (x0 y)) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare (out2_6 i x0 x1 x2 x3 x4 x5 hok)) -∗ K ⟨⟩))
      ⊢ wp frame (wpE (defs₀ (F := F)) Variants.none c none) E
          (cc2__attn_proj_kernel i arg2 harg2 arg3 harg3 arg4 harg4 arg5 harg5 arg6 harg6 arg7 harg7 arg8 harg8) K := by
  simp only [cc2__attn_proj_kernel_eq_skeleton]; unfold cc2__attn_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec (disch := exact hok _)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover2_6 _)).trans ?_
  rfl

end Cert.KernelIdeal.Run

end
-- ==== Proof.AttnData.lean ====
/- The third call's proof data at any entry contents of the arrays whose routing table names windows. -/
module

public import proofs.«01_k».proof.Proof.Attn
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The call's proof data -/

variable (hidx : ∀ (c : Dev nD) (t : Fin cfg2.N) (y : S2x64x4.Idx), NamesWindow (iblk2 V c 0 t y))

/-- The third call's proof data on core `c`: the arrays as the call finds them, each input's buffer left at its block, the
    result's at `out2_6` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (grid2.coords t) (iblk2 V c 0 t) (iblk2 V c 1 t) (iblk2 V c 2 t) (iblk2 V c 3 t) (iblk2 V c 4 t) (iblk2 V c 5 t) (hidx c t)
  Φ _ := Pipeline.ΦA spec2 c
  q _ := fullShare
  owed _ := 0

theorem A_eq2 (c : Dev nD) (w : Fin cfg2.W) : (dat2 V hidx c).A w = V c (Pipeline.arrRef spec2 w) := by
  dsimp only [dat2]

theorem after2_0 (c : Dev nD) (t : Fin cfg2.N) : (dat2 V hidx c).after 0 t = iblk2 V c 0 t := by dsimp only [dat2]
theorem after2_1 (c : Dev nD) (t : Fin cfg2.N) : (dat2 V hidx c).after 1 t = iblk2 V c 1 t := by dsimp only [dat2]
theorem after2_2 (c : Dev nD) (t : Fin cfg2.N) : (dat2 V hidx c).after 2 t = iblk2 V c 2 t := by dsimp only [dat2]
theorem after2_3 (c : Dev nD) (t : Fin cfg2.N) : (dat2 V hidx c).after 3 t = iblk2 V c 3 t := by dsimp only [dat2]
theorem after2_4 (c : Dev nD) (t : Fin cfg2.N) : (dat2 V hidx c).after 4 t = iblk2 V c 4 t := by dsimp only [dat2]
theorem after2_5 (c : Dev nD) (t : Fin cfg2.N) : (dat2 V hidx c).after 5 t = iblk2 V c 5 t := by dsimp only [dat2]
theorem after2_6 (c : Dev nD) (t : Fin cfg2.N) : (dat2 V hidx c).after 6 t =
    out2_6 (grid2.coords t) (iblk2 V c 0 t) (iblk2 V c 1 t) (iblk2 V c 2 t) (iblk2 V c 3 t) (iblk2 V c 4 t) (iblk2 V c 5 t) (hidx c t) := by dsimp only [dat2]

theorem before2_0 (c : Dev nD) (t : Fin cfg2.N) (d) : (dat2 V hidx c).before 0 t d = iblk2 V c 0 t :=
  before2_0_of V (dat2 V hidx c) (A_eq2 V hidx c 0) (after2_0 V hidx c) t d
theorem before2_1 (c : Dev nD) (t : Fin cfg2.N) (d) : (dat2 V hidx c).before 1 t d = iblk2 V c 1 t :=
  before2_1_of V (dat2 V hidx c) (A_eq2 V hidx c 1) (after2_1 V hidx c) t d
theorem before2_2 (c : Dev nD) (t : Fin cfg2.N) (d) : (dat2 V hidx c).before 2 t d = iblk2 V c 2 t :=
  before2_2_of V (dat2 V hidx c) (A_eq2 V hidx c 2) (after2_2 V hidx c) t d
theorem before2_3 (c : Dev nD) (t : Fin cfg2.N) (d) : (dat2 V hidx c).before 3 t d = iblk2 V c 3 t :=
  before2_3_of V (dat2 V hidx c) (A_eq2 V hidx c 3) (after2_3 V hidx c) t d
theorem before2_4 (c : Dev nD) (t : Fin cfg2.N) (d) : (dat2 V hidx c).before 4 t d = iblk2 V c 4 t :=
  before2_4_of V (dat2 V hidx c) (A_eq2 V hidx c 4) (after2_4 V hidx c) t d
theorem before2_5 (c : Dev nD) (t : Fin cfg2.N) (d) : (dat2 V hidx c).before 5 t d = iblk2 V c 5 t :=
  before2_5_of V (dat2 V hidx c) (A_eq2 V hidx c 5) (after2_5 V hidx c) t d

/-! ## The body at a generic point -/

/-- What the body is called with at a point, window by window, -/
def bodyPre2 (c : Dev nD) (t : Fin cfg2.N) : sProp 𝕄 :=
  iprop((dat2 V hidx c).Φ t.castSucc ∗ (dat2 V hidx c).owesAt () t.castSucc
    ∗ (∃ d, owns (c : Thread nD τ) (st2_0 t) fullShare ((dat2 V hidx c).before 0 t d))
    ∗ (∃ d, owns (c : Thread nD τ) (st2_1 t) fullShare ((dat2 V hidx c).before 1 t d))
    ∗ (∃ d, owns (c : Thread nD τ) (st2_2 t) fullShare ((dat2 V hidx c).before 2 t d))
    ∗ (∃ d, owns (c : Thread nD τ) (st2_3 t) fullShare ((dat2 V hidx c).before 3 t d))
    ∗ (∃ d, owns (c : Thread nD τ) (st2_4 t) fullShare ((dat2 V hidx c).before 4 t d))
    ∗ (∃ d, owns (c : Thread nD τ) (st2_5 t) fullShare ((dat2 V hidx c).before 5 t d))
    ∗ (∃ d, owns (c : Thread nD τ) (st2_6 t) fullShare ((dat2 V hidx c).before 6 t d)))

/-- and what it returns. -/
def bodyPost2 (c : Dev nD) (t : Fin cfg2.N) : sProp 𝕄 :=
  iprop((dat2 V hidx c).Φ t.succ ∗ (dat2 V hidx c).owesAt () t.succ
    ∗ owns (c : Thread nD τ) (st2_0 t) fullShare ((dat2 V hidx c).after 0 t)
    ∗ owns (c : Thread nD τ) (st2_1 t) fullShare ((dat2 V hidx c).after 1 t)
    ∗ owns (c : Thread nD τ) (st2_2 t) fullShare ((dat2 V hidx c).after 2 t)
    ∗ owns (c : Thread nD τ) (st2_3 t) fullShare ((dat2 V hidx c).after 3 t)
    ∗ owns (c : Thread nD τ) (st2_4 t) fullShare ((dat2 V hidx c).after 4 t)
    ∗ owns (c : Thread nD τ) (st2_5 t) fullShare ((dat2 V hidx c).after 5 t)
    ∗ owns (c : Thread nD τ) (st2_6 t) fullShare ((dat2 V hidx c).after 6 t))

/-- The body at any point: the inputs' memrefs hold their blocks, so `sound_kernel2` applies. -/
theorem sound_body2 (c : Dev nD) (t : Fin cfg2.N) :
    bodyPre2 V hidx c t ⊢ wp frame (wpE (defs₀ (F := F)) Variants.none c none) Set.univ (bodyAt2 t) (fun _ => bodyPost2 V hidx c t) := by
  unfold bodyPre2 bodyPost2 bodyAt2
  simp only [before2_0, before2_1, before2_2, before2_3, before2_4, before2_5]
  rw [show (dat2 V hidx c).Φ t.succ = (dat2 V hidx c).Φ t.castSucc from rfl,
    show (dat2 V hidx c).owesAt () t.succ = (dat2 V hidx c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) (hidx c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The body obligation, at every point. -/
theorem body_obligation2 (c : Dev nD) : BodyObligation (dat2 (F := F) V hidx c) (defs₀ (F := F)) Variants.none () Set.univ := fun t => by
  rw [bigSep_W2, bigSep_W2, defs₀_row2]
  exact triple_restated (sound_body2 V hidx c t) rfl .rfl fun _ => .rfl

end Cert.KernelIdeal.Run

end
-- ==== Proof.Qkv.lean ====
/- The first call of @main, the spikes and the windows' key-value products: what its body leaves in its three results' blocks,
   that the body runs to it, and the call's proof data at any entry contents of the arrays. The body is unrolled over the 32
   windows of a block; what it computes is stated here once for a window. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## One window -/

theorem slicesRows (n : Fin 32) : S1024x384.Slices ![32 * n.val, 0] S32x384 :=
  ⟨rfl, fun a => by
    have := n.isLt
    match a with
    | ⟨0, _⟩ => show 32 * n.val + 32 ≤ 1024; omega
    | ⟨1, _⟩ => exact Nat.le_refl 384⟩

/-- The 32 rows of window `n`. -/
def rowsOf {α : Type} (x : S1024x384.Idx → α) (n : Fin 32) : S32x384.Idx → α :=
  extractStridedSlice S32x384 ![32 * n.val, 0] x (slicesRows n)

/-- Keys transposed times values: all 384 by 384 products, summed over the window's rows. -/
def kvProd (kw vw : FVec F S32x384 .bf16) : FVec F S384x384 .bf16 :=
  truncf .bf16 (matmul dot_S32x384_S32x384_S384x384_0_0_1_1_n_n none kw vw (constant S384x384 .f32 0x00000000#32)) bitsLt_bf16_f32

/-- The eight diagonal blocks of 48 by 48, side by side. -/
def diagBlocks (p : FVec F S384x384 .bf16) : FVec F S48x384 .bf16 :=
  concatenate S48x384 1
    [⟨S48x48, extractStridedSlice S48x48 ![0, 0] p slices_S384x384_o0_0_S48x48⟩,
     ⟨S48x48, extractStridedSlice S48x48 ![48, 48] p slices_S384x384_o48_48_S48x48⟩,
     ⟨S48x48, extractStridedSlice S48x48 ![96, 96] p slices_S384x384_o96_96_S48x48⟩,
     ⟨S48x48, extractStridedSlice S48x48 ![144, 144] p slices_S384x384_o144_144_S48x48⟩,
     ⟨S48x48, extractStridedSlice S48x48 ![192, 192] p slices_S384x384_o192_192_S48x48⟩,
     ⟨S48x48, extractStridedSlice S48x48 ![240, 240] p slices_S384x384_o240_240_S48x48⟩,
     ⟨S48x48, extractStridedSlice S48x48 ![288, 288] p slices_S384x384_o288_288_S48x48⟩,
     ⟨S48x48, extractStridedSlice S48x48 ![336, 336] p slices_S384x384_o336_336_S48x48⟩]
    concatenates_S48x48_S48x48_S48x48_S48x48_S48x48_S48x48_S48x48_S48x48_S48x384_d1

/-- The keys' sum over the window's rows. -/
def keySum (kw : FVec F S32x384 .bf16) : FVec F S1x384 .bf16 :=
  truncf .bf16 (shapeCast S1x384 (multiReduction .add [0] S384 (extf .f32 kw bitsLt_bf16_f32) 0x00000000#32 reduces_S32x384_S384 (.inl rfl) rfl)
    shapeCasts_S384_S1x384) bitsLt_bf16_f32

/-- A window's 64 rows: its diagonal blocks, its key sum, and 15 rows of zeros. -/
def kvRows (kw vw : FVec F S32x384 .bf16) : FVec F S1x64x384 .bf16 :=
  shapeCast S1x64x384
    (concatenate S64x384 0
      [⟨S48x384, diagBlocks (kvProd kw vw)⟩, ⟨S1x384, keySum kw⟩, ⟨S15x384, broadcast S15x384 (Scalar.ofBits .bf16 0x0000#16)⟩]
      concatenates_S48x384_S1x384_S15x384_S64x384_d0)
    shapeCasts_S64x384_S1x64x384

/-- A window's feature: the sum of its rows. -/
def featRow (xw : FVec F S32x384 .f32) : FVec F S1x1x384 .f32 :=
  shapeCast S1x1x384 (shapeCast S1x384 (multiReduction .add [0] S384 xw 0x00000000#32 reduces_S32x384_S384 (.inl rfl) rfl) shapeCasts_S384_S1x384)
    shapeCasts_S1x384_S1x1x384

/-! ## The body's accesses and what it leaves -/

abbrev rTok : Rect S1024x384 := Rect.unit (s := S1024x384) ![0, 0] S1024x384.size inb_S1024x384_S1024x384_0_0
abbrev rW : Rect S384x1152 := Rect.unit (s := S384x1152) ![0, 0] S384x1152.size inb_S384x1152_S384x1152_0_0
abbrev rB : Rect S1x1152 := Rect.unit (s := S1x1152) ![0, 0] S1x1152.size inb_S1x1152_S1x1152_0_0

theorem kvOff_inb (n : Fin 32) : ∀ a, (![n.val, 0, 0] : Fin 3 → Nat) a + S1x64x384.size a ≤ S32x64x384.size a := by
  intro a
  have := n.isLt
  match a with
  | ⟨0, _⟩ => show n.val + 1 ≤ 32; omega
  | ⟨1, _⟩ => exact Nat.le_refl 64
  | ⟨2, _⟩ => exact Nat.le_refl 384

theorem featOff_inb (n : Fin 32) : ∀ a, (![n.val, 0, 0] : Fin 3 → Nat) a + S1x1x384.size a ≤ S32x1x384.size a := by
  intro a
  have := n.isLt
  match a with
  | ⟨0, _⟩ => show n.val + 1 ≤ 32; omega
  | ⟨1, _⟩ => exact Nat.le_refl 1
  | ⟨2, _⟩ => exact Nat.le_refl 384

/-- The queries' block after the body: its one store. -/
def out0_3 (x0 : Vec F S1024x384 .f32) (x1 : Vec F S384x1152 .f32) (x2 : Vec F S1x1152 .f32) : Vec F S1024x384 .bf16 :=
  View.canon [⟨rTok, k0_pay4 (View.ld x0 rTok) (View.ld x1 rW) (View.ld x2 rB)⟩]

/-- The stores of the windows' 64 rows, the last window's first. -/
def kvPieces (x0 : Vec F S1024x384 .f32) (x1 : Vec F S384x1152 .f32) (x2 : Vec F S1x1152 .f32) : List (View.Piece (Elt F) S32x64x384 .bf16) :=
  List.ofFn fun k : Fin 32 => ⟨Rect.unit (s := S32x64x384) ![(Fin.rev k).val, 0, 0] S1x64x384.size (kvOff_inb (Fin.rev k)),
    kvRows (rowsOf (k0_pay5 (View.ld x0 rTok) (View.ld x1 rW) (View.ld x2 rB)) (Fin.rev k))
      (rowsOf (k0_pay6 (View.ld x0 rTok) (View.ld x1 rW) (View.ld x2 rB)) (Fin.rev k))⟩

/-- The stores of the windows' features, the last window's first. -/
def featPieces (x0 : Vec F S1024x384 .f32) : List (View.Piece (Elt F) S32x1x384 .f32) :=
  List.ofFn fun k : Fin 32 => ⟨Rect.unit (s := S32x1x384) ![(Fin.rev k).val, 0, 0] S1x1x384.size (featOff_inb (Fin.rev k)),
    featRow (rowsOf (k0_pay2 (View.ld x0 rTok)) (Fin.rev k))⟩

/-- The windows' rows and their features after the body. -/
def out0_4 (x0 : Vec F S1024x384 .f32) (x1 : Vec F S384x1152 .f32) (x2 : Vec F S1x1152 .f32) : Vec F S32x64x384 .bf16 :=
  View.canon (kvPieces x0 x1 x2)
def out0_5 (x0 : Vec F S1024x384 .f32) : Vec F S32x1x384 .f32 :=
  View.canon (featPieces x0)

theorem cover0_3 (p0 : Vec F S1024x384 .bf16) (y : S1024x384.Idx) :
    ∃ pc ∈ ([⟨rTok, p0⟩] : List (View.Piece (Elt F) S1024x384 .bf16)), y ∈ pc.1.set :=
  View.cover_of_tiled [⟨rTok, p0⟩] S1024x384.size (by rfl) y

theorem cover0_4 (x0 : Vec F S1024x384 .f32) (x1 : Vec F S384x1152 .f32) (x2 : Vec F S1x1152 .f32) (y : S32x64x384.Idx) :
    ∃ pc ∈ kvPieces x0 x1 x2, y ∈ pc.1.set := by
  have e : (Fin.rev (Fin.rev (n := 32) (y 0))).val = (y 0).val := congrArg Fin.val (Fin.rev_rev (n := 32) (y 0))
  refine ⟨_, List.mem_ofFn.mpr ⟨Fin.rev (n := 32) (y 0), rfl⟩, ?_⟩
  change y ∈ (Rect.unit (s := S32x64x384) ![(Fin.rev (Fin.rev (n := 32) (y 0))).val, 0, 0] S1x64x384.size (kvOff_inb (Fin.rev (Fin.rev (n := 32) (y 0))))).set
  refine Rect.mem_set_unit.mpr fun a => ?_
  match a with
  | ⟨0, _⟩ => exact ⟨Nat.le_of_eq e, Nat.lt_succ_of_le (Nat.le_of_eq e.symm)⟩
  | ⟨1, _⟩ => exact ⟨Nat.zero_le _, by have := (y 1).isLt; exact (Nat.zero_add 64).symm ▸ this⟩
  | ⟨2, _⟩ => exact ⟨Nat.zero_le _, by have := (y 2).isLt; exact (Nat.zero_add 384).symm ▸ this⟩

theorem cover0_5 (x0 : Vec F S1024x384 .f32) (y : S32x1x384.Idx) :
    ∃ pc ∈ featPieces x0, y ∈ pc.1.set := by
  have e : (Fin.rev (Fin.rev (n := 32) (y 0))).val = (y 0).val := congrArg Fin.val (Fin.rev_rev (n := 32) (y 0))
  refine ⟨_, List.mem_ofFn.mpr ⟨Fin.rev (n := 32) (y 0), rfl⟩, ?_⟩
  change y ∈ (Rect.unit (s := S32x1x384) ![(Fin.rev (Fin.rev (n := 32) (y 0))).val, 0, 0] S1x1x384.size (featOff_inb (Fin.rev (Fin.rev (n := 32) (y 0))))).set
  refine Rect.mem_set_unit.mpr fun a => ?_
  match a with
  | ⟨0, _⟩ => exact ⟨Nat.le_of_eq e, Nat.lt_succ_of_le (Nat.le_of_eq e.symm)⟩
  | ⟨1, _⟩ => exact ⟨Nat.zero_le _, by have := (y 1).isLt; exact (Nat.zero_add 1).symm ▸ this⟩
  | ⟨2, _⟩ => exact ⟨Nat.zero_le _, by have := (y 2).isLt; exact (Nat.zero_add 384).symm ▸ this⟩

/-! ## The body's triple -/

set_option maxHeartbeats 8000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1024x384 .f32) (harg1 : arg1.IsWhole) (arg2 : Memref sig .tc .vmem S384x1152 .f32) (harg2 : arg2.IsWhole) (arg3 : Memref sig .tc .vmem S1x1152 .f32) (harg3 : arg3.IsWhole) (arg4 : Memref sig .tc .vmem S1024x384 .bf16) (harg4 : arg4.IsWhole) (arg5 : Memref sig .tc .vmem S32x64x384 .bf16) (harg5 : arg5.IsWhole) (arg6 : Memref sig .tc .vmem S32x1x384 .f32) (harg6 : arg6.IsWhole)
    (x0 : Vec F S1024x384 .f32) (x1 : Vec F S384x1152 .f32) (x2 : Vec F S1x1152 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0)) -∗ K ⟨⟩))
      ⊢ wp frame (wpE (defs₀ (F := F)) Variants.none c none) E (cc0__qkv_kvw_kernel i arg1 harg1 arg2 harg2 arg3 harg3 arg4 harg4 arg5 harg5 arg6 harg6) K := by
  simp only [cc0__qkv_kvw_kernel_eq_skeleton]; unfold cc0__qkv_kvw_kernel_skel
  simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    exact View.read_writes_eq_canon _ _ (kvPieces _ _ _) (cover0_4 _ _ _)
  iexists _; isplitr
  swap; · iexact H5
  ipureintro
  exact View.read_writes_eq_canon _ _ (featPieces _) (cover0_5 _)

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.Route.lean ====
/- The second call of @main, the routing: what its body leaves in the table's block, that the body runs to it, and the call's
   proof data at any entry contents of the arrays. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's accesses -/

abbrev r1_0 : Rect S4x1x64x384 := Rect.unit (s := S4x1x64x384) ![0, 0, 0, 0] S4x1x64x384.size inb_S4x1x64x384_S4x1x64x384_0_0_0_0
abbrev r1_1 : Rect S1x64x4 := Rect.unit (s := S1x64x4) ![0, 0, 0] S1x64x4.size inb_S1x64x4_S1x64x4_0_0_0

/-! ## What the body leaves in each output window's buffer -/

/-- Window 1's staging buffer after the body, from the input windows' blocks: its 1 store as pieces, LAST
    FIRST (Lib/Pipeline/FrameBody.lean `View.canon`; the payloads are the skeleton's). -/
def out1_1 (x0 : Vec F S4x1x64x384 .f32) : Vec F S1x64x4 .i32 :=
  View.canon [⟨r1_1, k1_pay1 (iota .tc S64x64 32 [1] iota_S64x64_d1_w32) (k1_pay3 (View.ld x0 r1_0)) (k1_pay5 (View.ld x0 r1_0)) (k1_pay6 (View.ld x0 r1_0)) (k1_pay7 (View.ld x0 r1_0))⟩]

/-- Its stores tile the buffer (checked by evaluation), so they cover it. -/
theorem cover1_1 (p0 : Vec F S1x64x4 .i32) (y : S1x64x4.Idx) :
    ∃ pc ∈ ([⟨r1_1, p0⟩] : List (View.Piece (Elt F) S1x64x4 .i32)), y ∈ pc.1.set :=
  View.cover_of_tiled [⟨r1_1, p0⟩] S1x64x4.size (by rfl) y

/-! ## The body's triple -/

set_option maxHeartbeats 4000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S4x1x64x384 .f32) (harg1 : arg1.IsWhole) (arg2 : Memref sig .tc .vmem S1x64x4 .i32) (harg2 : arg2.IsWhole)
    (x0 : Vec F S4x1x64x384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__routing_kernel i arg1 harg1 arg2 harg2) K := by
  simp only [cc1__routing_kernel_eq_skeleton]; unfold cc1__routing_kernel_skel
  simp only [k1_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the one pipeline on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.Table.lean ====
/- The routing call's table: the four rounds' choices, each a window's number. -/
module

public import proofs.«01_k».proof.Proof.Attn
public import proofs.«01_k».proof.Proof.Route
public import Idealize.ShloMosaic.Lib.SortNet.Extract
public import Idealize.ShloMosaic.Lib.Pointwise.Tactic
public import Idealize.ShloMosaic.Lib.Pipeline.ValueKit
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rounds -/

/-- The column numbers of a row. -/
def colNo : IVec S64x64 32 := iota .tc S64x64 32 [1] iota_S64x64_d1_w32

/-- One round's choice: the least column holding the row's greatest score. -/
def pick (s : FVec F S64x64 .f32) : IVec S64 32 :=
  multiReductionI .minsi [1] S64
    (select (cmpf .oge s (broadcastTo S64x64 (shapeCast S64x1 (multiReduction .maximumf [1] S64 s 0xFF800000#32 reduces_S64x64_S64 (.inl rfl) rfl)
      shapeCasts_S64_S64x1) broadcasts_S64x1_S64x64)) colNo (broadcast S64x64 1073741824#32))
    2147483647#32 reduces_S64x64_S64 rfl

/-- The scores with the chosen column of each row at −∞. -/
def strike (s : FVec F S64x64 .f32) (p : IVec S64 32) : FVec F S64x64 .f32 :=
  select (cmpi .eq colNo (broadcastTo S64x64 (shapeCast S64x1 p shapeCasts_S64_S64x1) broadcasts_S64x1_S64x64))
    (broadcast S64x64 (Scalar.ofBits .f32 0xFF800000#32)) s

/-- The scores as round `n` finds them. -/
def round (s : FVec F S64x64 .f32) : Nat → FVec F S64x64 .f32
  | 0 => s
  | n + 1 => strike (round s n) (pick (round s n))

/-- The four rounds' choices, side by side. -/
def choices (s : FVec F S64x64 .f32) : IVec S64x4 32 :=
  concatenate S64x4 1 (List.ofFn fun n : Fin 4 => (⟨S64x1, shapeCast S64x1 (pick (round s n.val)) shapeCasts_S64_S64x1⟩ : (s : Shape) × (s.Idx → BitVec 32)))
    concatenates_S64x1_S64x1_S64x1_S64x1_S64x4_d1

/-- The body's table is the rounds' choices. -/
theorem out1_1_eq (x0 : Vec F S4x1x64x384 .f32) :
    out1_1 x0 = View.canon [⟨r1_1, shapeCast S1x64x4 (choices (k1_pay2 (View.ld x0 r1_0))) shapeCasts_S64x4_S1x64x4⟩] := rfl

/-- Row `w`, round `n` of the choices. -/
theorem choices_apply (s : FVec F S64x64 .f32) (w : Fin 64) (n : Fin 4) : choices s (ix2 w n) = pick (round s n.val) (ix1 w) := by
  unfold choices
  refine (concatenate_ofFn_apply (t := S64x4) (s₁ := S64x1) (1 : Fin 2) (fun n : Fin 4 => shapeCast S64x1 (pick (round s n.val)) shapeCasts_S64_S64x1) _ rfl 1 rfl
    (ix2 w n) n (Nat.div_one n.val) (ix2 w 0) (Nat.mod_one n.val).symm
    (fun b hb => by match b with | ⟨0, _⟩ => rfl | ⟨1, _⟩ => exact absurd rfl hb)).trans ?_
  pointwise

/-- The table's entry at row `w`, round `n`. -/
theorem out1_1_apply (x0 : Vec F S4x1x64x384 .f32) (b : Fin 1) (w : Fin 64) (n : Fin 4) :
    out1_1 x0 (ix3 b w n) = pick (round (k1_pay2 (View.ld x0 r1_0)) n.val) (ix1 w) := by
  rw [out1_1_eq, ← choices_apply]
  rw [View.canon_unit_zero (by funext a; match a with | ⟨0, _⟩ => rfl | ⟨1, _⟩ => rfl | ⟨2, _⟩ => rfl)]
  pointwise

/-! ## Every choice names a window -/

/-- A column number, or 2^30 where no column was found. -/
def IsCol (w : BitVec 32) : Prop := w.toNat < 64 ∨ w = 1073741824#32

/-- Both name a window of the block: a multiple of 2^32 is the word zero. -/
theorem IsCol.namesWindow {w : BitVec 32} (h : IsCol w) : NamesWindow w := by
  rcases h with h | rfl
  · have e : w = BitVec.ofNat 32 (⟨w.toNat, h⟩ : Fin 64).val := by simp
    rw [e]
    generalize (⟨w.toNat, h⟩ : Fin 64) = n
    revert n
    decide
  · decide

/-- A fold of the signed minimum from the greatest word, over a set holding a word below it, is one of the words met. -/
theorem fold_minsi_mem {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  refine Finset.induction_on s ⟨fun i hi => absurd hi (Finset.notMem_empty i), Or.inl (by rw [Finset.fold_empty])⟩ ?_
  intro a s has ih
  obtain ⟨h2, h3⟩ := ih
  rw [Finset.fold_insert has]
  have hm := SortNet.toInt_minsi (g a) (s.fold IntOp.minsi init g)
  refine ⟨fun i hi => ?_, ?_⟩
  · rw [hm]
    rcases Finset.mem_insert.mp hi with rfl | hi
    · exact min_le_left _ _
    · exact le_trans (min_le_right _ _) (h2 i hi)
  · rcases min_choice (g a).toInt (s.fold IntOp.minsi init g).toInt with h | h
    · exact Or.inr ⟨a, Finset.mem_insert_self a s, BitVec.eq_of_toInt_eq (hm.trans h)⟩
    · rcases h3 with h3 | ⟨i, hi, h3⟩
      · exact Or.inl ((BitVec.eq_of_toInt_eq (hm.trans h)).trans h3)
      · exact Or.inr ⟨i, Finset.mem_insert_of_mem hi, (BitVec.eq_of_toInt_eq (hm.trans h)).trans h3⟩

/-- The candidates of row `w`: each column's number where it holds the greatest score, 2^30 elsewhere. -/
theorem pick_eq (s : FVec F S64x64 .f32) (w : Fin 64) :
    pick s (ix1 w) = Finset.univ.fold IntOp.minsi 2147483647#32 fun v : Fin 64 =>
      Scalar.select (FloatOps.cmpf .oge (s (ix2 w v)) (multiReduction .maximumf [1] S64 s 0xFF800000#32 reduces_S64x64_S64 (.inl rfl) rfl (ix1 w)))
        (BitVec.ofNat 32 v.val) 1073741824#32 := by
  unfold pick colNo
  pointwise

theorem pick_isCol (s : FVec F S64x64 .f32) (w : Fin 64) : IsCol (pick s (ix1 w)) := by
  rw [pick_eq]
  obtain ⟨h1, h2⟩ := fold_minsi_mem (fun v : Fin 64 =>
      Scalar.select (FloatOps.cmpf .oge (s (ix2 w v)) (multiReduction .maximumf [1] S64 s 0xFF800000#32 reduces_S64x64_S64 (.inl rfl) rfl (ix1 w)))
        (BitVec.ofNat 32 v.val) 1073741824#32) Finset.univ 2147483647#32
  have hcol : ∀ v : Fin 64, ∀ b : BitVec 1, IsCol (Scalar.select b (BitVec.ofNat 32 v.val) 1073741824#32) := by
    intro v b
    unfold Scalar.select
    split
    · left; rw [BitVec.toNat_ofNat]; have := v.isLt; omega
    · right; rfl
  have hlt : ∀ x : BitVec 32, IsCol x → x ≠ 2147483647#32 ∧ x.toInt < (2147483647#32 : BitVec 32).toInt := by
    intro x hx
    rcases hx with hx | rfl
    · have e := BitVec.toInt_eq_toNat_cond x
      have e2 : (2147483647#32 : BitVec 32).toInt = 2147483647 := by decide
      refine ⟨?_, by rw [e2]; omega⟩
      rintro rfl
      exact absurd hx (by decide)
    · decide
  rcases h2 with h2 | ⟨v, -, h2⟩
  · have := h1 0 (Finset.mem_univ _)
    rw [h2] at this
    exact absurd this (not_le.mpr (hlt _ (hcol _ _)).2)
  · rw [h2]; exact hcol _ _

/-- Every entry of the body's table names a window. -/
theorem out1_1_names (x0 : Vec F S4x1x64x384 .f32) (y : S1x64x4.Idx) : NamesWindow (out1_1 x0 y) := by
  obtain ⟨b, w, n, rfl⟩ : ∃ (b : Fin 1) (w : Fin 64) (n : Fin 4), y = ix3 b w n :=
    ⟨y 0, y 1, y 2, by funext a; match a with | ⟨0, _⟩ => rfl | ⟨1, _⟩ => rfl | ⟨2, _⟩ => rfl⟩
  rw [out1_1_apply]
  exact (pick_isCol _ _).namesWindow

end Cert.KernelIdeal.Run

end
-- ==== Proof.Run.lean ====
/- The run of @main: the buffers' contents at each boundary, the three calls as segments, and the launch. -/
module

public import proofs.«01_k».proof.Proof.AttnData
public import proofs.«01_k».proof.Proof.Qkv
public import proofs.«01_k».proof.Proof.Table
public import proofs.«01_k».proof.Proof.Gen.KernelIdeal.Regions
public import Idealize.ShloMosaic.Lib.Pipeline.FrameSuffix
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen hiding adm segs V0 V1 V2 V3 V4 V5 V6 V7 V8 V9
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: `WJ` before item J -/

abbrev W0 : Dev nD → Valuation τ sig (Elt F) := fun c => fun b => (s₀ m ρ).mem ((c : Dev nD), b)
/-- After `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- The same read at the TensorCore's references: what call 0 finds. -/
abbrev V1 : (c : Dev nD) → (b : Ref sig .tc) → Buf (Elt F) ((c : Thread nD τ).loc b) := fun c b => W1 m ρ c b
/-- After call 0: its arrays at what its write-backs leave, every other buffer as it was. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- The same read at the TensorCore's references: what call 1 finds. -/
abbrev V3 : (c : Dev nD) → (b : Ref sig .tc) → Buf (Elt F) ((c : Thread nD τ).loc b) := fun c b => W3 m ρ c b
/-- After call 1: its arrays at what its write-backs leave, every other buffer as it was. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- After `hostOps2_1`. -/
abbrev W6 : Dev nD → Valuation τ sig (Elt F) := fun c => StableHlo.after hostOps2_1 (W5 m ρ c)
theorem W6_of (c : Dev nD) (r : Ref sig .tc) (h : r ∉ hostOps2_1_W) : W6 m ρ c (Proc.devRef .tc r) = W5 m ρ c (Proc.devRef .tc r) :=
  StableHlo.after_of_writes_sub hostOps2_1 _ hostOps2_1_writes h

/-- After `hostOps2_2`. -/
abbrev W7 : Dev nD → Valuation τ sig (Elt F) := fun c => StableHlo.after hostOps2_2 (W6 m ρ c)
theorem W7_of (c : Dev nD) (r : Ref sig .tc) (h : r ∉ hostOps2_2_W) : W7 m ρ c (Proc.devRef .tc r) = W6 m ρ c (Proc.devRef .tc r) :=
  StableHlo.after_of_writes_sub hostOps2_2 _ hostOps2_2_writes h

/-- The same read at the TensorCore's references: what call 2 finds. -/
abbrev V7 : (c : Dev nD) → (b : Ref sig .tc) → Buf (Elt F) ((c : Thread nD τ).loc b) := fun c b => W7 m ρ c b
/-- The routing call leaves, in every entry of the table, a word naming a window. -/
theorem table_names (c : Dev nD) (y : S2x64x4.Idx) : NamesWindow (W4 m ρ c (Proc.devRef .tc main_v8) y) := by
  have h := W4_arr m ρ c 1
  have e : W4 m ρ c (Proc.devRef .tc main_v8) = (dat1 (V3 m ρ) c).arrAt 1 cfg1.N := h
  rw [e]
  refine (dat1 (V3 m ρ) c).arrAt_forall_of_covers 1 (fun _ (v : BitVec 32) => NamesWindow v) (by decide +kernel) (fun t _ x => ?_) y
  rw [after1_1]
  exact out1_1_names _ _

/-- So the words the attention call reads do. -/
theorem words_name (c : Dev nD) (t : Fin cfg2.N) (y : S2x64x4.Idx) : NamesWindow (iblk2 (V7 m ρ) c 0 t y) := by
  have e : V7 m ρ c main_v8 = W4 m ρ c (Proc.devRef .tc main_v8) :=
    (W7_of m ρ c main_v8 (by decide)).trans ((W6_of m ρ c main_v8 (by decide)).trans (W5_of m ρ c main_v8 (by decide)))
  show NamesWindow (((cfg2.win 0).blk t).view.read (Elt F) (V7 m ρ c main_v8) y)
  rw [e]
  exact table_names m ρ c _

/-- After call 2: its arrays at what its write-backs leave, every other buffer as it was. -/
def W8 (c : Dev nD) : Valuation τ sig (Elt F) :=
  Pipeline.withArrays spec2 c (W7 m ρ c) fun w => (dat2 (V7 m ρ) (words_name m ρ) c).arrAt w cfg2.N
theorem W8_arr (c : Dev nD) (w : Fin cfg2.W) :
    W8 m ρ c (Proc.devRef .tc (Pipeline.arrRef spec2 w)) = (dat2 (V7 m ρ) (words_name m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) (words_name m ρ) c).arrAt_in w (h w rfl) _).trans (A_eq2 (V7 m ρ) (words_name m ρ) c w))
  · exact W8_of_ne m ρ c r fun w e => hw ⟨w, e⟩
abbrev V8 : (c : Dev nD) → (b : Ref sig .tc) → Buf (Elt F) ((c : Thread nD τ).loc b) := fun c b => W8 m ρ c b
theorem hF2 (c : Dev nD) (w : Fin cfg2.W) : (dat2 (V7 m ρ) (words_name m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After `hostOps3`. -/
abbrev W9 : Dev nD → Valuation τ sig (Elt F) := fun c => StableHlo.after hostOps3 (W8 m ρ c)
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h

/-! ### The arguments end as launched -/

/-- The argument arrays. -/
abbrev args : List (Ref sig .tc) := [main_arg0, main_arg1, main_arg2, main_arg3, main_arg4]

/-- No item of @main writes an argument: no host operation, and no call but through an input window. -/
theorem W9_args (c : Dev nD) (a : Ref sig .tc) (ha : a ∈ args) : W9 m ρ c (Proc.devRef .tc a) = m ((c : Thread nD τ).loc a) := by
  have h0 : ∀ a ∈ args, a ∉ hostOps0_W := by decide
  have h1 : ∀ a ∈ args, a ∉ hostOps1_W := by decide
  have h2 : ∀ a ∈ args, a ∉ hostOps2_W := by decide
  have h21 : ∀ a ∈ args, a ∉ hostOps2_1_W := by decide
  have h22 : ∀ a ∈ args, a ∉ hostOps2_2_W := by decide
  have h3 : ∀ a ∈ args, a ∉ hostOps3_W := by decide
  have g0 : ∀ a ∈ args, ∀ w : Fin cfg0.W, Pipeline.arrRef spec0 w = a → (cfg0.win w).isOut = false := by decide +kernel
  have g1 : ∀ a ∈ args, ∀ w : Fin cfg1.W, Pipeline.arrRef spec1 w = a → (cfg1.win w).isOut = false := by decide +kernel
  have g2 : ∀ a ∈ args, ∀ w : Fin cfg2.W, Pipeline.arrRef spec2 w = a → (cfg2.win w).isOut = false := by decide +kernel
  rw [W9_of m ρ c a (h3 a ha), W8_of m ρ c a (g2 a ha), W7_of m ρ c a (h22 a ha), W6_of m ρ c a (h21 a ha), W5_of m ρ c a (h2 a ha),
    W4_of m ρ c a (g1 a ha), W3_of m ρ c a (h1 a ha), W2_of m ρ c a (g0 a ha), W1_of m ρ c a (h0 a ha)]

/-! ## The proof data and the thread state -/

abbrev adm : (p : Fin 3) → (pcfgs (F := F) p).Adm := fun p => (cfgs p).toPCfg_adm
/-- Each call's proof data at what the call finds. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V7 m ρ) (words_name m ρ) c
abbrev 𝒱₀ : Variants := Variants.none
abbrev L : GSem nD τ sig → Finset Unit := fun _ => ∅
abbrev lv : GSem nD τ sig → Unit → ℕ := fun _ _ => 0
/-- What rides beside the buffers: the core's generator register and its `owes`, at nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W9 m ρ c) ∗ ∃ r, prngReg c r)

/-! ## The calls as segments -/

set_option backward.isDefEq.respectTransparency.types false in
/-- Call 0 as a segment: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered from every unscoped buffer at `W7`, left at `W8`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) (words_name m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) (words_name m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .region (reg2 m ρ),
    .host (hseg hostOps3 hostOps3_sub hostOps3_fresh (W8 m ρ)) ]
theorem main_run (c : Dev nD) : main (F := F) c = Pipeline.Seg.run (segs m ρ) := (main_chain c).trans (by chain_rfl)

set_option backward.isDefEq.respectTransparency.types false in
/-- The run: every execution of @main from memory `m` with zero counters terminates, and every final state has the result at
    what the last boundary holds, the arguments as launched, and every counter at zero. -/
theorem run_main : θ_run defs (onTc (τ := τ) (main (F := F))) ⟨m, fun _ => 0, ρ⟩ (fun r => (∀ c : Dev nD,
      r.2.mem ((c.tc : Thread nD τ).loc main_v24) = W9 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v24 (by decide)),
       (h c _ (mem_uc main_arg0 (by decide))).trans (W9_args m ρ c main_arg0 (by decide)),
       (h c _ (mem_uc main_arg1 (by decide))).trans (W9_args m ρ c main_arg1 (by decide)),
       (h c _ (mem_uc main_arg2 (by decide))).trans (W9_args m ρ c main_arg2 (by decide)),
       (h c _ (mem_uc main_arg3 (by decide))).trans (W9_args m ρ c main_arg3 (by decide)),
       (h c _ (mem_uc main_arg4 (by decide))).trans (W9_args m ρ c main_arg4 (by decide))⟩), funext fun g => hz g (.inr (regions_no_unscoped g.2))⟩)

end Cert.KernelIdeal.Run

end
-- ==== Proof.Frames.lean ====
/- The frames: each program runs to the end from any memory, its arguments end as launched and every counter at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

@[expose] public section

set_option maxRecDepth 16384

noncomputable section

namespace Cert.Proof

open Idealize.ShloMosaic Idealize.SL.Sem

/-- The frame of the kernel's program at any float values. -/
def KernelFrame (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem kernelFrame (F : FTy → Type) [FloatOps F] : KernelFrame F := fun m g _ =>
  (θ_run _ _ _).mono (fun _ h => ⟨fun c => (h.1 c).2, h.2⟩) (Cert.KernelIdeal.Run.run_main m g)

/-- The two printed kernel programs are one text, so the frame at the machine's floats is the same statement. -/
theorem kernelFrame_bits : @Cert.quiescent_Kernel Cert.Kernel.Gen.facts = KernelFrame Bits := by chain_rfl

theorem quiescent_Kernel : Cert.quiescent_Kernel := kernelFrame_bits ▸ kernelFrame Bits

theorem quiescent_KernelIdeal : Cert.quiescent_KernelIdeal := kernelFrame Ideal

theorem quiescent_ReferenceIdeal : Cert.quiescent_ReferenceIdeal := fun m g _ =>
  (θ_run _ _ _).mono (fun r h => ⟨fun c => (h c).2, sem_eq_zero_of_no_sems (by decide) r.2⟩) (Cert.ReferenceIdeal.Value.run m g)

end Cert.Proof

end
-- ==== Proof.RefStages.lean ====
/- The reference program's result cut into named stages: the window partition, the routing scores and table, the spikes, the gathered
   keys and values, the attention and the projection. -/
module

public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe

variable {F : FTy → Type} [FloatOps F]

/-- The tokens, window by window. -/
def tokens (x : FVec F S4x2x8x16x16x384 .f32) : FVec F S4x2x64x32x384 .f32 :=
  shapeCast _ (transpose S4x2x4x4x4x2x4x4x384 [0, 1, 2, 4, 6, 3, 5, 7, 8]
    (shapeCast _ x shapeCasts_S4x2x8x16x16x384_S4x2x4x2x4x4x4x4x384)
    transposes_S4x2x4x2x4x4x4x4x384_S4x2x4x4x4x2x4x4x384_0_1_2_4_6_3_5_7_8) shapeCasts_S4x2x4x4x4x2x4x4x384_S4x2x64x32x384

/-- The windows put back in place. -/
def untokens (o : FVec F S4x2x64x32x384 .f32) : FVec F S4x2x8x16x16x384 .f32 :=
  shapeCast _ (transpose S4x2x4x2x4x4x4x4x384 [0, 1, 2, 5, 3, 6, 4, 7, 8]
    (shapeCast _ o shapeCasts_S4x2x64x32x384_S4x2x4x4x4x2x4x4x384)
    transposes_S4x2x4x4x4x2x4x4x384_S4x2x4x2x4x4x4x4x384_0_1_2_5_3_6_4_7_8) shapeCasts_S4x2x4x2x4x4x4x4x384_S4x2x8x16x16x384

/-- One feature row per window: the mean over the window of the sum over time steps. -/
def feats (X : FVec F S4x2x64x32x384 .f32) : FVec F S2x64x384 .f32 :=
  Host.divf (Host.reduceAdd (Host.reduceAdd X (constant S_ .f32 0x00000000#32) reducesTo_S4x2x64x32x384_S2x64x32x384_d0 h_S_)
    (constant S_ .f32 0x00000000#32) reducesTo_S2x64x32x384_S2x64x384_d2 h_S_)
    (broadcastInDim S2x64x384 ![] bcast_S_S2x64x384 (constant S_ .f32 0x42000000#32))

/-- The routing scores of feature rows. -/
def scoresOf (f : FVec F S2x64x384 .f32) : FVec F S2x64x64 .f32 :=
  mulf (Host.dotGeneral dot_S2x64x384_S2x64x384_S2x64x64_2_2_1_1_0_0 none f f)
    (broadcastInDim S2x64x64 ![] bcast_S_S2x64x64 (constant S_ .f32 0x3E13CD3A#32))

/-- The four best-scoring windows of each window. -/
def table (s : FVec F S2x64x64 .f32) : IVec S2x64x4 32 :=
  (Host.topK S2x64x4 2 (FloatOps.cmpfTotal .gt) s sliceFits_S2x64x64_S2x64x4).2

/-- The fused projection before the spiking units. -/
def lins (X : FVec F S4x2x64x32x384 .f32) (W : FVec F S1152x384 .f32) (b : FVec F S1152 .f32) : FVec F S4x2x64x32x1152 .f32 :=
  addf (Host.dotGeneral dot_S4x2x64x32x384_S384x1152_S4x2x64x32x1152_4_0_0123_1_n_n none X
    (transpose S384x1152 [1, 0] W transposes_S1152x384_S384x1152_1_0))
    (broadcastInDim S4x2x64x32x1152 ![0, 1, 2, 3, 4] bcast_S1x1x1x1x1152_S4x2x64x32x1152_0_1_2_3_4
      (broadcastInDim S1x1x1x1x1152 ![4] bcast_S1152_S1x1x1x1x1152_4 b))

/-- A spiking unit's output, split into heads. -/
def spikes (y : FVec F S4x2x64x32x384 .f32) : FVec F S4x2x64x32x8x48 .f32 :=
  shapeCast _ (uitofp .f32 (cmpf .oge (subf
    (Host.divf y (broadcastInDim S4x2x64x32x384 ![] bcast_S_S4x2x64x32x384 (constant S_ .f32 0x40000000#32)))
    (broadcastInDim S4x2x64x32x384 ![] bcast_S_S4x2x64x32x384 (constant S_ .f32 0x3F800000#32)))
    (broadcastInDim S4x2x64x32x384 ![] bcast_S_S4x2x64x32x384 (constant S_ .f32 0x00000000#32))))
    shapeCasts_S4x2x64x32x384_S4x2x64x32x8x48

def queriesOf (y : FVec F S4x2x64x32x1152 .f32) : FVec F S4x2x64x32x8x48 .f32 :=
  spikes (extractStridedSlice S4x2x64x32x384 ![0, 0, 0, 0, 0] y slices_S4x2x64x32x1152_S4x2x64x32x384_0_0_0_0_0)
def keysOf (y : FVec F S4x2x64x32x1152 .f32) : FVec F S4x2x64x32x8x48 .f32 :=
  spikes (extractStridedSlice S4x2x64x32x384 ![0, 0, 0, 0, 384] y slices_S4x2x64x32x1152_S4x2x64x32x384_0_0_0_0_384)
def valuesOf (y : FVec F S4x2x64x32x1152 .f32) : FVec F S4x2x64x32x8x48 .f32 :=
  spikes (extractStridedSlice S4x2x64x32x384 ![0, 0, 0, 0, 768] y slices_S4x2x64x32x1152_S4x2x64x32x384_0_0_0_0_768)

/-- The batch coordinate of each gathered window. -/
def batchNo : IVec S2x64x4x1 32 :=
  broadcastInDim S2x64x4x1 ![0, 1, 2] bcast_S2x64x4_S2x64x4x1_0_1_2 (broadcastInDim S2x64x4 ![0, 1, 2] bcast_S2x1x1_S2x64x4_0_1_2
    (select (cmpi .slt (broadcastInDim S2x1x1 ![0] bcast_S2_S2x1x1_0 (iotaInDim S2 32 0))
        (broadcastInDim S2x1x1 ![] bcast_S_S2x1x1 (constantI S_ 32 0#32)))
      (addi (broadcastInDim S2x1x1 ![0] bcast_S2_S2x1x1_0 (iotaInDim S2 32 0))
        (broadcastInDim S2x1x1 ![] bcast_S_S2x1x1 (constantI S_ 32 2#32)))
      (broadcastInDim S2x1x1 ![0] bcast_S2_S2x1x1_0 (iotaInDim S2 32 0))))

/-- The window coordinate of each gathered window: the table's, a negative one counted from the end. -/
def winNo (T : IVec S2x64x4 32) : IVec S2x64x4x1 32 :=
  broadcastInDim S2x64x4x1 ![0, 1, 2] bcast_S2x64x4_S2x64x4x1_0_1_2
    (select (cmpi .slt T (broadcastInDim S2x64x4 ![] bcast_S_S2x64x4 (constantI S_ 32 0#32)))
      (addi T (broadcastInDim S2x64x4 ![] bcast_S_S2x64x4 (constantI S_ 32 64#32))) T)

/-- Both coordinates side by side. -/
def places (T : IVec S2x64x4 32) : IVec S2x64x4x2 32 :=
  concatenate S2x64x4x2 3 [⟨S2x64x4x1, batchNo⟩, ⟨S2x64x4x1, winNo T⟩] concatenates_S2x64x4x1_S2x64x4x1_S2x64x4x2_d3

/-- The rows of the windows the table names. -/
def gathered (k : FVec F S4x2x64x32x8x48 .f32) (T : IVec S2x64x4 32) : FVec F S4x2x64x4x32x8x48 .f32 :=
  Host.gather gather_S4x2x64x32x8x48_S2x64x4x2_S4x2x64x4x32x8x48_0456_12_n_n_12_3_41132848 k (places T)

/-- The same, head by head, a window's 128 routed rows in one axis. -/
def routedRows (k : FVec F S4x2x64x32x8x48 .f32) (T : IVec S2x64x4 32) : FVec F S4x2x64x8x128x48 .f32 :=
  transpose S4x2x64x8x128x48 [0, 1, 2, 4, 3, 5] (shapeCast _ (gathered k T) shapeCasts_S4x2x64x4x32x8x48_S4x2x64x128x8x48)
    transposes_S4x2x64x128x8x48_S4x2x64x8x128x48_0_1_2_4_3_5

/-- Queries head by head. -/
def headRows (q : FVec F S4x2x64x32x8x48 .f32) : FVec F S4x2x64x8x32x48 .f32 :=
  transpose S4x2x64x8x32x48 [0, 1, 2, 4, 3, 5] q transposes_S4x2x64x32x8x48_S4x2x64x8x32x48_0_1_2_4_3_5

/-- The numerator of the attention. -/
def numers (q : FVec F S4x2x64x8x32x48 .f32) (k v : FVec F S4x2x64x8x128x48 .f32) : FVec F S4x2x64x8x32x48 .f32 :=
  Host.dotGeneral dot_S4x2x64x8x32x48_S4x2x64x8x48x48_S4x2x64x8x32x48_5_4_4_5_0123_0123 none q
    (Host.dotGeneral dot_S4x2x64x8x128x48_S4x2x64x8x128x48_S4x2x64x8x48x48_4_4_5_5_0123_0123 none k v)

/-- The denominator before the small constant. -/
def denoms (q : FVec F S4x2x64x8x32x48 .f32) (k : FVec F S4x2x64x8x128x48 .f32) : FVec F S4x2x64x8x32 .f32 :=
  Host.dotGeneral dot_S4x2x64x8x32x48_S4x2x64x8x48_S4x2x64x8x32_5_4_4_n_0123_0123 none q
    (Host.reduceAdd k (constant S_ .f32 0x00000000#32) reducesTo_S4x2x64x8x128x48_S4x2x64x8x48_d4 h_S_)

/-- The attention, heads back in one row. -/
def attns (n : FVec F S4x2x64x8x32x48 .f32) (d : FVec F S4x2x64x8x32 .f32) : FVec F S4x2x64x32x384 .f32 :=
  shapeCast _ (transpose S4x2x64x32x8x48 [0, 1, 2, 4, 3, 5] (Host.divf n
    (broadcastInDim S4x2x64x8x32x48 ![0, 1, 2, 3, 4, 5] bcast_S4x2x64x8x32x1_S4x2x64x8x32x48_0_1_2_3_4_5
      (addf (broadcastInDim S4x2x64x8x32x1 ![0, 1, 2, 3, 4] bcast_S4x2x64x8x32_S4x2x64x8x32x1_0_1_2_3_4 d)
        (broadcastInDim S4x2x64x8x32x1 ![] bcast_S_S4x2x64x8x32x1 (constant S_ .f32 0x358637BD#32)))))
    transposes_S4x2x64x8x32x48_S4x2x64x32x8x48_0_1_2_4_3_5) shapeCasts_S4x2x64x32x8x48_S4x2x64x32x384

/-- The output projection. -/
def projected (a : FVec F S4x2x64x32x384 .f32) (W : FVec F S384x384 .f32) (b : FVec F S384 .f32) : FVec F S4x2x64x32x384 .f32 :=
  addf (Host.dotGeneral dot_S4x2x64x32x384_S384x384_S4x2x64x32x384_4_0_0123_1_n_n none a
    (transpose S384x384 [1, 0] W transposes_S384x384_S384x384_1_0))
    (broadcastInDim S4x2x64x32x384 ![0, 1, 2, 3, 4] bcast_S1x1x1x1x384_S4x2x64x32x384_0_1_2_3_4
      (broadcastInDim S1x1x1x1x384 ![4] bcast_S384_S1x1x1x1x384_4 b))

/-- The windows' outputs. -/
def outs (X : FVec F S4x2x64x32x384 .f32) (W : FVec F S1152x384 .f32) (b : FVec F S1152 .f32) (Wp : FVec F S384x384 .f32)
    (bp : FVec F S384 .f32) : FVec F S4x2x64x32x384 .f32 :=
  projected (attns
    (numers (headRows (queriesOf (lins X W b))) (routedRows (keysOf (lins X W b)) (table (scoresOf (feats X))))
      (routedRows (valuesOf (lins X W b)) (table (scoresOf (feats X)))))
    (denoms (headRows (queriesOf (lins X W b))) (routedRows (keysOf (lins X W b)) (table (scoresOf (feats X)))))) Wp bp

variable (m : (ℓ : Loc nD τ sig) → Buf (Elt F) ℓ) (c : Dev nD)

/-- The reference's result is the stages, one after the other. -/
theorem res_eq : res_main_v97 m c = untokens (outs (tokens (m ((c.tc : Thread nD τ).loc main_arg0)))
    (m ((c.tc : Thread nD τ).loc main_arg1)) (m ((c.tc : Thread nD τ).loc main_arg2)) (m ((c.tc : Thread nD τ).loc main_arg3))
    (m ((c.tc : Thread nD τ).loc main_arg4))) := by
  unfold res_main_v97; rfl

end Cert.ReferenceIdeal.Value

end
-- ==== Proof.Order.lean ====
/- Taking the greatest, four times over: a stable sort by descending value, read place by place, and the same places found by
   rounds that take the greatest value left, the least position where several hold it. -/
module

public import Idealize.ShloMosaic.Lib.SortFacts
public import Mathlib.Data.EReal.Basic

@[expose] public section

namespace Cert.Routing

open Idealize.ShloMosaic

variable {n : Nat}

/-- Position `a` comes before position `b`: its value is greater, or equal at a lower position. -/
def Ahead (f : Fin n → EReal) (a b : Fin n) : Prop := f b < f a ∨ (f b = f a ∧ a < b)

theorem Ahead.trans {f : Fin n → EReal} {a b c : Fin n} (h : Ahead f a b) (h' : Ahead f b c) : Ahead f a c := by
  rcases h with h | ⟨h, l⟩ <;> rcases h' with h' | ⟨h', l'⟩
  · exact Or.inl (lt_trans h' h)
  · exact Or.inl (h'.trans_lt h)
  · exact Or.inl (h'.trans_eq h)
  · exact Or.inr ⟨h'.trans h, lt_trans l l'⟩

theorem ahead_insert (f : Fin n → EReal) (before : Fin n → Fin n → Bool) (hb : ∀ a b, before a b = decide (f b < f a)) (a : Fin n)
    (l : List (Fin n)) (hl : l.Pairwise (Ahead f)) (ha : ∀ b ∈ l, a < b) : (insertBefore before a l).Pairwise (Ahead f) := by
  induction l with
  | nil => exact List.pairwise_singleton _ _
  | cons b l ih =>
    rw [List.pairwise_cons] at hl
    have hab := ha b List.mem_cons_self
    unfold insertBefore
    split
    · rename_i h
      rw [hb] at h
      have h := of_decide_eq_true h
      refine List.pairwise_cons.mpr ⟨fun c hc => ?_, ih hl.2 fun c hc => ha c (List.mem_cons_of_mem b hc)⟩
      rcases List.mem_cons.mp ((perm_insertBefore before a l).mem_iff.mp hc) with rfl | hc'
      · exact Or.inl h
      · exact hl.1 c hc'
    · rename_i h
      rw [hb] at h
      have h : ¬ f a < f b := fun e => h (decide_eq_true e)
      have hab' : Ahead f a b := by
        rcases lt_or_eq_of_le (not_lt.mp h) with e | e
        · exact Or.inl e
        · exact Or.inr ⟨e, hab⟩
      refine List.pairwise_cons.mpr ⟨fun c hc => ?_, List.pairwise_cons.mpr hl⟩
      rcases List.mem_cons.mp hc with rfl | hc'
      · exact hab'
      · exact hab'.trans (hl.1 c hc')

theorem ahead_stableSort (f : Fin n → EReal) (before : Fin n → Fin n → Bool) (hb : ∀ a b, before a b = decide (f b < f a))
    (l : List (Fin n)) (hl : l.Pairwise (· < ·)) : (stableSort before l).Pairwise (Ahead f) := by
  induction l with
  | nil => exact List.Pairwise.nil
  | cons a l ih =>
    rw [List.pairwise_cons] at hl
    unfold stableSort
    exact ahead_insert f before hb a _ (ih hl.2) fun b h => hl.1 b ((perm_stableSort before l).mem_iff.mp h)

/-- Of two places of the stable sort by descending value, the earlier one's position comes before. -/
theorem ahead_sortedFrom (f : Fin n → EReal) (before : Fin n → Fin n → Bool) (hb : ∀ a b, before a b = decide (f b < f a))
    (i j : Fin n) (hij : i < j) : Ahead f (sortedFrom before i) (sortedFrom before j) := by
  have hp : ∀ a b : Fin (sortPositions n before).length, a < b → Ahead f ((sortPositions n before).get a) ((sortPositions n before).get b) :=
    List.pairwise_iff_get.mp (ahead_stableSort f before hb (List.finRange n) (List.pairwise_lt_finRange n))
  unfold sortedFrom
  exact hp _ _ hij

/-- The values with the positions of the first `r` places at −∞. -/
noncomputable def left (f : Fin n → EReal) (g : Fin n → Fin n) (r : Nat) (v : Fin n) : EReal :=
  open Classical in if ∃ j : Fin n, j.val < r ∧ g j = v then ⊥ else f v

/-- Where no value is −∞, the position at place `r` comes before every other among the values left. -/
theorem ahead_left (f : Fin n → EReal) (hf : ∀ v, f v ≠ ⊥) (before : Fin n → Fin n → Bool) (hb : ∀ a b, before a b = decide (f b < f a))
    (r v : Fin n) (hv : v ≠ sortedFrom before r) :
    Ahead (left f (sortedFrom before) r.val) (sortedFrom before r) v := by
  have hr : left f (sortedFrom before) r.val (sortedFrom before r) = f (sortedFrom before r) := by
    unfold left
    rw [if_neg]
    rintro ⟨j, hj, e⟩
    rw [sortedFrom_injective before e] at hj
    exact absurd hj (lt_irrefl _)
  obtain ⟨j, rfl⟩ := sortedFrom_surjective before v
  by_cases h : ∃ k : Fin n, k.val < r.val ∧ sortedFrom before k = sortedFrom before j
  · left
    rw [hr]
    unfold left
    rw [if_pos h]
    exact bot_lt_iff_ne_bot.mpr (hf _)
  · have hj : r < j := by
      rcases lt_trichotomy r j with h' | h' | h'
      · exact h'
      · exact absurd (h' ▸ rfl) hv
      · exact absurd ⟨j, h', rfl⟩ h
    have := ahead_sortedFrom f before hb r j hj
    unfold Ahead
    rw [hr]
    unfold left
    rw [if_neg h]
    exact this

/-- Striking place `r` out of the values left leaves the values of the next round. -/
theorem left_succ (f : Fin n → EReal) (g : Fin n → Fin n) (r : Fin n) (v : Fin n) :
    left f g (r.val + 1) v = if v = g r then ⊥ else left f g r.val v := by
  unfold left
  by_cases h : v = g r
  · rw [if_pos h, if_pos ⟨r, Nat.lt_succ_self _, h.symm⟩]
  · rw [if_neg h]
    congr 1
    apply propext
    refine ⟨fun ⟨j, hj, e⟩ => ⟨j, ?_, e⟩, fun ⟨j, hj, e⟩ => ⟨j, Nat.lt_succ_of_lt hj, e⟩⟩
    rcases Nat.lt_succ_iff_lt_or_eq.mp hj with h' | h'
    · exact h'
    · exact absurd (e.symm.trans (congrArg g (Fin.ext h'))) h

theorem left_zero (f : Fin n → EReal) (g : Fin n → Fin n) : left f g 0 = f := by
  funext v
  unfold left
  rw [if_neg]
  rintro ⟨j, hj, -⟩
  exact absurd hj (Nat.not_lt_zero _)

end Cert.Routing

end
-- ==== Proof.Picks.lean ====
/- The routing call's rounds, over the extended reals: on scores that are all above −∞ they name the columns of each row in the order
   of a stable sort by descending score. -/
module

public import proofs.«01_k».proof.Proof.Table
public import proofs.«01_k».proof.Proof.Order
public import Idealize.ShloMosaic.Lib.Pointwise.Tactic

@[expose] public section

set_option maxRecDepth 16384

noncomputable section

namespace Cert.KernelIdeal.Run

open Cert.KernelIdeal.Gen
open Idealize.ShloMosaic Cert.Routing

theorem negInf_eq : Ideal.ofBits .f32 0xFF800000#32 = ⊥ := by
  simp [Ideal.ofBits, Ideal.ieee]

/-- The greatest score of a row. -/
theorem rowMax_eq (s : FVec Ideal S64x64 .f32) (w : Fin 64) :
    multiReduction .maximumf [1] S64 s 0xFF800000#32 reduces_S64x64_S64 (.inl rfl) rfl (ix1 w)
      = Finset.univ.fold max ⊥ (fun v : Fin 64 => s (ix2 w v)) := by
  pointwise
  rw [negInf_eq]

/-- Column numbers below 64, read signed. -/
theorem toInt_col (v : Fin 64) : (BitVec.ofNat 32 v.val).toInt = (v.val : Int) := by
  have := v.isLt
  rw [BitVec.toInt_eq_toNat_cond, BitVec.toNat_ofNat]
  have e : v.val % 2 ^ 32 = v.val := Nat.mod_eq_of_lt (by omega)
  rw [e, if_pos (by omega)]

theorem ofNat_col_inj (v p : Fin 64) : BitVec.ofNat 32 v.val = BitVec.ofNat 32 p.val ↔ v = p := by
  refine ⟨fun h => ?_, fun h => h ▸ rfl⟩
  have := congrArg BitVec.toInt h
  rw [toInt_col, toInt_col] at this
  exact Fin.ext (by exact_mod_cast this)

/-- A round takes the column that comes before all others in its row. -/
theorem pick_of_ahead (s : FVec Ideal S64x64 .f32) (w p : Fin 64) (h : ∀ v, v ≠ p → Ahead (fun v => s (ix2 w v)) p v) :
    pick s (ix1 w) = BitVec.ofNat 32 p.val := by
  rw [pick_eq, rowMax_eq]
  simp only [pointwise]
  have hle : ∀ v, s (ix2 w v) ≤ s (ix2 w p) := fun v => by
    by_cases e : v = p
    · rw [e]
    · rcases h v e with h | ⟨h, -⟩
      · exact le_of_lt h
      · exact le_of_eq h
  have hmax : Finset.univ.fold max ⊥ (fun v : Fin 64 => s (ix2 w v)) = s (ix2 w p) := by
    refine le_antisymm (Finset.fold_max_le _ |>.mpr ⟨bot_le, fun v _ => hle v⟩) ?_
    exact Finset.le_fold_max _ |>.mpr (Or.inr ⟨p, Finset.mem_univ _, le_refl _⟩)
  rw [hmax]
  obtain ⟨h1, h2⟩ := fold_minsi_mem (fun v : Fin 64 => if s (ix2 w p) ≤ s (ix2 w v) then BitVec.ofNat 32 v.val else 1073741824#32)
    Finset.univ 2147483647#32
  have hp := h1 p (Finset.mem_univ _)
  rw [if_pos (le_refl _), toInt_col] at hp
  have hp64 := p.isLt
  rcases h2 with h2 | ⟨v, -, h2⟩
  · rw [h2] at hp
    have e : (2147483647#32 : BitVec 32).toInt = 2147483647 := by decide
    rw [e] at hp
    omega
  · rw [h2] at hp ⊢
    by_cases hv : s (ix2 w p) ≤ s (ix2 w v)
    · rw [if_pos hv] at hp ⊢
      rw [toInt_col] at hp
      by_cases e : v = p
      · rw [e]
      · rcases h v e with h | ⟨-, h⟩
        · exact absurd h (not_lt.mpr hv)
        · have : p.val < v.val := h
          omega
    · rw [if_neg hv] at hp
      have e : (1073741824#32 : BitVec 32).toInt = 1073741824 := by decide
      rw [e] at hp
      omega

theorem strike_apply (s : FVec Ideal S64x64 .f32) (q : IVec S64 32) (w v : Fin 64) :
    strike s q (ix2 w v) = if BitVec.ofNat 32 v.val = q (ix1 w) then ⊥ else s (ix2 w v) := by
  unfold strike colNo
  pointwise
  rw [negInf_eq]
  by_cases h : BitVec.ofNat 32 v.val = q (ix1 w)
  · rw [if_pos h, h]; simp [IntOp.cmpi, Scalar.select]
  · rw [if_neg h]; simp [IntOp.cmpi, Scalar.select, beq_eq_false_iff_ne.mpr h]

variable (s : FVec Ideal S64x64 .f32) (w : Fin 64) (hs : ∀ v, s (ix2 w v) ≠ ⊥) (before : Fin 64 → Fin 64 → Bool)
  (hb : ∀ a b, before a b = decide (s (ix2 w b) < s (ix2 w a)))

include hs hb in
/-- Round `r`'s scores are those left after `r` places of the sort by descending score. -/
theorem round_apply (r : Nat) (hr : r ≤ 64) (v : Fin 64) :
    round s r (ix2 w v) = left (fun v => s (ix2 w v)) (sortedFrom before) r v := by
  induction r generalizing v with
  | zero => rw [left_zero]; rfl
  | succ r ih =>
    have ih' := ih (Nat.le_of_succ_le hr)
    have hp : pick (round s r) (ix1 w) = BitVec.ofNat 32 (sortedFrom before ⟨r, hr⟩).val :=
      pick_of_ahead (round s r) w _ fun u hu => by
        have := ahead_left (fun v => s (ix2 w v)) hs before hb ⟨r, hr⟩ u hu
        rw [show (fun v => round s r (ix2 w v)) = left (fun v => s (ix2 w v)) (sortedFrom before) r from funext ih']
        exact this
    refine (strike_apply (round s r) _ w v).trans ?_
    rw [hp, ih' v]
    refine Eq.trans ?_ (left_succ (fun v => s (ix2 w v)) (sortedFrom before) ⟨r, hr⟩ v).symm
    simp only [ofNat_col_inj]

include hs hb in
/-- Round `r` names the column at place `r` of the sort. -/
theorem pick_round (r : Fin 64) : pick (round s r.val) (ix1 w) = BitVec.ofNat 32 (sortedFrom before r).val :=
  pick_of_ahead (round s r.val) w _ fun u hu => by
    rw [show (fun v => round s r.val (ix2 w v)) = left (fun v => s (ix2 w v)) (sortedFrom before) r.val from
      funext (round_apply s w hs before hb r.val (Nat.le_of_lt r.isLt))]
    exact ahead_left (fun v => s (ix2 w v)) hs before hb r u hu

end Cert.KernelIdeal.Run

end
-- ==== Proof.Spec.lean ====
/- The computation both programs do, over the extended reals: window-routed spiking attention on tokens already cut into windows. -/
module

public import proofs.«01_k».proof.Proof.Order
public import Idealize.ShloMosaic.Lib.Pointwise.Tactic

@[expose] public section

noncomputable section

namespace Cert.Routing

open Idealize.ShloMosaic

/-- Tokens: time step, batch, window, row of the window, channel. -/
abbrev Tokens : Type := FVec Ideal ⟨5, ![4, 2, 64, 32, 384]⟩ .f32

variable (X : Tokens) (W : FVec Ideal ⟨2, ![1152, 384]⟩ .f32) (bias : FVec Ideal ⟨1, ![1152]⟩ .f32)

/-- The fused projection. -/
def lin (t : Fin 4) (b : Fin 2) (n : Fin 64) (s : Fin 32) (j : Fin 1152) : EReal :=
  (∑ c : Fin 384, X (ix5 t b n s c) * W (ix2 j c)) + bias (ix1 j)

/-- A spiking unit fires at input two and above. -/
def fire (y : EReal) : EReal := if 2 ≤ y then 1 else 0

/-- The column of the fused projection that holds part `p` (queries, keys, values), head `h`, channel `d`. -/
def col (p : Fin 3) (h : Fin 8) (d : Fin 48) : Fin 1152 := ⟨384 * p.val + 48 * h.val + d.val, by omega⟩

/-- A query, key or value spike. -/
def spk (p : Fin 3) (t : Fin 4) (b : Fin 2) (n : Fin 64) (s : Fin 32) (h : Fin 8) (d : Fin 48) : EReal :=
  fire (lin X W bias t b n s (col p h d))

/-- A window's feature row. -/
def feat (b : Fin 2) (n : Fin 64) (c : Fin 384) : EReal := Ideal.div (∑ s : Fin 32, ∑ t : Fin 4, X (ix5 t b n s c)) 32

/-- A routing score. -/
def score (b : Fin 2) (n v : Fin 64) : EReal :=
  (∑ c : Fin 384, feat X b n c * feat X b v c) * Ideal.ofBits .f32 0x3E13CD3A#32

/-- The window at place `r` when window `n`'s scores are sorted from the greatest down. -/
def route (b : Fin 2) (n : Fin 64) (r : Fin 4) : Fin 64 :=
  sortedFrom (fun a a' => decide (score X b n a' < score X b n a)) ⟨r.val, by omega⟩

/-- The keys against the values, over the routed windows. -/
def keyVal (t : Fin 4) (b : Fin 2) (n : Fin 64) (h : Fin 8) (d e : Fin 48) : EReal :=
  ∑ r : Fin 4, ∑ s : Fin 32, spk X W bias 1 t b (route X b n r) s h d * spk X W bias 2 t b (route X b n r) s h e

/-- The keys summed over the routed windows. -/
def keySums (t : Fin 4) (b : Fin 2) (n : Fin 64) (h : Fin 8) (d : Fin 48) : EReal :=
  ∑ r : Fin 4, ∑ s : Fin 32, spk X W bias 1 t b (route X b n r) s h d

/-- The attention at a row, a head and a channel. -/
def attn (t : Fin 4) (b : Fin 2) (n : Fin 64) (s : Fin 32) (h : Fin 8) (e : Fin 48) : EReal :=
  Ideal.div (∑ d : Fin 48, spk X W bias 0 t b n s h d * keyVal X W bias t b n h d e)
    ((∑ d : Fin 48, spk X W bias 0 t b n s h d * keySums X W bias t b n h d) + Ideal.ofBits .f32 0x358637BD#32)

/-- The head of a channel, and the channel within it. -/
def headOf (c : Fin 384) : Fin 8 := ⟨c.val / 48, by omega⟩
def chanOf (c : Fin 384) : Fin 48 := ⟨c.val % 48, by omega⟩

variable (Wp : FVec Ideal ⟨2, ![384, 384]⟩ .f32) (bp : FVec Ideal ⟨1, ![384]⟩ .f32)

/-- The output at a row and a channel. -/
def result (t : Fin 4) (b : Fin 2) (n : Fin 64) (s : Fin 32) (j : Fin 384) : EReal :=
  (∑ c : Fin 384, attn X W bias t b n s (headOf c) (chanOf c) * Wp (ix2 j c)) + bp (ix1 j)

end Cert.Routing

end
-- ==== Proof.QkvValue.lean ====
/- What the first call leaves in its results' blocks, read at an index over the extended reals: the query spikes, the windows'
   key-value products and key sums, the windows' features. -/
module

public import proofs.«01_k».proof.Proof.Qkv
public import proofs.«01_k».proof.Proof.Spec
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.KernelIdeal.Run

open Cert.KernelIdeal.Gen
open Idealize.ShloMosaic Cert.Routing

theorem two_f32 : Ideal.ofBits .f32 0x40000000#32 = ((2 : ℝ) : EReal) := by
  simp [Ideal.ofBits, Ideal.ieee, -EReal.coe_mul]; norm_num

variable (x0 : FVec Ideal S1024x384 .f32) (x1 : FVec Ideal S384x1152 .f32) (x2 : FVec Ideal S1x1152 .f32)

/-- A row's spike in a column of the fused projection. -/
def rowSpike (i : Fin 1024) (j : Fin 1152) : EReal :=
  fire ((∑ c : Fin 384, x0 (ix2 i c) * x1 (ix2 c j)) + x2 (ix2 0 j))

theorem k0_pay3_apply (i : Fin 1024) (j : Fin 1152) : k0_pay3 (F := Ideal) x0 x1 x2 (ix2 i j) = rowSpike x0 x1 x2 i j := by
  unfold k0_pay3 k0_pay2 rowSpike fire
  pointwise
  rw [two_f32]
  have e2 : ((2 : ℝ) : EReal) = 2 := rfl
  rw [e2]
  by_cases h : 2 ≤ (∑ c : Fin 384, x0 (ix2 i c) * x1 (ix2 c j)) + x2 (ix2 0 j)
  · rw [if_pos h]; simp [FloatOps.sitofp, h]
  · rw [if_neg h]; simp [FloatOps.sitofp, h]
theorem k0_pay4_apply (i : Fin 1024) (c : Fin 384) : k0_pay4 (F := Ideal) x0 x1 x2 (ix2 i c) = rowSpike x0 x1 x2 i ⟨c.val, by omega⟩ := by
  unfold k0_pay4
  pointwise
  exact k0_pay3_apply x0 x1 x2 i _
theorem k0_pay5_apply (i : Fin 1024) (c : Fin 384) : k0_pay5 (F := Ideal) x0 x1 x2 (ix2 i c) = rowSpike x0 x1 x2 i ⟨384 + c.val, by omega⟩ := by
  unfold k0_pay5
  pointwise
  exact k0_pay3_apply x0 x1 x2 i _
theorem k0_pay6_apply (i : Fin 1024) (c : Fin 384) : k0_pay6 (F := Ideal) x0 x1 x2 (ix2 i c) = rowSpike x0 x1 x2 i ⟨768 + c.val, by omega⟩ := by
  unfold k0_pay6
  pointwise
  exact k0_pay3_apply x0 x1 x2 i _
theorem k0_pay2_apply (i : Fin 1024) (c : Fin 384) : k0_pay2 x0 (ix2 i c) = x0 (ix2 i c) := by
  unfold k0_pay2
  pointwise

theorem rowsOf_apply {α : Type} (x : S1024x384.Idx → α) (n : Fin 32) (s : Fin 32) (c : Fin 384) :
    rowsOf x n (ix2 s c) = x (ix2 ⟨32 * n.val + s.val, by omega⟩ c) := by
  unfold rowsOf
  pointwise

theorem kvProd_apply (kw vw : FVec Ideal S32x384 .bf16) (c e : Fin 384) : kvProd kw vw (ix2 c e) = ∑ s : Fin 32, kw (ix2 s c) * vw (ix2 s e) := by
  unfold kvProd
  pointwise
theorem keySum_apply (kw : FVec Ideal S32x384 .bf16) (c : Fin 384) : keySum kw (ix2 0 c) = ∑ s : Fin 32, kw (ix2 s c) := by
  unfold keySum
  pointwise
theorem featRow_apply (xw : FVec Ideal S32x384 .f32) (c : Fin 384) : featRow xw (ix3 0 0 c) = ∑ s : Fin 32, xw (ix2 s c) := by
  unfold featRow
  pointwise

/-- An index of a rank-two shape is its two coordinates' values. -/
theorem at_vals {α : Type} {m k : Nat} (p : (⟨2, ![m, k]⟩ : Shape).Idx → α) {a a' b b' : Nat} {ha : a < m} {ha' : a' < m} {hb : b < k} {hb' : b' < k}
    (e : a = a') (e' : b = b') : p (ix2 ⟨a, ha⟩ ⟨b, hb⟩) = p (ix2 ⟨a', ha'⟩ ⟨b', hb'⟩) := by
  subst e e'; rfl

theorem diagBlocks_apply (p : FVec Ideal S384x384 .bf16) (d : Fin 48) (h : Fin 8) (e : Fin 48) :
    diagBlocks p (ix2 d ⟨48 * h.val + e.val, by omega⟩) = p (ix2 ⟨48 * h.val + d.val, by omega⟩ ⟨48 * h.val + e.val, by omega⟩) := by
  unfold diagBlocks
  pointwise
  have := h.isLt
  have := e.isLt
  split_ifs <;> exact at_vals p (by omega) (by omega)
theorem kvRows_apply (kw vw : FVec Ideal S32x384 .bf16) (i : Fin 64) (c : Fin 384) :
    kvRows kw vw (ix3 0 i c) = if h : i.val < 48 then diagBlocks (kvProd kw vw) (ix2 ⟨i.val, h⟩ c) else if i.val = 48 then keySum kw (ix2 0 c) else 0 := by
  unfold kvRows
  pointwise
  by_cases h1 : i.val < 48
  · rw [dif_pos h1, dif_pos h1]
  · rw [dif_neg h1, dif_neg h1]
    by_cases h2 : i.val = 48
    · rw [if_pos h2, dif_pos (by omega)]
      exact congrArg (fun a : Fin 1 => keySum kw (ix2 a c)) (Subsingleton.elim _ _)
    · rw [if_neg h2, dif_neg (by omega)]

/-! ## The blocks -/

theorem zero2 : (![0, 0] : Fin 2 → Nat) = fun _ => 0 := by decide

theorem out0_3_apply (i : Fin 1024) (c : Fin 384) : out0_3 (F := Ideal) x0 x1 x2 (ix2 i c) = rowSpike x0 x1 x2 i ⟨c.val, by omega⟩ := by
  unfold out0_3
  rw [View.canon_unit_zero zero2, View.ld_unit_zero zero2, View.ld_unit_zero zero2, View.ld_unit_zero zero2]
  exact k0_pay4_apply x0 x1 x2 i c

theorem out0_4_apply (n : Fin 32) (i : Fin 64) (c : Fin 384) : out0_4 (F := Ideal) x0 x1 x2 (ix3 n i c)
    = kvRows (rowsOf (k0_pay5 (F := Ideal) x0 x1 x2) n) (rowsOf (k0_pay6 (F := Ideal) x0 x1 x2) n) (ix3 0 i c) := by
  unfold out0_4 kvPieces
  rw [View.ld_unit_zero zero2, View.ld_unit_zero zero2, View.ld_unit_zero zero2]
  refine View.canon_ofFn_unit_eq_of_forall _ _ _ _ _ _ ⟨Fin.rev n, fun a => ?_⟩ (fun k x hx => ?_)
  · rw [Fin.rev_rev]
    match a with
    | ⟨0, _⟩ => exact ⟨Nat.le_refl _, Nat.lt_succ_self _⟩
    | ⟨1, _⟩ => exact ⟨Nat.zero_le _, by have := i.isLt; show i.val < 0 + 64; omega⟩
    | ⟨2, _⟩ => exact ⟨Nat.zero_le _, by have := c.isLt; show c.val < 0 + 384; omega⟩
  · have e0 : Fin.rev k = n := Fin.ext (by have := hx 0; have h0 := (x 0).isLt; change (x 0).val < 1 at h0; change n.val = (Fin.rev k).val + (x 0).val at this; omega)
    have ex : x = ix3 0 i c := by
      funext a; apply Fin.ext
      match a with
      | ⟨0, _⟩ => have h0 := (x 0).isLt; change (x 0).val < 1 at h0; show (x 0).val = 0; omega
      | ⟨1, _⟩ => have := hx 1; change i.val = 0 + (x 1).val at this; show (x 1).val = i.val; omega
      | ⟨2, _⟩ => have := hx 2; change c.val = 0 + (x 2).val at this; show (x 2).val = c.val; omega
    rw [e0, ex]

theorem out0_5_apply (n : Fin 32) (c : Fin 384) : out0_5 (F := Ideal) x0 (ix3 n 0 c) = ∑ s : Fin 32, x0 (ix2 ⟨32 * n.val + s.val, by omega⟩ c) := by
  unfold out0_5 featPieces
  rw [View.ld_unit_zero zero2]
  refine View.canon_ofFn_unit_eq_of_forall _ _ _ _ _ _ ⟨Fin.rev n, fun a => ?_⟩ (fun k x hx => ?_)
  · rw [Fin.rev_rev]
    match a with
    | ⟨0, _⟩ => exact ⟨Nat.le_refl _, Nat.lt_succ_self _⟩
    | ⟨1, _⟩ => exact ⟨Nat.zero_le _, Nat.zero_lt_succ _⟩
    | ⟨2, _⟩ => exact ⟨Nat.zero_le _, by have := c.isLt; show c.val < 0 + 384; omega⟩
  · have e0 : Fin.rev k = n := Fin.ext (by have := hx 0; have h0 := (x 0).isLt; change (x 0).val < 1 at h0; change n.val = (Fin.rev k).val + (x 0).val at this; omega)
    have ex : x = ix3 0 0 c := by
      funext a; apply Fin.ext
      match a with
      | ⟨0, _⟩ => have h0 := (x 0).isLt; change (x 0).val < 1 at h0; show (x 0).val = 0; omega
      | ⟨1, _⟩ => have h0 := (x 1).isLt; change (x 1).val < 1 at h0; show (x 1).val = 0; omega
      | ⟨2, _⟩ => have := hx 2; change c.val = 0 + (x 2).val at this; show (x 2).val = c.val; omega
    rw [e0, ex, featRow_apply]
    simp only [rowsOf_apply, k0_pay2_apply]

end Cert.KernelIdeal.Run

end
-- ==== Proof.AttnValue.lean ====
/- What the third call leaves in its result's block, read at an index over the extended reals: each window's queries against the
   key-value products and key sums of the windows routed to it, projected. -/
module

public import proofs.«01_k».proof.Proof.Attn
public import proofs.«01_k».proof.Proof.QkvValue
public import Idealize.ShloMosaic.Lib.ValueLayout

@[expose] public section

set_option maxRecDepth 16384

noncomputable section

namespace Cert.KernelIdeal.Run

open Cert.KernelIdeal.Gen
open Idealize.ShloMosaic Cert.Routing

/-! ## Sums over channels that meet one head's block -/

/-- Channel `d` of the head of channel `c`. -/
def sameHead (c : Fin 384) (d : Fin 48) : Fin 384 := ⟨48 * (c.val / 48) + d.val, by omega⟩

theorem sameHead_div (c : Fin 384) (d : Fin 48) : (sameHead c d).val / 48 = c.val / 48 := by
  have := d.isLt
  show (48 * (c.val / 48) + d.val) / 48 = c.val / 48
  omega
theorem sameHead_mod (c : Fin 384) (d : Fin 48) : (sameHead c d).val % 48 = d.val := by
  have := d.isLt
  show (48 * (c.val / 48) + d.val) % 48 = d.val
  omega

/-- A sum over all channels of terms that vanish off one head's block is the sum over that block. -/
theorem sum_sameHead (F : Fin 384 → EReal) (c : Fin 384) (h0 : ∀ k : Fin 384, ¬ k.val / 48 = c.val / 48 → F k = 0) :
    ∑ k : Fin 384, F k = ∑ d : Fin 48, F (sameHead c d) := by
  have h1 : ∑ k : Fin 384, F k = ∑ k ∈ Finset.univ.filter (fun k : Fin 384 => k.val / 48 = c.val / 48), F k := by
    rw [Finset.sum_filter]
    refine Finset.sum_congr rfl fun k _ => ?_
    by_cases h : k.val / 48 = c.val / 48
    · rw [if_pos h]
    · rw [if_neg h, h0 k h]
  rw [h1]
  refine Finset.sum_bij' (fun k _ => (⟨k.val % 48, by omega⟩ : Fin 48)) (fun d _ => sameHead c d) ?_ ?_ ?_ ?_ ?_
  · exact fun _ _ => Finset.mem_univ _
  · intro d _
    exact Finset.mem_filter.2 ⟨Finset.mem_univ _, sameHead_div c d⟩
  · intro k hk
    have e := (Finset.mem_filter.1 hk).2
    apply Fin.ext
    show 48 * (c.val / 48) + k.val % 48 = k.val
    omega
  · intro d _
    exact Fin.ext (sameHead_mod c d)
  · intro k hk
    have e := (Finset.mem_filter.1 hk).2
    exact congrArg F (Fin.ext (by show k.val = 48 * (c.val / 48) + k.val % 48; omega))

/-! ## One window -/

theorem stack_apply {α : Type} (f : Fin 64 → S32x384.Idx → α) (n : Fin 64) (s : Fin 32) (c : Fin 384) :
    stack f (ix2 ⟨32 * n.val + s.val, by omega⟩ c) = f n (ix2 s c) := by
  have hs := s.isLt
  unfold stack
  refine concatenate_ofFn_apply 0 f (cat64 f) rfl 32 rfl _ n ?_ _ ?_ ?_
  · show (32 * n.val + s.val) / 32 = n.val
    omega
  · show s.val = (32 * n.val + s.val) % 32
    omega
  · intro b hb
    match b with
    | ⟨0, _⟩ => exact absurd rfl hb
    | ⟨1, _⟩ => rfl

theorem off5_row (v : Fin 64) : ∀ a, k2_off5 (BitVec.ofNat 32 v.val) a = (![0, 64 * v.val, 0] : Fin 3 → Nat) a := by
  revert v; decide

variable (i : grid2.Coords) (x0 : Vec Ideal S2x64x4 .i32) (x1 : FVec Ideal S1x2048x384 .bf16) (x2 : FVec Ideal S1x4096x384 .bf16)
  (x3 : FVec Ideal S384x384 .bf16) (x4 : FVec Ideal S384x384 .f32) (x5 : FVec Ideal S1x384 .f32)

theorem named_apply (w : BitVec 32) (hw : NamesWindow w) (v : Fin 64) (e : w = BitVec.ofNat 32 v.val) (d : Fin 64) (c : Fin 384) :
    named (F := Ideal) x2 w hw (ix2 d c) = x2 (ix3 0 ⟨64 * v.val + d.val, by omega⟩ c) := by
  subst e
  unfold named
  refine (ValueIdx.shapeCast_1ab_ab_apply _ _ d c).trans ?_
  refine View.ld_unit_apply_of _ _ _ _ _ _ fun a => ?_
  rw [off5_row v]
  match a with
  | ⟨0, _⟩ => rfl
  | ⟨1, _⟩ => rfl
  | ⟨2, _⟩ => exact (Nat.zero_add _).symm

theorem queries_apply (n : Fin 64) (s : Fin 32) (c : Fin 384) :
    queries (F := Ideal) x1 n (ix2 s c) = x1 (ix3 0 ⟨32 * n.val + s.val, by omega⟩ c) := by
  unfold queries
  refine (ValueIdx.shapeCast_1ab_ab_apply _ _ s c).trans ?_
  refine View.ld_unit_apply_of _ _ _ _ _ _ fun a => ?_
  match a with
  | ⟨0, _⟩ => rfl
  | ⟨1, _⟩ => rfl
  | ⟨2, _⟩ => exact (Nat.zero_add _).symm

theorem maskV_eq : maskV (F := Ideal) x3 = x3 := by
  unfold maskV
  rw [View.ld_unit_zero zero2]
  exact shapeCast_self _ _

/-- The mask that keeps one head's block. -/
def IsMask : Prop := ∀ k c : Fin 384, x3 (ix2 k c) = if k.val / 48 = c.val / 48 then 1 else 0

theorem tile8_apply (kv : FVec Ideal S48x384 .bf16) (k c : Fin 384) :
    concatenate S384x384 0 [⟨S48x384, kv⟩, ⟨S48x384, kv⟩, ⟨S48x384, kv⟩, ⟨S48x384, kv⟩, ⟨S48x384, kv⟩, ⟨S48x384, kv⟩, ⟨S48x384, kv⟩, ⟨S48x384, kv⟩]
      concatenates_S48x384_S48x384_S48x384_S48x384_S48x384_S48x384_S48x384_S48x384_S384x384_d0 (ix2 k c)
      = kv (ix2 ⟨k.val % 48, by omega⟩ c) :=
  concatenate_replicate_apply (t := S384x384) (s₁ := S48x384) 0 8 kv _ rfl (ix2 k c) _ rfl (fun b hb => by
    match b with
    | ⟨0, _⟩ => exact absurd rfl hb
    | ⟨1, _⟩ => rfl)

theorem numer_apply (hm : IsMask x3) (blk : FVec Ideal S64x384 .bf16) (q : FVec Ideal S32x384 .bf16) (s : Fin 32) (c : Fin 384) :
    numer blk q x3 (ix2 s c) = ∑ d : Fin 48, q (ix2 s (sameHead c d)) * blk (ix2 ⟨d.val, by omega⟩ c) := by
  unfold numer
  generalize hkv : extractStridedSlice S48x384 ![0, 0] blk slices_S64x384_o0_0_S48x384 = kv
  have hk : ∀ d : Fin 48, kv (ix2 d c) = blk (ix2 ⟨d.val, by omega⟩ c) := by
    intro d; rw [← hkv]; pointwise
  have ht := fun k => tile8_apply kv k c
  generalize concatenate S384x384 0 _ _ = T at ht ⊢
  pointwise
  refine (sum_sameHead _ c fun k h => ?_).trans (Finset.sum_congr rfl fun d _ => ?_)
  · rw [hm, if_neg h, mul_zero, mul_zero]
  · rw [hm, if_pos (sameHead_div c d), mul_one, ht, ← hk]
    exact congrArg (fun e => q (ix2 s (sameHead c d)) * kv (ix2 e c)) (Fin.ext (sameHead_mod c d))

theorem qks_apply (blk : FVec Ideal S64x384 .bf16) (q : FVec Ideal S32x384 .bf16) (s : Fin 32) (c : Fin 384) :
    qks blk q (ix2 s c) = q (ix2 s c) * blk (ix2 48 c) := by
  unfold qks
  pointwise
  try rfl

/-! ## All windows -/

variable (ρ : Fin 64 → Fin 4 → Fin 64)

/-- Row `d` of the blocks routed to window `n`, added. -/
def routedRow (n : Fin 64) (d : Fin 64) (c : Fin 384) : EReal := ∑ r : Fin 4, x2 (ix3 0 ⟨64 * (ρ n r).val + d.val, by omega⟩ c)

theorem routed_apply (hok : ∀ y, NamesWindow (x0 y)) (hρ : ∀ n r, word (F := Ideal) i x0 n r = BitVec.ofNat 32 (ρ n r).val)
    (n : Fin 64) (d : Fin 64) (c : Fin 384) : routed (F := Ideal) i x0 x2 hok n (ix2 d c) = routedRow x2 ρ n d c := by
  unfold routed routedRow
  rw [Fin.sum_univ_four, ← named_apply x2 _ (hok _) _ (hρ n 0) d c, ← named_apply x2 _ (hok _) _ (hρ n 1) d c,
    ← named_apply x2 _ (hok _) _ (hρ n 2) d c, ← named_apply x2 _ (hok _) _ (hρ n 3) d c]
  rfl

/-- The attention of a row of a window at a channel. -/
def attnAt (n : Fin 64) (s : Fin 32) (c : Fin 384) : EReal :=
  Ideal.div (∑ d : Fin 48, x1 (ix3 0 ⟨32 * n.val + s.val, by omega⟩ (sameHead c d)) * routedRow x2 ρ n ⟨d.val, by omega⟩ c)
    ((∑ d : Fin 48, x1 (ix3 0 ⟨32 * n.val + s.val, by omega⟩ (sameHead c d)) * routedRow x2 ρ n 48 (sameHead c d))
      + Ideal.ofBits .f32 0x358637BD#32)

theorem attnV_apply (hm : IsMask x3) (hok : ∀ y, NamesWindow (x0 y))
    (hρ : ∀ n r, word (F := Ideal) i x0 n r = BitVec.ofNat 32 (ρ n r).val) (n : Fin 64) (s : Fin 32) (c : Fin 384) :
    attnV (F := Ideal) i x0 x1 x2 x3 hok (ix2 ⟨32 * n.val + s.val, by omega⟩ c) = attnAt x1 x2 ρ n s c := by
  unfold attnV attnAt
  rw [maskV_eq]
  have hn := fun c => stack_apply (fun n => numer (routed i x0 x2 hok n) (queries x1 n) x3) n s c
  have hq := fun c => stack_apply (fun n => qks (routed i x0 x2 hok n) (queries x1 n)) n s c
  generalize stack (fun n => numer (routed i x0 x2 hok n) (queries x1 n) x3) = N at hn ⊢
  generalize stack (fun n => qks (routed i x0 x2 hok n) (queries x1 n)) = Q at hq ⊢
  pointwise
  rw [hn, numer_apply x3 hm]
  refine congrArg₂ Ideal.div (Finset.sum_congr rfl fun d _ => ?_) (congrArg (· + _) ?_)
  · rw [queries_apply, routed_apply i x0 x2 ρ hok hρ]
  · refine (sum_sameHead _ c fun k h => ?_).trans (Finset.sum_congr rfl fun d _ => ?_)
    · rw [hm, if_neg h, mul_zero]
    · rw [hm, if_pos (sameHead_div c d), mul_one, hq, qks_apply, queries_apply, routed_apply i x0 x2 ρ hok hρ]

theorem zero3 : (![0, 0, 0] : Fin 3 → Nat) = fun _ => 0 := by decide

theorem out2_6_apply (hm : IsMask x3) (hok : ∀ y, NamesWindow (x0 y))
    (hρ : ∀ n r, word (F := Ideal) i x0 n r = BitVec.ofNat 32 (ρ n r).val) (n : Fin 64) (s : Fin 32) (j : Fin 384) :
    out2_6 (F := Ideal) i x0 x1 x2 x3 x4 x5 hok (ix3 0 ⟨32 * n.val + s.val, by omega⟩ j)
      = (∑ c : Fin 384, attnAt x1 x2 ρ n s c * x4 (ix2 c j)) + x5 (ix2 0 j) := by
  unfold out2_6 blockV
  rw [View.canon_unit_zero zero3, View.ld_unit_zero zero2, View.ld_unit_zero zero2]
  refine (ValueIdx.shapeCast_ab_1ab_apply _ _ 0 _ j).trans ?_
  have ha := fun c => attnV_apply i x0 x1 x2 x3 ρ hm hok hρ n s c
  generalize attnV i x0 x1 x2 x3 hok = A at ha ⊢
  pointwise
  simp only [ha]
  try rfl

end Cert.KernelIdeal.Run

end
-- ==== Proof.RouteValue.lean ====
/- What the routing call leaves in its result's block, over the extended reals: the windows in the order the scores put them. -/
module

public import proofs.«01_k».proof.Proof.Picks
public import proofs.«01_k».proof.Proof.AttnValue

@[expose] public section

set_option maxRecDepth 16384

noncomputable section

namespace Cert.KernelIdeal.Run

open Cert.KernelIdeal.Gen
open Idealize.ShloMosaic Cert.Routing

/-! ## Values that are real numbers -/

/-- Neither infinity. -/
def IsReal (y : EReal) : Prop := ∃ r : ℝ, y = (r : EReal)

theorem IsReal.mul {y z : EReal} (hy : IsReal y) (hz : IsReal z) : IsReal (y * z) := by
  obtain ⟨r, rfl⟩ := hy
  obtain ⟨q, rfl⟩ := hz
  exact ⟨r * q, (EReal.coe_mul r q).symm⟩

theorem IsReal.sum {ι : Type} (s : Finset ι) (f : ι → EReal) (h : ∀ i ∈ s, IsReal (f i)) : IsReal (∑ i ∈ s, f i) :=
  Finset.sum_induction f IsReal
    (fun y z hy hz => by
      obtain ⟨r, rfl⟩ := hy
      obtain ⟨q, rfl⟩ := hz
      exact ⟨r + q, (EReal.coe_add r q).symm⟩)
    ⟨0, rfl⟩ h

theorem IsReal.ne_bot {y : EReal} (h : IsReal y) : y ≠ ⊥ := by
  obtain ⟨r, rfl⟩ := h
  exact EReal.coe_ne_bot r

theorem isReal_of_abs_lt {y : EReal} (h : max y (-y) < ⊤) : IsReal y := by
  induction y using EReal.rec with
  | bot => exact absurd h (by simp)
  | coe r => exact ⟨r, rfl⟩
  | top => exact absurd h (by simp)

theorem scale_real : IsReal (Ideal.ofBits .f32 0x3E13CD3A#32) := by
  simp [Ideal.ofBits, Ideal.ieee, -EReal.coe_mul]
  exact ⟨_, rfl⟩

theorem inv32_f32 : Ideal.ofBits .f32 0x3D000000#32 = ((1 / 32 : ℝ) : EReal) := by
  simp [Ideal.ofBits, Ideal.ieee, -EReal.coe_mul]; norm_num

theorem div_32 (y : EReal) : Ideal.div y 32 = y * ((1 / 32 : ℝ) : EReal) := by
  have e : (32 : EReal) = ((32 : ℝ) : EReal) := rfl
  unfold Ideal.div
  rw [e, if_neg (by norm_num), ← EReal.coe_inv]
  norm_num

/-! ## The scores -/

theorem feat_real (X : Tokens) (hX : ∀ i, IsReal (X i)) (b : Fin 2) (n : Fin 64) (c : Fin 384) : IsReal (feat X b n c) := by
  unfold feat
  rw [div_32]
  exact (IsReal.sum _ _ fun s _ => IsReal.sum _ _ fun t _ => hX _).mul ⟨_, rfl⟩

theorem score_real (X : Tokens) (hX : ∀ i, IsReal (X i)) (b : Fin 2) (n v : Fin 64) : IsReal (score X b n v) :=
  (IsReal.sum _ _ fun c _ => (feat_real X hX b n c).mul (feat_real X hX b v c)).mul scale_real

variable (x0 : FVec Ideal S4x1x64x384 .f32)

theorem sumT_apply (x : FVec Ideal S4x64x384 .f32) (n : Fin 64) (c : Fin 384) :
    multiReduction .add [0] S64x384 x 0x00000000#32 reduces_S4x64x384_S64x384 (.inl rfl) rfl (ix2 n c) = ∑ t : Fin 4, x (ix3 t n c) := by
  pointwise

theorem k1_pay2_apply (n v : Fin 64) : k1_pay2 (F := Ideal) x0 (ix2 n v)
    = (∑ c : Fin 384, ((∑ t : Fin 4, x0 (ix4 t 0 n c)) * Ideal.ofBits .f32 0x3D000000#32)
        * ((∑ t : Fin 4, x0 (ix4 t 0 v c)) * Ideal.ofBits .f32 0x3D000000#32)) * Ideal.ofBits .f32 0x3E13CD3A#32 := by
  unfold k1_pay2
  pointwise

theorem k1_pay2_score (X : Tokens) (b : Fin 2) (hf : ∀ t n c, x0 (ix4 t 0 n c) = ∑ s : Fin 32, X (ix5 t b n s c)) (n v : Fin 64) :
    k1_pay2 (F := Ideal) x0 (ix2 n v) = score X b n v := by
  have e : ∀ n c, (∑ t : Fin 4, x0 (ix4 t 0 n c)) * Ideal.ofBits .f32 0x3D000000#32 = feat X b n c := by
    intro n c
    unfold feat
    rw [div_32, inv32_f32, Finset.sum_comm]
    simp only [hf]
  rw [k1_pay2_apply]
  simp only [e]
  rfl

theorem zero4 : (![0, 0, 0, 0] : Fin 4 → Nat) = fun _ => 0 := by decide

theorem out1_1_route (X : Tokens) (hX : ∀ i, IsReal (X i)) (b : Fin 2)
    (hf : ∀ t n c, x0 (ix4 t 0 n c) = ∑ s : Fin 32, X (ix5 t b n s c)) (u : Fin 1) (n : Fin 64) (r : Fin 4) :
    out1_1 (F := Ideal) x0 (ix3 u n r) = BitVec.ofNat 32 (route X b n r).val := by
  rw [out1_1_apply, View.ld_unit_zero zero4]
  have hs := fun v => k1_pay2_score x0 X b hf n v
  exact pick_round _ n (fun v => by rw [hs]; exact (score_real X hX b n v).ne_bot) _ (fun a a' => by rw [hs, hs]) ⟨r.val, by omega⟩

end Cert.KernelIdeal.Run

end
-- ==== Proof.HostValue.lean ====
/- What the host operations between the calls leave in the arrays the calls read: the tokens in rows, the weights transposed, the
   biases as rows, the first call's results reshaped, the head mask. -/
module

public import proofs.«01_k».proof.Proof.Run
public import proofs.«01_k».proof.Proof.RefStages
public import proofs.«01_k».proof.Proof.RouteValue
public import Idealize.ShloMosaic.Lib.StableHlo.ReadAt

@[expose] public section

set_option maxRecDepth 16384

noncomputable section

namespace Cert.KernelIdeal.Run

open Cert.KernelIdeal.Gen
open Idealize.ShloMosaic Idealize.ShloMosaic.TcCoe Cert.Routing

variable (m : (ℓ : Loc nD τ sig) → Buf (Elt Ideal) ℓ) (ρ : Dev nD → PrngReg) (c : Dev nD)

/-- The tokens of the launch. -/
abbrev X : Tokens := Cert.ReferenceIdeal.Value.tokens (F := Ideal) (m ((c : Thread nD τ).loc main_arg0))

theorem W1_v3 : W1 m ρ c (Proc.devRef .tc main_v3) = shapeCast S16384x384 (X m c) shapeCasts_S4x2x64x32x384_S16384x384 := by
  unfold W1
  after_reads_simp
  rfl

theorem W1_v4 : W1 m ρ c (Proc.devRef .tc main_v4)
    = transpose S384x1152 [1, 0] (m ((c : Thread nD τ).loc main_arg1)) transposes_S1152x384_S384x1152_1_0 := by
  unfold W1
  after_reads_simp

theorem W1_v5 : W1 m ρ c (Proc.devRef .tc main_v5) = shapeCast S1x1152 (m ((c : Thread nD τ).loc main_arg2)) shapeCasts_S1152_S1x1152 := by
  unfold W1
  after_reads_simp
  rfl

theorem W3_v7 : W3 m ρ c (Proc.devRef .tc main_v7)
    = shapeCast S4x2x64x384 (W2 m ρ c (Proc.devRef .tc main_v6_2)) shapeCasts_S512x1x384_S4x2x64x384 := by
  unfold W3
  after_reads_simp
  rfl

theorem W5_v9 : W5 m ρ c (Proc.devRef .tc main_v9)
    = shapeCast S8x2048x384 (W4 m ρ c (Proc.devRef .tc main_v6_0)) shapeCasts_S16384x384_S8x2048x384 := by
  unfold W5
  after_reads_simp
  rfl

theorem W5_v10 : W5 m ρ c (Proc.devRef .tc main_v10)
    = shapeCast S8x4096x384 (W4 m ρ c (Proc.devRef .tc main_v6_1)) shapeCasts_S512x64x384_S8x4096x384 := by
  unfold W5
  after_reads_simp
  rfl

/-- A channel's number over 48, rounded down: what the host's floor division computes. -/
theorem head_word (k : Fin 384) : Scalar.select
      (IntOp.andi
        (IntOp.cmpi CmpIPredicate.ne
          (if BitVec.ofNat 32 k.val = 0 then (0 : BitVec 32) else if (BitVec.ofNat 32 k.val).msb = true then -1 else 1)
          (if id (constantI S_ 32 48#32) ix0 = 0 then 0
          else if BitVec.msb (id (constantI S_ 32 48#32) ix0) = true then -1 else 1))
        (IntOp.cmpi CmpIPredicate.ne (IntOp.remsi ArithUnit.host (BitVec.ofNat 32 k.val) (id (constantI S_ 32 48#32) ix0)) 0#32))
      (IntOp.subi (IntOp.divsi ArithUnit.host (BitVec.ofNat 32 k.val) (id (constantI S_ 32 48#32) ix0)) 1#32)
      (IntOp.divsi ArithUnit.host (BitVec.ofNat 32 k.val) (id (constantI S_ 32 48#32) ix0))
    = BitVec.ofNat 32 (k.val / 48) := by
  revert k
  decide +kernel

/-- The mask keeps the blocks of one head. -/
theorem W7_v18 : IsMask (W7 m ρ c (Proc.devRef .tc main_v18)) := by
  intro k j
  unfold W7
  after_reads_at
  refine (congrArg₂ (fun a b => FloatOps.uitofp (F := Ideal) .bf16 (IntOp.cmpi .eq a b)) (head_word k) (head_word j)).trans ?_
  have e : ∀ a b : Fin 384, (IntOp.cmpi CmpIPredicate.eq (BitVec.ofNat 32 (a.val / 48)) (BitVec.ofNat 32 (b.val / 48)))
      = if a.val / 48 = b.val / 48 then 1#1 else 0#1 := by
    intro a b
    have ea : ∀ x y : Fin 8, IntOp.cmpi CmpIPredicate.eq (BitVec.ofNat 32 x.val) (BitVec.ofNat 32 y.val) = if x.val = y.val then 1#1 else 0#1 := by
      decide
    exact ea ⟨a.val / 48, by omega⟩ ⟨b.val / 48, by omega⟩
  rw [e]
  by_cases h : k.val / 48 = j.val / 48
  · simp [FloatOps.uitofp, h]
  · simp [FloatOps.uitofp, h]

theorem W7_v19 : W7 m ρ c (Proc.devRef .tc main_v19)
    = transpose S384x384 [1, 0] (W6 m ρ c (Proc.devRef .tc main_arg3)) transposes_S384x384_S384x384_1_0 := by
  unfold W7
  after_reads_simp

theorem W7_v20 : W7 m ρ c (Proc.devRef .tc main_v20) = shapeCast S1x384 (W6 m ρ c (Proc.devRef .tc main_arg4)) shapeCasts_S384_S1x384 := by
  unfold W7
  after_reads_simp
  rfl

theorem W9_v24 : W9 m ρ c (Proc.devRef .tc main_v24)
    = Cert.ReferenceIdeal.Value.untokens (F := Ideal)
        (shapeCast _ (W8 m ρ c (Proc.devRef .tc main_v21)) (by decide : S8x2048x384.ShapeCasts ⟨5, ![4, 2, 64, 32, 384]⟩)) := by
  unfold W9 Cert.ReferenceIdeal.Value.untokens
  after_reads_simp
  rw [shapeCast_comp]
  rfl

end Cert.KernelIdeal.Run

end
-- ==== Proof.QkvArray.lean ====
/- What the first call's result arrays hold, index by index: query spikes, each window's key-value products and key sums, each
   window's token sums. -/
module

public import proofs.«01_k».proof.Proof.HostValue
public import Idealize.ShloMosaic.Lib.Pipeline.ValueKit

@[expose] public section

set_option maxRecDepth 16384

noncomputable section

namespace Cert.KernelIdeal.Run

open Cert.KernelIdeal.Gen
open Idealize.ShloMosaic Idealize.ShloMosaic.TcCoe Cert.Routing
open Idealize.ShloMosaic.Pipeline (Dat)

section Arrays

variable (xt : FVec Ideal S16384x384 .f32) (wt : FVec Ideal S384x1152 .f32) (bq : FVec Ideal S1x1152 .f32)

/-- A token row's spike in a column of the fused projection. -/
def tokSpike (i : Fin 16384) (j : Fin 1152) : EReal := fire ((∑ k : Fin 384, xt (ix2 i k) * wt (ix2 k j)) + bq (ix2 0 j))

/-- Row `s` of window `n`. -/
def tokRow (n : Fin 512) (s : Fin 32) : Fin 16384 := ⟨32 * n.val + s.val, by omega⟩

/-- A window's 64 rows: 48 of key-value products head by head, one of key sums, the rest zero. -/
def winRows (n : Fin 512) (r : Fin 64) (c : Fin 384) : EReal :=
  if h : r.val < 48 then
    ∑ s : Fin 32, tokSpike xt wt bq (tokRow n s) ⟨384 + (sameHead c ⟨r.val, h⟩).val, by omega⟩
      * tokSpike xt wt bq (tokRow n s) ⟨768 + c.val, by omega⟩
  else if r.val = 48 then ∑ s : Fin 32, tokSpike xt wt bq (tokRow n s) ⟨384 + c.val, by omega⟩ else 0

end Arrays

variable (V : (c : Dev nD) → (b : Ref sig .tc) → Buf (Elt Ideal) ((c : Thread nD τ).loc b)) (c : Dev nD)

theorem index0_0 : ∀ t : Fin cfg0.N, win0_0.index t = ![t.val, 0] := (by decide +kernel : ∀ t : Fin grid0.N, win0_0.index t = ![t.val, 0])
theorem index0_1 : ∀ t : Fin cfg0.N, win0_1.index t = ![0, 0] := (by decide +kernel : ∀ t : Fin grid0.N, win0_1.index t = ![0, 0])
theorem index0_2 : ∀ t : Fin cfg0.N, win0_2.index t = ![0, 0] := (by decide +kernel : ∀ t : Fin grid0.N, win0_2.index t = ![0, 0])
theorem index0_3 : ∀ t : Fin cfg0.N, win0_3.index t = ![t.val, 0] := (by decide +kernel : ∀ t : Fin grid0.N, win0_3.index t = ![t.val, 0])
theorem index0_4 : ∀ t : Fin cfg0.N, win0_4.index t = ![t.val, 0, 0] := (by decide +kernel : ∀ t : Fin grid0.N, win0_4.index t = ![t.val, 0, 0])
theorem index0_5 : ∀ t : Fin cfg0.N, win0_5.index t = ![t.val, 0, 0] := (by decide +kernel : ∀ t : Fin grid0.N, win0_5.index t = ![t.val, 0, 0])

theorem lt16 (t : Fin cfg0.N) : t.val < 16 := t.isLt

theorem iblk0_0_apply (t : Fin cfg0.N) (i : Fin 1024) (k : Fin 384) :
    iblk0 V c 0 t (ix2 i k) = V c main_v3 (ix2 ⟨1024 * t.val + i.val, by have := lt16 t; omega⟩ k) := by
  blk_simp [iblk0]
  refine congrArg (V c main_v3) ?_
  blk_ext [index0_0]
theorem iblk0_1_eq (t : Fin cfg0.N) : iblk0 V c 1 t = V c main_v4 := by
  funext y
  blk_simp [iblk0]
  refine congrArg (V c main_v4) ?_
  blk_ext [index0_1]
theorem iblk0_2_eq (t : Fin cfg0.N) : iblk0 V c 2 t = V c main_v5 := by
  funext y
  blk_simp [iblk0]
  refine congrArg (V c main_v5) ?_
  blk_ext [index0_2]

/-- A row of point `t`'s token block has the spikes of the row it is in the array. -/
theorem rowSpike_block (t : Fin cfg0.N) (i : Fin 1024) (j : Fin 1152) :
    rowSpike (iblk0 V c 0 t) (V c main_v4) (V c main_v5) i j
      = tokSpike (V c main_v3) (V c main_v4) (V c main_v5) ⟨1024 * t.val + i.val, by have := lt16 t; omega⟩ j := by
  unfold rowSpike tokSpike
  simp only [iblk0_0_apply]

/-- What the first call leaves in its three result arrays, of the arrays it reads. -/
def spikesArr (xt : FVec Ideal S16384x384 .f32) (wt : FVec Ideal S384x1152 .f32) (bq : FVec Ideal S1x1152 .f32) : FVec Ideal S16384x384 .bf16 :=
  fun y => tokSpike xt wt bq (y 0) ⟨(y 1).val, by have := (y 1).isLt; change (y 1).val < 384 at this; omega⟩
def winArr (xt : FVec Ideal S16384x384 .f32) (wt : FVec Ideal S384x1152 .f32) (bq : FVec Ideal S1x1152 .f32) : FVec Ideal S512x64x384 .bf16 :=
  fun y => winRows xt wt bq (y 0) (y 1) (y 2)
def sumArr (xt : FVec Ideal S16384x384 .f32) : FVec Ideal S512x1x384 .f32 :=
  fun y => ∑ s : Fin 32, xt (ix2 (tokRow (y 0) s) (y 2))

theorem arr0_3 : (dat0 V c).arrAt 3 cfg0.N = spikesArr (V c main_v3) (V c main_v4) (V c main_v5) := by
  refine (dat0 V c).arrAt_eq_of_covers 3 _ (by decide +kernel) fun t hf y => ?_
  obtain ⟨i, k, rfl⟩ : ∃ (i : Fin 1024) (k : Fin 384), y = ix2 i k := ⟨y 0, y 1, by funext a; match a with | ⟨0, _⟩ => rfl | ⟨1, _⟩ => rfl⟩
  have e : (win0_3.blk t).view.emb (ix2 i k) = ix2 ⟨1024 * t.val + i.val, by have := lt16 t; omega⟩ k := by blk_ext [index0_3]
  refine Eq.trans ?_ (congrArg (spikesArr (V c main_v3) (V c main_v4) (V c main_v5)) e).symm
  blk_simp
  rw [after0_3, iblk0_1_eq, iblk0_2_eq]
  exact (out0_3_apply _ _ _ i k).trans (rowSpike_block V c t i _)

theorem winRows_block (t : Fin cfg0.N) (n : Fin 32) (r : Fin 64) (k : Fin 384) :
    out0_4 (F := Ideal) (iblk0 V c 0 t) (V c main_v4) (V c main_v5) (ix3 n r k)
      = winRows (V c main_v3) (V c main_v4) (V c main_v5) ⟨32 * t.val + n.val, by have := lt16 t; omega⟩ r k := by
  have er : ∀ s : Fin 32, (⟨1024 * t.val + (32 * n.val + s.val), by have := lt16 t; omega⟩ : Fin 16384)
      = tokRow ⟨32 * t.val + n.val, by have := lt16 t; omega⟩ s := fun s => Fin.ext (by
    show 1024 * t.val + (32 * n.val + s.val) = 32 * (32 * t.val + n.val) + s.val
    omega)
  rw [out0_4_apply, kvRows_apply]
  unfold winRows
  by_cases h : r.val < 48
  · have ed : ∀ p : FVec Ideal S384x384 .bf16, diagBlocks p (ix2 ⟨r.val, h⟩ k) = p (ix2 (sameHead k ⟨r.val, h⟩) k) := by
      intro p
      have hk : k = ⟨48 * (⟨k.val / 48, by omega⟩ : Fin 8).val + (⟨k.val % 48, by omega⟩ : Fin 48).val, by omega⟩ :=
        Fin.ext (by show k.val = 48 * (k.val / 48) + k.val % 48; omega)
      refine (congrArg (fun e => diagBlocks p (ix2 ⟨r.val, h⟩ e)) hk).trans ?_
      rw [diagBlocks_apply]
      exact at_vals p rfl (congrArg Fin.val hk).symm
    rw [dif_pos h, dif_pos h, ed, kvProd_apply]
    refine Finset.sum_congr rfl fun s _ => ?_
    rw [rowsOf_apply, rowsOf_apply, k0_pay5_apply, k0_pay6_apply, rowSpike_block, rowSpike_block]
    exact congrArg₂ (fun a b => tokSpike _ _ _ a _ * tokSpike _ _ _ b _) (er s) (er s)
  · rw [dif_neg h, dif_neg h]
    by_cases h2 : r.val = 48
    · rw [if_pos h2, if_pos h2, keySum_apply]
      refine Finset.sum_congr rfl fun s _ => ?_
      rw [rowsOf_apply, k0_pay5_apply, rowSpike_block]
      exact congrArg (fun a => tokSpike _ _ _ a _) (er s)
    · rw [if_neg h2, if_neg h2]

theorem arr0_4 : (dat0 V c).arrAt 4 cfg0.N = winArr (V c main_v3) (V c main_v4) (V c main_v5) := by
  refine (dat0 V c).arrAt_eq_of_covers 4 _ (by decide +kernel) fun t hf y => ?_
  obtain ⟨n, r, k, rfl⟩ : ∃ (n : Fin 32) (r : Fin 64) (k : Fin 384), y = ix3 n r k :=
    ⟨y 0, y 1, y 2, by funext a; match a with | ⟨0, _⟩ => rfl | ⟨1, _⟩ => rfl | ⟨2, _⟩ => rfl⟩
  have e : (win0_4.blk t).view.emb (ix3 n r k) = ix3 ⟨32 * t.val + n.val, by have := lt16 t; omega⟩ r k := by blk_ext [index0_4]
  refine Eq.trans ?_ (congrArg (winArr (V c main_v3) (V c main_v4) (V c main_v5)) e).symm
  blk_simp
  rw [after0_4, iblk0_1_eq, iblk0_2_eq]
  exact winRows_block V c t n r k

theorem arr0_5 : (dat0 V c).arrAt 5 cfg0.N = sumArr (V c main_v3) := by
  refine (dat0 V c).arrAt_eq_of_covers 5 _ (by decide +kernel) fun t hf y => ?_
  obtain ⟨n, k, rfl⟩ : ∃ (n : Fin 32) (k : Fin 384), y = ix3 n 0 k :=
    ⟨y 0, y 2, by funext a; match a with | ⟨0, _⟩ => rfl | ⟨1, _⟩ => exact Subsingleton.elim (α := Fin 1) _ _ | ⟨2, _⟩ => rfl⟩
  have e : (win0_5.blk t).view.emb (ix3 n 0 k) = ix3 ⟨32 * t.val + n.val, by have := lt16 t; omega⟩ 0 k := by blk_ext [index0_5]
  refine Eq.trans ?_ (congrArg (sumArr (V c main_v3)) e).symm
  blk_simp
  rw [after0_5]
  refine (out0_5_apply _ n k).trans (Finset.sum_congr rfl fun s _ => ?_)
  rw [iblk0_0_apply]
  exact at_vals (V c main_v3 : FVec Ideal S16384x384 .f32) (by show 1024 * t.val + (32 * n.val + s.val) = 32 * (32 * t.val + n.val) + s.val; omega) rfl

end Cert.KernelIdeal.Run

end
-- ==== Proof.Calls.lean ====
/- The first two calls' results in the terms of the computation: query spikes, key-value products and key sums of each window, the
   routing table. -/
module

public import proofs.«01_k».proof.Proof.QkvArray

@[expose] public section

set_option maxRecDepth 16384

noncomputable section

namespace Cert.KernelIdeal.Run

open Cert.KernelIdeal.Gen
open Idealize.ShloMosaic Idealize.ShloMosaic.TcCoe Cert.Routing
open Idealize.ShloMosaic.Pipeline (Dat)

variable (m : (ℓ : Loc nD τ sig) → Buf (Elt Ideal) ℓ) (ρ : Dev nD → PrngReg) (c : Dev nD)

/-- The weights and bias of the fused projection, at launch. -/
abbrev Wq : FVec Ideal ⟨2, ![1152, 384]⟩ .f32 := m ((c : Thread nD τ).loc main_arg1)
abbrev bq : FVec Ideal ⟨1, ![1152]⟩ .f32 := m ((c : Thread nD τ).loc main_arg2)

/-- Window `n` of batch `b` at time `t`, among all of them. -/
def winAt (t : Fin 4) (b : Fin 2) (n : Fin 64) : Fin 512 := ⟨(t.val * 2 + b.val) * 64 + n.val, by omega⟩

/-- A token row in the array the first call reads. -/
theorem tokens_row (x : Tokens) (t : Fin 4) (b : Fin 2) (n : Fin 64) (s : Fin 32) (k : Fin 384) :
    shapeCast S16384x384 x shapeCasts_S4x2x64x32x384_S16384x384 (ix2 (tokRow (winAt t b n) s) k) = x (ix5 t b n s k) :=
  shapeCast_apply x _ _ _ (by
    rw [Shape.rowMajor_val_five, Shape.rowMajor_val_two]
    show (((t.val * 2 + b.val) * 64 + n.val) * 32 + s.val) * 384 + k.val = (32 * ((t.val * 2 + b.val) * 64 + n.val) + s.val) * 384 + k.val
    omega)

theorem tokSpike_lin (t : Fin 4) (b : Fin 2) (n : Fin 64) (s : Fin 32) (j : Fin 1152) :
    tokSpike (V1 m ρ c main_v3) (V1 m ρ c main_v4) (V1 m ρ c main_v5) (tokRow (winAt t b n) s) j
      = fire (lin (X m c) (Wq m c) (bq m c) t b n s j) := by
  have e3 : V1 m ρ c main_v3 = _ := W1_v3 m ρ c
  have e4 : V1 m ρ c main_v4 = _ := W1_v4 m ρ c
  have e5 : V1 m ρ c main_v5 = _ := W1_v5 m ρ c
  rw [e3, e4, e5]
  unfold tokSpike lin
  refine congrArg fire (congrArg₂ HAdd.hAdd (Finset.sum_congr rfl fun k _ => congrArg₂ HMul.hMul (tokens_row _ t b n s k) ?_) ?_)
  · pointwise
  · exact ValueIdx.shapeCast_a_1a_apply _ _ 0 j

/-- A spike by its column. -/
theorem fire_spk (x : Tokens) (W : FVec Ideal ⟨2, ![1152, 384]⟩ .f32) (bias : FVec Ideal ⟨1, ![1152]⟩ .f32) (p : Fin 3) (t : Fin 4) (b : Fin 2)
    (n : Fin 64) (s : Fin 32) (h : Fin 8) (d : Fin 48) (j : Fin 1152) (e : j.val = 384 * p.val + 48 * h.val + d.val) :
    fire (lin x W bias t b n s j) = spk x W bias p t b n s h d := by
  unfold spk
  exact congrArg (fun j => fire (lin x W bias t b n s j)) (Fin.ext e)

theorem chan_split (k : Fin 384) : k.val = 48 * (headOf k).val + (chanOf k).val := by
  show k.val = 48 * (k.val / 48) + k.val % 48
  omega

/-- The first call's three arrays. -/
abbrev spikesOf : FVec Ideal S16384x384 .bf16 := W2 m ρ c (Proc.devRef .tc main_v6_0)
abbrev winsOf : FVec Ideal S512x64x384 .bf16 := W2 m ρ c (Proc.devRef .tc main_v6_1)
abbrev sumsOf : FVec Ideal S512x1x384 .f32 := W2 m ρ c (Proc.devRef .tc main_v6_2)

theorem W2_queries (t : Fin 4) (b : Fin 2) (n : Fin 64) (s : Fin 32) (k : Fin 384) :
    spikesOf m ρ c (ix2 (tokRow (winAt t b n) s) k)
      = spk (X m c) (Wq m c) (bq m c) 0 t b n s (headOf k) (chanOf k) := by
  have e : spikesOf m ρ c = _ := (W2_arr m ρ c 3).trans (arr0_3 (V1 m ρ) c)
  rw [e]
  refine (tokSpike_lin m ρ c t b n s _).trans (fire_spk _ _ _ 0 t b n s _ _ _ ?_)
  have := chan_split k
  show k.val = 384 * 0 + 48 * (headOf k).val + (chanOf k).val
  omega

theorem W2_keyVal (t : Fin 4) (b : Fin 2) (n : Fin 64) (d : Fin 48) (k : Fin 384) :
    winsOf m ρ c (ix3 (winAt t b n) ⟨d.val, by omega⟩ k)
      = (∑ s : Fin 32, spk (X m c) (Wq m c) (bq m c) 1 t b n s (headOf k) d * spk (X m c) (Wq m c) (bq m c) 2 t b n s (headOf k) (chanOf k)) := by
  have e : winsOf m ρ c = _ := (W2_arr m ρ c 4).trans (arr0_4 (V1 m ρ) c)
  rw [e]
  refine (dif_pos d.isLt).trans (Finset.sum_congr rfl fun s _ => congrArg₂ HMul.hMul ?_ ?_)
  · refine (tokSpike_lin m ρ c t b n s _).trans (fire_spk _ _ _ 1 t b n s _ _ _ ?_)
    show 384 + (48 * (k.val / 48) + d.val) = 384 * 1 + 48 * (k.val / 48) + d.val
    omega
  · refine (tokSpike_lin m ρ c t b n s _).trans (fire_spk _ _ _ 2 t b n s _ _ _ ?_)
    have := chan_split k
    show 768 + k.val = 384 * 2 + 48 * (headOf k).val + (chanOf k).val
    omega

theorem W2_keySums (t : Fin 4) (b : Fin 2) (n : Fin 64) (k : Fin 384) :
    winsOf m ρ c (ix3 (winAt t b n) 48 k)
      = (∑ s : Fin 32, spk (X m c) (Wq m c) (bq m c) 1 t b n s (headOf k) (chanOf k)) := by
  have e : winsOf m ρ c = _ := (W2_arr m ρ c 4).trans (arr0_4 (V1 m ρ) c)
  rw [e]
  show winRows _ _ _ (winAt t b n) 48 k = _
  rw [winRows, dif_neg (show ¬ (48 : Fin 64).val < 48 by decide), if_pos (show (48 : Fin 64).val = 48 from rfl)]
  refine Finset.sum_congr rfl fun s _ => ?_
  refine (tokSpike_lin m ρ c t b n s _).trans (fire_spk _ _ _ 1 t b n s _ _ _ ?_)
  have := chan_split k
  show 384 + k.val = 384 * 1 + 48 * (headOf k).val + (chanOf k).val
  omega

theorem W2_sums (t : Fin 4) (b : Fin 2) (n : Fin 64) (k : Fin 384) :
    sumsOf m ρ c (ix3 (winAt t b n) 0 k) = (∑ s : Fin 32, X m c (ix5 t b n s k)) := by
  have e : sumsOf m ρ c = _ := (W2_arr m ρ c 5).trans (arr0_5 (V1 m ρ) c)
  have e3 : V1 m ρ c main_v3 = _ := W1_v3 m ρ c
  rw [e, e3]
  exact Finset.sum_congr rfl fun s _ => tokens_row _ t b n s k

/-! ## The routing call -/

theorem index1_0 : ∀ t : Fin cfg1.N, win1_0.index t = ![0, t.val, 0, 0] := (by decide +kernel : ∀ t : Fin grid1.N, win1_0.index t = ![0, t.val, 0, 0])
theorem index1_1 : ∀ t : Fin cfg1.N, win1_1.index t = ![t.val, 0, 0] := (by decide +kernel : ∀ t : Fin grid1.N, win1_1.index t = ![t.val, 0, 0])

theorem iblk1_0_apply (V : (c : Dev nD) → (b : Ref sig .tc) → Buf (Elt Ideal) ((c : Thread nD τ).loc b)) (p : Fin cfg1.N) (t : Fin 4) (n : Fin 64) (k : Fin 384) :
    iblk1 V c 0 p (ix4 t 0 n k) = V c main_v7 (ix4 t ⟨p.val, p.isLt⟩ n k) := by
  blk_simp [iblk1]
  refine congrArg (V c main_v7) ?_
  blk_ext [index1_0]

theorem sums_row {α : Type} (x : S512x1x384.Idx → α) (t : Fin 4) (b : Fin 2) (n : Fin 64) (k : Fin 384) :
    shapeCast S4x2x64x384 x shapeCasts_S512x1x384_S4x2x64x384 (ix4 t b n k) = x (ix3 (winAt t b n) 0 k) :=
  shapeCast_apply x _ _ _ (by
    rw [Shape.rowMajor_val_three, Shape.rowMajor_val_four]
    show (((t.val * 2 + b.val) * 64 + n.val) * 1 + 0) * 384 + k.val = ((t.val * 2 + b.val) * 64 + n.val) * 384 + k.val
    omega)

theorem V3_sums (t : Fin 4) (b : Fin 2) (n : Fin 64) (k : Fin 384) :
    (V3 m ρ c main_v7 : FVec Ideal S4x2x64x384 .f32) (ix4 t b n k) = (∑ s : Fin 32, X m c (ix5 t b n s k)) := by
  have e : V3 m ρ c main_v7 = _ := W3_v7 m ρ c
  rw [e, ← W2_sums m ρ c t b n k]
  exact sums_row _ t b n k

/-- The routing table. -/
theorem W4_route (hX : ∀ i, IsReal (X m c i)) (b : Fin 2) (n : Fin 64) (r : Fin 4) :
    W4 m ρ c (Proc.devRef .tc main_v8) (ix3 b n r) = BitVec.ofNat 32 (route (X m c) b n r).val := by
  have e : W4 m ρ c (Proc.devRef .tc main_v8) = fun y : S2x64x4.Idx => BitVec.ofNat 32 (route (X m c) (y 0) (y 1) (y 2)).val := by
    refine (W4_arr m ρ c 1).trans ?_
    refine (dat1 (V3 m ρ) c).arrAt_eq_of_covers 1 _ (by decide +kernel) fun p hf y => ?_
    obtain ⟨n, r, rfl⟩ : ∃ (n : Fin 64) (r : Fin 4), y = ix3 0 n r :=
      ⟨y 1, y 2, by funext a; match a with | ⟨0, _⟩ => exact Subsingleton.elim (α := Fin 1) _ _ | ⟨1, _⟩ => rfl | ⟨2, _⟩ => rfl⟩
    have e : (win1_1.blk p).view.emb (ix3 0 n r) = ix3 ⟨p.val, p.isLt⟩ n r := by blk_ext [index1_1]
    refine Eq.trans ?_ (congrArg (fun y : S2x64x4.Idx => BitVec.ofNat 32 (route (X m c) (y 0) (y 1) (y 2)).val) e).symm
    blk_simp
    rw [after1_1]
    exact out1_1_route _ (X m c) hX ⟨p.val, p.isLt⟩ (fun t n k => (iblk1_0_apply c (V3 m ρ) p t n k).trans (V3_sums m ρ c t _ n k)) 0 n r
  rw [e]
  rfl

end Cert.KernelIdeal.Run

end
-- ==== Proof.RefRead.lean ====
/- The reference's stages read at an index, over the extended reals. -/
module

public import proofs.«01_k».proof.Proof.RefStages
public import proofs.«01_k».proof.Proof.Spec
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Cert.Routing

theorem thirtyTwo : Ideal.ofBits .f32 0x42000000#32 = ((32 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

theorem feats_apply (X : Tokens) (b : Fin 2) (n : Fin 64) (c : Fin 384) : feats X (ix3 b n c) = feat X b n c := by
  unfold feats feat
  pointwise
  rw [thirtyTwo]
  rfl

theorem scoresOf_apply (X : Tokens) (b : Fin 2) (n v : Fin 64) : scoresOf (feats X) (ix3 b n v) = score X b n v := by
  unfold scoresOf score
  pointwise
  simp only [feats_apply]

theorem lins_apply (X : Tokens) (W : FVec Ideal S1152x384 .f32) (bias : FVec Ideal S1152 .f32) (t : Fin 4) (b : Fin 2) (n : Fin 64)
    (s : Fin 32) (j : Fin 1152) : lins X W bias (ix5 t b n s j) = lin X W bias t b n s j := by
  unfold lins lin
  pointwise

/-- Halving, taking one off and comparing with zero is comparing with two. -/
theorem half_sub_one (y : EReal) : 0 ≤ Ideal.div y ((2 : ℝ) : EReal) - 1 ↔ 2 ≤ y := by
  have h2 : ((2 : ℝ) : EReal) ≠ 0 := by norm_num
  unfold Ideal.div
  rw [if_neg h2, ← EReal.coe_inv]
  induction y using EReal.rec with
  | bot => rw [EReal.bot_mul_coe_of_pos (by norm_num)]; simp; exact fun h => absurd h (EReal.coe_ne_bot 2)
  | top => rw [EReal.top_mul_coe_of_pos (by norm_num), show (1 : EReal) = ((1 : ℝ) : EReal) from rfl, EReal.top_sub_coe]; simp
  | coe r =>
    rw [← EReal.coe_mul]
    have : (1 : EReal) = ((1 : ℝ) : EReal) := rfl
    rw [this, ← EReal.coe_sub, ← EReal.coe_zero, EReal.coe_le_coe_iff]
    have : (2 : EReal) = ((2 : ℝ) : EReal) := rfl
    rw [this, EReal.coe_le_coe_iff]
    constructor <;> intro h <;> linarith

theorem spikes_apply (y : FVec Ideal S4x2x64x32x384 .f32) (t : Fin 4) (b : Fin 2) (n : Fin 64)
    (s : Fin 32) (h : Fin 8) (d : Fin 48) : spikes y (ix6 t b n s h d) = fire (y (ix5 t b n s ⟨h.val * 48 + d.val, by omega⟩)) := by
  unfold spikes fire
  pointwise
  rw [two]
  simp only [half_sub_one]
  by_cases hy : 2 ≤ y (ix5 t b n s ⟨h.val * 48 + d.val, by omega⟩)
  · rw [if_pos hy]; simp [FloatOps.uitofp, hy]
  · rw [if_neg hy]; simp [FloatOps.uitofp, hy]

variable (X : Tokens) (W : FVec Ideal S1152x384 .f32) (bias : FVec Ideal S1152 .f32) (t : Fin 4) (b : Fin 2) (n : Fin 64)
    (s : Fin 32) (h : Fin 8) (d : Fin 48)

theorem queriesOf_apply : queriesOf (lins X W bias) (ix6 t b n s h d) = spk X W bias 0 t b n s h d := by
  unfold queriesOf spk
  rw [spikes_apply]
  pointwise
  rw [lins_apply]
  exact congrArg (fun j => fire (lin X W bias t b n s j)) (Fin.ext (by simp only [col]; simp; try omega))
theorem keysOf_apply : keysOf (lins X W bias) (ix6 t b n s h d) = spk X W bias 1 t b n s h d := by
  unfold keysOf spk
  rw [spikes_apply]
  pointwise
  rw [lins_apply]
  exact congrArg (fun j => fire (lin X W bias t b n s j)) (Fin.ext (by simp only [col]; simp; try omega))
theorem valuesOf_apply : valuesOf (lins X W bias) (ix6 t b n s h d) = spk X W bias 2 t b n s h d := by
  unfold valuesOf spk
  rw [spikes_apply]
  pointwise
  rw [lins_apply]
  exact congrArg (fun j => fire (lin X W bias t b n s j)) (Fin.ext (by simp only [col]; simp; try omega))

/-- Sorting a row along its last axis, read at a place of the row. -/
theorem sort_place (hd : 2 < S2x64x64.rank) (P : S2x64x64.Idx → S2x64x64.Idx → Bool) (i : Fin 64) :
    iotaInDim S2x64x64 32 ⟨2, hd⟩ ((ix3 b n i : S2x64x64.Idx).along ⟨2, hd⟩ (sortedFrom (n := 64) (fun k k' : Fin 64 =>
      P ((ix3 b n i : S2x64x64.Idx).along ⟨2, hd⟩ k) ((ix3 b n i : S2x64x64.Idx).along ⟨2, hd⟩ k')) i))
    = BitVec.ofNat 32 (sortedFrom (fun a a' : Fin 64 => P (ix3 b n a) (ix3 b n a')) i).val := by
  have ha : ∀ k : Fin 64, (ix3 b n i : S2x64x64.Idx).along ⟨2, hd⟩ k = ix3 b n k := fun k => by
    funext a
    match a with
    | ⟨0, _⟩ => rfl
    | ⟨1, _⟩ => rfl
    | ⟨2, _⟩ => rfl
  have e : (fun k k' : Fin 64 => P ((ix3 b n i : S2x64x64.Idx).along ⟨2, hd⟩ k) ((ix3 b n i : S2x64x64.Idx).along ⟨2, hd⟩ k'))
      = fun a a' : Fin 64 => P (ix3 b n a) (ix3 b n a') := funext fun k => funext fun k' => congrArg₂ P (ha k) (ha k')
  rw [e]
  generalize sortedFrom (fun a a' : Fin 64 => P (ix3 b n a) (ix3 b n a')) i = q
  exact congrArg (fun i : S2x64x64.Idx => BitVec.ofNat 32 (i ⟨2, hd⟩).val) (ha q)

/-- The positions a top-four takes of each row: the first four places of the row's stable sort. -/
theorem topK_apply {α : Type} (gt : α → α → BitVec 1) (S : S2x64x64.Idx → α) (r : Fin 4) :
    (Host.topK S2x64x4 2 gt S sliceFits_S2x64x64_S2x64x4).2 (ix3 b n r)
      = BitVec.ofNat 32 (sortedFrom (fun a a' : Fin 64 => gt (S (ix3 b n a)) (S (ix3 b n a')) == 1#1) ⟨r.val, by omega⟩).val := by
  have hd : 2 < S2x64x64.rank := by decide
  refine Eq.trans ?_ (sort_place b n hd (fun i j => gt (S i) (S j) == 1#1) ⟨r.val, by omega⟩)
  let g : S2x64x64.Idx → BitVec 32 := fun j => iotaInDim S2x64x64 32 ⟨2, hd⟩ (j.along ⟨2, hd⟩ (sortedFrom (fun k k' =>
        gt (S (j.along ⟨2, hd⟩ k)) (S (j.along ⟨2, hd⟩ k')) == 1#1) (j ⟨2, hd⟩)))
  have hg : (Host.topK S2x64x4 2 gt S sliceFits_S2x64x64_S2x64x4).2 = extractStridedSlice S2x64x4 (fun _ => 0) g sliceFits_S2x64x64_S2x64x4 := by
    unfold Host.topK Host.sort2
    simp only [dif_pos hd]
    rfl
  rw [hg]
  show g _ = g (ix3 b n ⟨r.val, by omega⟩)
  refine congrArg g (funext fun a => Fin.ext ?_)
  match a with
  | ⟨0, _⟩ => exact Nat.zero_add _
  | ⟨1, _⟩ => exact Nat.zero_add _
  | ⟨2, _⟩ => exact Nat.zero_add _

/-- The table names the windows at the first four places of the sort. -/
theorem table_apply (r : Fin 4) : table (scoresOf (feats X)) (ix3 b n r) = BitVec.ofNat 32 (route X b n r).val := by
  have e : (fun a a' : Fin 64 => decide (score X b n a' < score X b n a))
      = fun a a' => (FloatOps.cmpfTotal (F := Ideal) (φ := .f32) .gt (scoresOf (feats X) (ix3 b n a)) (scoresOf (feats X) (ix3 b n a'))) == 1#1 := by
    funext a a'
    rw [scoresOf_apply, scoresOf_apply, Ideal.cmpfTotal_def]
    unfold Ideal.cmp
    by_cases h : score X b n a' < score X b n a <;> simp [CmpDirection.ordered, h]
  unfold route
  rw [e]
  exact topK_apply b n (FloatOps.cmpfTotal (F := Ideal) (φ := .f32) .gt) (scoresOf (feats X)) r

/-- The dimensions of the gather that fetches the routed windows. -/
local notation "𝔾" => gather_S4x2x64x32x8x48_S2x64x4x2_S4x2x64x4x32x8x48_0456_12_n_n_12_3_41132848

theorem wrap_batch : ∀ b : Fin 2, Scalar.select (IntOp.cmpi .slt (BitVec.ofNat 32 b.val) 0#32)
    (IntOp.addi (BitVec.ofNat 32 b.val) 2#32) (BitVec.ofNat 32 b.val) = BitVec.ofNat 32 b.val := by decide
theorem wrap_window : ∀ w : Fin 64, Scalar.select (IntOp.cmpi .slt (BitVec.ofNat 32 w.val) 0#32)
    (IntOp.addi (BitVec.ofNat 32 w.val) 64#32) (BitVec.ofNat 32 w.val) = BitVec.ofNat 32 w.val := by decide
theorem clamp_batch : ∀ b : Fin 2, min (BitVec.ofNat 32 b.val).toInt.toNat 1 = b.val := by decide
theorem clamp_window : ∀ w : Fin 64, min (BitVec.ofNat 32 w.val).toInt.toNat 63 = w.val := by decide

theorem places_batch (T : IVec S2x64x4 32) (r : Fin 4) : places T (ix4 b n r (0 : Fin 2)) = BitVec.ofNat 32 b.val := by
  unfold places batchNo
  pointwise
  exact wrap_batch b
theorem places_window (T : IVec S2x64x4 32) (r : Fin 4) (w : Fin 64) (hT : T (ix3 b n r) = BitVec.ofNat 32 w.val) :
    places T (ix4 b n r (1 : Fin 2)) = BitVec.ofNat 32 w.val := by
  unfold places winNo
  pointwise
  rw [hT]
  exact wrap_window w

/-- Where the table holds a window's number, the gather takes that window's rows. -/
theorem gathered_apply (k : FVec Ideal S4x2x64x32x8x48 .f32) (T : IVec S2x64x4 32) (r : Fin 4) (w : Fin 64)
    (hT : T (ix3 b n r) = BitVec.ofNat 32 w.val) : gathered k T (ix7 t b n r s h d) = k (ix6 t b w s h d) := by
  unfold gathered Host.gather
  refine congrArg k (funext fun a => Fin.ext ?_)
  show GatherDims.start 𝔾 (ix7 t b n r s h d) (places T) a + GatherDims.batchCoord 𝔾 (ix7 t b n r s h d) a
    + GatherDims.offCoord 𝔾 (ix7 t b n r s h d) a = _
  rw [GatherDims.batchCoord_eq_zero 𝔾 _ _ List.not_mem_nil, Nat.add_zero]
  match a with
  | ⟨0, _⟩ => exact (Nat.zero_add _).trans rfl
  | ⟨1, _⟩ =>
    have e : GatherDims.siIdx 𝔾 (ix7 t b n r s h d) ⟨0, by decide⟩ = ix4 b n r (0 : Fin 2) := by
      funext b'
      match b' with
      | ⟨0, _⟩ => rfl
      | ⟨1, _⟩ => rfl
      | ⟨2, _⟩ => rfl
      | ⟨3, _⟩ => rfl
    show min (places T (GatherDims.siIdx 𝔾 (ix7 t b n r s h d) ⟨0, by decide⟩)).toInt.toNat 1 = b.val
    rw [e, places_batch]
    exact clamp_batch b
  | ⟨2, _⟩ =>
    have e : GatherDims.siIdx 𝔾 (ix7 t b n r s h d) ⟨1, by decide⟩ = ix4 b n r (1 : Fin 2) := by
      funext b'
      match b' with
      | ⟨0, _⟩ => rfl
      | ⟨1, _⟩ => rfl
      | ⟨2, _⟩ => rfl
      | ⟨3, _⟩ => rfl
    show min (places T (GatherDims.siIdx 𝔾 (ix7 t b n r s h d) ⟨1, by decide⟩)).toInt.toNat 63 = w.val
    rw [e, places_window b n T r w hT]
    exact clamp_window w
  | ⟨3, _⟩ => exact (Nat.zero_add _).trans rfl
  | ⟨4, _⟩ => exact (Nat.zero_add _).trans rfl
  | ⟨5, _⟩ => exact (Nat.zero_add _).trans rfl

theorem projected_apply (a : FVec Ideal S4x2x64x32x384 .f32) (W : FVec Ideal S384x384 .f32) (bias : FVec Ideal S384 .f32) (t : Fin 4) (b : Fin 2) (n : Fin 64)
    (s : Fin 32) (j : Fin 384) : projected a W bias (ix5 t b n s j) = (∑ c : Fin 384, a (ix5 t b n s c) * W (ix2 j c)) + bias (ix1 j) := by
  unfold projected
  pointwise

theorem attns_apply (u : FVec Ideal S4x2x64x8x32x48 .f32) (d : FVec Ideal S4x2x64x8x32 .f32) (t : Fin 4) (b : Fin 2) (n : Fin 64)
    (s : Fin 32) (c : Fin 384) : attns u d (ix5 t b n s c) = Ideal.div (u (ix6 t b n (headOf c) s (chanOf c))) (d (ix5 t b n (headOf c) s) + Ideal.ofBits .f32 0x358637BD#32) := by
  unfold attns
  pointwise
  rfl

theorem numers_apply (q : FVec Ideal S4x2x64x8x32x48 .f32) (k v : FVec Ideal S4x2x64x8x128x48 .f32) (t : Fin 4) (b : Fin 2) (n : Fin 64)
    (h : Fin 8) (s : Fin 32) (e : Fin 48) : numers q k v (ix6 t b n h s e) = ∑ d : Fin 48, q (ix6 t b n h s d) * ∑ i : Fin 128, k (ix6 t b n h i d) * v (ix6 t b n h i e) := by
  unfold numers
  pointwise

/-- The sum down the routed rows. -/
theorem rowSum_apply (k : FVec Ideal S4x2x64x8x128x48 .f32) (t : Fin 4) (b : Fin 2) (n : Fin 64) (h : Fin 8) (d : Fin 48) :
    Host.reduceAdd k (constant S_ .f32 0x00000000#32) reducesTo_S4x2x64x8x128x48_S4x2x64x8x48_d4 h_S_ (ix5 t b n h d)
      = ∑ i : Fin 128, k (ix6 t b n h i d) := by
  pointwise
  unfold Ideal.hostReduceAdd
  rw [zero_add]
  refine Finset.sum_filter_eq_sum_of_fiber _ (fun i : Fin 128 => ix6 t b n h i d) (fun _ _ e => congrFun e 4) (fun i => ⟨fun e => ?_, ?_⟩) k
  · refine ⟨i 4, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
    | ⟨5, _⟩ => exact (congrArg Fin.val (congrFun e 4)).symm
  · rintro ⟨j, rfl⟩
    funext a; apply Fin.ext
    match a with
    | ⟨0, _⟩ => rfl
    | ⟨1, _⟩ => rfl
    | ⟨2, _⟩ => rfl
    | ⟨3, _⟩ => rfl
    | ⟨4, _⟩ => rfl

theorem denoms_apply (q : FVec Ideal S4x2x64x8x32x48 .f32) (k : FVec Ideal S4x2x64x8x128x48 .f32) (t : Fin 4) (b : Fin 2) (n : Fin 64)
    (h : Fin 8) (s : Fin 32) : denoms q k (ix5 t b n h s) = ∑ d : Fin 48, q (ix6 t b n h s d) * ∑ i : Fin 128, k (ix6 t b n h i d) := by
  have e := rowSum_apply k t b n h
  unfold denoms
  generalize Host.reduceAdd k (constant S_ .f32 0x00000000#32) reducesTo_S4x2x64x8x128x48_S4x2x64x8x48_d4 h_S_ = K at e ⊢
  pointwise
  simp only [e]

theorem headRows_apply (q : FVec Ideal S4x2x64x32x8x48 .f32) (t : Fin 4) (b : Fin 2) (n : Fin 64)
    (h : Fin 8) (s : Fin 32) (e : Fin 48) : headRows q (ix6 t b n h s e) = q (ix6 t b n s h e) := by
  unfold headRows
  pointwise

theorem routedRows_apply (k : FVec Ideal S4x2x64x32x8x48 .f32) (T : IVec S2x64x4 32) (t : Fin 4) (b : Fin 2) (n : Fin 64)
    (h : Fin 8) (i : Fin 128) (e : Fin 48) : routedRows k T (ix6 t b n h i e) = gathered k T (ix7 t b n ⟨i.val / 32, by omega⟩ ⟨i.val % 32, by omega⟩ h e) := by
  unfold routedRows
  pointwise

end Cert.ReferenceIdeal.Value

end
-- ==== Proof.RefValue.lean ====
/- The reference's windows hold, index by index, the routed attention's output. -/
module

public import proofs.«01_k».proof.Proof.RefRead

@[expose] public section

noncomputable section

namespace Cert.ReferenceIdeal.Value

open Cert.ReferenceIdeal Cert.ReferenceIdeal.Gen Idealize.ShloMosaic Cert.Routing

/-- A sum over 128 rows is the sum over 4 windows of 32 rows. -/
theorem sum_rows {M : Type} [AddCommMonoid M] (f : Fin 4 → Fin 32 → M) :
    ∑ i : Fin 128, f ⟨i.val / 32, by omega⟩ ⟨i.val % 32, by omega⟩ = ∑ r : Fin 4, ∑ s : Fin 32, f r s := by
  rw [← Finset.sum_product', Finset.univ_product_univ]
  refine Finset.sum_bij' (fun i _ => (⟨i.val / 32, by omega⟩, ⟨i.val % 32, by omega⟩)) (fun q _ => ⟨q.1.val * 32 + q.2.val, by omega⟩)
    (fun _ _ => Finset.mem_univ _) (fun _ _ => Finset.mem_univ _) (fun i _ => Fin.ext (by simp only; omega))
    (fun q _ => Prod.ext (Fin.ext (by simp only; omega)) (Fin.ext (by simp only; omega))) (fun _ _ => rfl)

variable (X : Tokens) (W : FVec Ideal S1152x384 .f32) (bias : FVec Ideal S1152 .f32) (Wp : FVec Ideal S384x384 .f32)
  (bp : FVec Ideal S384 .f32) (t : Fin 4) (b : Fin 2) (n : Fin 64) (s : Fin 32)

theorem routedRows_keys (h : Fin 8) (i : Fin 128) (d : Fin 48) :
    routedRows (keysOf (lins X W bias)) (table (scoresOf (feats X))) (ix6 t b n h i d)
      = spk X W bias 1 t b (route X b n ⟨i.val / 32, by omega⟩) ⟨i.val % 32, by omega⟩ h d :=
  (routedRows_apply _ _ t b n h i d).trans ((gathered_apply t b n _ h d _ _ _ _ (table_apply X b n _)).trans (keysOf_apply X W bias t b _ _ h d))

theorem routedRows_values (h : Fin 8) (i : Fin 128) (d : Fin 48) :
    routedRows (valuesOf (lins X W bias)) (table (scoresOf (feats X))) (ix6 t b n h i d)
      = spk X W bias 2 t b (route X b n ⟨i.val / 32, by omega⟩) ⟨i.val % 32, by omega⟩ h d :=
  (routedRows_apply _ _ t b n h i d).trans ((gathered_apply t b n _ h d _ _ _ _ (table_apply X b n _)).trans (valuesOf_apply X W bias t b _ _ h d))

theorem headRows_queries (h : Fin 8) (d : Fin 48) :
    headRows (queriesOf (lins X W bias)) (ix6 t b n h s d) = spk X W bias 0 t b n s h d :=
  (headRows_apply _ t b n h s d).trans (queriesOf_apply X W bias t b n s h d)

theorem outs_apply (j : Fin 384) : outs X W bias Wp bp (ix5 t b n s j) = result X W bias Wp bp t b n s j := by
  unfold outs result
  rw [projected_apply]
  refine congrArg (· + bp (ix1 j)) (Finset.sum_congr rfl fun c _ => congrArg (· * Wp (ix2 j c)) ?_)
  rw [attns_apply, numers_apply, denoms_apply]
  unfold attn keyVal keySums
  simp only [routedRows_keys, routedRows_values, headRows_queries]
  refine congrArg₂ (fun u v => Ideal.div u (v + Ideal.ofBits .f32 0x358637BD#32))
    (Finset.sum_congr rfl fun d _ => congrArg (HMul.hMul _) ?_) (Finset.sum_congr rfl fun d _ => congrArg (HMul.hMul _) ?_)
  · exact sum_rows fun r s => spk X W bias 1 t b (route X b n r) s (headOf c) d * spk X W bias 2 t b (route X b n r) s (headOf c) (chanOf c)
  · exact sum_rows fun r s => spk X W bias 1 t b (route X b n r) s (headOf c) d

end Cert.ReferenceIdeal.Value

end
-- ==== Proof.AttnArray.lean ====
/- What the third call's result array holds, index by index, and the program's result. -/
module

public import proofs.«01_k».proof.Proof.Calls
public import proofs.«01_k».proof.Proof.RefValue

@[expose] public section

set_option maxRecDepth 16384

noncomputable section

namespace Cert.KernelIdeal.Run

open Cert.KernelIdeal.Gen
open Idealize.ShloMosaic Idealize.ShloMosaic.TcCoe Cert.Routing
open Idealize.ShloMosaic.Pipeline (Dat)

variable (m : (ℓ : Loc nD τ sig) → Buf (Elt Ideal) ℓ) (ρ : Dev nD → PrngReg) (c : Dev nD)

abbrev Wp : FVec Ideal ⟨2, ![384, 384]⟩ .f32 := m ((c : Thread nD τ).loc main_arg3)
abbrev bp : FVec Ideal ⟨1, ![384]⟩ .f32 := m ((c : Thread nD τ).loc main_arg4)

/-! ## What the call finds -/

theorem V7_table : V7 m ρ c main_v8 = W4 m ρ c (Proc.devRef .tc main_v8) :=
  (W7_of m ρ c main_v8 (by decide)).trans ((W6_of m ρ c main_v8 (by decide)).trans (W5_of m ρ c main_v8 (by decide)))

theorem V7_queries : V7 m ρ c main_v9 = shapeCast S8x2048x384 (spikesOf m ρ c) shapeCasts_S16384x384_S8x2048x384 := by
  have e : W4 m ρ c (Proc.devRef .tc main_v6_0) = spikesOf m ρ c :=
    (W4_of m ρ c main_v6_0 (by decide)).trans (W3_of m ρ c main_v6_0 (by decide))
  exact ((W7_of m ρ c main_v9 (by decide)).trans (W6_of m ρ c main_v9 (by decide))).trans
    ((W5_v9 m ρ c).trans (congrArg (fun x : FVec Ideal S16384x384 .bf16 => shapeCast S8x2048x384 x shapeCasts_S16384x384_S8x2048x384) e))

theorem V7_wins : V7 m ρ c main_v10 = shapeCast S8x4096x384 (winsOf m ρ c) shapeCasts_S512x64x384_S8x4096x384 := by
  have e : W4 m ρ c (Proc.devRef .tc main_v6_1) = winsOf m ρ c :=
    (W4_of m ρ c main_v6_1 (by decide)).trans (W3_of m ρ c main_v6_1 (by decide))
  exact ((W7_of m ρ c main_v10 (by decide)).trans (W6_of m ρ c main_v10 (by decide))).trans
    ((W5_v10 m ρ c).trans (congrArg (fun x : FVec Ideal S512x64x384 .bf16 => shapeCast S8x4096x384 x shapeCasts_S512x64x384_S8x4096x384) e))

/-- An argument is as at launch when the third call starts. -/
theorem W6_arg (a : Ref sig .tc) (h0 : a ∉ hostOps0_W) (h1 : a ∉ hostOps1_W) (h2 : a ∉ hostOps2_W) (h3 : a ∉ hostOps2_1_W)
    (c0 : ∀ w : Fin cfg0.W, Pipeline.arrRef spec0 w = a → (cfg0.win w).isOut = false)
    (c1 : ∀ w : Fin cfg1.W, Pipeline.arrRef spec1 w = a → (cfg1.win w).isOut = false) :
    W6 m ρ c (Proc.devRef .tc a) = m ((c : Thread nD τ).loc a) :=
  (W6_of m ρ c a h3).trans <| (W5_of m ρ c a h2).trans <| (W4_of m ρ c a c1).trans <| (W3_of m ρ c a h1).trans <|
    (W2_of m ρ c a c0).trans (W1_of m ρ c a h0)

theorem V7_proj : V7 m ρ c main_v19 = transpose S384x384 [1, 0] (Wp m c) transposes_S384x384_S384x384_1_0 :=
  (W7_v19 m ρ c).trans (congrArg (fun x : FVec Ideal S384x384 .f32 => transpose S384x384 [1, 0] x transposes_S384x384_S384x384_1_0)
    (W6_arg m ρ c main_arg3 (by decide) (by decide) (by decide) (by decide) (by decide) (by decide)))

theorem V7_bias : V7 m ρ c main_v20 = shapeCast S1x384 (bp m c) shapeCasts_S384_S1x384 :=
  (W7_v20 m ρ c).trans (congrArg (fun x : FVec Ideal S384 .f32 => shapeCast S1x384 x shapeCasts_S384_S1x384)
    (W6_arg m ρ c main_arg4 (by decide) (by decide) (by decide) (by decide) (by decide) (by decide)))

/-! ## The blocks -/

theorem index2_0 : ∀ t : Fin cfg2.N, win2_0.index t = ![0, 0, 0] := (by decide +kernel : ∀ t : Fin grid2.N, win2_0.index t = ![0, 0, 0])
theorem index2_1 : ∀ t : Fin cfg2.N, win2_1.index t = ![t.val, 0, 0] := (by decide +kernel : ∀ t : Fin grid2.N, win2_1.index t = ![t.val, 0, 0])
theorem index2_2 : ∀ t : Fin cfg2.N, win2_2.index t = ![t.val, 0, 0] := (by decide +kernel : ∀ t : Fin grid2.N, win2_2.index t = ![t.val, 0, 0])
theorem index2_3 : ∀ t : Fin cfg2.N, win2_3.index t = ![0, 0] := (by decide +kernel : ∀ t : Fin grid2.N, win2_3.index t = ![0, 0])
theorem index2_4 : ∀ t : Fin cfg2.N, win2_4.index t = ![0, 0] := (by decide +kernel : ∀ t : Fin grid2.N, win2_4.index t = ![0, 0])
theorem index2_5 : ∀ t : Fin cfg2.N, win2_5.index t = ![0, 0] := (by decide +kernel : ∀ t : Fin grid2.N, win2_5.index t = ![0, 0])
theorem index2_6 : ∀ t : Fin cfg2.N, win2_6.index t = ![t.val, 0, 0] := (by decide +kernel : ∀ t : Fin grid2.N, win2_6.index t = ![t.val, 0, 0])

theorem lt8 (p : Fin cfg2.N) : p.val < 8 := p.isLt

/-- A point's time step and batch. -/
def timeOf (p : Fin cfg2.N) : Fin 4 := ⟨p.val / 2, by have := lt8 p; omega⟩
def batchOf (p : Fin cfg2.N) : Fin 2 := ⟨p.val % 2, by omega⟩

theorem coord_batch : ∀ p : Fin cfg2.N, (Scalar.indexCast (BitVec.ofNat 32 (grid2.coords p 1).val)).toNat = p.val % 2 :=
  (by decide +kernel : ∀ p : Fin grid2.N, (Scalar.indexCast (BitVec.ofNat 32 (grid2.coords p 1).val)).toNat = p.val % 2)

section Blocks

variable (V : (c : Dev nD) → (b : Ref sig .tc) → Buf (Elt Ideal) ((c : Thread nD τ).loc b)) (p : Fin cfg2.N)

theorem iblk2_0_eq : iblk2 V c 0 p = V c main_v8 := by
  funext y
  blk_simp [iblk2]
  refine congrArg (V c main_v8) ?_
  blk_ext [index2_0]
theorem iblk2_1_apply (i : Fin 2048) (k : Fin 384) : iblk2 V c 1 p (ix3 0 i k) = V c main_v9 (ix3 ⟨p.val, lt8 p⟩ i k) := by
  blk_simp [iblk2]
  refine congrArg (V c main_v9) ?_
  blk_ext [index2_1]
theorem iblk2_2_apply (i : Fin 4096) (k : Fin 384) : iblk2 V c 2 p (ix3 0 i k) = V c main_v10 (ix3 ⟨p.val, lt8 p⟩ i k) := by
  blk_simp [iblk2]
  refine congrArg (V c main_v10) ?_
  blk_ext [index2_2]
theorem iblk2_3_eq : iblk2 V c 3 p = V c main_v18 := by
  funext y
  blk_simp [iblk2]
  refine congrArg (V c main_v18) ?_
  blk_ext [index2_3]
theorem iblk2_4_eq : iblk2 V c 4 p = V c main_v19 := by
  funext y
  blk_simp [iblk2]
  refine congrArg (V c main_v19) ?_
  blk_ext [index2_4]
theorem iblk2_5_eq : iblk2 V c 5 p = V c main_v20 := by
  funext y
  blk_simp [iblk2]
  refine congrArg (V c main_v20) ?_
  blk_ext [index2_5]

/-- A word of the table, at the point's batch. -/
theorem word_apply (x0 : Vec Ideal S2x64x4 .i32) (n : Fin 64) (r : Fin 4) : word (grid2.coords p) x0 n r = x0 (ix3 (batchOf p) n r) := by
  unfold word
  refine View.ld_unit_apply_of _ _ _ _ _ _ fun a => ?_
  match a with
  | ⟨0, _⟩ => exact (coord_batch p).symm
  | ⟨1, _⟩ => rfl
  | ⟨2, _⟩ => rfl

end Blocks

/-- A row of a time step and batch, among all rows. -/
theorem queries_row {α : Type} (x : S16384x384.Idx → α) (p : Fin cfg2.N) (n : Fin 64) (s : Fin 32) (k : Fin 384) :
    shapeCast S8x2048x384 x shapeCasts_S16384x384_S8x2048x384 (ix3 ⟨p.val, lt8 p⟩ ⟨32 * n.val + s.val, by omega⟩ k)
      = x (ix2 (tokRow (winAt (timeOf p) (batchOf p) n) s) k) :=
  shapeCast_apply x _ _ _ (by
    rw [Shape.rowMajor_val_two, Shape.rowMajor_val_three]
    show (32 * ((p.val / 2 * 2 + p.val % 2) * 64 + n.val) + s.val) * 384 + k.val = (p.val * 2048 + (32 * n.val + s.val)) * 384 + k.val
    omega)

theorem wins_row {α : Type} (x : S512x64x384.Idx → α) (p : Fin cfg2.N) (n d : Fin 64) (k : Fin 384) :
    shapeCast S8x4096x384 x shapeCasts_S512x64x384_S8x4096x384 (ix3 ⟨p.val, lt8 p⟩ ⟨64 * n.val + d.val, by omega⟩ k)
      = x (ix3 (winAt (timeOf p) (batchOf p) n) d k) :=
  shapeCast_apply x _ _ _ (by
    rw [Shape.rowMajor_val_three, Shape.rowMajor_val_three]
    show (((p.val / 2 * 2 + p.val % 2) * 64 + n.val) * 64 + d.val) * 384 + k.val = (p.val * 4096 + (64 * n.val + d.val)) * 384 + k.val
    omega)

/-! ## The attention -/

theorem headOf_sameHead (k : Fin 384) (d : Fin 48) : headOf (sameHead k d) = headOf k := Fin.ext (sameHead_div k d)
theorem chanOf_sameHead (k : Fin 384) (d : Fin 48) : chanOf (sameHead k d) = d := Fin.ext (sameHead_mod k d)

variable (p : Fin cfg2.N)

theorem block_queries (n : Fin 64) (s : Fin 32) (k : Fin 384) :
    iblk2 (V7 m ρ) c 1 p (ix3 0 ⟨32 * n.val + s.val, by omega⟩ k)
      = spk (X m c) (Wq m c) (bq m c) 0 (timeOf p) (batchOf p) n s (headOf k) (chanOf k) := by
  rw [iblk2_1_apply, V7_queries]
  exact (queries_row _ p n s k).trans (W2_queries m ρ c _ _ n s k)

theorem block_wins (n d : Fin 64) (k : Fin 384) :
    iblk2 (V7 m ρ) c 2 p (ix3 0 ⟨64 * n.val + d.val, by omega⟩ k) = winsOf m ρ c (ix3 (winAt (timeOf p) (batchOf p) n) d k) := by
  rw [iblk2_2_apply, V7_wins]
  exact wins_row _ p n d k

theorem block_attn (n : Fin 64) (s : Fin 32) (k : Fin 384) :
    attnAt (iblk2 (V7 m ρ) c 1 p) (iblk2 (V7 m ρ) c 2 p) (route (X m c) (batchOf p)) n s k
      = attn (X m c) (Wq m c) (bq m c) (timeOf p) (batchOf p) n s (headOf k) (chanOf k) := by
  unfold attnAt attn
  refine congrArg₂ (fun u v => Ideal.div u (v + Ideal.ofBits .f32 0x358637BD#32))
    (Finset.sum_congr rfl fun d _ => congrArg₂ HMul.hMul ?_ ?_) (Finset.sum_congr rfl fun d _ => congrArg₂ HMul.hMul ?_ ?_)
  · rw [block_queries, headOf_sameHead, chanOf_sameHead]
  · exact Finset.sum_congr rfl fun r _ => (block_wins m ρ c p _ ⟨d.val, by omega⟩ k).trans (W2_keyVal m ρ c _ _ _ d k)
  · rw [block_queries, headOf_sameHead, chanOf_sameHead]
  · refine Finset.sum_congr rfl fun r _ => (block_wins m ρ c p _ 48 _).trans ((W2_keySums m ρ c _ _ _ _).trans ?_)
    rw [headOf_sameHead, chanOf_sameHead]

/-- The array of all results. -/
def outArr : FVec Ideal S8x2048x384 .f32 := fun y =>
  result (X m c) (Wq m c) (bq m c) (Wp m c) (bp m c) (timeOf (y 0)) (batchOf (y 0))
    ⟨(y 1).val / 32, by have := (y 1).isLt; change (y 1).val < 2048 at this; omega⟩ ⟨(y 1).val % 32, by omega⟩ (y 2)

theorem outArr_apply (n : Fin 64) (s : Fin 32) (j : Fin 384) :
    outArr m c (ix3 ⟨p.val, lt8 p⟩ ⟨32 * n.val + s.val, by omega⟩ j)
      = result (X m c) (Wq m c) (bq m c) (Wp m c) (bp m c) (timeOf p) (batchOf p) n s j := by
  have hn : (32 * n.val + s.val) / 32 = n.val := by omega
  have hs : (32 * n.val + s.val) % 32 = s.val := by omega
  exact congrArg₂ (fun n s => result (X m c) (Wq m c) (bq m c) (Wp m c) (bp m c) (timeOf p) (batchOf p) n s j) (Fin.ext hn) (Fin.ext hs)

theorem block_result (hX : ∀ i, IsReal (X m c i)) (n : Fin 64) (s : Fin 32) (j : Fin 384) :
    out2_6 (grid2.coords p) (iblk2 (V7 m ρ) c 0 p) (iblk2 (V7 m ρ) c 1 p) (iblk2 (V7 m ρ) c 2 p) (iblk2 (V7 m ρ) c 3 p)
        (iblk2 (V7 m ρ) c 4 p) (iblk2 (V7 m ρ) c 5 p) (words_name m ρ c p) (ix3 0 ⟨32 * n.val + s.val, by omega⟩ j)
      = result (X m c) (Wq m c) (bq m c) (Wp m c) (bp m c) (timeOf p) (batchOf p) n s j := by
  have hm : IsMask (iblk2 (V7 m ρ) c 3 p) := by rw [iblk2_3_eq]; exact W7_v18 m ρ c
  have hw : ∀ n r, word (F := Ideal) (grid2.coords p) (iblk2 (V7 m ρ) c 0 p) n r = BitVec.ofNat 32 (route (X m c) (batchOf p) n r).val := by
    intro n r
    rw [word_apply, iblk2_0_eq, V7_table]
    exact W4_route m ρ c hX (batchOf p) n r
  refine (out2_6_apply (grid2.coords p) _ _ _ _ _ _ (route (X m c) (batchOf p)) hm _ hw n s j).trans ?_
  unfold result
  refine congrArg₂ HAdd.hAdd (Finset.sum_congr rfl fun k _ => congrArg₂ HMul.hMul (block_attn m ρ c p n s k) ?_) ?_
  · rw [iblk2_4_eq, V7_proj]
    pointwise
  · rw [iblk2_5_eq, V7_bias]
    exact ValueIdx.shapeCast_a_1a_apply _ _ 0 j

theorem arr2_6 (hX : ∀ i, IsReal (X m c i)) : (dat2 (V7 m ρ) (words_name m ρ) c).arrAt 6 cfg2.N = outArr m c := by
  refine (dat2 (V7 m ρ) (words_name m ρ) c).arrAt_eq_of_covers 6 _ (by decide +kernel) fun p hf y => ?_
  obtain ⟨n, s, j, rfl⟩ : ∃ (n : Fin 64) (s : Fin 32) (j : Fin 384), y = ix3 0 ⟨32 * n.val + s.val, by omega⟩ j :=
    ⟨⟨(y 1).val / 32, by have := (y 1).isLt; change (y 1).val < 2048 at this; omega⟩, ⟨(y 1).val % 32, by omega⟩, y 2, by
      funext a
      match a with
      | ⟨0, _⟩ => exact Subsingleton.elim (α := Fin 1) _ _
      | ⟨1, _⟩ => exact Fin.ext (Nat.div_add_mod (y 1).val 32).symm
      | ⟨2, _⟩ => rfl⟩
  have e : (win2_6.blk p).view.emb (ix3 0 ⟨32 * n.val + s.val, by omega⟩ j) = ix3 ⟨p.val, lt8 p⟩ ⟨32 * n.val + s.val, by omega⟩ j := by
    blk_ext [index2_6]
  refine Eq.trans ?_ (congrArg (outArr m c) e).symm
  blk_simp
  rw [after2_6]
  exact (block_result m ρ c p hX n s j).trans (outArr_apply m c p n s j).symm

/-! ## The result -/

theorem out_row {α : Type} (x : S8x2048x384.Idx → α) (h : S8x2048x384.ShapeCasts ⟨5, ![4, 2, 64, 32, 384]⟩) (t : Fin 4) (b : Fin 2)
    (n : Fin 64) (s : Fin 32) (j : Fin 384) :
    shapeCast ⟨5, ![4, 2, 64, 32, 384]⟩ x h (ix5 t b n s j) = x (ix3 ⟨2 * t.val + b.val, by omega⟩ ⟨32 * n.val + s.val, by omega⟩ j) :=
  shapeCast_apply x _ _ _ (by
    rw [Shape.rowMajor_val_three, Shape.rowMajor_val_five]
    show ((2 * t.val + b.val) * 2048 + (32 * n.val + s.val)) * 384 + j.val = (((t.val * 2 + b.val) * 64 + n.val) * 32 + s.val) * 384 + j.val
    omega)

/-- The program's result, given tokens that are real numbers. -/
theorem W9_result (hX : ∀ i, IsReal (X m c i)) : W9 m ρ c (Proc.devRef .tc main_v24)
    = Cert.ReferenceIdeal.Value.untokens (F := Ideal) (Cert.ReferenceIdeal.Value.outs (F := Ideal) (X m c) (Wq m c) (bq m c) (Wp m c) (bp m c)) := by
  have e : W8 m ρ c (Proc.devRef .tc main_v21) = outArr m c := (W8_arr m ρ c 6).trans (arr2_6 m ρ c hX)
  rw [W9_v24, e]
  refine congrArg (Cert.ReferenceIdeal.Value.untokens (F := Ideal)) (funext fun y => ?_)
  obtain ⟨t, b, n, s, j, rfl⟩ : ∃ (t : Fin 4) (b : Fin 2) (n : Fin 64) (s : Fin 32) (j : Fin 384), y = ix5 t b n s j :=
    ⟨y 0, y 1, y 2, y 3, y 4, by funext a; match a with | ⟨0, _⟩ => rfl | ⟨1, _⟩ => rfl | ⟨2, _⟩ => rfl | ⟨3, _⟩ => rfl | ⟨4, _⟩ => rfl⟩
  refine (out_row _ _ t b n s j).trans ((outArr_apply m c ⟨2 * t.val + b.val, by show _ < 8; omega⟩ n s j).trans ?_)
  refine Eq.trans ?_ (Cert.ReferenceIdeal.Value.outs_apply (X m c) (Wq m c) (bq m c) (Wp m c) (bp m c) t b n s j).symm
  have ht : (2 * t.val + b.val) / 2 = t.val := by omega
  have hb : (2 * t.val + b.val) % 2 = b.val := by omega
  exact congrArg₂ (fun t b => result (X m c) (Wq m c) (bq m c) (Wp m c) (bp m c) t b n s j) (Fin.ext ht) (Fin.ext hb)

end Cert.KernelIdeal.Run

end
-- ==== Proof.Finite.lean ====
/- The precondition read: every element of the first argument is a real number, hence every token is. -/
module

public import proofs.«01_k».proof.Defs
public import proofs.«01_k».proof.Proof.RouteValue
public import proofs.«01_k».proof.Proof.HostValue
public import Idealize.ShloMosaic.Lib.ReduceAll

@[expose] public section

set_option maxRecDepth 16384

noncomputable section

namespace Cert.Pre_x_is_finite

open Idealize.ShloMosaic Cert.KernelIdeal.Run

/-- The side conditions the precondition's operations take. -/
instance facts : Facts where
  bcast_S_S4x2x8x16x16x384 := by decide
  reducesTo_S4x2x8x16x16x384_S_d0_1_2_3_4_5 := by decide
  h_S_ := by decide

theorem real_of_fn (x : FVec Ideal S4x2x8x16x16x384 .f32) (a1 : FVec Ideal S1152x384 .f32) (a2 : FVec Ideal S1152 .f32)
    (a3 : FVec Ideal S384x384 .f32) (a4 : FVec Ideal S384 .f32) (h : fn x a1 a2 a3 a4 = fun _ => 1#1) (i : S4x2x8x16x16x384.Idx) :
    IsReal (x i) := by
  haveI : Subsingleton S_.Idx := ⟨fun a b => funext fun k => k.elim0⟩
  have e := Host.reduce_andi_all _ _ _ _ ix0 (congrFun h ix0) i
  refine isReal_of_abs_lt ?_
  have hb : Ideal.ofBits .f32 0x7F800000#32 = ⊤ := by
    simp [Ideal.ofBits, Ideal.ieee]
  have e' : BitVec.ofBool (decide (max (x i) (-x i) < Ideal.ofBits .f32 0x7F800000#32)) = 1#1 := e
  rw [hb] at e'
  by_contra hc
  rw [decide_eq_false hc] at e'
  exact absurd e' (by decide)

end Cert.Pre_x_is_finite

end
-- ==== Proof.Algebraic.lean ====
/- The kernel and the reference end with equal results, element by element as extended reals. -/
module

public import proofs.«01_k».proof.Proof.AttnArray
public import proofs.«01_k».proof.Proof.Finite

@[expose] public section

set_option maxRecDepth 16384

noncomputable section

namespace Cert.Proof

open Idealize.ShloMosaic Idealize.ShloMosaic.TcCoe Cert.Routing Cert.KernelIdeal.Run

/-- Under the precondition every token is a real number: a token is an element of the first argument. -/
theorem tokens_real (m : (ℓ : Loc Cert.KernelIdeal.nD Cert.KernelIdeal.τ Cert.KernelIdeal.sig) → Buf (Elt Ideal) ℓ)
    (hm : Pre_KernelIdeal_x_is_finite m) (c : Dev Cert.KernelIdeal.nD) (i) : IsReal (X m c i) :=
  Cert.Pre_x_is_finite.real_of_fn _ _ _ _ _ (hm c) _

theorem algebraic : algebraic_KernelIdeal_ReferenceIdeal_pre_x_is_finite := by
  intro m g m' g' hm h
  refine ⟨fun c => Cert.ReferenceIdeal.Value.untokens (F := Ideal)
    (Cert.ReferenceIdeal.Value.outs (F := Ideal) (X m c) (Wq m c) (bq m c) (Wp m c) (bp m c)), ?_, ?_⟩
  · exact (θ_run _ _ _).mono (fun r hr c => ⟨((hr.1 c).1).trans (W9_result m g c (tokens_real m hm c)), (hr.1 c).2⟩) (run_main m g)
  · refine (θ_run _ _ _).mono (fun r hr c => ⟨((hr c).1).trans ?_, (hr c).2⟩) (Cert.ReferenceIdeal.Value.run (F := Ideal) m' g')
    obtain ⟨h0, h1, h2, h3, h4⟩ := h c
    rw [Cert.ReferenceIdeal.Value.res_eq]
    rw [h0, h1, h2, h3, h4]

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_x_is_finite.facts,
    quiescent_Kernel, quiescent_KernelIdeal, fun m g _ => quiescent_KernelIdeal m g trivial, quiescent_ReferenceIdeal,
    fun m g _ => quiescent_ReferenceIdeal m g trivial, trivial, algebraic⟩

end Cert.Proof

end
